-- ==== Defs.lean ====
def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelAct [hPre_finite_act : Cert.Pre_finite_act.Facts] (m : (ℓ : Loc Cert.KernelAct.nD Cert.KernelAct.τ Cert.KernelAct.sig) → Buf (Elt Bits) ℓ) : Prop :=
  ∀ c : Dev Cert.KernelAct.nD,
    (Cert.Pre_finite_act.fn (F := Bits) (m ((c.tc : Thread Cert.KernelAct.nD Cert.KernelAct.τ).loc Cert.KernelAct.main_arg0)) (m ((c.tc : Thread Cert.KernelAct.nD Cert.KernelAct.τ).loc Cert.KernelAct.main_arg1)) (m ((c.tc : Thread Cert.KernelAct.nD Cert.KernelAct.τ).loc Cert.KernelAct.main_arg2)) (m ((c.tc : Thread Cert.KernelAct.nD Cert.KernelAct.τ).loc Cert.KernelAct.main_arg3))).1 = (fun _ => 1#1)
    ∧ (Cert.Pre_finite_act.fn (F := Bits) (m ((c.tc : Thread Cert.KernelAct.nD Cert.KernelAct.τ).loc Cert.KernelAct.main_arg0)) (m ((c.tc : Thread Cert.KernelAct.nD Cert.KernelAct.τ).loc Cert.KernelAct.main_arg1)) (m ((c.tc : Thread Cert.KernelAct.nD Cert.KernelAct.τ).loc Cert.KernelAct.main_arg2)) (m ((c.tc : Thread Cert.KernelAct.nD Cert.KernelAct.τ).loc Cert.KernelAct.main_arg3))).2.1 = (fun _ => 1#1)
    ∧ (Cert.Pre_finite_act.fn (F := Bits) (m ((c.tc : Thread Cert.KernelAct.nD Cert.KernelAct.τ).loc Cert.KernelAct.main_arg0)) (m ((c.tc : Thread Cert.KernelAct.nD Cert.KernelAct.τ).loc Cert.KernelAct.main_arg1)) (m ((c.tc : Thread Cert.KernelAct.nD Cert.KernelAct.τ).loc Cert.KernelAct.main_arg2)) (m ((c.tc : Thread Cert.KernelAct.nD Cert.KernelAct.τ).loc Cert.KernelAct.main_arg3))).2.2 = (fun _ => 1#1)

def Pre_KernelActIdeal [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.2 = (fun _ => 1#1)

def Pre_ReferenceActIdeal [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.2 = (fun _ => 1#1)

def Pre_KernelMixbwd (m : (ℓ : Loc Cert.KernelMixbwd.nD Cert.KernelMixbwd.τ Cert.KernelMixbwd.sig) → Buf (Elt Bits) ℓ) : Prop :=
  True

def Pre_KernelMixbwdIdeal (m : (ℓ : Loc Cert.KernelMixbwdIdeal.nD Cert.KernelMixbwdIdeal.τ Cert.KernelMixbwdIdeal.sig) → Buf (Elt Ideal) ℓ) : Prop :=
  True

def Pre_ReferenceMixbwdIdeal (m : (ℓ : Loc Cert.ReferenceMixbwdIdeal.nD Cert.ReferenceMixbwdIdeal.τ Cert.ReferenceMixbwdIdeal.sig) → Buf (Elt Ideal) ℓ) : Prop :=
  True

def Pre_KernelMixin (m : (ℓ : Loc Cert.KernelMixin.nD Cert.KernelMixin.τ Cert.KernelMixin.sig) → Buf (Elt Bits) ℓ) : Prop :=
  True

def Pre_KernelMixinIdeal (m : (ℓ : Loc Cert.KernelMixinIdeal.nD Cert.KernelMixinIdeal.τ Cert.KernelMixinIdeal.sig) → Buf (Elt Ideal) ℓ) : Prop :=
  True

def Pre_ReferenceMixinIdeal (m : (ℓ : Loc Cert.ReferenceMixinIdeal.nD Cert.ReferenceMixinIdeal.τ Cert.ReferenceMixinIdeal.sig) → Buf (Elt Ideal) ℓ) : Prop :=
  True

def Pre_KernelFfnin (m : (ℓ : Loc Cert.KernelFfnin.nD Cert.KernelFfnin.τ Cert.KernelFfnin.sig) → Buf (Elt Bits) ℓ) : Prop :=
  True

def Pre_KernelFfninIdeal (m : (ℓ : Loc Cert.KernelFfninIdeal.nD Cert.KernelFfninIdeal.τ Cert.KernelFfninIdeal.sig) → Buf (Elt Ideal) ℓ) : Prop :=
  True

def Pre_ReferenceFfninIdeal (m : (ℓ : Loc Cert.ReferenceFfninIdeal.nD Cert.ReferenceFfninIdeal.τ Cert.ReferenceFfninIdeal.sig) → Buf (Elt Ideal) ℓ) : Prop :=
  True

def Pre_KernelMm (m : (ℓ : Loc Cert.KernelMm.nD Cert.KernelMm.τ Cert.KernelMm.sig) → Buf (Elt Bits) ℓ) : Prop :=
  True

def Pre_KernelMmIdeal (m : (ℓ : Loc Cert.KernelMmIdeal.nD Cert.KernelMmIdeal.τ Cert.KernelMmIdeal.sig) → Buf (Elt Ideal) ℓ) : Prop :=
  True

def Pre_ReferenceMmIdeal (m : (ℓ : Loc Cert.ReferenceMmIdeal.nD Cert.ReferenceMmIdeal.τ Cert.ReferenceMmIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelGout (m : (ℓ : Loc Cert.KernelGout.nD Cert.KernelGout.τ Cert.KernelGout.sig) → Buf (Elt Bits) ℓ) : Prop :=
  True

def Pre_KernelGoutIdeal (m : (ℓ : Loc Cert.KernelGoutIdeal.nD Cert.KernelGoutIdeal.τ Cert.KernelGoutIdeal.sig) → Buf (Elt Ideal) ℓ) : Prop :=
  True

def Pre_ReferenceGoutIdeal (m : (ℓ : Loc Cert.ReferenceGoutIdeal.nD Cert.ReferenceGoutIdeal.τ Cert.ReferenceGoutIdeal.sig) → Buf (Elt Ideal) ℓ) : Prop :=
  True

def Pre_KernelGradin (m : (ℓ : Loc Cert.KernelGradin.nD Cert.KernelGradin.τ Cert.KernelGradin.sig) → Buf (Elt Bits) ℓ) : Prop :=
  True

def Pre_KernelGradinIdeal (m : (ℓ : Loc Cert.KernelGradinIdeal.nD Cert.KernelGradinIdeal.τ Cert.KernelGradinIdeal.sig) → Buf (Elt Ideal) ℓ) : Prop :=
  True

def Pre_ReferenceGradinIdeal (m : (ℓ : Loc Cert.ReferenceGradinIdeal.nD Cert.ReferenceGradinIdeal.τ Cert.ReferenceGradinIdeal.sig) → Buf (Elt Ideal) ℓ) : Prop :=
  True

def Pre_KernelLn [hPre_finite_ln : Cert.Pre_finite_ln.Facts] (m : (ℓ : Loc Cert.KernelLn.nD Cert.KernelLn.τ Cert.KernelLn.sig) → Buf (Elt Bits) ℓ) : Prop :=
  ∀ c : Dev Cert.KernelLn.nD,
    (Cert.Pre_finite_ln.fn (F := Bits) (m ((c.tc : Thread Cert.KernelLn.nD Cert.KernelLn.τ).loc Cert.KernelLn.main_arg0)) (m ((c.tc : Thread Cert.KernelLn.nD Cert.KernelLn.τ).loc Cert.KernelLn.main_arg1)) (m ((c.tc : Thread Cert.KernelLn.nD Cert.KernelLn.τ).loc Cert.KernelLn.main_arg2)) (m ((c.tc : Thread Cert.KernelLn.nD Cert.KernelLn.τ).loc Cert.KernelLn.main_arg3))).1 = (fun _ => 1#1)
    ∧ (Cert.Pre_finite_ln.fn (F := Bits) (m ((c.tc : Thread Cert.KernelLn.nD Cert.KernelLn.τ).loc Cert.KernelLn.main_arg0)) (m ((c.tc : Thread Cert.KernelLn.nD Cert.KernelLn.τ).loc Cert.KernelLn.main_arg1)) (m ((c.tc : Thread Cert.KernelLn.nD Cert.KernelLn.τ).loc Cert.KernelLn.main_arg2)) (m ((c.tc : Thread Cert.KernelLn.nD Cert.KernelLn.τ).loc Cert.KernelLn.main_arg3))).2 = (fun _ => 1#1)

def Pre_KernelLnIdeal [hPre_finite_ln : Cert.Pre_finite_ln.Facts] (m : (ℓ : Loc Cert.KernelLnIdeal.nD Cert.KernelLnIdeal.τ Cert.KernelLnIdeal.sig) → Buf (Elt Ideal) ℓ) : Prop :=
  ∀ c : Dev Cert.KernelLnIdeal.nD,
    (Cert.Pre_finite_ln.fn (F := Ideal) (m ((c.tc : Thread Cert.KernelLnIdeal.nD Cert.KernelLnIdeal.τ).loc Cert.KernelLnIdeal.main_arg0)) (m ((c.tc : Thread Cert.KernelLnIdeal.nD Cert.KernelLnIdeal.τ).loc Cert.KernelLnIdeal.main_arg1)) (m ((c.tc : Thread Cert.KernelLnIdeal.nD Cert.KernelLnIdeal.τ).loc Cert.KernelLnIdeal.main_arg2)) (m ((c.tc : Thread Cert.KernelLnIdeal.nD Cert.KernelLnIdeal.τ).loc Cert.KernelLnIdeal.main_arg3))).1 = (fun _ => 1#1)
    ∧ (Cert.Pre_finite_ln.fn (F := Ideal) (m ((c.tc : Thread Cert.KernelLnIdeal.nD Cert.KernelLnIdeal.τ).loc Cert.KernelLnIdeal.main_arg0)) (m ((c.tc : Thread Cert.KernelLnIdeal.nD Cert.KernelLnIdeal.τ).loc Cert.KernelLnIdeal.main_arg1)) (m ((c.tc : Thread Cert.KernelLnIdeal.nD Cert.KernelLnIdeal.τ).loc Cert.KernelLnIdeal.main_arg2)) (m ((c.tc : Thread Cert.KernelLnIdeal.nD Cert.KernelLnIdeal.τ).loc Cert.KernelLnIdeal.main_arg3))).2 = (fun _ => 1#1)

def Pre_ReferenceLnIdeal [hPre_finite_ln : Cert.Pre_finite_ln.Facts] (m : (ℓ : Loc Cert.ReferenceLnIdeal.nD Cert.ReferenceLnIdeal.τ Cert.ReferenceLnIdeal.sig) → Buf (Elt Ideal) ℓ) : Prop :=
  ∀ c : Dev Cert.ReferenceLnIdeal.nD,
    (Cert.Pre_finite_ln.fn (F := Ideal) (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2)) (m ((c.tc : Thread Cert.ReferenceLnIdeal.nD Cert.ReferenceLnIdeal.τ).loc Cert.ReferenceLnIdeal.main_arg3))).1 = (fun _ => 1#1)
    ∧ (Cert.Pre_finite_ln.fn (F := Ideal) (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2)) (m ((c.tc : Thread Cert.ReferenceLnIdeal.nD Cert.ReferenceLnIdeal.τ).loc Cert.ReferenceLnIdeal.main_arg3))).2 = (fun _ => 1#1)

def Pre_KernelMixout (m : (ℓ : Loc Cert.KernelMixout.nD Cert.KernelMixout.τ Cert.KernelMixout.sig) → Buf (Elt Bits) ℓ) : Prop :=
  True

def Pre_KernelMixoutIdeal (m : (ℓ : Loc Cert.KernelMixoutIdeal.nD Cert.KernelMixoutIdeal.τ Cert.KernelMixoutIdeal.sig) → Buf (Elt Ideal) ℓ) : Prop :=
  True

def Pre_ReferenceMixoutIdeal (m : (ℓ : Loc Cert.ReferenceMixoutIdeal.nD Cert.ReferenceMixoutIdeal.τ Cert.ReferenceMixoutIdeal.sig) → Buf (Elt Ideal) ℓ) : Prop :=
  True

def Pre_KernelMixinf (m : (ℓ : Loc Cert.KernelMixinf.nD Cert.KernelMixinf.τ Cert.KernelMixinf.sig) → Buf (Elt Bits) ℓ) : Prop :=
  True

def Pre_KernelMixinfIdeal (m : (ℓ : Loc Cert.KernelMixinfIdeal.nD Cert.KernelMixinfIdeal.τ Cert.KernelMixinfIdeal.sig) → Buf (Elt Ideal) ℓ) : Prop :=
  True

def Pre_ReferenceMixinfIdeal (m : (ℓ : Loc Cert.ReferenceMixinfIdeal.nD Cert.ReferenceMixinfIdeal.τ Cert.ReferenceMixinfIdeal.sig) → Buf (Elt Ideal) ℓ) : Prop :=
  True

def Pre_KernelLnf (m : (ℓ : Loc Cert.KernelLnf.nD Cert.KernelLnf.τ Cert.KernelLnf.sig) → Buf (Elt Bits) ℓ) : Prop :=
  True

def Pre_KernelLnfIdeal (m : (ℓ : Loc Cert.KernelLnfIdeal.nD Cert.KernelLnfIdeal.τ Cert.KernelLnfIdeal.sig) → Buf (Elt Ideal) ℓ) : Prop :=
  True

def Pre_ReferenceLnfIdeal (m : (ℓ : Loc Cert.ReferenceLnfIdeal.nD Cert.ReferenceLnfIdeal.τ Cert.ReferenceLnfIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelOpin (m : (ℓ : Loc Cert.KernelOpin.nD Cert.KernelOpin.τ Cert.KernelOpin.sig) → Buf (Elt Bits) ℓ) : Prop :=
  True

def Pre_KernelOpinIdeal (m : (ℓ : Loc Cert.KernelOpinIdeal.nD Cert.KernelOpinIdeal.τ Cert.KernelOpinIdeal.sig) → Buf (Elt Ideal) ℓ) : Prop :=
  True

def Pre_ReferenceOpinIdeal (m : (ℓ : Loc Cert.ReferenceOpinIdeal.nD Cert.ReferenceOpinIdeal.τ Cert.ReferenceOpinIdeal.sig) → Buf (Elt Ideal) ℓ) : Prop :=
  True

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2))
      ∧ r.2.sem = fun _ => 0)

def quiescent_KernelAct [hKernelAct : Cert.KernelAct.Facts] [hPre_finite_act : Cert.Pre_finite_act.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelMixbwd [hKernelMixbwd : Cert.KernelMixbwd.Facts] : Prop :=
  ∀ (m : (ℓ : Loc Cert.KernelMixbwd.nD Cert.KernelMixbwd.τ Cert.KernelMixbwd.sig) → Buf (Elt Bits) ℓ) (g : Dev Cert.KernelMixbwd.nD → PrngReg), Pre_KernelMixbwd m →
    θ_run (Cert.KernelMixbwd.defs (F := Bits)) (onTc (τ := Cert.KernelMixbwd.τ) (Cert.KernelMixbwd.main (F := Bits))) ⟨m, fun _ => 0, g⟩ (fun r => (∀ c : Dev Cert.KernelMixbwd.nD,
      r.2.mem ((c.tc : Thread Cert.KernelMixbwd.nD Cert.KernelMixbwd.τ).loc Cert.KernelMixbwd.main_arg0) = m ((c.tc : Thread Cert.KernelMixbwd.nD Cert.KernelMixbwd.τ).loc Cert.KernelMixbwd.main_arg0)
      ∧ r.2.mem ((c.tc : Thread Cert.KernelMixbwd.nD Cert.KernelMixbwd.τ).loc Cert.KernelMixbwd.main_arg1) = m ((c.tc : Thread Cert.KernelMixbwd.nD Cert.KernelMixbwd.τ).loc Cert.KernelMixbwd.main_arg1))
      ∧ r.2.sem = fun _ => 0)

def quiescent_KernelMixbwdIdeal [hKernelMixbwdIdeal : Cert.KernelMixbwdIdeal.Facts] : Prop :=
  ∀ (m : (ℓ : Loc Cert.KernelMixbwdIdeal.nD Cert.KernelMixbwdIdeal.τ Cert.KernelMixbwdIdeal.sig) → Buf (Elt Ideal) ℓ) (g : Dev Cert.KernelMixbwdIdeal.nD → PrngReg), Pre_KernelMixbwdIdeal m →
    θ_run (Cert.KernelMixbwdIdeal.defs (F := Ideal)) (onTc (τ := Cert.KernelMixbwdIdeal.τ) (Cert.KernelMixbwdIdeal.main (F := Ideal))) ⟨m, fun _ => 0, g⟩ (fun r => (∀ c : Dev Cert.KernelMixbwdIdeal.nD,
      r.2.mem ((c.tc : Thread Cert.KernelMixbwdIdeal.nD Cert.KernelMixbwdIdeal.τ).loc Cert.KernelMixbwdIdeal.main_arg0) = m ((c.tc : Thread Cert.KernelMixbwdIdeal.nD Cert.KernelMixbwdIdeal.τ).loc Cert.KernelMixbwdIdeal.main_arg0)
      ∧ r.2.mem ((c.tc : Thread Cert.KernelMixbwdIdeal.nD Cert.KernelMixbwdIdeal.τ).loc Cert.KernelMixbwdIdeal.main_arg1) = m ((c.tc : Thread Cert.KernelMixbwdIdeal.nD Cert.KernelMixbwdIdeal.τ).loc Cert.KernelMixbwdIdeal.main_arg1))
      ∧ r.2.sem = fun _ => 0)

def quiescent_ReferenceMixbwdIdeal [hReferenceMixbwdIdeal : Cert.ReferenceMixbwdIdeal.Facts] : Prop :=
  ∀ (m : (ℓ : Loc Cert.ReferenceMixbwdIdeal.nD Cert.ReferenceMixbwdIdeal.τ Cert.ReferenceMixbwdIdeal.sig) → Buf (Elt Ideal) ℓ) (g : Dev Cert.ReferenceMixbwdIdeal.nD → PrngReg), Pre_ReferenceMixbwdIdeal m →
    θ_run (Cert.ReferenceMixbwdIdeal.defs (F := Ideal)) (onTc (τ := Cert.ReferenceMixbwdIdeal.τ) (Cert.ReferenceMixbwdIdeal.main (F := Ideal))) ⟨m, fun _ => 0, g⟩ (fun r => (∀ c : Dev Cert.ReferenceMixbwdIdeal.nD,
      r.2.mem ((c.tc : Thread Cert.ReferenceMixbwdIdeal.nD Cert.ReferenceMixbwdIdeal.τ).loc Cert.ReferenceMixbwdIdeal.main_arg0) = m ((c.tc : Thread Cert.ReferenceMixbwdIdeal.nD Cert.ReferenceMixbwdIdeal.τ).loc Cert.ReferenceMixbwdIdeal.main_arg0)
      ∧ r.2.mem ((c.tc : Thread Cert.ReferenceMixbwdIdeal.nD Cert.ReferenceMixbwdIdeal.τ).loc Cert.ReferenceMixbwdIdeal.main_arg1) = m ((c.tc : Thread Cert.ReferenceMixbwdIdeal.nD Cert.ReferenceMixbwdIdeal.τ).loc Cert.ReferenceMixbwdIdeal.main_arg1))
      ∧ r.2.sem = fun _ => 0)

def quiescent_KernelMixin [hKernelMixin : Cert.KernelMixin.Facts] : Prop :=
  ∀ (m : (ℓ : Loc Cert.KernelMixin.nD Cert.KernelMixin.τ Cert.KernelMixin.sig) → Buf (Elt Bits) ℓ) (g : Dev Cert.KernelMixin.nD → PrngReg), Pre_KernelMixin m →
    θ_run (Cert.KernelMixin.defs (F := Bits)) (onTc (τ := Cert.KernelMixin.τ) (Cert.KernelMixin.main (F := Bits))) ⟨m, fun _ => 0, g⟩ (fun r => (∀ c : Dev Cert.KernelMixin.nD,
      r.2.mem ((c.tc : Thread Cert.KernelMixin.nD Cert.KernelMixin.τ).loc Cert.KernelMixin.main_arg0) = m ((c.tc : Thread Cert.KernelMixin.nD Cert.KernelMixin.τ).loc Cert.KernelMixin.main_arg0)
      ∧ r.2.mem ((c.tc : Thread Cert.KernelMixin.nD Cert.KernelMixin.τ).loc Cert.KernelMixin.main_arg1) = m ((c.tc : Thread Cert.KernelMixin.nD Cert.KernelMixin.τ).loc Cert.KernelMixin.main_arg1)
      ∧ r.2.mem ((c.tc : Thread Cert.KernelMixin.nD Cert.KernelMixin.τ).loc Cert.KernelMixin.main_arg2) = m ((c.tc : Thread Cert.KernelMixin.nD Cert.KernelMixin.τ).loc Cert.KernelMixin.main_arg2)
      ∧ r.2.mem ((c.tc : Thread Cert.KernelMixin.nD Cert.KernelMixin.τ).loc Cert.KernelMixin.main_arg3) = m ((c.tc : Thread Cert.KernelMixin.nD Cert.KernelMixin.τ).loc Cert.KernelMixin.main_arg3)
      ∧ r.2.mem ((c.tc : Thread Cert.KernelMixin.nD Cert.KernelMixin.τ).loc Cert.KernelMixin.main_arg4) = m ((c.tc : Thread Cert.KernelMixin.nD Cert.KernelMixin.τ).loc Cert.KernelMixin.main_arg4)
      ∧ r.2.mem ((c.tc : Thread Cert.KernelMixin.nD Cert.KernelMixin.τ).loc Cert.KernelMixin.main_arg5) = m ((c.tc : Thread Cert.KernelMixin.nD Cert.KernelMixin.τ).loc Cert.KernelMixin.main_arg5))
      ∧ r.2.sem = fun _ => 0)

def quiescent_KernelMixinIdeal [hKernelMixinIdeal : Cert.KernelMixinIdeal.Facts] : Prop :=
  ∀ (m : (ℓ : Loc Cert.KernelMixinIdeal.nD Cert.KernelMixinIdeal.τ Cert.KernelMixinIdeal.sig) → Buf (Elt Ideal) ℓ) (g : Dev Cert.KernelMixinIdeal.nD → PrngReg), Pre_KernelMixinIdeal m →
    θ_run (Cert.KernelMixinIdeal.defs (F := Ideal)) (onTc (τ := Cert.KernelMixinIdeal.τ) (Cert.KernelMixinIdeal.main (F := Ideal))) ⟨m, fun _ => 0, g⟩ (fun r => (∀ c : Dev Cert.KernelMixinIdeal.nD,
      r.2.mem ((c.tc : Thread Cert.KernelMixinIdeal.nD Cert.KernelMixinIdeal.τ).loc Cert.KernelMixinIdeal.main_arg0) = m ((c.tc : Thread Cert.KernelMixinIdeal.nD Cert.KernelMixinIdeal.τ).loc Cert.KernelMixinIdeal.main_arg0)
      ∧ r.2.mem ((c.tc : Thread Cert.KernelMixinIdeal.nD Cert.KernelMixinIdeal.τ).loc Cert.KernelMixinIdeal.main_arg1) = m ((c.tc : Thread Cert.KernelMixinIdeal.nD Cert.KernelMixinIdeal.τ).loc Cert.KernelMixinIdeal.main_arg1)
      ∧ r.2.mem ((c.tc : Thread Cert.KernelMixinIdeal.nD Cert.KernelMixinIdeal.τ).loc Cert.KernelMixinIdeal.main_arg2) = m ((c.tc : Thread Cert.KernelMixinIdeal.nD Cert.KernelMixinIdeal.τ).loc Cert.KernelMixinIdeal.main_arg2)
      ∧ r.2.mem ((c.tc : Thread Cert.KernelMixinIdeal.nD Cert.KernelMixinIdeal.τ).loc Cert.KernelMixinIdeal.main_arg3) = m ((c.tc : Thread Cert.KernelMixinIdeal.nD Cert.KernelMixinIdeal.τ).loc Cert.KernelMixinIdeal.main_arg3)
      ∧ r.2.mem ((c.tc : Thread Cert.KernelMixinIdeal.nD Cert.KernelMixinIdeal.τ).loc Cert.KernelMixinIdeal.main_arg4) = m ((c.tc : Thread Cert.KernelMixinIdeal.nD Cert.KernelMixinIdeal.τ).loc Cert.KernelMixinIdeal.main_arg4)
      ∧ r.2.mem ((c.tc : Thread Cert.KernelMixinIdeal.nD Cert.KernelMixinIdeal.τ).loc Cert.KernelMixinIdeal.main_arg5) = m ((c.tc : Thread Cert.KernelMixinIdeal.nD Cert.KernelMixinIdeal.τ).loc Cert.KernelMixinIdeal.main_arg5))
      ∧ r.2.sem = fun _ => 0)

def quiescent_ReferenceMixinIdeal [hReferenceMixinIdeal : Cert.ReferenceMixinIdeal.Facts] : Prop :=
  ∀ (m : (ℓ : Loc Cert.ReferenceMixinIdeal.nD Cert.ReferenceMixinIdeal.τ Cert.ReferenceMixinIdeal.sig) → Buf (Elt Ideal) ℓ) (g : Dev Cert.ReferenceMixinIdeal.nD → PrngReg), Pre_ReferenceMixinIdeal m →
    θ_run (Cert.ReferenceMixinIdeal.defs (F := Ideal)) (onTc (τ := Cert.ReferenceMixinIdeal.τ) (Cert.ReferenceMixinIdeal.main (F := Ideal))) ⟨m, fun _ => 0, g⟩ (fun r => (∀ c : Dev Cert.ReferenceMixinIdeal.nD,
      r.2.mem ((c.tc : Thread Cert.ReferenceMixinIdeal.nD Cert.ReferenceMixinIdeal.τ).loc Cert.ReferenceMixinIdeal.main_arg0) = m ((c.tc : Thread Cert.ReferenceMixinIdeal.nD Cert.ReferenceMixinIdeal.τ).loc Cert.ReferenceMixinIdeal.main_arg0)
      ∧ r.2.mem ((c.tc : Thread Cert.ReferenceMixinIdeal.nD Cert.ReferenceMixinIdeal.τ).loc Cert.ReferenceMixinIdeal.main_arg1) = m ((c.tc : Thread Cert.ReferenceMixinIdeal.nD Cert.ReferenceMixinIdeal.τ).loc Cert.ReferenceMixinIdeal.main_arg1)
      ∧ r.2.mem ((c.tc : Thread Cert.ReferenceMixinIdeal.nD Cert.ReferenceMixinIdeal.τ).loc Cert.ReferenceMixinIdeal.main_arg2) = m ((c.tc : Thread Cert.ReferenceMixinIdeal.nD Cert.ReferenceMixinIdeal.τ).loc Cert.ReferenceMixinIdeal.main_arg2)
      ∧ r.2.mem ((c.tc : Thread Cert.ReferenceMixinIdeal.nD Cert.ReferenceMixinIdeal.τ).loc Cert.ReferenceMixinIdeal.main_arg3) = m ((c.tc : Thread Cert.ReferenceMixinIdeal.nD Cert.ReferenceMixinIdeal.τ).loc Cert.ReferenceMixinIdeal.main_arg3)
      ∧ r.2.mem ((c.tc : Thread Cert.ReferenceMixinIdeal.nD Cert.ReferenceMixinIdeal.τ).loc Cert.ReferenceMixinIdeal.main_arg4) = m ((c.tc : Thread Cert.ReferenceMixinIdeal.nD Cert.ReferenceMixinIdeal.τ).loc Cert.ReferenceMixinIdeal.main_arg4)
      ∧ r.2.mem ((c.tc : Thread Cert.ReferenceMixinIdeal.nD Cert.ReferenceMixinIdeal.τ).loc Cert.ReferenceMixinIdeal.main_arg5) = m ((c.tc : Thread Cert.ReferenceMixinIdeal.nD Cert.ReferenceMixinIdeal.τ).loc Cert.ReferenceMixinIdeal.main_arg5))
      ∧ r.2.sem = fun _ => 0)

def quiescent_KernelFfnin [hKernelFfnin : Cert.KernelFfnin.Facts] : Prop :=
  ∀ (m : (ℓ : Loc Cert.KernelFfnin.nD Cert.KernelFfnin.τ Cert.KernelFfnin.sig) → Buf (Elt Bits) ℓ) (g : Dev Cert.KernelFfnin.nD → PrngReg), Pre_KernelFfnin m →
    θ_run (Cert.KernelFfnin.defs (F := Bits)) (onTc (τ := Cert.KernelFfnin.τ) (Cert.KernelFfnin.main (F := Bits))) ⟨m, fun _ => 0, g⟩ (fun r => (∀ c : Dev Cert.KernelFfnin.nD,
      r.2.mem ((c.tc : Thread Cert.KernelFfnin.nD Cert.KernelFfnin.τ).loc Cert.KernelFfnin.main_arg0) = m ((c.tc : Thread Cert.KernelFfnin.nD Cert.KernelFfnin.τ).loc Cert.KernelFfnin.main_arg0)
      ∧ r.2.mem ((c.tc : Thread Cert.KernelFfnin.nD Cert.KernelFfnin.τ).loc Cert.KernelFfnin.main_arg1) = m ((c.tc : Thread Cert.KernelFfnin.nD Cert.KernelFfnin.τ).loc Cert.KernelFfnin.main_arg1)
      ∧ r.2.mem ((c.tc : Thread Cert.KernelFfnin.nD Cert.KernelFfnin.τ).loc Cert.KernelFfnin.main_arg2) = m ((c.tc : Thread Cert.KernelFfnin.nD Cert.KernelFfnin.τ).loc Cert.KernelFfnin.main_arg2)
      ∧ r.2.mem ((c.tc : Thread Cert.KernelFfnin.nD Cert.KernelFfnin.τ).loc Cert.KernelFfnin.main_arg3) = m ((c.tc : Thread Cert.KernelFfnin.nD Cert.KernelFfnin.τ).loc Cert.KernelFfnin.main_arg3)
      ∧ r.2.mem ((c.tc : Thread Cert.KernelFfnin.nD Cert.KernelFfnin.τ).loc Cert.KernelFfnin.main_arg4) = m ((c.tc : Thread Cert.KernelFfnin.nD Cert.KernelFfnin.τ).loc Cert.KernelFfnin.main_arg4)
      ∧ r.2.mem ((c.tc : Thread Cert.KernelFfnin.nD Cert.KernelFfnin.τ).loc Cert.KernelFfnin.main_arg5) = m ((c.tc : Thread Cert.KernelFfnin.nD Cert.KernelFfnin.τ).loc Cert.KernelFfnin.main_arg5)
      ∧ r.2.mem ((c.tc : Thread Cert.KernelFfnin.nD Cert.KernelFfnin.τ).loc Cert.KernelFfnin.main_arg6) = m ((c.tc : Thread Cert.KernelFfnin.nD Cert.KernelFfnin.τ).loc Cert.KernelFfnin.main_arg6))
      ∧ r.2.sem = fun _ => 0)

def quiescent_KernelFfninIdeal [hKernelFfninIdeal : Cert.KernelFfninIdeal.Facts] : Prop :=
  ∀ (m : (ℓ : Loc Cert.KernelFfninIdeal.nD Cert.KernelFfninIdeal.τ Cert.KernelFfninIdeal.sig) → Buf (Elt Ideal) ℓ) (g : Dev Cert.KernelFfninIdeal.nD → PrngReg), Pre_KernelFfninIdeal m →
    θ_run (Cert.KernelFfninIdeal.defs (F := Ideal)) (onTc (τ := Cert.KernelFfninIdeal.τ) (Cert.KernelFfninIdeal.main (F := Ideal))) ⟨m, fun _ => 0, g⟩ (fun r => (∀ c : Dev Cert.KernelFfninIdeal.nD,
      r.2.mem ((c.tc : Thread Cert.KernelFfninIdeal.nD Cert.KernelFfninIdeal.τ).loc Cert.KernelFfninIdeal.main_arg0) = m ((c.tc : Thread Cert.KernelFfninIdeal.nD Cert.KernelFfninIdeal.τ).loc Cert.KernelFfninIdeal.main_arg0)
      ∧ r.2.mem ((c.tc : Thread Cert.KernelFfninIdeal.nD Cert.KernelFfninIdeal.τ).loc Cert.KernelFfninIdeal.main_arg1) = m ((c.tc : Thread Cert.KernelFfninIdeal.nD Cert.KernelFfninIdeal.τ).loc Cert.KernelFfninIdeal.main_arg1)
      ∧ r.2.mem ((c.tc : Thread Cert.KernelFfninIdeal.nD Cert.KernelFfninIdeal.τ).loc Cert.KernelFfninIdeal.main_arg2) = m ((c.tc : Thread Cert.KernelFfninIdeal.nD Cert.KernelFfninIdeal.τ).loc Cert.KernelFfninIdeal.main_arg2)
      ∧ r.2.mem ((c.tc : Thread Cert.KernelFfninIdeal.nD Cert.KernelFfninIdeal.τ).loc Cert.KernelFfninIdeal.main_arg3) = m ((c.tc : Thread Cert.KernelFfninIdeal.nD Cert.KernelFfninIdeal.τ).loc Cert.KernelFfninIdeal.main_arg3)
      ∧ r.2.mem ((c.tc : Thread Cert.KernelFfninIdeal.nD Cert.KernelFfninIdeal.τ).loc Cert.KernelFfninIdeal.main_arg4) = m ((c.tc : Thread Cert.KernelFfninIdeal.nD Cert.KernelFfninIdeal.τ).loc Cert.KernelFfninIdeal.main_arg4)
      ∧ r.2.mem ((c.tc : Thread Cert.KernelFfninIdeal.nD Cert.KernelFfninIdeal.τ).loc Cert.KernelFfninIdeal.main_arg5) = m ((c.tc : Thread Cert.KernelFfninIdeal.nD Cert.KernelFfninIdeal.τ).loc Cert.KernelFfninIdeal.main_arg5)
      ∧ r.2.mem ((c.tc : Thread Cert.KernelFfninIdeal.nD Cert.KernelFfninIdeal.τ).loc Cert.KernelFfninIdeal.main_arg6) = m ((c.tc : Thread Cert.KernelFfninIdeal.nD Cert.KernelFfninIdeal.τ).loc Cert.KernelFfninIdeal.main_arg6))
      ∧ r.2.sem = fun _ => 0)

def quiescent_ReferenceFfninIdeal [hReferenceFfninIdeal : Cert.ReferenceFfninIdeal.Facts] : Prop :=
  ∀ (m : (ℓ : Loc Cert.ReferenceFfninIdeal.nD Cert.ReferenceFfninIdeal.τ Cert.ReferenceFfninIdeal.sig) → Buf (Elt Ideal) ℓ) (g : Dev Cert.ReferenceFfninIdeal.nD → PrngReg), Pre_ReferenceFfninIdeal m →
    θ_run (Cert.ReferenceFfninIdeal.defs (F := Ideal)) (onTc (τ := Cert.ReferenceFfninIdeal.τ) (Cert.ReferenceFfninIdeal.main (F := Ideal))) ⟨m, fun _ => 0, g⟩ (fun r => (∀ c : Dev Cert.ReferenceFfninIdeal.nD,
      r.2.mem ((c.tc : Thread Cert.ReferenceFfninIdeal.nD Cert.ReferenceFfninIdeal.τ).loc Cert.ReferenceFfninIdeal.main_arg0) = m ((c.tc : Thread Cert.ReferenceFfninIdeal.nD Cert.ReferenceFfninIdeal.τ).loc Cert.ReferenceFfninIdeal.main_arg0)
      ∧ r.2.mem ((c.tc : Thread Cert.ReferenceFfninIdeal.nD Cert.ReferenceFfninIdeal.τ).loc Cert.ReferenceFfninIdeal.main_arg1) = m ((c.tc : Thread Cert.ReferenceFfninIdeal.nD Cert.ReferenceFfninIdeal.τ).loc Cert.ReferenceFfninIdeal.main_arg1)
      ∧ r.2.mem ((c.tc : Thread Cert.ReferenceFfninIdeal.nD Cert.ReferenceFfninIdeal.τ).loc Cert.ReferenceFfninIdeal.main_arg2) = m ((c.tc : Thread Cert.ReferenceFfninIdeal.nD Cert.ReferenceFfninIdeal.τ).loc Cert.ReferenceFfninIdeal.main_arg2)
      ∧ r.2.mem ((c.tc : Thread Cert.ReferenceFfninIdeal.nD Cert.ReferenceFfninIdeal.τ).loc Cert.ReferenceFfninIdeal.main_arg3) = m ((c.tc : Thread Cert.ReferenceFfninIdeal.nD Cert.ReferenceFfninIdeal.τ).loc Cert.ReferenceFfninIdeal.main_arg3)
      ∧ r.2.mem ((c.tc : Thread Cert.ReferenceFfninIdeal.nD Cert.ReferenceFfninIdeal.τ).loc Cert.ReferenceFfninIdeal.main_arg4) = m ((c.tc : Thread Cert.ReferenceFfninIdeal.nD Cert.ReferenceFfninIdeal.τ).loc Cert.ReferenceFfninIdeal.main_arg4)
      ∧ r.2.mem ((c.tc : Thread Cert.ReferenceFfninIdeal.nD Cert.ReferenceFfninIdeal.τ).loc Cert.ReferenceFfninIdeal.main_arg5) = m ((c.tc : Thread Cert.ReferenceFfninIdeal.nD Cert.ReferenceFfninIdeal.τ).loc Cert.ReferenceFfninIdeal.main_arg5)
      ∧ r.2.mem ((c.tc : Thread Cert.ReferenceFfninIdeal.nD Cert.ReferenceFfninIdeal.τ).loc Cert.ReferenceFfninIdeal.main_arg6) = m ((c.tc : Thread Cert.ReferenceFfninIdeal.nD Cert.ReferenceFfninIdeal.τ).loc Cert.ReferenceFfninIdeal.main_arg6))
      ∧ r.2.sem = fun _ => 0)

def quiescent_KernelMm [hKernelMm : Cert.KernelMm.Facts] : Prop :=
  ∀ (m : (ℓ : Loc Cert.KernelMm.nD Cert.KernelMm.τ Cert.KernelMm.sig) → Buf (Elt Bits) ℓ) (g : Dev Cert.KernelMm.nD → PrngReg), Pre_KernelMm m →
    θ_run (Cert.KernelMm.defs (F := Bits)) (onTc (τ := Cert.KernelMm.τ) (Cert.KernelMm.main (F := Bits))) ⟨m, fun _ => 0, g⟩ (fun r => (∀ c : Dev Cert.KernelMm.nD,
      r.2.mem ((c.tc : Thread Cert.KernelMm.nD Cert.KernelMm.τ).loc Cert.KernelMm.main_arg0) = m ((c.tc : Thread Cert.KernelMm.nD Cert.KernelMm.τ).loc Cert.KernelMm.main_arg0)
      ∧ r.2.mem ((c.tc : Thread Cert.KernelMm.nD Cert.KernelMm.τ).loc Cert.KernelMm.main_arg1) = m ((c.tc : Thread Cert.KernelMm.nD Cert.KernelMm.τ).loc Cert.KernelMm.main_arg1))
      ∧ r.2.sem = fun _ => 0)

def quiescent_KernelMmIdeal [hKernelMmIdeal : Cert.KernelMmIdeal.Facts] : Prop :=
  ∀ (m : (ℓ : Loc Cert.KernelMmIdeal.nD Cert.KernelMmIdeal.τ Cert.KernelMmIdeal.sig) → Buf (Elt Ideal) ℓ) (g : Dev Cert.KernelMmIdeal.nD → PrngReg), Pre_KernelMmIdeal m →
    θ_run (Cert.KernelMmIdeal.defs (F := Ideal)) (onTc (τ := Cert.KernelMmIdeal.τ) (Cert.KernelMmIdeal.main (F := Ideal))) ⟨m, fun _ => 0, g⟩ (fun r => (∀ c : Dev Cert.KernelMmIdeal.nD,
      r.2.mem ((c.tc : Thread Cert.KernelMmIdeal.nD Cert.KernelMmIdeal.τ).loc Cert.KernelMmIdeal.main_arg0) = m ((c.tc : Thread Cert.KernelMmIdeal.nD Cert.KernelMmIdeal.τ).loc Cert.KernelMmIdeal.main_arg0)
      ∧ r.2.mem ((c.tc : Thread Cert.KernelMmIdeal.nD Cert.KernelMmIdeal.τ).loc Cert.KernelMmIdeal.main_arg1) = m ((c.tc : Thread Cert.KernelMmIdeal.nD Cert.KernelMmIdeal.τ).loc Cert.KernelMmIdeal.main_arg1))
      ∧ r.2.sem = fun _ => 0)

def quiescent_ReferenceMmIdeal [hReferenceMmIdeal : Cert.ReferenceMmIdeal.Facts] : Prop :=
  ∀ (m : (ℓ : Loc Cert.ReferenceMmIdeal.nD Cert.ReferenceMmIdeal.τ Cert.ReferenceMmIdeal.sig) → Buf (Elt Ideal) ℓ) (g : Dev Cert.ReferenceMmIdeal.nD → PrngReg), Pre_ReferenceMmIdeal m →
    θ_run (Cert.ReferenceMmIdeal.defs (F := Ideal)) (onTc (τ := Cert.ReferenceMmIdeal.τ) (Cert.ReferenceMmIdeal.main (F := Ideal))) ⟨m, fun _ => 0, g⟩ (fun r => (∀ c : Dev Cert.ReferenceMmIdeal.nD,
      r.2.mem ((c.tc : Thread Cert.ReferenceMmIdeal.nD Cert.ReferenceMmIdeal.τ).loc Cert.ReferenceMmIdeal.main_arg0) = m ((c.tc : Thread Cert.ReferenceMmIdeal.nD Cert.ReferenceMmIdeal.τ).loc Cert.ReferenceMmIdeal.main_arg0)
      ∧ r.2.mem ((c.tc : Thread Cert.ReferenceMmIdeal.nD Cert.ReferenceMmIdeal.τ).loc Cert.ReferenceMmIdeal.main_arg1) = m ((c.tc : Thread Cert.ReferenceMmIdeal.nD Cert.ReferenceMmIdeal.τ).loc Cert.ReferenceMmIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelGout [hKernelGout : Cert.KernelGout.Facts] : Prop :=
  ∀ (m : (ℓ : Loc Cert.KernelGout.nD Cert.KernelGout.τ Cert.KernelGout.sig) → Buf (Elt Bits) ℓ) (g : Dev Cert.KernelGout.nD → PrngReg), Pre_KernelGout m →
    θ_run (Cert.KernelGout.defs (F := Bits)) (onTc (τ := Cert.KernelGout.τ) (Cert.KernelGout.main (F := Bits))) ⟨m, fun _ => 0, g⟩ (fun r => (∀ c : Dev Cert.KernelGout.nD,
      r.2.mem ((c.tc : Thread Cert.KernelGout.nD Cert.KernelGout.τ).loc Cert.KernelGout.main_arg0) = m ((c.tc : Thread Cert.KernelGout.nD Cert.KernelGout.τ).loc Cert.KernelGout.main_arg0)
      ∧ r.2.mem ((c.tc : Thread Cert.KernelGout.nD Cert.KernelGout.τ).loc Cert.KernelGout.main_arg1) = m ((c.tc : Thread Cert.KernelGout.nD Cert.KernelGout.τ).loc Cert.KernelGout.main_arg1)
      ∧ r.2.mem ((c.tc : Thread Cert.KernelGout.nD Cert.KernelGout.τ).loc Cert.KernelGout.main_arg2) = m ((c.tc : Thread Cert.KernelGout.nD Cert.KernelGout.τ).loc Cert.KernelGout.main_arg2))
      ∧ r.2.sem = fun _ => 0)

def quiescent_KernelGoutIdeal [hKernelGoutIdeal : Cert.KernelGoutIdeal.Facts] : Prop :=
  ∀ (m : (ℓ : Loc Cert.KernelGoutIdeal.nD Cert.KernelGoutIdeal.τ Cert.KernelGoutIdeal.sig) → Buf (Elt Ideal) ℓ) (g : Dev Cert.KernelGoutIdeal.nD → PrngReg), Pre_KernelGoutIdeal m →
    θ_run (Cert.KernelGoutIdeal.defs (F := Ideal)) (onTc (τ := Cert.KernelGoutIdeal.τ) (Cert.KernelGoutIdeal.main (F := Ideal))) ⟨m, fun _ => 0, g⟩ (fun r => (∀ c : Dev Cert.KernelGoutIdeal.nD,
      r.2.mem ((c.tc : Thread Cert.KernelGoutIdeal.nD Cert.KernelGoutIdeal.τ).loc Cert.KernelGoutIdeal.main_arg0) = m ((c.tc : Thread Cert.KernelGoutIdeal.nD Cert.KernelGoutIdeal.τ).loc Cert.KernelGoutIdeal.main_arg0)
      ∧ r.2.mem ((c.tc : Thread Cert.KernelGoutIdeal.nD Cert.KernelGoutIdeal.τ).loc Cert.KernelGoutIdeal.main_arg1) = m ((c.tc : Thread Cert.KernelGoutIdeal.nD Cert.KernelGoutIdeal.τ).loc Cert.KernelGoutIdeal.main_arg1)
      ∧ r.2.mem ((c.tc : Thread Cert.KernelGoutIdeal.nD Cert.KernelGoutIdeal.τ).loc Cert.KernelGoutIdeal.main_arg2) = m ((c.tc : Thread Cert.KernelGoutIdeal.nD Cert.KernelGoutIdeal.τ).loc Cert.KernelGoutIdeal.main_arg2))
      ∧ r.2.sem = fun _ => 0)

def quiescent_ReferenceGoutIdeal [hReferenceGoutIdeal : Cert.ReferenceGoutIdeal.Facts] : Prop :=
  ∀ (m : (ℓ : Loc Cert.ReferenceGoutIdeal.nD Cert.ReferenceGoutIdeal.τ Cert.ReferenceGoutIdeal.sig) → Buf (Elt Ideal) ℓ) (g : Dev Cert.ReferenceGoutIdeal.nD → PrngReg), Pre_ReferenceGoutIdeal m →
    θ_run (Cert.ReferenceGoutIdeal.defs (F := Ideal)) (onTc (τ := Cert.ReferenceGoutIdeal.τ) (Cert.ReferenceGoutIdeal.main (F := Ideal))) ⟨m, fun _ => 0, g⟩ (fun r => (∀ c : Dev Cert.ReferenceGoutIdeal.nD,
      r.2.mem ((c.tc : Thread Cert.ReferenceGoutIdeal.nD Cert.ReferenceGoutIdeal.τ).loc Cert.ReferenceGoutIdeal.main_arg0) = m ((c.tc : Thread Cert.ReferenceGoutIdeal.nD Cert.ReferenceGoutIdeal.τ).loc Cert.ReferenceGoutIdeal.main_arg0)
      ∧ r.2.mem ((c.tc : Thread Cert.ReferenceGoutIdeal.nD Cert.ReferenceGoutIdeal.τ).loc Cert.ReferenceGoutIdeal.main_arg1) = m ((c.tc : Thread Cert.ReferenceGoutIdeal.nD Cert.ReferenceGoutIdeal.τ).loc Cert.ReferenceGoutIdeal.main_arg1)
      ∧ r.2.mem ((c.tc : Thread Cert.ReferenceGoutIdeal.nD Cert.ReferenceGoutIdeal.τ).loc Cert.ReferenceGoutIdeal.main_arg2) = m ((c.tc : Thread Cert.ReferenceGoutIdeal.nD Cert.ReferenceGoutIdeal.τ).loc Cert.ReferenceGoutIdeal.main_arg2))
      ∧ r.2.sem = fun _ => 0)

def quiescent_KernelGradin [hKernelGradin : Cert.KernelGradin.Facts] : Prop :=
  ∀ (m : (ℓ : Loc Cert.KernelGradin.nD Cert.KernelGradin.τ Cert.KernelGradin.sig) → Buf (Elt Bits) ℓ) (g : Dev Cert.KernelGradin.nD → PrngReg), Pre_KernelGradin m →
    θ_run (Cert.KernelGradin.defs (F := Bits)) (onTc (τ := Cert.KernelGradin.τ) (Cert.KernelGradin.main (F := Bits))) ⟨m, fun _ => 0, g⟩ (fun r => (∀ c : Dev Cert.KernelGradin.nD,
      r.2.mem ((c.tc : Thread Cert.KernelGradin.nD Cert.KernelGradin.τ).loc Cert.KernelGradin.main_arg0) = m ((c.tc : Thread Cert.KernelGradin.nD Cert.KernelGradin.τ).loc Cert.KernelGradin.main_arg0)
      ∧ r.2.mem ((c.tc : Thread Cert.KernelGradin.nD Cert.KernelGradin.τ).loc Cert.KernelGradin.main_arg1) = m ((c.tc : Thread Cert.KernelGradin.nD Cert.KernelGradin.τ).loc Cert.KernelGradin.main_arg1)
      ∧ r.2.mem ((c.tc : Thread Cert.KernelGradin.nD Cert.KernelGradin.τ).loc Cert.KernelGradin.main_arg2) = m ((c.tc : Thread Cert.KernelGradin.nD Cert.KernelGradin.τ).loc Cert.KernelGradin.main_arg2))
      ∧ r.2.sem = fun _ => 0)

def quiescent_KernelGradinIdeal [hKernelGradinIdeal : Cert.KernelGradinIdeal.Facts] : Prop :=
  ∀ (m : (ℓ : Loc Cert.KernelGradinIdeal.nD Cert.KernelGradinIdeal.τ Cert.KernelGradinIdeal.sig) → Buf (Elt Ideal) ℓ) (g : Dev Cert.KernelGradinIdeal.nD → PrngReg), Pre_KernelGradinIdeal m →
    θ_run (Cert.KernelGradinIdeal.defs (F := Ideal)) (onTc (τ := Cert.KernelGradinIdeal.τ) (Cert.KernelGradinIdeal.main (F := Ideal))) ⟨m, fun _ => 0, g⟩ (fun r => (∀ c : Dev Cert.KernelGradinIdeal.nD,
      r.2.mem ((c.tc : Thread Cert.KernelGradinIdeal.nD Cert.KernelGradinIdeal.τ).loc Cert.KernelGradinIdeal.main_arg0) = m ((c.tc : Thread Cert.KernelGradinIdeal.nD Cert.KernelGradinIdeal.τ).loc Cert.KernelGradinIdeal.main_arg0)
      ∧ r.2.mem ((c.tc : Thread Cert.KernelGradinIdeal.nD Cert.KernelGradinIdeal.τ).loc Cert.KernelGradinIdeal.main_arg1) = m ((c.tc : Thread Cert.KernelGradinIdeal.nD Cert.KernelGradinIdeal.τ).loc Cert.KernelGradinIdeal.main_arg1)
      ∧ r.2.mem ((c.tc : Thread Cert.KernelGradinIdeal.nD Cert.KernelGradinIdeal.τ).loc Cert.KernelGradinIdeal.main_arg2) = m ((c.tc : Thread Cert.KernelGradinIdeal.nD Cert.KernelGradinIdeal.τ).loc Cert.KernelGradinIdeal.main_arg2))
      ∧ r.2.sem = fun _ => 0)

def quiescent_ReferenceGradinIdeal [hReferenceGradinIdeal : Cert.ReferenceGradinIdeal.Facts] : Prop :=
  ∀ (m : (ℓ : Loc Cert.ReferenceGradinIdeal.nD Cert.ReferenceGradinIdeal.τ Cert.ReferenceGradinIdeal.sig) → Buf (Elt Ideal) ℓ) (g : Dev Cert.ReferenceGradinIdeal.nD → PrngReg), Pre_ReferenceGradinIdeal m →
    θ_run (Cert.ReferenceGradinIdeal.defs (F := Ideal)) (onTc (τ := Cert.ReferenceGradinIdeal.τ) (Cert.ReferenceGradinIdeal.main (F := Ideal))) ⟨m, fun _ => 0, g⟩ (fun r => (∀ c : Dev Cert.ReferenceGradinIdeal.nD,
      r.2.mem ((c.tc : Thread Cert.ReferenceGradinIdeal.nD Cert.ReferenceGradinIdeal.τ).loc Cert.ReferenceGradinIdeal.main_arg0) = m ((c.tc : Thread Cert.ReferenceGradinIdeal.nD Cert.ReferenceGradinIdeal.τ).loc Cert.ReferenceGradinIdeal.main_arg0)
      ∧ r.2.mem ((c.tc : Thread Cert.ReferenceGradinIdeal.nD Cert.ReferenceGradinIdeal.τ).loc Cert.ReferenceGradinIdeal.main_arg1) = m ((c.tc : Thread Cert.ReferenceGradinIdeal.nD Cert.ReferenceGradinIdeal.τ).loc Cert.ReferenceGradinIdeal.main_arg1)
      ∧ r.2.mem ((c.tc : Thread Cert.ReferenceGradinIdeal.nD Cert.ReferenceGradinIdeal.τ).loc Cert.ReferenceGradinIdeal.main_arg2) = m ((c.tc : Thread Cert.ReferenceGradinIdeal.nD Cert.ReferenceGradinIdeal.τ).loc Cert.ReferenceGradinIdeal.main_arg2))
      ∧ r.2.sem = fun _ => 0)

def quiescent_KernelLn [hKernelLn : Cert.KernelLn.Facts] [hPre_finite_ln : Cert.Pre_finite_ln.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3))
      ∧ r.2.sem = fun _ => 0)

def quiescent_KernelLnIdeal [hKernelLnIdeal : Cert.KernelLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ r.2.sem = fun _ => 0)

def quiescent_ReferenceLnIdeal [hReferenceLnIdeal : Cert.ReferenceLnIdeal.Facts] [hPre_finite_ln : Cert.Pre_finite_ln.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3))
      ∧ r.2.sem = fun _ => 0)

def quiescent_KernelMixout [hKernelMixout : Cert.KernelMixout.Facts] : Prop :=
  ∀ (m : (ℓ : Loc Cert.KernelMixout.nD Cert.KernelMixout.τ Cert.KernelMixout.sig) → Buf (Elt Bits) ℓ) (g : Dev Cert.KernelMixout.nD → PrngReg), Pre_KernelMixout m →
    θ_run (Cert.KernelMixout.defs (F := Bits)) (onTc (τ := Cert.KernelMixout.τ) (Cert.KernelMixout.main (F := Bits))) ⟨m, fun _ => 0, g⟩ (fun r => (∀ c : Dev Cert.KernelMixout.nD,
      r.2.mem ((c.tc : Thread Cert.KernelMixout.nD Cert.KernelMixout.τ).loc Cert.KernelMixout.main_arg0) = m ((c.tc : Thread Cert.KernelMixout.nD Cert.KernelMixout.τ).loc Cert.KernelMixout.main_arg0)
      ∧ r.2.mem ((c.tc : Thread Cert.KernelMixout.nD Cert.KernelMixout.τ).loc Cert.KernelMixout.main_arg1) = m ((c.tc : Thread Cert.KernelMixout.nD Cert.KernelMixout.τ).loc Cert.KernelMixout.main_arg1)
      ∧ r.2.mem ((c.tc : Thread Cert.KernelMixout.nD Cert.KernelMixout.τ).loc Cert.KernelMixout.main_arg2) = m ((c.tc : Thread Cert.KernelMixout.nD Cert.KernelMixout.τ).loc Cert.KernelMixout.main_arg2)
      ∧ r.2.mem ((c.tc : Thread Cert.KernelMixout.nD Cert.KernelMixout.τ).loc Cert.KernelMixout.main_arg3) = m ((c.tc : Thread Cert.KernelMixout.nD Cert.KernelMixout.τ).loc Cert.KernelMixout.main_arg3))
      ∧ r.2.sem = fun _ => 0)

def quiescent_KernelMixoutIdeal [hKernelMixoutIdeal : Cert.KernelMixoutIdeal.Facts] : Prop :=
  ∀ (m : (ℓ : Loc Cert.KernelMixoutIdeal.nD Cert.KernelMixoutIdeal.τ Cert.KernelMixoutIdeal.sig) → Buf (Elt Ideal) ℓ) (g : Dev Cert.KernelMixoutIdeal.nD → PrngReg), Pre_KernelMixoutIdeal m →
    θ_run (Cert.KernelMixoutIdeal.defs (F := Ideal)) (onTc (τ := Cert.KernelMixoutIdeal.τ) (Cert.KernelMixoutIdeal.main (F := Ideal))) ⟨m, fun _ => 0, g⟩ (fun r => (∀ c : Dev Cert.KernelMixoutIdeal.nD,
      r.2.mem ((c.tc : Thread Cert.KernelMixoutIdeal.nD Cert.KernelMixoutIdeal.τ).loc Cert.KernelMixoutIdeal.main_arg0) = m ((c.tc : Thread Cert.KernelMixoutIdeal.nD Cert.KernelMixoutIdeal.τ).loc Cert.KernelMixoutIdeal.main_arg0)
      ∧ r.2.mem ((c.tc : Thread Cert.KernelMixoutIdeal.nD Cert.KernelMixoutIdeal.τ).loc Cert.KernelMixoutIdeal.main_arg1) = m ((c.tc : Thread Cert.KernelMixoutIdeal.nD Cert.KernelMixoutIdeal.τ).loc Cert.KernelMixoutIdeal.main_arg1)
      ∧ r.2.mem ((c.tc : Thread Cert.KernelMixoutIdeal.nD Cert.KernelMixoutIdeal.τ).loc Cert.KernelMixoutIdeal.main_arg2) = m ((c.tc : Thread Cert.KernelMixoutIdeal.nD Cert.KernelMixoutIdeal.τ).loc Cert.KernelMixoutIdeal.main_arg2)
      ∧ r.2.mem ((c.tc : Thread Cert.KernelMixoutIdeal.nD Cert.KernelMixoutIdeal.τ).loc Cert.KernelMixoutIdeal.main_arg3) = m ((c.tc : Thread Cert.KernelMixoutIdeal.nD Cert.KernelMixoutIdeal.τ).loc Cert.KernelMixoutIdeal.main_arg3))
      ∧ r.2.sem = fun _ => 0)

def quiescent_ReferenceMixoutIdeal [hReferenceMixoutIdeal : Cert.ReferenceMixoutIdeal.Facts] : Prop :=
  ∀ (m : (ℓ : Loc Cert.ReferenceMixoutIdeal.nD Cert.ReferenceMixoutIdeal.τ Cert.ReferenceMixoutIdeal.sig) → Buf (Elt Ideal) ℓ) (g : Dev Cert.ReferenceMixoutIdeal.nD → PrngReg), Pre_ReferenceMixoutIdeal m →
    θ_run (Cert.ReferenceMixoutIdeal.defs (F := Ideal)) (onTc (τ := Cert.ReferenceMixoutIdeal.τ) (Cert.ReferenceMixoutIdeal.main (F := Ideal))) ⟨m, fun _ => 0, g⟩ (fun r => (∀ c : Dev Cert.ReferenceMixoutIdeal.nD,
      r.2.mem ((c.tc : Thread Cert.ReferenceMixoutIdeal.nD Cert.ReferenceMixoutIdeal.τ).loc Cert.ReferenceMixoutIdeal.main_arg0) = m ((c.tc : Thread Cert.ReferenceMixoutIdeal.nD Cert.ReferenceMixoutIdeal.τ).loc Cert.ReferenceMixoutIdeal.main_arg0)
      ∧ r.2.mem ((c.tc : Thread Cert.ReferenceMixoutIdeal.nD Cert.ReferenceMixoutIdeal.τ).loc Cert.ReferenceMixoutIdeal.main_arg1) = m ((c.tc : Thread Cert.ReferenceMixoutIdeal.nD Cert.ReferenceMixoutIdeal.τ).loc Cert.ReferenceMixoutIdeal.main_arg1)
      ∧ r.2.mem ((c.tc : Thread Cert.ReferenceMixoutIdeal.nD Cert.ReferenceMixoutIdeal.τ).loc Cert.ReferenceMixoutIdeal.main_arg2) = m ((c.tc : Thread Cert.ReferenceMixoutIdeal.nD Cert.ReferenceMixoutIdeal.τ).loc Cert.ReferenceMixoutIdeal.main_arg2)
      ∧ r.2.mem ((c.tc : Thread Cert.ReferenceMixoutIdeal.nD Cert.ReferenceMixoutIdeal.τ).loc Cert.ReferenceMixoutIdeal.main_arg3) = m ((c.tc : Thread Cert.ReferenceMixoutIdeal.nD Cert.ReferenceMixoutIdeal.τ).loc Cert.ReferenceMixoutIdeal.main_arg3))
      ∧ r.2.sem = fun _ => 0)

def quiescent_KernelMixinf [hKernelMixinf : Cert.KernelMixinf.Facts] : Prop :=
  ∀ (m : (ℓ : Loc Cert.KernelMixinf.nD Cert.KernelMixinf.τ Cert.KernelMixinf.sig) → Buf (Elt Bits) ℓ) (g : Dev Cert.KernelMixinf.nD → PrngReg), Pre_KernelMixinf m →
    θ_run (Cert.KernelMixinf.defs (F := Bits)) (onTc (τ := Cert.KernelMixinf.τ) (Cert.KernelMixinf.main (F := Bits))) ⟨m, fun _ => 0, g⟩ (fun r => (∀ c : Dev Cert.KernelMixinf.nD,
      r.2.mem ((c.tc : Thread Cert.KernelMixinf.nD Cert.KernelMixinf.τ).loc Cert.KernelMixinf.main_arg0) = m ((c.tc : Thread Cert.KernelMixinf.nD Cert.KernelMixinf.τ).loc Cert.KernelMixinf.main_arg0)
      ∧ r.2.mem ((c.tc : Thread Cert.KernelMixinf.nD Cert.KernelMixinf.τ).loc Cert.KernelMixinf.main_arg1) = m ((c.tc : Thread Cert.KernelMixinf.nD Cert.KernelMixinf.τ).loc Cert.KernelMixinf.main_arg1)
      ∧ r.2.mem ((c.tc : Thread Cert.KernelMixinf.nD Cert.KernelMixinf.τ).loc Cert.KernelMixinf.main_arg2) = m ((c.tc : Thread Cert.KernelMixinf.nD Cert.KernelMixinf.τ).loc Cert.KernelMixinf.main_arg2))
      ∧ r.2.sem = fun _ => 0)

def quiescent_KernelMixinfIdeal [hKernelMixinfIdeal : Cert.KernelMixinfIdeal.Facts] : Prop :=
  ∀ (m : (ℓ : Loc Cert.KernelMixinfIdeal.nD Cert.KernelMixinfIdeal.τ Cert.KernelMixinfIdeal.sig) → Buf (Elt Ideal) ℓ) (g : Dev Cert.KernelMixinfIdeal.nD → PrngReg), Pre_KernelMixinfIdeal m →
    θ_run (Cert.KernelMixinfIdeal.defs (F := Ideal)) (onTc (τ := Cert.KernelMixinfIdeal.τ) (Cert.KernelMixinfIdeal.main (F := Ideal))) ⟨m, fun _ => 0, g⟩ (fun r => (∀ c : Dev Cert.KernelMixinfIdeal.nD,
      r.2.mem ((c.tc : Thread Cert.KernelMixinfIdeal.nD Cert.KernelMixinfIdeal.τ).loc Cert.KernelMixinfIdeal.main_arg0) = m ((c.tc : Thread Cert.KernelMixinfIdeal.nD Cert.KernelMixinfIdeal.τ).loc Cert.KernelMixinfIdeal.main_arg0)
      ∧ r.2.mem ((c.tc : Thread Cert.KernelMixinfIdeal.nD Cert.KernelMixinfIdeal.τ).loc Cert.KernelMixinfIdeal.main_arg1) = m ((c.tc : Thread Cert.KernelMixinfIdeal.nD Cert.KernelMixinfIdeal.τ).loc Cert.KernelMixinfIdeal.main_arg1)
      ∧ r.2.mem ((c.tc : Thread Cert.KernelMixinfIdeal.nD Cert.KernelMixinfIdeal.τ).loc Cert.KernelMixinfIdeal.main_arg2) = m ((c.tc : Thread Cert.KernelMixinfIdeal.nD Cert.KernelMixinfIdeal.τ).loc Cert.KernelMixinfIdeal.main_arg2))
      ∧ r.2.sem = fun _ => 0)

def quiescent_ReferenceMixinfIdeal [hReferenceMixinfIdeal : Cert.ReferenceMixinfIdeal.Facts] : Prop :=
  ∀ (m : (ℓ : Loc Cert.ReferenceMixinfIdeal.nD Cert.ReferenceMixinfIdeal.τ Cert.ReferenceMixinfIdeal.sig) → Buf (Elt Ideal) ℓ) (g : Dev Cert.ReferenceMixinfIdeal.nD → PrngReg), Pre_ReferenceMixinfIdeal m →
    θ_run (Cert.ReferenceMixinfIdeal.defs (F := Ideal)) (onTc (τ := Cert.ReferenceMixinfIdeal.τ) (Cert.ReferenceMixinfIdeal.main (F := Ideal))) ⟨m, fun _ => 0, g⟩ (fun r => (∀ c : Dev Cert.ReferenceMixinfIdeal.nD,
      r.2.mem ((c.tc : Thread Cert.ReferenceMixinfIdeal.nD Cert.ReferenceMixinfIdeal.τ).loc Cert.ReferenceMixinfIdeal.main_arg0) = m ((c.tc : Thread Cert.ReferenceMixinfIdeal.nD Cert.ReferenceMixinfIdeal.τ).loc Cert.ReferenceMixinfIdeal.main_arg0)
      ∧ r.2.mem ((c.tc : Thread Cert.ReferenceMixinfIdeal.nD Cert.ReferenceMixinfIdeal.τ).loc Cert.ReferenceMixinfIdeal.main_arg1) = m ((c.tc : Thread Cert.ReferenceMixinfIdeal.nD Cert.ReferenceMixinfIdeal.τ).loc Cert.ReferenceMixinfIdeal.main_arg1)
      ∧ r.2.mem ((c.tc : Thread Cert.ReferenceMixinfIdeal.nD Cert.ReferenceMixinfIdeal.τ).loc Cert.ReferenceMixinfIdeal.main_arg2) = m ((c.tc : Thread Cert.ReferenceMixinfIdeal.nD Cert.ReferenceMixinfIdeal.τ).loc Cert.ReferenceMixinfIdeal.main_arg2))
      ∧ r.2.sem = fun _ => 0)

def quiescent_KernelLnf [hKernelLnf : Cert.KernelLnf.Facts] : Prop :=
  ∀ (m : (ℓ : Loc Cert.KernelLnf.nD Cert.KernelLnf.τ Cert.KernelLnf.sig) → Buf (Elt Bits) ℓ) (g : Dev Cert.KernelLnf.nD → PrngReg), Pre_KernelLnf m →
    θ_run (Cert.KernelLnf.defs (F := Bits)) (onTc (τ := Cert.KernelLnf.τ) (Cert.KernelLnf.main (F := Bits))) ⟨m, fun _ => 0, g⟩ (fun r => (∀ c : Dev Cert.KernelLnf.nD,
      r.2.mem ((c.tc : Thread Cert.KernelLnf.nD Cert.KernelLnf.τ).loc Cert.KernelLnf.main_arg0) = m ((c.tc : Thread Cert.KernelLnf.nD Cert.KernelLnf.τ).loc Cert.KernelLnf.main_arg0)
      ∧ r.2.mem ((c.tc : Thread Cert.KernelLnf.nD Cert.KernelLnf.τ).loc Cert.KernelLnf.main_arg1) = m ((c.tc : Thread Cert.KernelLnf.nD Cert.KernelLnf.τ).loc Cert.KernelLnf.main_arg1)
      ∧ r.2.mem ((c.tc : Thread Cert.KernelLnf.nD Cert.KernelLnf.τ).loc Cert.KernelLnf.main_arg2) = m ((c.tc : Thread Cert.KernelLnf.nD Cert.KernelLnf.τ).loc Cert.KernelLnf.main_arg2))
      ∧ r.2.sem = fun _ => 0)

def quiescent_KernelLnfIdeal [hKernelLnfIdeal : Cert.KernelLnfIdeal.Facts] : Prop :=
  ∀ (m : (ℓ : Loc Cert.KernelLnfIdeal.nD Cert.KernelLnfIdeal.τ Cert.KernelLnfIdeal.sig) → Buf (Elt Ideal) ℓ) (g : Dev Cert.KernelLnfIdeal.nD → PrngReg), Pre_KernelLnfIdeal m →
    θ_run (Cert.KernelLnfIdeal.defs (F := Ideal)) (onTc (τ := Cert.KernelLnfIdeal.τ) (Cert.KernelLnfIdeal.main (F := Ideal))) ⟨m, fun _ => 0, g⟩ (fun r => (∀ c : Dev Cert.KernelLnfIdeal.nD,
      r.2.mem ((c.tc : Thread Cert.KernelLnfIdeal.nD Cert.KernelLnfIdeal.τ).loc Cert.KernelLnfIdeal.main_arg0) = m ((c.tc : Thread Cert.KernelLnfIdeal.nD Cert.KernelLnfIdeal.τ).loc Cert.KernelLnfIdeal.main_arg0)
      ∧ r.2.mem ((c.tc : Thread Cert.KernelLnfIdeal.nD Cert.KernelLnfIdeal.τ).loc Cert.KernelLnfIdeal.main_arg1) = m ((c.tc : Thread Cert.KernelLnfIdeal.nD Cert.KernelLnfIdeal.τ).loc Cert.KernelLnfIdeal.main_arg1)
      ∧ r.2.mem ((c.tc : Thread Cert.KernelLnfIdeal.nD Cert.KernelLnfIdeal.τ).loc Cert.KernelLnfIdeal.main_arg2) = m ((c.tc : Thread Cert.KernelLnfIdeal.nD Cert.KernelLnfIdeal.τ).loc Cert.KernelLnfIdeal.main_arg2))
      ∧ r.2.sem = fun _ => 0)

def quiescent_ReferenceLnfIdeal [hReferenceLnfIdeal : Cert.ReferenceLnfIdeal.Facts] : Prop :=
  ∀ (m : (ℓ : Loc Cert.ReferenceLnfIdeal.nD Cert.ReferenceLnfIdeal.τ Cert.ReferenceLnfIdeal.sig) → Buf (Elt Ideal) ℓ) (g : Dev Cert.ReferenceLnfIdeal.nD → PrngReg), Pre_ReferenceLnfIdeal m →
    θ_run (Cert.ReferenceLnfIdeal.defs (F := Ideal)) (onTc (τ := Cert.ReferenceLnfIdeal.τ) (Cert.ReferenceLnfIdeal.main (F := Ideal))) ⟨m, fun _ => 0, g⟩ (fun r => (∀ c : Dev Cert.ReferenceLnfIdeal.nD,
      r.2.mem ((c.tc : Thread Cert.ReferenceLnfIdeal.nD Cert.ReferenceLnfIdeal.τ).loc Cert.ReferenceLnfIdeal.main_arg0) = m ((c.tc : Thread Cert.ReferenceLnfIdeal.nD Cert.ReferenceLnfIdeal.τ).loc Cert.ReferenceLnfIdeal.main_arg0)
      ∧ r.2.mem ((c.tc : Thread Cert.ReferenceLnfIdeal.nD Cert.ReferenceLnfIdeal.τ).loc Cert.ReferenceLnfIdeal.main_arg1) = m ((c.tc : Thread Cert.ReferenceLnfIdeal.nD Cert.ReferenceLnfIdeal.τ).loc Cert.ReferenceLnfIdeal.main_arg1)
      ∧ r.2.mem ((c.tc : Thread Cert.ReferenceLnfIdeal.nD Cert.ReferenceLnfIdeal.τ).loc Cert.ReferenceLnfIdeal.main_arg2) = m ((c.tc : Thread Cert.ReferenceLnfIdeal.nD Cert.ReferenceLnfIdeal.τ).loc Cert.ReferenceLnfIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelOpin [hKernelOpin : Cert.KernelOpin.Facts] : Prop :=
  ∀ (m : (ℓ : Loc Cert.KernelOpin.nD Cert.KernelOpin.τ Cert.KernelOpin.sig) → Buf (Elt Bits) ℓ) (g : Dev Cert.KernelOpin.nD → PrngReg), Pre_KernelOpin m →
    θ_run (Cert.KernelOpin.defs (F := Bits)) (onTc (τ := Cert.KernelOpin.τ) (Cert.KernelOpin.main (F := Bits))) ⟨m, fun _ => 0, g⟩ (fun r => (∀ c : Dev Cert.KernelOpin.nD,
      r.2.mem ((c.tc : Thread Cert.KernelOpin.nD Cert.KernelOpin.τ).loc Cert.KernelOpin.main_arg0) = m ((c.tc : Thread Cert.KernelOpin.nD Cert.KernelOpin.τ).loc Cert.KernelOpin.main_arg0)
      ∧ r.2.mem ((c.tc : Thread Cert.KernelOpin.nD Cert.KernelOpin.τ).loc Cert.KernelOpin.main_arg1) = m ((c.tc : Thread Cert.KernelOpin.nD Cert.KernelOpin.τ).loc Cert.KernelOpin.main_arg1)
      ∧ r.2.mem ((c.tc : Thread Cert.KernelOpin.nD Cert.KernelOpin.τ).loc Cert.KernelOpin.main_arg2) = m ((c.tc : Thread Cert.KernelOpin.nD Cert.KernelOpin.τ).loc Cert.KernelOpin.main_arg2)
      ∧ r.2.mem ((c.tc : Thread Cert.KernelOpin.nD Cert.KernelOpin.τ).loc Cert.KernelOpin.main_arg3) = m ((c.tc : Thread Cert.KernelOpin.nD Cert.KernelOpin.τ).loc Cert.KernelOpin.main_arg3)
      ∧ r.2.mem ((c.tc : Thread Cert.KernelOpin.nD Cert.KernelOpin.τ).loc Cert.KernelOpin.main_arg4) = m ((c.tc : Thread Cert.KernelOpin.nD Cert.KernelOpin.τ).loc Cert.KernelOpin.main_arg4))
      ∧ r.2.sem = fun _ => 0)

def quiescent_KernelOpinIdeal [hKernelOpinIdeal : Cert.KernelOpinIdeal.Facts] : Prop :=
  ∀ (m : (ℓ : Loc Cert.KernelOpinIdeal.nD Cert.KernelOpinIdeal.τ Cert.KernelOpinIdeal.sig) → Buf (Elt Ideal) ℓ) (g : Dev Cert.KernelOpinIdeal.nD → PrngReg), Pre_KernelOpinIdeal m →
    θ_run (Cert.KernelOpinIdeal.defs (F := Ideal)) (onTc (τ := Cert.KernelOpinIdeal.τ) (Cert.KernelOpinIdeal.main (F := Ideal))) ⟨m, fun _ => 0, g⟩ (fun r => (∀ c : Dev Cert.KernelOpinIdeal.nD,
      r.2.mem ((c.tc : Thread Cert.KernelOpinIdeal.nD Cert.KernelOpinIdeal.τ).loc Cert.KernelOpinIdeal.main_arg0) = m ((c.tc : Thread Cert.KernelOpinIdeal.nD Cert.KernelOpinIdeal.τ).loc Cert.KernelOpinIdeal.main_arg0)
      ∧ r.2.mem ((c.tc : Thread Cert.KernelOpinIdeal.nD Cert.KernelOpinIdeal.τ).loc Cert.KernelOpinIdeal.main_arg1) = m ((c.tc : Thread Cert.KernelOpinIdeal.nD Cert.KernelOpinIdeal.τ).loc Cert.KernelOpinIdeal.main_arg1)
      ∧ r.2.mem ((c.tc : Thread Cert.KernelOpinIdeal.nD Cert.KernelOpinIdeal.τ).loc Cert.KernelOpinIdeal.main_arg2) = m ((c.tc : Thread Cert.KernelOpinIdeal.nD Cert.KernelOpinIdeal.τ).loc Cert.KernelOpinIdeal.main_arg2)
      ∧ r.2.mem ((c.tc : Thread Cert.KernelOpinIdeal.nD Cert.KernelOpinIdeal.τ).loc Cert.KernelOpinIdeal.main_arg3) = m ((c.tc : Thread Cert.KernelOpinIdeal.nD Cert.KernelOpinIdeal.τ).loc Cert.KernelOpinIdeal.main_arg3)
      ∧ r.2.mem ((c.tc : Thread Cert.KernelOpinIdeal.nD Cert.KernelOpinIdeal.τ).loc Cert.KernelOpinIdeal.main_arg4) = m ((c.tc : Thread Cert.KernelOpinIdeal.nD Cert.KernelOpinIdeal.τ).loc Cert.KernelOpinIdeal.main_arg4))
      ∧ r.2.sem = fun _ => 0)

def quiescent_ReferenceOpinIdeal [hReferenceOpinIdeal : Cert.ReferenceOpinIdeal.Facts] : Prop :=
  ∀ (m : (ℓ : Loc Cert.ReferenceOpinIdeal.nD Cert.ReferenceOpinIdeal.τ Cert.ReferenceOpinIdeal.sig) → Buf (Elt Ideal) ℓ) (g : Dev Cert.ReferenceOpinIdeal.nD → PrngReg), Pre_ReferenceOpinIdeal m →
    θ_run (Cert.ReferenceOpinIdeal.defs (F := Ideal)) (onTc (τ := Cert.ReferenceOpinIdeal.τ) (Cert.ReferenceOpinIdeal.main (F := Ideal))) ⟨m, fun _ => 0, g⟩ (fun r => (∀ c : Dev Cert.ReferenceOpinIdeal.nD,
      r.2.mem ((c.tc : Thread Cert.ReferenceOpinIdeal.nD Cert.ReferenceOpinIdeal.τ).loc Cert.ReferenceOpinIdeal.main_arg0) = m ((c.tc : Thread Cert.ReferenceOpinIdeal.nD Cert.ReferenceOpinIdeal.τ).loc Cert.ReferenceOpinIdeal.main_arg0)
      ∧ r.2.mem ((c.tc : Thread Cert.ReferenceOpinIdeal.nD Cert.ReferenceOpinIdeal.τ).loc Cert.ReferenceOpinIdeal.main_arg1) = m ((c.tc : Thread Cert.ReferenceOpinIdeal.nD Cert.ReferenceOpinIdeal.τ).loc Cert.ReferenceOpinIdeal.main_arg1)
      ∧ r.2.mem ((c.tc : Thread Cert.ReferenceOpinIdeal.nD Cert.ReferenceOpinIdeal.τ).loc Cert.ReferenceOpinIdeal.main_arg2) = m ((c.tc : Thread Cert.ReferenceOpinIdeal.nD Cert.ReferenceOpinIdeal.τ).loc Cert.ReferenceOpinIdeal.main_arg2)
      ∧ r.2.mem ((c.tc : Thread Cert.ReferenceOpinIdeal.nD Cert.ReferenceOpinIdeal.τ).loc Cert.ReferenceOpinIdeal.main_arg3) = m ((c.tc : Thread Cert.ReferenceOpinIdeal.nD Cert.ReferenceOpinIdeal.τ).loc Cert.ReferenceOpinIdeal.main_arg3)
      ∧ r.2.mem ((c.tc : Thread Cert.ReferenceOpinIdeal.nD Cert.ReferenceOpinIdeal.τ).loc Cert.ReferenceOpinIdeal.main_arg4) = m ((c.tc : Thread Cert.ReferenceOpinIdeal.nD Cert.ReferenceOpinIdeal.τ).loc Cert.ReferenceOpinIdeal.main_arg4))
      ∧ r.2.sem = fun _ => 0)

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)) →
    ∃ (v0 : (c : Dev Cert.KernelDwIdeal.nD) → Buf (Elt Ideal) ((c.tc : Thread Cert.KernelDwIdeal.nD Cert.KernelDwIdeal.τ).loc Cert.KernelDwIdeal.main_v0_0)) (v1 : (c : Dev Cert.KernelDwIdeal.nD) → Buf (Elt Ideal) ((c.tc : Thread Cert.KernelDwIdeal.nD Cert.KernelDwIdeal.τ).loc Cert.KernelDwIdeal.main_v0_1)) (v2 : (c : Dev Cert.KernelDwIdeal.nD) → Buf (Elt Ideal) ((c.tc : Thread Cert.KernelDwIdeal.nD Cert.KernelDwIdeal.τ).loc Cert.KernelDwIdeal.main_v0_2)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0_0) = v0 c
          ∧ r.2.mem ((c.tc : Thread Cert.KernelDwIdeal.nD Cert.KernelDwIdeal.τ).loc Cert.KernelDwIdeal.main_v0_1) = v1 c
          ∧ r.2.mem ((c.tc : Thread Cert.KernelDwIdeal.nD Cert.KernelDwIdeal.τ).loc Cert.KernelDwIdeal.main_v0_2) = v2 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v591) = v0 c
          ∧ r.2.mem ((c.tc : Thread Cert.ReferenceDwIdeal.nD Cert.ReferenceDwIdeal.τ).loc Cert.ReferenceDwIdeal.main_v580) = v1 c
          ∧ r.2.mem ((c.tc : Thread Cert.ReferenceDwIdeal.nD Cert.ReferenceDwIdeal.τ).loc Cert.ReferenceDwIdeal.main_v243) = v2 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2))

def preserves_KernelAct_KernelActIdeal : Prop :=
  True

def algebraic_KernelActIdeal_ReferenceActIdeal [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v0_0)) (v1 : (c : Dev Cert.KernelActIdeal.nD) → Buf (Elt Ideal) ((c.tc : Thread Cert.KernelActIdeal.nD Cert.KernelActIdeal.τ).loc Cert.KernelActIdeal.main_v0_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0_0) = v0 c
          ∧ r.2.mem ((c.tc : Thread Cert.KernelActIdeal.nD Cert.KernelActIdeal.τ).loc Cert.KernelActIdeal.main_v0_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v8) = v0 c
          ∧ r.2.mem ((c.tc : Thread Cert.ReferenceActIdeal.nD Cert.ReferenceActIdeal.τ).loc Cert.ReferenceActIdeal.main_v9) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelMixbwd_KernelMixbwdIdeal : Prop :=
  True

def algebraic_KernelMixbwdIdeal_ReferenceMixbwdIdeal [hKernelMixbwdIdeal : Cert.KernelMixbwdIdeal.Facts] [hReferenceMixbwdIdeal : Cert.ReferenceMixbwdIdeal.Facts] : Prop :=
  ∀ (m : (ℓ : Loc Cert.KernelMixbwdIdeal.nD Cert.KernelMixbwdIdeal.τ Cert.KernelMixbwdIdeal.sig) → Buf (Elt Ideal) ℓ) (g : Dev Cert.KernelMixbwdIdeal.nD → PrngReg)
    (m' : (ℓ : Loc Cert.ReferenceMixbwdIdeal.nD Cert.ReferenceMixbwdIdeal.τ Cert.ReferenceMixbwdIdeal.sig) → Buf (Elt Ideal) ℓ) (g' : Dev Cert.ReferenceMixbwdIdeal.nD → PrngReg), Pre_KernelMixbwdIdeal m →
    (∀ c : Dev Cert.KernelMixbwdIdeal.nD,
      m' ((c.tc : Thread Cert.ReferenceMixbwdIdeal.nD Cert.ReferenceMixbwdIdeal.τ).loc Cert.ReferenceMixbwdIdeal.main_arg0) = m ((c.tc : Thread Cert.KernelMixbwdIdeal.nD Cert.KernelMixbwdIdeal.τ).loc Cert.KernelMixbwdIdeal.main_arg0)
      ∧ m' ((c.tc : Thread Cert.ReferenceMixbwdIdeal.nD Cert.ReferenceMixbwdIdeal.τ).loc Cert.ReferenceMixbwdIdeal.main_arg1) = m ((c.tc : Thread Cert.KernelMixbwdIdeal.nD Cert.KernelMixbwdIdeal.τ).loc Cert.KernelMixbwdIdeal.main_arg1)) →
    ∃ (v0 : (c : Dev Cert.KernelMixbwdIdeal.nD) → Buf (Elt Ideal) ((c.tc : Thread Cert.KernelMixbwdIdeal.nD Cert.KernelMixbwdIdeal.τ).loc Cert.KernelMixbwdIdeal.main_v0_0)) (v1 : (c : Dev Cert.KernelMixbwdIdeal.nD) → Buf (Elt Ideal) ((c.tc : Thread Cert.KernelMixbwdIdeal.nD Cert.KernelMixbwdIdeal.τ).loc Cert.KernelMixbwdIdeal.main_v0_1)),
      θ_run (Cert.KernelMixbwdIdeal.defs (F := Ideal)) (onTc (τ := Cert.KernelMixbwdIdeal.τ) (Cert.KernelMixbwdIdeal.main (F := Ideal))) ⟨m, fun _ => 0, g⟩ (fun r => ∀ c : Dev Cert.KernelMixbwdIdeal.nD,
          r.2.mem ((c.tc : Thread Cert.KernelMixbwdIdeal.nD Cert.KernelMixbwdIdeal.τ).loc Cert.KernelMixbwdIdeal.main_v0_0) = v0 c
          ∧ r.2.mem ((c.tc : Thread Cert.KernelMixbwdIdeal.nD Cert.KernelMixbwdIdeal.τ).loc Cert.KernelMixbwdIdeal.main_v0_1) = v1 c
          ∧ r.2.mem ((c.tc : Thread Cert.KernelMixbwdIdeal.nD Cert.KernelMixbwdIdeal.τ).loc Cert.KernelMixbwdIdeal.main_arg0) = m ((c.tc : Thread Cert.KernelMixbwdIdeal.nD Cert.KernelMixbwdIdeal.τ).loc Cert.KernelMixbwdIdeal.main_arg0)
          ∧ r.2.mem ((c.tc : Thread Cert.KernelMixbwdIdeal.nD Cert.KernelMixbwdIdeal.τ).loc Cert.KernelMixbwdIdeal.main_arg1) = m ((c.tc : Thread Cert.KernelMixbwdIdeal.nD Cert.KernelMixbwdIdeal.τ).loc Cert.KernelMixbwdIdeal.main_arg1))
      ∧ θ_run (Cert.ReferenceMixbwdIdeal.defs (F := Ideal)) (onTc (τ := Cert.ReferenceMixbwdIdeal.τ) (Cert.ReferenceMixbwdIdeal.main (F := Ideal))) ⟨m', fun _ => 0, g'⟩ (fun r => ∀ c : Dev Cert.ReferenceMixbwdIdeal.nD,
          r.2.mem ((c.tc : Thread Cert.ReferenceMixbwdIdeal.nD Cert.ReferenceMixbwdIdeal.τ).loc Cert.ReferenceMixbwdIdeal.main_v8) = v0 c
          ∧ r.2.mem ((c.tc : Thread Cert.ReferenceMixbwdIdeal.nD Cert.ReferenceMixbwdIdeal.τ).loc Cert.ReferenceMixbwdIdeal.main_v7) = v1 c
          ∧ r.2.mem ((c.tc : Thread Cert.ReferenceMixbwdIdeal.nD Cert.ReferenceMixbwdIdeal.τ).loc Cert.ReferenceMixbwdIdeal.main_arg0) = m' ((c.tc : Thread Cert.ReferenceMixbwdIdeal.nD Cert.ReferenceMixbwdIdeal.τ).loc Cert.ReferenceMixbwdIdeal.main_arg0)
          ∧ r.2.mem ((c.tc : Thread Cert.ReferenceMixbwdIdeal.nD Cert.ReferenceMixbwdIdeal.τ).loc Cert.ReferenceMixbwdIdeal.main_arg1) = m' ((c.tc : Thread Cert.ReferenceMixbwdIdeal.nD Cert.ReferenceMixbwdIdeal.τ).loc Cert.ReferenceMixbwdIdeal.main_arg1))

def preserves_KernelMixin_KernelMixinIdeal : Prop :=
  True

def algebraic_KernelMixinIdeal_ReferenceMixinIdeal [hKernelMixinIdeal : Cert.KernelMixinIdeal.Facts] [hReferenceMixinIdeal : Cert.ReferenceMixinIdeal.Facts] : Prop :=
  ∀ (m : (ℓ : Loc Cert.KernelMixinIdeal.nD Cert.KernelMixinIdeal.τ Cert.KernelMixinIdeal.sig) → Buf (Elt Ideal) ℓ) (g : Dev Cert.KernelMixinIdeal.nD → PrngReg)
    (m' : (ℓ : Loc Cert.ReferenceMixinIdeal.nD Cert.ReferenceMixinIdeal.τ Cert.ReferenceMixinIdeal.sig) → Buf (Elt Ideal) ℓ) (g' : Dev Cert.ReferenceMixinIdeal.nD → PrngReg), Pre_KernelMixinIdeal m →
    (∀ c : Dev Cert.KernelMixinIdeal.nD,
      m' ((c.tc : Thread Cert.ReferenceMixinIdeal.nD Cert.ReferenceMixinIdeal.τ).loc Cert.ReferenceMixinIdeal.main_arg0) = m ((c.tc : Thread Cert.KernelMixinIdeal.nD Cert.KernelMixinIdeal.τ).loc Cert.KernelMixinIdeal.main_arg0)
      ∧ m' ((c.tc : Thread Cert.ReferenceMixinIdeal.nD Cert.ReferenceMixinIdeal.τ).loc Cert.ReferenceMixinIdeal.main_arg1) = m ((c.tc : Thread Cert.KernelMixinIdeal.nD Cert.KernelMixinIdeal.τ).loc Cert.KernelMixinIdeal.main_arg1)
      ∧ m' ((c.tc : Thread Cert.ReferenceMixinIdeal.nD Cert.ReferenceMixinIdeal.τ).loc Cert.ReferenceMixinIdeal.main_arg2) = m ((c.tc : Thread Cert.KernelMixinIdeal.nD Cert.KernelMixinIdeal.τ).loc Cert.KernelMixinIdeal.main_arg2)
      ∧ m' ((c.tc : Thread Cert.ReferenceMixinIdeal.nD Cert.ReferenceMixinIdeal.τ).loc Cert.ReferenceMixinIdeal.main_arg3) = m ((c.tc : Thread Cert.KernelMixinIdeal.nD Cert.KernelMixinIdeal.τ).loc Cert.KernelMixinIdeal.main_arg3)
      ∧ m' ((c.tc : Thread Cert.ReferenceMixinIdeal.nD Cert.ReferenceMixinIdeal.τ).loc Cert.ReferenceMixinIdeal.main_arg4) = m ((c.tc : Thread Cert.KernelMixinIdeal.nD Cert.KernelMixinIdeal.τ).loc Cert.KernelMixinIdeal.main_arg4)
      ∧ m' ((c.tc : Thread Cert.ReferenceMixinIdeal.nD Cert.ReferenceMixinIdeal.τ).loc Cert.ReferenceMixinIdeal.main_arg5) = m ((c.tc : Thread Cert.KernelMixinIdeal.nD Cert.KernelMixinIdeal.τ).loc Cert.KernelMixinIdeal.main_arg5)) →
    ∃ (v0 : (c : Dev Cert.KernelMixinIdeal.nD) → Buf (Elt Ideal) ((c.tc : Thread Cert.KernelMixinIdeal.nD Cert.KernelMixinIdeal.τ).loc Cert.KernelMixinIdeal.main_v0_0)) (v1 : (c : Dev Cert.KernelMixinIdeal.nD) → Buf (Elt Ideal) ((c.tc : Thread Cert.KernelMixinIdeal.nD Cert.KernelMixinIdeal.τ).loc Cert.KernelMixinIdeal.main_v0_1)),
      θ_run (Cert.KernelMixinIdeal.defs (F := Ideal)) (onTc (τ := Cert.KernelMixinIdeal.τ) (Cert.KernelMixinIdeal.main (F := Ideal))) ⟨m, fun _ => 0, g⟩ (fun r => ∀ c : Dev Cert.KernelMixinIdeal.nD,
          r.2.mem ((c.tc : Thread Cert.KernelMixinIdeal.nD Cert.KernelMixinIdeal.τ).loc Cert.KernelMixinIdeal.main_v0_0) = v0 c
          ∧ r.2.mem ((c.tc : Thread Cert.KernelMixinIdeal.nD Cert.KernelMixinIdeal.τ).loc Cert.KernelMixinIdeal.main_v0_1) = v1 c
          ∧ r.2.mem ((c.tc : Thread Cert.KernelMixinIdeal.nD Cert.KernelMixinIdeal.τ).loc Cert.KernelMixinIdeal.main_arg0) = m ((c.tc : Thread Cert.KernelMixinIdeal.nD Cert.KernelMixinIdeal.τ).loc Cert.KernelMixinIdeal.main_arg0)
          ∧ r.2.mem ((c.tc : Thread Cert.KernelMixinIdeal.nD Cert.KernelMixinIdeal.τ).loc Cert.KernelMixinIdeal.main_arg1) = m ((c.tc : Thread Cert.KernelMixinIdeal.nD Cert.KernelMixinIdeal.τ).loc Cert.KernelMixinIdeal.main_arg1)
          ∧ r.2.mem ((c.tc : Thread Cert.KernelMixinIdeal.nD Cert.KernelMixinIdeal.τ).loc Cert.KernelMixinIdeal.main_arg2) = m ((c.tc : Thread Cert.KernelMixinIdeal.nD Cert.KernelMixinIdeal.τ).loc Cert.KernelMixinIdeal.main_arg2)
          ∧ r.2.mem ((c.tc : Thread Cert.KernelMixinIdeal.nD Cert.KernelMixinIdeal.τ).loc Cert.KernelMixinIdeal.main_arg3) = m ((c.tc : Thread Cert.KernelMixinIdeal.nD Cert.KernelMixinIdeal.τ).loc Cert.KernelMixinIdeal.main_arg3)
          ∧ r.2.mem ((c.tc : Thread Cert.KernelMixinIdeal.nD Cert.KernelMixinIdeal.τ).loc Cert.KernelMixinIdeal.main_arg4) = m ((c.tc : Thread Cert.KernelMixinIdeal.nD Cert.KernelMixinIdeal.τ).loc Cert.KernelMixinIdeal.main_arg4)
          ∧ r.2.mem ((c.tc : Thread Cert.KernelMixinIdeal.nD Cert.KernelMixinIdeal.τ).loc Cert.KernelMixinIdeal.main_arg5) = m ((c.tc : Thread Cert.KernelMixinIdeal.nD Cert.KernelMixinIdeal.τ).loc Cert.KernelMixinIdeal.main_arg5))
      ∧ θ_run (Cert.ReferenceMixinIdeal.defs (F := Ideal)) (onTc (τ := Cert.ReferenceMixinIdeal.τ) (Cert.ReferenceMixinIdeal.main (F := Ideal))) ⟨m', fun _ => 0, g'⟩ (fun r => ∀ c : Dev Cert.ReferenceMixinIdeal.nD,
          r.2.mem ((c.tc : Thread Cert.ReferenceMixinIdeal.nD Cert.ReferenceMixinIdeal.τ).loc Cert.ReferenceMixinIdeal.main_v54) = v0 c
          ∧ r.2.mem ((c.tc : Thread Cert.ReferenceMixinIdeal.nD Cert.ReferenceMixinIdeal.τ).loc Cert.ReferenceMixinIdeal.main_v39) = v1 c
          ∧ r.2.mem ((c.tc : Thread Cert.ReferenceMixinIdeal.nD Cert.ReferenceMixinIdeal.τ).loc Cert.ReferenceMixinIdeal.main_arg0) = m' ((c.tc : Thread Cert.ReferenceMixinIdeal.nD Cert.ReferenceMixinIdeal.τ).loc Cert.ReferenceMixinIdeal.main_arg0)
          ∧ r.2.mem ((c.tc : Thread Cert.ReferenceMixinIdeal.nD Cert.ReferenceMixinIdeal.τ).loc Cert.ReferenceMixinIdeal.main_arg1) = m' ((c.tc : Thread Cert.ReferenceMixinIdeal.nD Cert.ReferenceMixinIdeal.τ).loc Cert.ReferenceMixinIdeal.main_arg1)
          ∧ r.2.mem ((c.tc : Thread Cert.ReferenceMixinIdeal.nD Cert.ReferenceMixinIdeal.τ).loc Cert.ReferenceMixinIdeal.main_arg2) = m' ((c.tc : Thread Cert.ReferenceMixinIdeal.nD Cert.ReferenceMixinIdeal.τ).loc Cert.ReferenceMixinIdeal.main_arg2)
          ∧ r.2.mem ((c.tc : Thread Cert.ReferenceMixinIdeal.nD Cert.ReferenceMixinIdeal.τ).loc Cert.ReferenceMixinIdeal.main_arg3) = m' ((c.tc : Thread Cert.ReferenceMixinIdeal.nD Cert.ReferenceMixinIdeal.τ).loc Cert.ReferenceMixinIdeal.main_arg3)
          ∧ r.2.mem ((c.tc : Thread Cert.ReferenceMixinIdeal.nD Cert.ReferenceMixinIdeal.τ).loc Cert.ReferenceMixinIdeal.main_arg4) = m' ((c.tc : Thread Cert.ReferenceMixinIdeal.nD Cert.ReferenceMixinIdeal.τ).loc Cert.ReferenceMixinIdeal.main_arg4)
          ∧ r.2.mem ((c.tc : Thread Cert.ReferenceMixinIdeal.nD Cert.ReferenceMixinIdeal.τ).loc Cert.ReferenceMixinIdeal.main_arg5) = m' ((c.tc : Thread Cert.ReferenceMixinIdeal.nD Cert.ReferenceMixinIdeal.τ).loc Cert.ReferenceMixinIdeal.main_arg5))

def preserves_KernelFfnin_KernelFfninIdeal : Prop :=
  True

def algebraic_KernelFfninIdeal_ReferenceFfninIdeal [hKernelFfninIdeal : Cert.KernelFfninIdeal.Facts] [hReferenceFfninIdeal : Cert.ReferenceFfninIdeal.Facts] : Prop :=
  ∀ (m : (ℓ : Loc Cert.KernelFfninIdeal.nD Cert.KernelFfninIdeal.τ Cert.KernelFfninIdeal.sig) → Buf (Elt Ideal) ℓ) (g : Dev Cert.KernelFfninIdeal.nD → PrngReg)
    (m' : (ℓ : Loc Cert.ReferenceFfninIdeal.nD Cert.ReferenceFfninIdeal.τ Cert.ReferenceFfninIdeal.sig) → Buf (Elt Ideal) ℓ) (g' : Dev Cert.ReferenceFfninIdeal.nD → PrngReg), Pre_KernelFfninIdeal m →
    (∀ c : Dev Cert.KernelFfninIdeal.nD,
      m' ((c.tc : Thread Cert.ReferenceFfninIdeal.nD Cert.ReferenceFfninIdeal.τ).loc Cert.ReferenceFfninIdeal.main_arg0) = m ((c.tc : Thread Cert.KernelFfninIdeal.nD Cert.KernelFfninIdeal.τ).loc Cert.KernelFfninIdeal.main_arg0)
      ∧ m' ((c.tc : Thread Cert.ReferenceFfninIdeal.nD Cert.ReferenceFfninIdeal.τ).loc Cert.ReferenceFfninIdeal.main_arg1) = m ((c.tc : Thread Cert.KernelFfninIdeal.nD Cert.KernelFfninIdeal.τ).loc Cert.KernelFfninIdeal.main_arg1)
      ∧ m' ((c.tc : Thread Cert.ReferenceFfninIdeal.nD Cert.ReferenceFfninIdeal.τ).loc Cert.ReferenceFfninIdeal.main_arg2) = m ((c.tc : Thread Cert.KernelFfninIdeal.nD Cert.KernelFfninIdeal.τ).loc Cert.KernelFfninIdeal.main_arg2)
      ∧ m' ((c.tc : Thread Cert.ReferenceFfninIdeal.nD Cert.ReferenceFfninIdeal.τ).loc Cert.ReferenceFfninIdeal.main_arg3) = m ((c.tc : Thread Cert.KernelFfninIdeal.nD Cert.KernelFfninIdeal.τ).loc Cert.KernelFfninIdeal.main_arg3)
      ∧ m' ((c.tc : Thread Cert.ReferenceFfninIdeal.nD Cert.ReferenceFfninIdeal.τ).loc Cert.ReferenceFfninIdeal.main_arg4) = m ((c.tc : Thread Cert.KernelFfninIdeal.nD Cert.KernelFfninIdeal.τ).loc Cert.KernelFfninIdeal.main_arg4)
      ∧ m' ((c.tc : Thread Cert.ReferenceFfninIdeal.nD Cert.ReferenceFfninIdeal.τ).loc Cert.ReferenceFfninIdeal.main_arg5) = m ((c.tc : Thread Cert.KernelFfninIdeal.nD Cert.KernelFfninIdeal.τ).loc Cert.KernelFfninIdeal.main_arg5)
      ∧ m' ((c.tc : Thread Cert.ReferenceFfninIdeal.nD Cert.ReferenceFfninIdeal.τ).loc Cert.ReferenceFfninIdeal.main_arg6) = m ((c.tc : Thread Cert.KernelFfninIdeal.nD Cert.KernelFfninIdeal.τ).loc Cert.KernelFfninIdeal.main_arg6)) →
    ∃ (v0 : (c : Dev Cert.KernelFfninIdeal.nD) → Buf (Elt Ideal) ((c.tc : Thread Cert.KernelFfninIdeal.nD Cert.KernelFfninIdeal.τ).loc Cert.KernelFfninIdeal.main_v0_0)) (v1 : (c : Dev Cert.KernelFfninIdeal.nD) → Buf (Elt Ideal) ((c.tc : Thread Cert.KernelFfninIdeal.nD Cert.KernelFfninIdeal.τ).loc Cert.KernelFfninIdeal.main_v0_1)),
      θ_run (Cert.KernelFfninIdeal.defs (F := Ideal)) (onTc (τ := Cert.KernelFfninIdeal.τ) (Cert.KernelFfninIdeal.main (F := Ideal))) ⟨m, fun _ => 0, g⟩ (fun r => ∀ c : Dev Cert.KernelFfninIdeal.nD,
          r.2.mem ((c.tc : Thread Cert.KernelFfninIdeal.nD Cert.KernelFfninIdeal.τ).loc Cert.KernelFfninIdeal.main_v0_0) = v0 c
          ∧ r.2.mem ((c.tc : Thread Cert.KernelFfninIdeal.nD Cert.KernelFfninIdeal.τ).loc Cert.KernelFfninIdeal.main_v0_1) = v1 c
          ∧ r.2.mem ((c.tc : Thread Cert.KernelFfninIdeal.nD Cert.KernelFfninIdeal.τ).loc Cert.KernelFfninIdeal.main_arg0) = m ((c.tc : Thread Cert.KernelFfninIdeal.nD Cert.KernelFfninIdeal.τ).loc Cert.KernelFfninIdeal.main_arg0)
          ∧ r.2.mem ((c.tc : Thread Cert.KernelFfninIdeal.nD Cert.KernelFfninIdeal.τ).loc Cert.KernelFfninIdeal.main_arg1) = m ((c.tc : Thread Cert.KernelFfninIdeal.nD Cert.KernelFfninIdeal.τ).loc Cert.KernelFfninIdeal.main_arg1)
          ∧ r.2.mem ((c.tc : Thread Cert.KernelFfninIdeal.nD Cert.KernelFfninIdeal.τ).loc Cert.KernelFfninIdeal.main_arg2) = m ((c.tc : Thread Cert.KernelFfninIdeal.nD Cert.KernelFfninIdeal.τ).loc Cert.KernelFfninIdeal.main_arg2)
          ∧ r.2.mem ((c.tc : Thread Cert.KernelFfninIdeal.nD Cert.KernelFfninIdeal.τ).loc Cert.KernelFfninIdeal.main_arg3) = m ((c.tc : Thread Cert.KernelFfninIdeal.nD Cert.KernelFfninIdeal.τ).loc Cert.KernelFfninIdeal.main_arg3)
          ∧ r.2.mem ((c.tc : Thread Cert.KernelFfninIdeal.nD Cert.KernelFfninIdeal.τ).loc Cert.KernelFfninIdeal.main_arg4) = m ((c.tc : Thread Cert.KernelFfninIdeal.nD Cert.KernelFfninIdeal.τ).loc Cert.KernelFfninIdeal.main_arg4)
          ∧ r.2.mem ((c.tc : Thread Cert.KernelFfninIdeal.nD Cert.KernelFfninIdeal.τ).loc Cert.KernelFfninIdeal.main_arg5) = m ((c.tc : Thread Cert.KernelFfninIdeal.nD Cert.KernelFfninIdeal.τ).loc Cert.KernelFfninIdeal.main_arg5)
          ∧ r.2.mem ((c.tc : Thread Cert.KernelFfninIdeal.nD Cert.KernelFfninIdeal.τ).loc Cert.KernelFfninIdeal.main_arg6) = m ((c.tc : Thread Cert.KernelFfninIdeal.nD Cert.KernelFfninIdeal.τ).loc Cert.KernelFfninIdeal.main_arg6))
      ∧ θ_run (Cert.ReferenceFfninIdeal.defs (F := Ideal)) (onTc (τ := Cert.ReferenceFfninIdeal.τ) (Cert.ReferenceFfninIdeal.main (F := Ideal))) ⟨m', fun _ => 0, g'⟩ (fun r => ∀ c : Dev Cert.ReferenceFfninIdeal.nD,
          r.2.mem ((c.tc : Thread Cert.ReferenceFfninIdeal.nD Cert.ReferenceFfninIdeal.τ).loc Cert.ReferenceFfninIdeal.main_v49) = v0 c
          ∧ r.2.mem ((c.tc : Thread Cert.ReferenceFfninIdeal.nD Cert.ReferenceFfninIdeal.τ).loc Cert.ReferenceFfninIdeal.main_v34) = v1 c
          ∧ r.2.mem ((c.tc : Thread Cert.ReferenceFfninIdeal.nD Cert.ReferenceFfninIdeal.τ).loc Cert.ReferenceFfninIdeal.main_arg0) = m' ((c.tc : Thread Cert.ReferenceFfninIdeal.nD Cert.ReferenceFfninIdeal.τ).loc Cert.ReferenceFfninIdeal.main_arg0)
          ∧ r.2.mem ((c.tc : Thread Cert.ReferenceFfninIdeal.nD Cert.ReferenceFfninIdeal.τ).loc Cert.ReferenceFfninIdeal.main_arg1) = m' ((c.tc : Thread Cert.ReferenceFfninIdeal.nD Cert.ReferenceFfninIdeal.τ).loc Cert.ReferenceFfninIdeal.main_arg1)
          ∧ r.2.mem ((c.tc : Thread Cert.ReferenceFfninIdeal.nD Cert.ReferenceFfninIdeal.τ).loc Cert.ReferenceFfninIdeal.main_arg2) = m' ((c.tc : Thread Cert.ReferenceFfninIdeal.nD Cert.ReferenceFfninIdeal.τ).loc Cert.ReferenceFfninIdeal.main_arg2)
          ∧ r.2.mem ((c.tc : Thread Cert.ReferenceFfninIdeal.nD Cert.ReferenceFfninIdeal.τ).loc Cert.ReferenceFfninIdeal.main_arg3) = m' ((c.tc : Thread Cert.ReferenceFfninIdeal.nD Cert.ReferenceFfninIdeal.τ).loc Cert.ReferenceFfninIdeal.main_arg3)
          ∧ r.2.mem ((c.tc : Thread Cert.ReferenceFfninIdeal.nD Cert.ReferenceFfninIdeal.τ).loc Cert.ReferenceFfninIdeal.main_arg4) = m' ((c.tc : Thread Cert.ReferenceFfninIdeal.nD Cert.ReferenceFfninIdeal.τ).loc Cert.ReferenceFfninIdeal.main_arg4)
          ∧ r.2.mem ((c.tc : Thread Cert.ReferenceFfninIdeal.nD Cert.ReferenceFfninIdeal.τ).loc Cert.ReferenceFfninIdeal.main_arg5) = m' ((c.tc : Thread Cert.ReferenceFfninIdeal.nD Cert.ReferenceFfninIdeal.τ).loc Cert.ReferenceFfninIdeal.main_arg5)
          ∧ r.2.mem ((c.tc : Thread Cert.ReferenceFfninIdeal.nD Cert.ReferenceFfninIdeal.τ).loc Cert.ReferenceFfninIdeal.main_arg6) = m' ((c.tc : Thread Cert.ReferenceFfninIdeal.nD Cert.ReferenceFfninIdeal.τ).loc Cert.ReferenceFfninIdeal.main_arg6))

def preserves_KernelMm_KernelMmIdeal : Prop :=
  True

def algebraic_KernelMmIdeal_ReferenceMmIdeal [hKernelMmIdeal : Cert.KernelMmIdeal.Facts] [hReferenceMmIdeal : Cert.ReferenceMmIdeal.Facts] : Prop :=
  ∀ (m : (ℓ : Loc Cert.KernelMmIdeal.nD Cert.KernelMmIdeal.τ Cert.KernelMmIdeal.sig) → Buf (Elt Ideal) ℓ) (g : Dev Cert.KernelMmIdeal.nD → PrngReg)
    (m' : (ℓ : Loc Cert.ReferenceMmIdeal.nD Cert.ReferenceMmIdeal.τ Cert.ReferenceMmIdeal.sig) → Buf (Elt Ideal) ℓ) (g' : Dev Cert.ReferenceMmIdeal.nD → PrngReg), Pre_KernelMmIdeal m →
    (∀ c : Dev Cert.KernelMmIdeal.nD,
      m' ((c.tc : Thread Cert.ReferenceMmIdeal.nD Cert.ReferenceMmIdeal.τ).loc Cert.ReferenceMmIdeal.main_arg0) = m ((c.tc : Thread Cert.KernelMmIdeal.nD Cert.KernelMmIdeal.τ).loc Cert.KernelMmIdeal.main_arg0)
      ∧ m' ((c.tc : Thread Cert.ReferenceMmIdeal.nD Cert.ReferenceMmIdeal.τ).loc Cert.ReferenceMmIdeal.main_arg1) = m ((c.tc : Thread Cert.KernelMmIdeal.nD Cert.KernelMmIdeal.τ).loc Cert.KernelMmIdeal.main_arg1)) →
    ∃ (v0 : (c : Dev Cert.KernelMmIdeal.nD) → Buf (Elt Ideal) ((c.tc : Thread Cert.KernelMmIdeal.nD Cert.KernelMmIdeal.τ).loc Cert.KernelMmIdeal.main_v0)),
      θ_run (Cert.KernelMmIdeal.defs (F := Ideal)) (onTc (τ := Cert.KernelMmIdeal.τ) (Cert.KernelMmIdeal.main (F := Ideal))) ⟨m, fun _ => 0, g⟩ (fun r => ∀ c : Dev Cert.KernelMmIdeal.nD,
          r.2.mem ((c.tc : Thread Cert.KernelMmIdeal.nD Cert.KernelMmIdeal.τ).loc Cert.KernelMmIdeal.main_v0) = v0 c
          ∧ r.2.mem ((c.tc : Thread Cert.KernelMmIdeal.nD Cert.KernelMmIdeal.τ).loc Cert.KernelMmIdeal.main_arg0) = m ((c.tc : Thread Cert.KernelMmIdeal.nD Cert.KernelMmIdeal.τ).loc Cert.KernelMmIdeal.main_arg0)
          ∧ r.2.mem ((c.tc : Thread Cert.KernelMmIdeal.nD Cert.KernelMmIdeal.τ).loc Cert.KernelMmIdeal.main_arg1) = m ((c.tc : Thread Cert.KernelMmIdeal.nD Cert.KernelMmIdeal.τ).loc Cert.KernelMmIdeal.main_arg1))
      ∧ θ_run (Cert.ReferenceMmIdeal.defs (F := Ideal)) (onTc (τ := Cert.ReferenceMmIdeal.τ) (Cert.ReferenceMmIdeal.main (F := Ideal))) ⟨m', fun _ => 0, g'⟩ (fun r => ∀ c : Dev Cert.ReferenceMmIdeal.nD,
          r.2.mem ((c.tc : Thread Cert.ReferenceMmIdeal.nD Cert.ReferenceMmIdeal.τ).loc Cert.ReferenceMmIdeal.main_v5) = v0 c
          ∧ r.2.mem ((c.tc : Thread Cert.ReferenceMmIdeal.nD Cert.ReferenceMmIdeal.τ).loc Cert.ReferenceMmIdeal.main_arg0) = m' ((c.tc : Thread Cert.ReferenceMmIdeal.nD Cert.ReferenceMmIdeal.τ).loc Cert.ReferenceMmIdeal.main_arg0)
          ∧ r.2.mem ((c.tc : Thread Cert.ReferenceMmIdeal.nD Cert.ReferenceMmIdeal.τ).loc Cert.ReferenceMmIdeal.main_arg1) = m' ((c.tc : Thread Cert.ReferenceMmIdeal.nD Cert.ReferenceMmIdeal.τ).loc Cert.ReferenceMmIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v0)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v7) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelGout_KernelGoutIdeal : Prop :=
  True

def algebraic_KernelGoutIdeal_ReferenceGoutIdeal [hKernelGoutIdeal : Cert.KernelGoutIdeal.Facts] [hReferenceGoutIdeal : Cert.ReferenceGoutIdeal.Facts] : Prop :=
  ∀ (m : (ℓ : Loc Cert.KernelGoutIdeal.nD Cert.KernelGoutIdeal.τ Cert.KernelGoutIdeal.sig) → Buf (Elt Ideal) ℓ) (g : Dev Cert.KernelGoutIdeal.nD → PrngReg)
    (m' : (ℓ : Loc Cert.ReferenceGoutIdeal.nD Cert.ReferenceGoutIdeal.τ Cert.ReferenceGoutIdeal.sig) → Buf (Elt Ideal) ℓ) (g' : Dev Cert.ReferenceGoutIdeal.nD → PrngReg), Pre_KernelGoutIdeal m →
    (∀ c : Dev Cert.KernelGoutIdeal.nD,
      m' ((c.tc : Thread Cert.ReferenceGoutIdeal.nD Cert.ReferenceGoutIdeal.τ).loc Cert.ReferenceGoutIdeal.main_arg0) = m ((c.tc : Thread Cert.KernelGoutIdeal.nD Cert.KernelGoutIdeal.τ).loc Cert.KernelGoutIdeal.main_arg0)
      ∧ m' ((c.tc : Thread Cert.ReferenceGoutIdeal.nD Cert.ReferenceGoutIdeal.τ).loc Cert.ReferenceGoutIdeal.main_arg1) = m ((c.tc : Thread Cert.KernelGoutIdeal.nD Cert.KernelGoutIdeal.τ).loc Cert.KernelGoutIdeal.main_arg1)
      ∧ m' ((c.tc : Thread Cert.ReferenceGoutIdeal.nD Cert.ReferenceGoutIdeal.τ).loc Cert.ReferenceGoutIdeal.main_arg2) = m ((c.tc : Thread Cert.KernelGoutIdeal.nD Cert.KernelGoutIdeal.τ).loc Cert.KernelGoutIdeal.main_arg2)) →
    ∃ (v0 : (c : Dev Cert.KernelGoutIdeal.nD) → Buf (Elt Ideal) ((c.tc : Thread Cert.KernelGoutIdeal.nD Cert.KernelGoutIdeal.τ).loc Cert.KernelGoutIdeal.main_v0)),
      θ_run (Cert.KernelGoutIdeal.defs (F := Ideal)) (onTc (τ := Cert.KernelGoutIdeal.τ) (Cert.KernelGoutIdeal.main (F := Ideal))) ⟨m, fun _ => 0, g⟩ (fun r => ∀ c : Dev Cert.KernelGoutIdeal.nD,
          r.2.mem ((c.tc : Thread Cert.KernelGoutIdeal.nD Cert.KernelGoutIdeal.τ).loc Cert.KernelGoutIdeal.main_v0) = v0 c
          ∧ r.2.mem ((c.tc : Thread Cert.KernelGoutIdeal.nD Cert.KernelGoutIdeal.τ).loc Cert.KernelGoutIdeal.main_arg0) = m ((c.tc : Thread Cert.KernelGoutIdeal.nD Cert.KernelGoutIdeal.τ).loc Cert.KernelGoutIdeal.main_arg0)
          ∧ r.2.mem ((c.tc : Thread Cert.KernelGoutIdeal.nD Cert.KernelGoutIdeal.τ).loc Cert.KernelGoutIdeal.main_arg1) = m ((c.tc : Thread Cert.KernelGoutIdeal.nD Cert.KernelGoutIdeal.τ).loc Cert.KernelGoutIdeal.main_arg1)
          ∧ r.2.mem ((c.tc : Thread Cert.KernelGoutIdeal.nD Cert.KernelGoutIdeal.τ).loc Cert.KernelGoutIdeal.main_arg2) = m ((c.tc : Thread Cert.KernelGoutIdeal.nD Cert.KernelGoutIdeal.τ).loc Cert.KernelGoutIdeal.main_arg2))
      ∧ θ_run (Cert.ReferenceGoutIdeal.defs (F := Ideal)) (onTc (τ := Cert.ReferenceGoutIdeal.τ) (Cert.ReferenceGoutIdeal.main (F := Ideal))) ⟨m', fun _ => 0, g'⟩ (fun r => ∀ c : Dev Cert.ReferenceGoutIdeal.nD,
          r.2.mem ((c.tc : Thread Cert.ReferenceGoutIdeal.nD Cert.ReferenceGoutIdeal.τ).loc Cert.ReferenceGoutIdeal.main_v7) = v0 c
          ∧ r.2.mem ((c.tc : Thread Cert.ReferenceGoutIdeal.nD Cert.ReferenceGoutIdeal.τ).loc Cert.ReferenceGoutIdeal.main_arg0) = m' ((c.tc : Thread Cert.ReferenceGoutIdeal.nD Cert.ReferenceGoutIdeal.τ).loc Cert.ReferenceGoutIdeal.main_arg0)
          ∧ r.2.mem ((c.tc : Thread Cert.ReferenceGoutIdeal.nD Cert.ReferenceGoutIdeal.τ).loc Cert.ReferenceGoutIdeal.main_arg1) = m' ((c.tc : Thread Cert.ReferenceGoutIdeal.nD Cert.ReferenceGoutIdeal.τ).loc Cert.ReferenceGoutIdeal.main_arg1)
          ∧ r.2.mem ((c.tc : Thread Cert.ReferenceGoutIdeal.nD Cert.ReferenceGoutIdeal.τ).loc Cert.ReferenceGoutIdeal.main_arg2) = m' ((c.tc : Thread Cert.ReferenceGoutIdeal.nD Cert.ReferenceGoutIdeal.τ).loc Cert.ReferenceGoutIdeal.main_arg2))

def preserves_KernelGradin_KernelGradinIdeal : Prop :=
  True

def algebraic_KernelGradinIdeal_ReferenceGradinIdeal [hKernelGradinIdeal : Cert.KernelGradinIdeal.Facts] [hReferenceGradinIdeal : Cert.ReferenceGradinIdeal.Facts] : Prop :=
  ∀ (m : (ℓ : Loc Cert.KernelGradinIdeal.nD Cert.KernelGradinIdeal.τ Cert.KernelGradinIdeal.sig) → Buf (Elt Ideal) ℓ) (g : Dev Cert.KernelGradinIdeal.nD → PrngReg)
    (m' : (ℓ : Loc Cert.ReferenceGradinIdeal.nD Cert.ReferenceGradinIdeal.τ Cert.ReferenceGradinIdeal.sig) → Buf (Elt Ideal) ℓ) (g' : Dev Cert.ReferenceGradinIdeal.nD → PrngReg), Pre_KernelGradinIdeal m →
    (∀ c : Dev Cert.KernelGradinIdeal.nD,
      m' ((c.tc : Thread Cert.ReferenceGradinIdeal.nD Cert.ReferenceGradinIdeal.τ).loc Cert.ReferenceGradinIdeal.main_arg0) = m ((c.tc : Thread Cert.KernelGradinIdeal.nD Cert.KernelGradinIdeal.τ).loc Cert.KernelGradinIdeal.main_arg0)
      ∧ m' ((c.tc : Thread Cert.ReferenceGradinIdeal.nD Cert.ReferenceGradinIdeal.τ).loc Cert.ReferenceGradinIdeal.main_arg1) = m ((c.tc : Thread Cert.KernelGradinIdeal.nD Cert.KernelGradinIdeal.τ).loc Cert.KernelGradinIdeal.main_arg1)
      ∧ m' ((c.tc : Thread Cert.ReferenceGradinIdeal.nD Cert.ReferenceGradinIdeal.τ).loc Cert.ReferenceGradinIdeal.main_arg2) = m ((c.tc : Thread Cert.KernelGradinIdeal.nD Cert.KernelGradinIdeal.τ).loc Cert.KernelGradinIdeal.main_arg2)) →
    ∃ (v0 : (c : Dev Cert.KernelGradinIdeal.nD) → Buf (Elt Ideal) ((c.tc : Thread Cert.KernelGradinIdeal.nD Cert.KernelGradinIdeal.τ).loc Cert.KernelGradinIdeal.main_v0)),
      θ_run (Cert.KernelGradinIdeal.defs (F := Ideal)) (onTc (τ := Cert.KernelGradinIdeal.τ) (Cert.KernelGradinIdeal.main (F := Ideal))) ⟨m, fun _ => 0, g⟩ (fun r => ∀ c : Dev Cert.KernelGradinIdeal.nD,
          r.2.mem ((c.tc : Thread Cert.KernelGradinIdeal.nD Cert.KernelGradinIdeal.τ).loc Cert.KernelGradinIdeal.main_v0) = v0 c
          ∧ r.2.mem ((c.tc : Thread Cert.KernelGradinIdeal.nD Cert.KernelGradinIdeal.τ).loc Cert.KernelGradinIdeal.main_arg0) = m ((c.tc : Thread Cert.KernelGradinIdeal.nD Cert.KernelGradinIdeal.τ).loc Cert.KernelGradinIdeal.main_arg0)
          ∧ r.2.mem ((c.tc : Thread Cert.KernelGradinIdeal.nD Cert.KernelGradinIdeal.τ).loc Cert.KernelGradinIdeal.main_arg1) = m ((c.tc : Thread Cert.KernelGradinIdeal.nD Cert.KernelGradinIdeal.τ).loc Cert.KernelGradinIdeal.main_arg1)
          ∧ r.2.mem ((c.tc : Thread Cert.KernelGradinIdeal.nD Cert.KernelGradinIdeal.τ).loc Cert.KernelGradinIdeal.main_arg2) = m ((c.tc : Thread Cert.KernelGradinIdeal.nD Cert.KernelGradinIdeal.τ).loc Cert.KernelGradinIdeal.main_arg2))
      ∧ θ_run (Cert.ReferenceGradinIdeal.defs (F := Ideal)) (onTc (τ := Cert.ReferenceGradinIdeal.τ) (Cert.ReferenceGradinIdeal.main (F := Ideal))) ⟨m', fun _ => 0, g'⟩ (fun r => ∀ c : Dev Cert.ReferenceGradinIdeal.nD,
          r.2.mem ((c.tc : Thread Cert.ReferenceGradinIdeal.nD Cert.ReferenceGradinIdeal.τ).loc Cert.ReferenceGradinIdeal.main_v19) = v0 c
          ∧ r.2.mem ((c.tc : Thread Cert.ReferenceGradinIdeal.nD Cert.ReferenceGradinIdeal.τ).loc Cert.ReferenceGradinIdeal.main_arg0) = m' ((c.tc : Thread Cert.ReferenceGradinIdeal.nD Cert.ReferenceGradinIdeal.τ).loc Cert.ReferenceGradinIdeal.main_arg0)
          ∧ r.2.mem ((c.tc : Thread Cert.ReferenceGradinIdeal.nD Cert.ReferenceGradinIdeal.τ).loc Cert.ReferenceGradinIdeal.main_arg1) = m' ((c.tc : Thread Cert.ReferenceGradinIdeal.nD Cert.ReferenceGradinIdeal.τ).loc Cert.ReferenceGradinIdeal.main_arg1)
          ∧ r.2.mem ((c.tc : Thread Cert.ReferenceGradinIdeal.nD Cert.ReferenceGradinIdeal.τ).loc Cert.ReferenceGradinIdeal.main_arg2) = m' ((c.tc : Thread Cert.ReferenceGradinIdeal.nD Cert.ReferenceGradinIdeal.τ).loc Cert.ReferenceGradinIdeal.main_arg2))

def preserves_KernelLn_KernelLnIdeal : Prop :=
  True

def algebraic_KernelLnIdeal_ReferenceLnIdeal [hKernelLnIdeal : Cert.KernelLnIdeal.Facts] [hReferenceLnIdeal : Cert.ReferenceLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)) →
    ∃ (v0 : (c : Dev Cert.KernelLnIdeal.nD) → Buf (Elt Ideal) ((c.tc : Thread Cert.KernelLnIdeal.nD Cert.KernelLnIdeal.τ).loc Cert.KernelLnIdeal.main_v0_0)) (v1 : (c : Dev Cert.KernelLnIdeal.nD) → Buf (Elt Ideal) ((c.tc : Thread Cert.KernelLnIdeal.nD Cert.KernelLnIdeal.τ).loc Cert.KernelLnIdeal.main_v0_1)) (v2 : (c : Dev Cert.KernelLnIdeal.nD) → Buf (Elt Ideal) ((c.tc : Thread Cert.KernelLnIdeal.nD Cert.KernelLnIdeal.τ).loc Cert.KernelLnIdeal.main_v0_2)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v0_0) = v0 c
          ∧ r.2.mem ((c.tc : Thread Cert.KernelLnIdeal.nD Cert.KernelLnIdeal.τ).loc Cert.KernelLnIdeal.main_v0_1) = v1 c
          ∧ r.2.mem ((c.tc : Thread Cert.KernelLnIdeal.nD Cert.KernelLnIdeal.τ).loc Cert.KernelLnIdeal.main_v0_2) = v2 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v68) = v0 c
          ∧ r.2.mem ((c.tc : Thread Cert.ReferenceLnIdeal.nD Cert.ReferenceLnIdeal.τ).loc Cert.ReferenceLnIdeal.main_v44) = v1 c
          ∧ r.2.mem ((c.tc : Thread Cert.ReferenceLnIdeal.nD Cert.ReferenceLnIdeal.τ).loc Cert.ReferenceLnIdeal.main_v38) = v2 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3))

def preserves_KernelMixout_KernelMixoutIdeal : Prop :=
  True

def algebraic_KernelMixoutIdeal_ReferenceMixoutIdeal [hKernelMixoutIdeal : Cert.KernelMixoutIdeal.Facts] [hReferenceMixoutIdeal : Cert.ReferenceMixoutIdeal.Facts] : Prop :=
  ∀ (m : (ℓ : Loc Cert.KernelMixoutIdeal.nD Cert.KernelMixoutIdeal.τ Cert.KernelMixoutIdeal.sig) → Buf (Elt Ideal) ℓ) (g : Dev Cert.KernelMixoutIdeal.nD → PrngReg)
    (m' : (ℓ : Loc Cert.ReferenceMixoutIdeal.nD Cert.ReferenceMixoutIdeal.τ Cert.ReferenceMixoutIdeal.sig) → Buf (Elt Ideal) ℓ) (g' : Dev Cert.ReferenceMixoutIdeal.nD → PrngReg), Pre_KernelMixoutIdeal m →
    (∀ c : Dev Cert.KernelMixoutIdeal.nD,
      m' ((c.tc : Thread Cert.ReferenceMixoutIdeal.nD Cert.ReferenceMixoutIdeal.τ).loc Cert.ReferenceMixoutIdeal.main_arg0) = m ((c.tc : Thread Cert.KernelMixoutIdeal.nD Cert.KernelMixoutIdeal.τ).loc Cert.KernelMixoutIdeal.main_arg0)
      ∧ m' ((c.tc : Thread Cert.ReferenceMixoutIdeal.nD Cert.ReferenceMixoutIdeal.τ).loc Cert.ReferenceMixoutIdeal.main_arg1) = m ((c.tc : Thread Cert.KernelMixoutIdeal.nD Cert.KernelMixoutIdeal.τ).loc Cert.KernelMixoutIdeal.main_arg1)
      ∧ m' ((c.tc : Thread Cert.ReferenceMixoutIdeal.nD Cert.ReferenceMixoutIdeal.τ).loc Cert.ReferenceMixoutIdeal.main_arg2) = m ((c.tc : Thread Cert.KernelMixoutIdeal.nD Cert.KernelMixoutIdeal.τ).loc Cert.KernelMixoutIdeal.main_arg2)
      ∧ m' ((c.tc : Thread Cert.ReferenceMixoutIdeal.nD Cert.ReferenceMixoutIdeal.τ).loc Cert.ReferenceMixoutIdeal.main_arg3) = m ((c.tc : Thread Cert.KernelMixoutIdeal.nD Cert.KernelMixoutIdeal.τ).loc Cert.KernelMixoutIdeal.main_arg3)) →
    ∃ (v0 : (c : Dev Cert.KernelMixoutIdeal.nD) → Buf (Elt Ideal) ((c.tc : Thread Cert.KernelMixoutIdeal.nD Cert.KernelMixoutIdeal.τ).loc Cert.KernelMixoutIdeal.main_v0)),
      θ_run (Cert.KernelMixoutIdeal.defs (F := Ideal)) (onTc (τ := Cert.KernelMixoutIdeal.τ) (Cert.KernelMixoutIdeal.main (F := Ideal))) ⟨m, fun _ => 0, g⟩ (fun r => ∀ c : Dev Cert.KernelMixoutIdeal.nD,
          r.2.mem ((c.tc : Thread Cert.KernelMixoutIdeal.nD Cert.KernelMixoutIdeal.τ).loc Cert.KernelMixoutIdeal.main_v0) = v0 c
          ∧ r.2.mem ((c.tc : Thread Cert.KernelMixoutIdeal.nD Cert.KernelMixoutIdeal.τ).loc Cert.KernelMixoutIdeal.main_arg0) = m ((c.tc : Thread Cert.KernelMixoutIdeal.nD Cert.KernelMixoutIdeal.τ).loc Cert.KernelMixoutIdeal.main_arg0)
          ∧ r.2.mem ((c.tc : Thread Cert.KernelMixoutIdeal.nD Cert.KernelMixoutIdeal.τ).loc Cert.KernelMixoutIdeal.main_arg1) = m ((c.tc : Thread Cert.KernelMixoutIdeal.nD Cert.KernelMixoutIdeal.τ).loc Cert.KernelMixoutIdeal.main_arg1)
          ∧ r.2.mem ((c.tc : Thread Cert.KernelMixoutIdeal.nD Cert.KernelMixoutIdeal.τ).loc Cert.KernelMixoutIdeal.main_arg2) = m ((c.tc : Thread Cert.KernelMixoutIdeal.nD Cert.KernelMixoutIdeal.τ).loc Cert.KernelMixoutIdeal.main_arg2)
          ∧ r.2.mem ((c.tc : Thread Cert.KernelMixoutIdeal.nD Cert.KernelMixoutIdeal.τ).loc Cert.KernelMixoutIdeal.main_arg3) = m ((c.tc : Thread Cert.KernelMixoutIdeal.nD Cert.KernelMixoutIdeal.τ).loc Cert.KernelMixoutIdeal.main_arg3))
      ∧ θ_run (Cert.ReferenceMixoutIdeal.defs (F := Ideal)) (onTc (τ := Cert.ReferenceMixoutIdeal.τ) (Cert.ReferenceMixoutIdeal.main (F := Ideal))) ⟨m', fun _ => 0, g'⟩ (fun r => ∀ c : Dev Cert.ReferenceMixoutIdeal.nD,
          r.2.mem ((c.tc : Thread Cert.ReferenceMixoutIdeal.nD Cert.ReferenceMixoutIdeal.τ).loc Cert.ReferenceMixoutIdeal.main_v4) = v0 c
          ∧ r.2.mem ((c.tc : Thread Cert.ReferenceMixoutIdeal.nD Cert.ReferenceMixoutIdeal.τ).loc Cert.ReferenceMixoutIdeal.main_arg0) = m' ((c.tc : Thread Cert.ReferenceMixoutIdeal.nD Cert.ReferenceMixoutIdeal.τ).loc Cert.ReferenceMixoutIdeal.main_arg0)
          ∧ r.2.mem ((c.tc : Thread Cert.ReferenceMixoutIdeal.nD Cert.ReferenceMixoutIdeal.τ).loc Cert.ReferenceMixoutIdeal.main_arg1) = m' ((c.tc : Thread Cert.ReferenceMixoutIdeal.nD Cert.ReferenceMixoutIdeal.τ).loc Cert.ReferenceMixoutIdeal.main_arg1)
          ∧ r.2.mem ((c.tc : Thread Cert.ReferenceMixoutIdeal.nD Cert.ReferenceMixoutIdeal.τ).loc Cert.ReferenceMixoutIdeal.main_arg2) = m' ((c.tc : Thread Cert.ReferenceMixoutIdeal.nD Cert.ReferenceMixoutIdeal.τ).loc Cert.ReferenceMixoutIdeal.main_arg2)
          ∧ r.2.mem ((c.tc : Thread Cert.ReferenceMixoutIdeal.nD Cert.ReferenceMixoutIdeal.τ).loc Cert.ReferenceMixoutIdeal.main_arg3) = m' ((c.tc : Thread Cert.ReferenceMixoutIdeal.nD Cert.ReferenceMixoutIdeal.τ).loc Cert.ReferenceMixoutIdeal.main_arg3))

def preserves_KernelMixinf_KernelMixinfIdeal : Prop :=
  True

def algebraic_KernelMixinfIdeal_ReferenceMixinfIdeal [hKernelMixinfIdeal : Cert.KernelMixinfIdeal.Facts] [hReferenceMixinfIdeal : Cert.ReferenceMixinfIdeal.Facts] : Prop :=
  ∀ (m : (ℓ : Loc Cert.KernelMixinfIdeal.nD Cert.KernelMixinfIdeal.τ Cert.KernelMixinfIdeal.sig) → Buf (Elt Ideal) ℓ) (g : Dev Cert.KernelMixinfIdeal.nD → PrngReg)
    (m' : (ℓ : Loc Cert.ReferenceMixinfIdeal.nD Cert.ReferenceMixinfIdeal.τ Cert.ReferenceMixinfIdeal.sig) → Buf (Elt Ideal) ℓ) (g' : Dev Cert.ReferenceMixinfIdeal.nD → PrngReg), Pre_KernelMixinfIdeal m →
    (∀ c : Dev Cert.KernelMixinfIdeal.nD,
      m' ((c.tc : Thread Cert.ReferenceMixinfIdeal.nD Cert.ReferenceMixinfIdeal.τ).loc Cert.ReferenceMixinfIdeal.main_arg0) = m ((c.tc : Thread Cert.KernelMixinfIdeal.nD Cert.KernelMixinfIdeal.τ).loc Cert.KernelMixinfIdeal.main_arg0)
      ∧ m' ((c.tc : Thread Cert.ReferenceMixinfIdeal.nD Cert.ReferenceMixinfIdeal.τ).loc Cert.ReferenceMixinfIdeal.main_arg1) = m ((c.tc : Thread Cert.KernelMixinfIdeal.nD Cert.KernelMixinfIdeal.τ).loc Cert.KernelMixinfIdeal.main_arg1)
      ∧ m' ((c.tc : Thread Cert.ReferenceMixinfIdeal.nD Cert.ReferenceMixinfIdeal.τ).loc Cert.ReferenceMixinfIdeal.main_arg2) = m ((c.tc : Thread Cert.KernelMixinfIdeal.nD Cert.KernelMixinfIdeal.τ).loc Cert.KernelMixinfIdeal.main_arg2)) →
    ∃ (v0 : (c : Dev Cert.KernelMixinfIdeal.nD) → Buf (Elt Ideal) ((c.tc : Thread Cert.KernelMixinfIdeal.nD Cert.KernelMixinfIdeal.τ).loc Cert.KernelMixinfIdeal.main_v0_0)) (v1 : (c : Dev Cert.KernelMixinfIdeal.nD) → Buf (Elt Ideal) ((c.tc : Thread Cert.KernelMixinfIdeal.nD Cert.KernelMixinfIdeal.τ).loc Cert.KernelMixinfIdeal.main_v0_1)) (v2 : (c : Dev Cert.KernelMixinfIdeal.nD) → Buf (Elt Ideal) ((c.tc : Thread Cert.KernelMixinfIdeal.nD Cert.KernelMixinfIdeal.τ).loc Cert.KernelMixinfIdeal.main_v0_2)),
      θ_run (Cert.KernelMixinfIdeal.defs (F := Ideal)) (onTc (τ := Cert.KernelMixinfIdeal.τ) (Cert.KernelMixinfIdeal.main (F := Ideal))) ⟨m, fun _ => 0, g⟩ (fun r => ∀ c : Dev Cert.KernelMixinfIdeal.nD,
          r.2.mem ((c.tc : Thread Cert.KernelMixinfIdeal.nD Cert.KernelMixinfIdeal.τ).loc Cert.KernelMixinfIdeal.main_v0_0) = v0 c
          ∧ r.2.mem ((c.tc : Thread Cert.KernelMixinfIdeal.nD Cert.KernelMixinfIdeal.τ).loc Cert.KernelMixinfIdeal.main_v0_1) = v1 c
          ∧ r.2.mem ((c.tc : Thread Cert.KernelMixinfIdeal.nD Cert.KernelMixinfIdeal.τ).loc Cert.KernelMixinfIdeal.main_v0_2) = v2 c
          ∧ r.2.mem ((c.tc : Thread Cert.KernelMixinfIdeal.nD Cert.KernelMixinfIdeal.τ).loc Cert.KernelMixinfIdeal.main_arg0) = m ((c.tc : Thread Cert.KernelMixinfIdeal.nD Cert.KernelMixinfIdeal.τ).loc Cert.KernelMixinfIdeal.main_arg0)
          ∧ r.2.mem ((c.tc : Thread Cert.KernelMixinfIdeal.nD Cert.KernelMixinfIdeal.τ).loc Cert.KernelMixinfIdeal.main_arg1) = m ((c.tc : Thread Cert.KernelMixinfIdeal.nD Cert.KernelMixinfIdeal.τ).loc Cert.KernelMixinfIdeal.main_arg1)
          ∧ r.2.mem ((c.tc : Thread Cert.KernelMixinfIdeal.nD Cert.KernelMixinfIdeal.τ).loc Cert.KernelMixinfIdeal.main_arg2) = m ((c.tc : Thread Cert.KernelMixinfIdeal.nD Cert.KernelMixinfIdeal.τ).loc Cert.KernelMixinfIdeal.main_arg2))
      ∧ θ_run (Cert.ReferenceMixinfIdeal.defs (F := Ideal)) (onTc (τ := Cert.ReferenceMixinfIdeal.τ) (Cert.ReferenceMixinfIdeal.main (F := Ideal))) ⟨m', fun _ => 0, g'⟩ (fun r => ∀ c : Dev Cert.ReferenceMixinfIdeal.nD,
          r.2.mem ((c.tc : Thread Cert.ReferenceMixinfIdeal.nD Cert.ReferenceMixinfIdeal.τ).loc Cert.ReferenceMixinfIdeal.main_v16) = v0 c
          ∧ r.2.mem ((c.tc : Thread Cert.ReferenceMixinfIdeal.nD Cert.ReferenceMixinfIdeal.τ).loc Cert.ReferenceMixinfIdeal.main_v17) = v1 c
          ∧ r.2.mem ((c.tc : Thread Cert.ReferenceMixinfIdeal.nD Cert.ReferenceMixinfIdeal.τ).loc Cert.ReferenceMixinfIdeal.main_v18) = v2 c
          ∧ r.2.mem ((c.tc : Thread Cert.ReferenceMixinfIdeal.nD Cert.ReferenceMixinfIdeal.τ).loc Cert.ReferenceMixinfIdeal.main_arg0) = m' ((c.tc : Thread Cert.ReferenceMixinfIdeal.nD Cert.ReferenceMixinfIdeal.τ).loc Cert.ReferenceMixinfIdeal.main_arg0)
          ∧ r.2.mem ((c.tc : Thread Cert.ReferenceMixinfIdeal.nD Cert.ReferenceMixinfIdeal.τ).loc Cert.ReferenceMixinfIdeal.main_arg1) = m' ((c.tc : Thread Cert.ReferenceMixinfIdeal.nD Cert.ReferenceMixinfIdeal.τ).loc Cert.ReferenceMixinfIdeal.main_arg1)
          ∧ r.2.mem ((c.tc : Thread Cert.ReferenceMixinfIdeal.nD Cert.ReferenceMixinfIdeal.τ).loc Cert.ReferenceMixinfIdeal.main_arg2) = m' ((c.tc : Thread Cert.ReferenceMixinfIdeal.nD Cert.ReferenceMixinfIdeal.τ).loc Cert.ReferenceMixinfIdeal.main_arg2))

def preserves_KernelLnf_KernelLnfIdeal : Prop :=
  True

def algebraic_KernelLnfIdeal_ReferenceLnfIdeal [hKernelLnfIdeal : Cert.KernelLnfIdeal.Facts] [hReferenceLnfIdeal : Cert.ReferenceLnfIdeal.Facts] : Prop :=
  ∀ (m : (ℓ : Loc Cert.KernelLnfIdeal.nD Cert.KernelLnfIdeal.τ Cert.KernelLnfIdeal.sig) → Buf (Elt Ideal) ℓ) (g : Dev Cert.KernelLnfIdeal.nD → PrngReg)
    (m' : (ℓ : Loc Cert.ReferenceLnfIdeal.nD Cert.ReferenceLnfIdeal.τ Cert.ReferenceLnfIdeal.sig) → Buf (Elt Ideal) ℓ) (g' : Dev Cert.ReferenceLnfIdeal.nD → PrngReg), Pre_KernelLnfIdeal m →
    (∀ c : Dev Cert.KernelLnfIdeal.nD,
      m' ((c.tc : Thread Cert.ReferenceLnfIdeal.nD Cert.ReferenceLnfIdeal.τ).loc Cert.ReferenceLnfIdeal.main_arg0) = m ((c.tc : Thread Cert.KernelLnfIdeal.nD Cert.KernelLnfIdeal.τ).loc Cert.KernelLnfIdeal.main_arg0)
      ∧ m' ((c.tc : Thread Cert.ReferenceLnfIdeal.nD Cert.ReferenceLnfIdeal.τ).loc Cert.ReferenceLnfIdeal.main_arg1) = m ((c.tc : Thread Cert.KernelLnfIdeal.nD Cert.KernelLnfIdeal.τ).loc Cert.KernelLnfIdeal.main_arg1)
      ∧ m' ((c.tc : Thread Cert.ReferenceLnfIdeal.nD Cert.ReferenceLnfIdeal.τ).loc Cert.ReferenceLnfIdeal.main_arg2) = m ((c.tc : Thread Cert.KernelLnfIdeal.nD Cert.KernelLnfIdeal.τ).loc Cert.KernelLnfIdeal.main_arg2)) →
    ∃ (v0 : (c : Dev Cert.KernelLnfIdeal.nD) → Buf (Elt Ideal) ((c.tc : Thread Cert.KernelLnfIdeal.nD Cert.KernelLnfIdeal.τ).loc Cert.KernelLnfIdeal.main_v0)),
      θ_run (Cert.KernelLnfIdeal.defs (F := Ideal)) (onTc (τ := Cert.KernelLnfIdeal.τ) (Cert.KernelLnfIdeal.main (F := Ideal))) ⟨m, fun _ => 0, g⟩ (fun r => ∀ c : Dev Cert.KernelLnfIdeal.nD,
          r.2.mem ((c.tc : Thread Cert.KernelLnfIdeal.nD Cert.KernelLnfIdeal.τ).loc Cert.KernelLnfIdeal.main_v0) = v0 c
          ∧ r.2.mem ((c.tc : Thread Cert.KernelLnfIdeal.nD Cert.KernelLnfIdeal.τ).loc Cert.KernelLnfIdeal.main_arg0) = m ((c.tc : Thread Cert.KernelLnfIdeal.nD Cert.KernelLnfIdeal.τ).loc Cert.KernelLnfIdeal.main_arg0)
          ∧ r.2.mem ((c.tc : Thread Cert.KernelLnfIdeal.nD Cert.KernelLnfIdeal.τ).loc Cert.KernelLnfIdeal.main_arg1) = m ((c.tc : Thread Cert.KernelLnfIdeal.nD Cert.KernelLnfIdeal.τ).loc Cert.KernelLnfIdeal.main_arg1)
          ∧ r.2.mem ((c.tc : Thread Cert.KernelLnfIdeal.nD Cert.KernelLnfIdeal.τ).loc Cert.KernelLnfIdeal.main_arg2) = m ((c.tc : Thread Cert.KernelLnfIdeal.nD Cert.KernelLnfIdeal.τ).loc Cert.KernelLnfIdeal.main_arg2))
      ∧ θ_run (Cert.ReferenceLnfIdeal.defs (F := Ideal)) (onTc (τ := Cert.ReferenceLnfIdeal.τ) (Cert.ReferenceLnfIdeal.main (F := Ideal))) ⟨m', fun _ => 0, g'⟩ (fun r => ∀ c : Dev Cert.ReferenceLnfIdeal.nD,
          r.2.mem ((c.tc : Thread Cert.ReferenceLnfIdeal.nD Cert.ReferenceLnfIdeal.τ).loc Cert.ReferenceLnfIdeal.main_v23) = v0 c
          ∧ r.2.mem ((c.tc : Thread Cert.ReferenceLnfIdeal.nD Cert.ReferenceLnfIdeal.τ).loc Cert.ReferenceLnfIdeal.main_arg0) = m' ((c.tc : Thread Cert.ReferenceLnfIdeal.nD Cert.ReferenceLnfIdeal.τ).loc Cert.ReferenceLnfIdeal.main_arg0)
          ∧ r.2.mem ((c.tc : Thread Cert.ReferenceLnfIdeal.nD Cert.ReferenceLnfIdeal.τ).loc Cert.ReferenceLnfIdeal.main_arg1) = m' ((c.tc : Thread Cert.ReferenceLnfIdeal.nD Cert.ReferenceLnfIdeal.τ).loc Cert.ReferenceLnfIdeal.main_arg1)
          ∧ r.2.mem ((c.tc : Thread Cert.ReferenceLnfIdeal.nD Cert.ReferenceLnfIdeal.τ).loc Cert.ReferenceLnfIdeal.main_arg2) = m' ((c.tc : Thread Cert.ReferenceLnfIdeal.nD Cert.ReferenceLnfIdeal.τ).loc Cert.ReferenceLnfIdeal.main_arg2))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v0_0)) (v1 : (c : Dev Cert.KernelFfnIdeal.nD) → Buf (Elt Ideal) ((c.tc : Thread Cert.KernelFfnIdeal.nD Cert.KernelFfnIdeal.τ).loc Cert.KernelFfnIdeal.main_v0_1)) (v2 : (c : Dev Cert.KernelFfnIdeal.nD) → Buf (Elt Ideal) ((c.tc : Thread Cert.KernelFfnIdeal.nD Cert.KernelFfnIdeal.τ).loc Cert.KernelFfnIdeal.main_v0_2)) (v3 : (c : Dev Cert.KernelFfnIdeal.nD) → Buf (Elt Ideal) ((c.tc : Thread Cert.KernelFfnIdeal.nD Cert.KernelFfnIdeal.τ).loc Cert.KernelFfnIdeal.main_v0_3)) (v4 : (c : Dev Cert.KernelFfnIdeal.nD) → Buf (Elt Ideal) ((c.tc : Thread Cert.KernelFfnIdeal.nD Cert.KernelFfnIdeal.τ).loc Cert.KernelFfnIdeal.main_v0_4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0_0) = v0 c
          ∧ r.2.mem ((c.tc : Thread Cert.KernelFfnIdeal.nD Cert.KernelFfnIdeal.τ).loc Cert.KernelFfnIdeal.main_v0_1) = v1 c
          ∧ r.2.mem ((c.tc : Thread Cert.KernelFfnIdeal.nD Cert.KernelFfnIdeal.τ).loc Cert.KernelFfnIdeal.main_v0_2) = v2 c
          ∧ r.2.mem ((c.tc : Thread Cert.KernelFfnIdeal.nD Cert.KernelFfnIdeal.τ).loc Cert.KernelFfnIdeal.main_v0_3) = v3 c
          ∧ r.2.mem ((c.tc : Thread Cert.KernelFfnIdeal.nD Cert.KernelFfnIdeal.τ).loc Cert.KernelFfnIdeal.main_v0_4) = v4 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v22) = v0 c
          ∧ r.2.mem ((c.tc : Thread Cert.ReferenceFfnIdeal.nD Cert.ReferenceFfnIdeal.τ).loc Cert.ReferenceFfnIdeal.main_v23) = v1 c
          ∧ r.2.mem ((c.tc : Thread Cert.ReferenceFfnIdeal.nD Cert.ReferenceFfnIdeal.τ).loc Cert.ReferenceFfnIdeal.main_v24) = v2 c
          ∧ r.2.mem ((c.tc : Thread Cert.ReferenceFfnIdeal.nD Cert.ReferenceFfnIdeal.τ).loc Cert.ReferenceFfnIdeal.main_v14) = v3 c
          ∧ r.2.mem ((c.tc : Thread Cert.ReferenceFfnIdeal.nD Cert.ReferenceFfnIdeal.τ).loc Cert.ReferenceFfnIdeal.main_v17) = v4 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelOpin_KernelOpinIdeal : Prop :=
  True

def algebraic_KernelOpinIdeal_ReferenceOpinIdeal [hKernelOpinIdeal : Cert.KernelOpinIdeal.Facts] [hReferenceOpinIdeal : Cert.ReferenceOpinIdeal.Facts] : Prop :=
  ∀ (m : (ℓ : Loc Cert.KernelOpinIdeal.nD Cert.KernelOpinIdeal.τ Cert.KernelOpinIdeal.sig) → Buf (Elt Ideal) ℓ) (g : Dev Cert.KernelOpinIdeal.nD → PrngReg)
    (m' : (ℓ : Loc Cert.ReferenceOpinIdeal.nD Cert.ReferenceOpinIdeal.τ Cert.ReferenceOpinIdeal.sig) → Buf (Elt Ideal) ℓ) (g' : Dev Cert.ReferenceOpinIdeal.nD → PrngReg), Pre_KernelOpinIdeal m →
    (∀ c : Dev Cert.KernelOpinIdeal.nD,
      m' ((c.tc : Thread Cert.ReferenceOpinIdeal.nD Cert.ReferenceOpinIdeal.τ).loc Cert.ReferenceOpinIdeal.main_arg0) = m ((c.tc : Thread Cert.KernelOpinIdeal.nD Cert.KernelOpinIdeal.τ).loc Cert.KernelOpinIdeal.main_arg0)
      ∧ m' ((c.tc : Thread Cert.ReferenceOpinIdeal.nD Cert.ReferenceOpinIdeal.τ).loc Cert.ReferenceOpinIdeal.main_arg1) = m ((c.tc : Thread Cert.KernelOpinIdeal.nD Cert.KernelOpinIdeal.τ).loc Cert.KernelOpinIdeal.main_arg1)
      ∧ m' ((c.tc : Thread Cert.ReferenceOpinIdeal.nD Cert.ReferenceOpinIdeal.τ).loc Cert.ReferenceOpinIdeal.main_arg2) = m ((c.tc : Thread Cert.KernelOpinIdeal.nD Cert.KernelOpinIdeal.τ).loc Cert.KernelOpinIdeal.main_arg2)
      ∧ m' ((c.tc : Thread Cert.ReferenceOpinIdeal.nD Cert.ReferenceOpinIdeal.τ).loc Cert.ReferenceOpinIdeal.main_arg3) = m ((c.tc : Thread Cert.KernelOpinIdeal.nD Cert.KernelOpinIdeal.τ).loc Cert.KernelOpinIdeal.main_arg3)
      ∧ m' ((c.tc : Thread Cert.ReferenceOpinIdeal.nD Cert.ReferenceOpinIdeal.τ).loc Cert.ReferenceOpinIdeal.main_arg4) = m ((c.tc : Thread Cert.KernelOpinIdeal.nD Cert.KernelOpinIdeal.τ).loc Cert.KernelOpinIdeal.main_arg4)) →
    ∃ (v0 : (c : Dev Cert.KernelOpinIdeal.nD) → Buf (Elt Ideal) ((c.tc : Thread Cert.KernelOpinIdeal.nD Cert.KernelOpinIdeal.τ).loc Cert.KernelOpinIdeal.main_v0_0)) (v1 : (c : Dev Cert.KernelOpinIdeal.nD) → Buf (Elt Ideal) ((c.tc : Thread Cert.KernelOpinIdeal.nD Cert.KernelOpinIdeal.τ).loc Cert.KernelOpinIdeal.main_v0_1)) (v2 : (c : Dev Cert.KernelOpinIdeal.nD) → Buf (Elt Ideal) ((c.tc : Thread Cert.KernelOpinIdeal.nD Cert.KernelOpinIdeal.τ).loc Cert.KernelOpinIdeal.main_v0_2)) (v3 : (c : Dev Cert.KernelOpinIdeal.nD) → Buf (Elt Ideal) ((c.tc : Thread Cert.KernelOpinIdeal.nD Cert.KernelOpinIdeal.τ).loc Cert.KernelOpinIdeal.main_v0_3)),
      θ_run (Cert.KernelOpinIdeal.defs (F := Ideal)) (onTc (τ := Cert.KernelOpinIdeal.τ) (Cert.KernelOpinIdeal.main (F := Ideal))) ⟨m, fun _ => 0, g⟩ (fun r => ∀ c : Dev Cert.KernelOpinIdeal.nD,
          r.2.mem ((c.tc : Thread Cert.KernelOpinIdeal.nD Cert.KernelOpinIdeal.τ).loc Cert.KernelOpinIdeal.main_v0_0) = v0 c
          ∧ r.2.mem ((c.tc : Thread Cert.KernelOpinIdeal.nD Cert.KernelOpinIdeal.τ).loc Cert.KernelOpinIdeal.main_v0_1) = v1 c
          ∧ r.2.mem ((c.tc : Thread Cert.KernelOpinIdeal.nD Cert.KernelOpinIdeal.τ).loc Cert.KernelOpinIdeal.main_v0_2) = v2 c
          ∧ r.2.mem ((c.tc : Thread Cert.KernelOpinIdeal.nD Cert.KernelOpinIdeal.τ).loc Cert.KernelOpinIdeal.main_v0_3) = v3 c
          ∧ r.2.mem ((c.tc : Thread Cert.KernelOpinIdeal.nD Cert.KernelOpinIdeal.τ).loc Cert.KernelOpinIdeal.main_arg0) = m ((c.tc : Thread Cert.KernelOpinIdeal.nD Cert.KernelOpinIdeal.τ).loc Cert.KernelOpinIdeal.main_arg0)
          ∧ r.2.mem ((c.tc : Thread Cert.KernelOpinIdeal.nD Cert.KernelOpinIdeal.τ).loc Cert.KernelOpinIdeal.main_arg1) = m ((c.tc : Thread Cert.KernelOpinIdeal.nD Cert.KernelOpinIdeal.τ).loc Cert.KernelOpinIdeal.main_arg1)
          ∧ r.2.mem ((c.tc : Thread Cert.KernelOpinIdeal.nD Cert.KernelOpinIdeal.τ).loc Cert.KernelOpinIdeal.main_arg2) = m ((c.tc : Thread Cert.KernelOpinIdeal.nD Cert.KernelOpinIdeal.τ).loc Cert.KernelOpinIdeal.main_arg2)
          ∧ r.2.mem ((c.tc : Thread Cert.KernelOpinIdeal.nD Cert.KernelOpinIdeal.τ).loc Cert.KernelOpinIdeal.main_arg3) = m ((c.tc : Thread Cert.KernelOpinIdeal.nD Cert.KernelOpinIdeal.τ).loc Cert.KernelOpinIdeal.main_arg3)
          ∧ r.2.mem ((c.tc : Thread Cert.KernelOpinIdeal.nD Cert.KernelOpinIdeal.τ).loc Cert.KernelOpinIdeal.main_arg4) = m ((c.tc : Thread Cert.KernelOpinIdeal.nD Cert.KernelOpinIdeal.τ).loc Cert.KernelOpinIdeal.main_arg4))
      ∧ θ_run (Cert.ReferenceOpinIdeal.defs (F := Ideal)) (onTc (τ := Cert.ReferenceOpinIdeal.τ) (Cert.ReferenceOpinIdeal.main (F := Ideal))) ⟨m', fun _ => 0, g'⟩ (fun r => ∀ c : Dev Cert.ReferenceOpinIdeal.nD,
          r.2.mem ((c.tc : Thread Cert.ReferenceOpinIdeal.nD Cert.ReferenceOpinIdeal.τ).loc Cert.ReferenceOpinIdeal.main_v6) = v0 c
          ∧ r.2.mem ((c.tc : Thread Cert.ReferenceOpinIdeal.nD Cert.ReferenceOpinIdeal.τ).loc Cert.ReferenceOpinIdeal.main_v30) = v1 c
          ∧ r.2.mem ((c.tc : Thread Cert.ReferenceOpinIdeal.nD Cert.ReferenceOpinIdeal.τ).loc Cert.ReferenceOpinIdeal.main_v11) = v2 c
          ∧ r.2.mem ((c.tc : Thread Cert.ReferenceOpinIdeal.nD Cert.ReferenceOpinIdeal.τ).loc Cert.ReferenceOpinIdeal.main_v17) = v3 c
          ∧ r.2.mem ((c.tc : Thread Cert.ReferenceOpinIdeal.nD Cert.ReferenceOpinIdeal.τ).loc Cert.ReferenceOpinIdeal.main_arg0) = m' ((c.tc : Thread Cert.ReferenceOpinIdeal.nD Cert.ReferenceOpinIdeal.τ).loc Cert.ReferenceOpinIdeal.main_arg0)
          ∧ r.2.mem ((c.tc : Thread Cert.ReferenceOpinIdeal.nD Cert.ReferenceOpinIdeal.τ).loc Cert.ReferenceOpinIdeal.main_arg1) = m' ((c.tc : Thread Cert.ReferenceOpinIdeal.nD Cert.ReferenceOpinIdeal.τ).loc Cert.ReferenceOpinIdeal.main_arg1)
          ∧ r.2.mem ((c.tc : Thread Cert.ReferenceOpinIdeal.nD Cert.ReferenceOpinIdeal.τ).loc Cert.ReferenceOpinIdeal.main_arg2) = m' ((c.tc : Thread Cert.ReferenceOpinIdeal.nD Cert.ReferenceOpinIdeal.τ).loc Cert.ReferenceOpinIdeal.main_arg2)
          ∧ r.2.mem ((c.tc : Thread Cert.ReferenceOpinIdeal.nD Cert.ReferenceOpinIdeal.τ).loc Cert.ReferenceOpinIdeal.main_arg3) = m' ((c.tc : Thread Cert.ReferenceOpinIdeal.nD Cert.ReferenceOpinIdeal.τ).loc Cert.ReferenceOpinIdeal.main_arg3)
          ∧ r.2.mem ((c.tc : Thread Cert.ReferenceOpinIdeal.nD Cert.ReferenceOpinIdeal.τ).loc Cert.ReferenceOpinIdeal.main_arg4) = m' ((c.tc : Thread Cert.ReferenceOpinIdeal.nD Cert.ReferenceOpinIdeal.τ).loc Cert.ReferenceOpinIdeal.main_arg4))

def Claim : Prop :=
  ∃ (hKernelDw : Cert.KernelDw.Facts) (hKernelDwIdeal : Cert.KernelDwIdeal.Facts) (hReferenceDwIdeal : Cert.ReferenceDwIdeal.Facts) (hKernelAct : Cert.KernelAct.Facts) (hKernelActIdeal : Cert.KernelActIdeal.Facts) (hReferenceActIdeal : Cert.ReferenceActIdeal.Facts) (hKernelMixbwd : Cert.KernelMixbwd.Facts) (hKernelMixbwdIdeal : Cert.KernelMixbwdIdeal.Facts) (hReferenceMixbwdIdeal : Cert.ReferenceMixbwdIdeal.Facts) (hKernelMixin : Cert.KernelMixin.Facts) (hKernelMixinIdeal : Cert.KernelMixinIdeal.Facts) (hReferenceMixinIdeal : Cert.ReferenceMixinIdeal.Facts) (hKernelFfnin : Cert.KernelFfnin.Facts) (hKernelFfninIdeal : Cert.KernelFfninIdeal.Facts) (hReferenceFfninIdeal : Cert.ReferenceFfninIdeal.Facts) (hKernelMm : Cert.KernelMm.Facts) (hKernelMmIdeal : Cert.KernelMmIdeal.Facts) (hReferenceMmIdeal : Cert.ReferenceMmIdeal.Facts) (hKernelGate : Cert.KernelGate.Facts) (hKernelGateIdeal : Cert.KernelGateIdeal.Facts) (hReferenceGateIdeal : Cert.ReferenceGateIdeal.Facts) (hKernelGout : Cert.KernelGout.Facts) (hKernelGoutIdeal : Cert.KernelGoutIdeal.Facts) (hReferenceGoutIdeal : Cert.ReferenceGoutIdeal.Facts) (hKernelGradin : Cert.KernelGradin.Facts) (hKernelGradinIdeal : Cert.KernelGradinIdeal.Facts) (hReferenceGradinIdeal : Cert.ReferenceGradinIdeal.Facts) (hKernelLn : Cert.KernelLn.Facts) (hKernelLnIdeal : Cert.KernelLnIdeal.Facts) (hReferenceLnIdeal : Cert.ReferenceLnIdeal.Facts) (hKernelMixout : Cert.KernelMixout.Facts) (hKernelMixoutIdeal : Cert.KernelMixoutIdeal.Facts) (hReferenceMixoutIdeal : Cert.ReferenceMixoutIdeal.Facts) (hKernelMixinf : Cert.KernelMixinf.Facts) (hKernelMixinfIdeal : Cert.KernelMixinfIdeal.Facts) (hReferenceMixinfIdeal : Cert.ReferenceMixinfIdeal.Facts) (hKernelLnf : Cert.KernelLnf.Facts) (hKernelLnfIdeal : Cert.KernelLnfIdeal.Facts) (hReferenceLnfIdeal : Cert.ReferenceLnfIdeal.Facts) (hKernelFfn : Cert.KernelFfn.Facts) (hKernelFfnIdeal : Cert.KernelFfnIdeal.Facts) (hReferenceFfnIdeal : Cert.ReferenceFfnIdeal.Facts) (hKernelOpin : Cert.KernelOpin.Facts) (hKernelOpinIdeal : Cert.KernelOpinIdeal.Facts) (hReferenceOpinIdeal : Cert.ReferenceOpinIdeal.Facts) (hPre_finite_act : Cert.Pre_finite_act.Facts) (hPre_finite_ln : Cert.Pre_finite_ln.Facts),
    quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelAct (hKernelAct := hKernelAct) (hPre_finite_act := hPre_finite_act)
    ∧ quiescent_KernelActIdeal (hKernelActIdeal := hKernelActIdeal) (hPre_finite_act := hPre_finite_act)
    ∧ quiescent_ReferenceActIdeal (hReferenceActIdeal := hReferenceActIdeal) (hPre_finite_act := hPre_finite_act)
    ∧ quiescent_KernelMixbwd (hKernelMixbwd := hKernelMixbwd)
    ∧ quiescent_KernelMixbwdIdeal (hKernelMixbwdIdeal := hKernelMixbwdIdeal)
    ∧ quiescent_ReferenceMixbwdIdeal (hReferenceMixbwdIdeal := hReferenceMixbwdIdeal)
    ∧ quiescent_KernelMixin (hKernelMixin := hKernelMixin)
    ∧ quiescent_KernelMixinIdeal (hKernelMixinIdeal := hKernelMixinIdeal)
    ∧ quiescent_ReferenceMixinIdeal (hReferenceMixinIdeal := hReferenceMixinIdeal)
    ∧ quiescent_KernelFfnin (hKernelFfnin := hKernelFfnin)
    ∧ quiescent_KernelFfninIdeal (hKernelFfninIdeal := hKernelFfninIdeal)
    ∧ quiescent_ReferenceFfninIdeal (hReferenceFfninIdeal := hReferenceFfninIdeal)
    ∧ quiescent_KernelMm (hKernelMm := hKernelMm)
    ∧ quiescent_KernelMmIdeal (hKernelMmIdeal := hKernelMmIdeal)
    ∧ quiescent_ReferenceMmIdeal (hReferenceMmIdeal := hReferenceMmIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelGout (hKernelGout := hKernelGout)
    ∧ quiescent_KernelGoutIdeal (hKernelGoutIdeal := hKernelGoutIdeal)
    ∧ quiescent_ReferenceGoutIdeal (hReferenceGoutIdeal := hReferenceGoutIdeal)
    ∧ quiescent_KernelGradin (hKernelGradin := hKernelGradin)
    ∧ quiescent_KernelGradinIdeal (hKernelGradinIdeal := hKernelGradinIdeal)
    ∧ quiescent_ReferenceGradinIdeal (hReferenceGradinIdeal := hReferenceGradinIdeal)
    ∧ quiescent_KernelLn (hKernelLn := hKernelLn) (hPre_finite_ln := hPre_finite_ln)
    ∧ quiescent_KernelLnIdeal (hKernelLnIdeal := hKernelLnIdeal) (hPre_finite_ln := hPre_finite_ln)
    ∧ quiescent_ReferenceLnIdeal (hReferenceLnIdeal := hReferenceLnIdeal) (hPre_finite_ln := hPre_finite_ln)
    ∧ quiescent_KernelMixout (hKernelMixout := hKernelMixout)
    ∧ quiescent_KernelMixoutIdeal (hKernelMixoutIdeal := hKernelMixoutIdeal)
    ∧ quiescent_ReferenceMixoutIdeal (hReferenceMixoutIdeal := hReferenceMixoutIdeal)
    ∧ quiescent_KernelMixinf (hKernelMixinf := hKernelMixinf)
    ∧ quiescent_KernelMixinfIdeal (hKernelMixinfIdeal := hKernelMixinfIdeal)
    ∧ quiescent_ReferenceMixinfIdeal (hReferenceMixinfIdeal := hReferenceMixinfIdeal)
    ∧ quiescent_KernelLnf (hKernelLnf := hKernelLnf)
    ∧ quiescent_KernelLnfIdeal (hKernelLnfIdeal := hKernelLnfIdeal)
    ∧ quiescent_ReferenceLnfIdeal (hReferenceLnfIdeal := hReferenceLnfIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelOpin (hKernelOpin := hKernelOpin)
    ∧ quiescent_KernelOpinIdeal (hKernelOpinIdeal := hKernelOpinIdeal)
    ∧ quiescent_ReferenceOpinIdeal (hReferenceOpinIdeal := hReferenceOpinIdeal)
    ∧ preserves_KernelDw_KernelDwIdeal
    ∧ algebraic_KernelDwIdeal_ReferenceDwIdeal (hKernelDwIdeal := hKernelDwIdeal) (hReferenceDwIdeal := hReferenceDwIdeal)
    ∧ preserves_KernelAct_KernelActIdeal
    ∧ algebraic_KernelActIdeal_ReferenceActIdeal (hKernelActIdeal := hKernelActIdeal) (hReferenceActIdeal := hReferenceActIdeal) (hPre_finite_act := hPre_finite_act)
    ∧ preserves_KernelMixbwd_KernelMixbwdIdeal
    ∧ algebraic_KernelMixbwdIdeal_ReferenceMixbwdIdeal (hKernelMixbwdIdeal := hKernelMixbwdIdeal) (hReferenceMixbwdIdeal := hReferenceMixbwdIdeal)
    ∧ preserves_KernelMixin_KernelMixinIdeal
    ∧ algebraic_KernelMixinIdeal_ReferenceMixinIdeal (hKernelMixinIdeal := hKernelMixinIdeal) (hReferenceMixinIdeal := hReferenceMixinIdeal)
    ∧ preserves_KernelFfnin_KernelFfninIdeal
    ∧ algebraic_KernelFfninIdeal_ReferenceFfninIdeal (hKernelFfninIdeal := hKernelFfninIdeal) (hReferenceFfninIdeal := hReferenceFfninIdeal)
    ∧ preserves_KernelMm_KernelMmIdeal
    ∧ algebraic_KernelMmIdeal_ReferenceMmIdeal (hKernelMmIdeal := hKernelMmIdeal) (hReferenceMmIdeal := hReferenceMmIdeal)
    ∧ preserves_KernelGate_KernelGateIdeal
    ∧ algebraic_KernelGateIdeal_ReferenceGateIdeal (hKernelGateIdeal := hKernelGateIdeal) (hReferenceGateIdeal := hReferenceGateIdeal)
    ∧ preserves_KernelGout_KernelGoutIdeal
    ∧ algebraic_KernelGoutIdeal_ReferenceGoutIdeal (hKernelGoutIdeal := hKernelGoutIdeal) (hReferenceGoutIdeal := hReferenceGoutIdeal)
    ∧ preserves_KernelGradin_KernelGradinIdeal
    ∧ algebraic_KernelGradinIdeal_ReferenceGradinIdeal (hKernelGradinIdeal := hKernelGradinIdeal) (hReferenceGradinIdeal := hReferenceGradinIdeal)
    ∧ preserves_KernelLn_KernelLnIdeal
    ∧ algebraic_KernelLnIdeal_ReferenceLnIdeal (hKernelLnIdeal := hKernelLnIdeal) (hReferenceLnIdeal := hReferenceLnIdeal) (hPre_finite_ln := hPre_finite_ln)
    ∧ preserves_KernelMixout_KernelMixoutIdeal
    ∧ algebraic_KernelMixoutIdeal_ReferenceMixoutIdeal (hKernelMixoutIdeal := hKernelMixoutIdeal) (hReferenceMixoutIdeal := hReferenceMixoutIdeal)
    ∧ preserves_KernelMixinf_KernelMixinfIdeal
    ∧ algebraic_KernelMixinfIdeal_ReferenceMixinfIdeal (hKernelMixinfIdeal := hKernelMixinfIdeal) (hReferenceMixinfIdeal := hReferenceMixinfIdeal)
    ∧ preserves_KernelLnf_KernelLnfIdeal
    ∧ algebraic_KernelLnfIdeal_ReferenceLnfIdeal (hKernelLnfIdeal := hKernelLnfIdeal) (hReferenceLnfIdeal := hReferenceLnfIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelOpin_KernelOpinIdeal
    ∧ algebraic_KernelOpinIdeal_ReferenceOpinIdeal (hKernelOpinIdeal := hKernelOpinIdeal) (hReferenceOpinIdeal := hReferenceOpinIdeal)
-- ==== Pre_finite_act.lean ====
abbrev S4224x1024 : Shape := ⟨2, ![4224, 1024]⟩
abbrev S4224x2816 : Shape := ⟨2, ![4224, 2816]⟩
abbrev S2816x1024 : Shape := ⟨2, ![2816, 1024]⟩
abbrev S_ : Shape := ⟨0, ![]⟩

class Facts : Prop where
  bcast_S_S4224x1024 : S_.BroadcastsInDim S4224x1024 (![] : Fin 0 → Fin S4224x1024.rank)
  bcast_S_S4224x2816 : S_.BroadcastsInDim S4224x2816 (![] : Fin 0 → Fin S4224x2816.rank)
  bitsLt_bf16_f32 : FTy.bits .bf16 < FTy.bits .f32
  bcast_S_S2816x1024 : S_.BroadcastsInDim S2816x1024 (![] : Fin 0 → Fin S2816x1024.rank)

variable [Facts]

def fn {F : FTy → Type} [FloatOps F] (main_arg0 : FVec F S4224x1024 .f32) (main_arg1 : FVec F S4224x2816 .f32) (main_arg2 : FVec F S4224x2816 .f32) (main_arg3 : FVec F S2816x1024 .bf16) : IVec S4224x1024 1 × IVec S4224x2816 1 × IVec S2816x1024 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_v3 : FVec F S4224x2816 .f32 := Host.absf main_arg2
  let main_cst_0 : FVec F S_ .f32 := constant S_ .f32 0x7F800000#32
  let main_v4 : FVec F S4224x2816 .f32 := broadcastInDim S4224x2816 ![] bcast_S_S4224x2816 main_cst_0
  let main_v5 : IVec S4224x2816 1 := cmpf .olt main_v3 main_v4
  let main_v6 : FVec F S2816x1024 .f32 := (extf .f32 · bitsLt_bf16_f32) main_arg3
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  (main_v2, main_v5, main_v9)
-- ==== Pre_finite_ln.lean ====
abbrev S4224x512 : Shape := ⟨2, ![4224, 512]⟩
abbrev S1x512 : Shape := ⟨2, ![1, 512]⟩
abbrev S_ : Shape := ⟨0, ![]⟩

class Facts : Prop where
  bcast_S_S4224x512 : S_.BroadcastsInDim S4224x512 (![] : Fin 0 → Fin S4224x512.rank)
  bcast_S_S1x512 : S_.BroadcastsInDim S1x512 (![] : Fin 0 → Fin S1x512.rank)

variable [Facts]

def fn {F : FTy → Type} [FloatOps F] (main_arg0 : FVec F S4224x512 .f32) (main_arg1 : FVec F S4224x512 .f32) (main_arg2 : FVec F S1x512 .f32) (main_arg3 : FVec F S1x512 .f32) : IVec S4224x512 1 × IVec S1x512 1 :=
  let main_v0 : FVec F S4224x512 .f32 := Host.absf main_arg1
  let main_cst : FVec F S_ .f32 := constant S_ .f32 0x7F800000#32
  let main_v1 : FVec F S4224x512 .f32 := broadcastInDim S4224x512 ![] bcast_S_S4224x512 main_cst
  let main_v2 : IVec S4224x512 1 := cmpf .olt main_v0 main_v1
  let main_v3 : FVec F S1x512 .f32 := Host.absf main_arg2
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  (main_v2, main_v5)
-- ==== KernelDw.lean ====
abbrev S4224x512 : Shape := ⟨2, ![4224, 512]⟩
abbrev S4224x1024 : Shape := ⟨2, ![4224, 1024]⟩
abbrev S32x512 : Shape := ⟨2, ![32, 512]⟩
abbrev S2x4224x512 : Shape := ⟨3, ![2, 4224, 512]⟩
abbrev S8x512 : Shape := ⟨2, ![8, 512]⟩
abbrev S4224x128 : Shape := ⟨2, ![4224, 128]⟩
abbrev S32x128 : Shape := ⟨2, ![32, 128]⟩
abbrev S2x4224x128 : Shape := ⟨3, ![2, 4224, 128]⟩
abbrev S8x128 : Shape := ⟨2, ![8, 128]⟩
abbrev S4256x128 : Shape := ⟨2, ![4256, 128]⟩
abbrev S256x128 : Shape := ⟨2, ![256, 128]⟩
abbrev S128x128 : Shape := ⟨2, ![128, 128]⟩
abbrev S1x128 : Shape := ⟨2, ![1, 128]⟩
abbrev S16x8x128 : Shape := ⟨3, ![16, 8, 128]⟩
abbrev S1x128x128 : Shape := ⟨3, ![1, 128, 128]⟩
abbrev S32x8x128 : Shape := ⟨3, ![32, 8, 128]⟩

abbrev nBuf : Space → Nat
  | .hbm => 6
  | .vmem => 17
  | .smem => 0
  | _ => 0

abbrev bufTy : (tb : Table) → Fin (tcTables nBuf tb) → BufTy
  | .hbm, ⟨0, _⟩ => ⟨S4224x512, .f32⟩
  | .hbm, ⟨1, _⟩ => ⟨S4224x1024, .f32⟩
  | .hbm, ⟨2, _⟩ => ⟨S32x512, .f32⟩
  | .hbm, ⟨3, _⟩ => ⟨S2x4224x512, .bf16⟩
  | .hbm, ⟨4, _⟩ => ⟨S32x512, .f32⟩
  | .hbm, ⟨5, _⟩ => ⟨S8x512, .f32⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S4224x128, .f32⟩
  | .local _ .vmem, ⟨5, _⟩ => ⟨S4224x128, .f32⟩
  | .local _ .vmem, ⟨6, _⟩ => ⟨S32x128, .f32⟩
  | .local _ .vmem, ⟨7, _⟩ => ⟨S32x128, .f32⟩
  | .local _ .vmem, ⟨8, _⟩ => ⟨S2x4224x128, .bf16⟩
  | .local _ .vmem, ⟨9, _⟩ => ⟨S2x4224x128, .bf16⟩
  | .local _ .vmem, ⟨10, _⟩ => ⟨S32x128, .f32⟩
  | .local _ .vmem, ⟨11, _⟩ => ⟨S32x128, .f32⟩
  | .local _ .vmem, ⟨12, _⟩ => ⟨S8x128, .f32⟩
  | .local _ .vmem, ⟨13, _⟩ => ⟨S8x128, .f32⟩
  | .local _ .vmem, ⟨14, _⟩ => ⟨S4256x128, .f32⟩
  | .local _ .vmem, ⟨15, _⟩ => ⟨S4256x128, .f32⟩
  | .local _ .vmem, ⟨16, _⟩ => ⟨S256x128, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c33_i32 : BitVec 32 := 33#32
  let v14 : BitVec 32 := Scalar.addi c0_i32 c33_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v20 : BitVec 32 := Scalar.muli arg11 c128_i32
  v20
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v20 : BitVec 32 := Scalar.muli arg11 c128_i32
  let v21 : BitVec 32 := v20
  let v22 : Index := Scalar.indexCast v21
  let c0_19 : Index := 0#32
  ![v22.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v20 : BitVec 32 := Scalar.muli arg11 c128_i32
  let v21 : BitVec 32 := v20
  let c32_i32 : BitVec 32 := 32#32
  let v34 : BitVec 32 := Scalar.addi v21 c32_i32
  let v35 : Index := Scalar.indexCast v34
  let c0_24 : Index := 0#32
  ![v35.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v20 : BitVec 32 := Scalar.muli arg11 c128_i32
  let v21 : BitVec 32 := v20
  let v41 : Index := Scalar.indexCast v21
  let c0_26 : Index := 0#32
  ![v41.toNat, 0]
@[reducible] def k0_t2_loop : Scf.Loop 32 :=
  let c0_i32_10 : BitVec 32 := 0#32
  let c33_i32_11 : BitVec 32 := 33#32
  let v15 : BitVec 32 := Scalar.addi c0_i32_10 c33_i32_11
  let c1_i32_12 : BitVec 32 := 1#32
  ⟨c0_i32_10, v15, c1_i32_12⟩
def k0_mult2 (k0_t2 : Fin k0_t2_loop.trips) : BitVec 32 :=
  let c0_i32_10 : BitVec 32 := 0#32
  let c1_i32_12 : BitVec 32 := 1#32
  let arg11 : BitVec 32 := Scf.iv c0_i32_10 c1_i32_12 k0_t2
  let c128_i32 : BitVec 32 := 128#32
  let v20 : BitVec 32 := Scalar.muli arg11 c128_i32
  v20
def k0_off4 (k0_t2 : Fin k0_t2_loop.trips) : Fin 2 → Nat :=
  let c0_i32_10 : BitVec 32 := 0#32
  let c1_i32_12 : BitVec 32 := 1#32
  let arg11 : BitVec 32 := Scf.iv c0_i32_10 c1_i32_12 k0_t2
  let c128_i32 : BitVec 32 := 128#32
  let v20 : BitVec 32 := Scalar.muli arg11 c128_i32
  let v21 : BitVec 32 := v20
  let v22 : Index := Scalar.indexCast v21
  let c0_19 : Index := 0#32
  ![v22.toNat, 0]
def k0_off5 (k0_t2 : Fin k0_t2_loop.trips) (c30_i32 : BitVec 32) : Fin 2 → Nat :=
  let c0_i32_10 : BitVec 32 := 0#32
  let c1_i32_12 : BitVec 32 := 1#32
  let arg11 : BitVec 32 := Scf.iv c0_i32_10 c1_i32_12 k0_t2
  let c128_i32 : BitVec 32 := 128#32
  let v20 : BitVec 32 := Scalar.muli arg11 c128_i32
  let v21 : BitVec 32 := v20
  let v25 : BitVec 32 := Scalar.addi v21 c30_i32
  let v26 : Index := Scalar.indexCast v25
  let c0_21 : Index := 0#32
  ![v26.toNat, 0]
def k0_off6 (k0_t2 : Fin k0_t2_loop.trips) : Fin 3 → Nat :=
  let c0_284 : Index := 0#32
  let c0_i32_10 : BitVec 32 := 0#32
  let c1_i32_12 : BitVec 32 := 1#32
  let arg11 : BitVec 32 := Scf.iv c0_i32_10 c1_i32_12 k0_t2
  let c128_i32 : BitVec 32 := 128#32
  let v20 : BitVec 32 := Scalar.muli arg11 c128_i32
  let v21 : BitVec 32 := v20
  let v602 : Index := Scalar.indexCast v21
  let c0_285 : Index := 0#32
  ![0, v602.toNat, 0]
def k0_off7 (k0_t2 : Fin k0_t2_loop.trips) : Fin 3 → Nat :=
  let c1_287 : Index := 1#32
  let c0_i32_10 : BitVec 32 := 0#32
  let c1_i32_12 : BitVec 32 := 1#32
  let arg11 : BitVec 32 := Scf.iv c0_i32_10 c1_i32_12 k0_t2
  let c128_i32 : BitVec 32 := 128#32
  let v20 : BitVec 32 := Scalar.muli arg11 c128_i32
  let v21 : BitVec 32 := v20
  let v612 : Index := Scalar.indexCast v21
  let c0_288 : Index := 0#32
  ![1, v612.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4224x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceDwIdeal.lean ====
abbrev S4224x512 : Shape := ⟨2, ![4224, 512]⟩
abbrev S4224x1024 : Shape := ⟨2, ![4224, 1024]⟩
abbrev S32x512 : Shape := ⟨2, ![32, 512]⟩
abbrev S_ : Shape := ⟨0, ![]⟩
abbrev S8x512 : Shape := ⟨2, ![8, 512]⟩
abbrev S30x512 : Shape := ⟨2, ![30, 512]⟩
abbrev S4254x512 : Shape := ⟨2, ![4254, 512]⟩
abbrev S1x512 : Shape := ⟨2, ![1, 512]⟩
abbrev S512 : Shape := ⟨1, ![512]⟩
abbrev S1x8x512 : Shape := ⟨3, ![1, 8, 512]⟩
abbrev S528x8x512 : Shape := ⟨3, ![528, 8, 512]⟩
abbrev S1x4224x512 : Shape := ⟨3, ![1, 4224, 512]⟩
abbrev S2x4224x512 : Shape := ⟨3, ![2, 4224, 512]⟩

abbrev nBuf : Space → Nat
  | .hbm => 728
  | .vmem => 0
  | .smem => 0
  | _ => 0

abbrev hbmTy0_0 (i : Nat) : BufTy := match i % 128 with
  | 0 => ⟨S4224x512, .f32⟩
  | 1 => ⟨S4224x1024, .f32⟩
  | 2 => ⟨S32x512, .f32⟩
  | 3 => ⟨S4224x512, .f32⟩
  | 4 => ⟨S4224x512, .f32⟩
  | 5 => ⟨S_, .f32⟩
  | 6 => ⟨S8x512, .f32⟩
  | 7 => ⟨S4224x512, .f32⟩
  | 8 => ⟨S4224x512, .f32⟩
  | 9 => ⟨S_, .f32⟩
  | 10 => ⟨S4224x512, .f32⟩
  | 11 => ⟨S4224x512, .f32⟩
  | 12 => ⟨S_, .f32⟩
  | 13 => ⟨S4224x512, .f32⟩
  | 14 => ⟨S4224x512, .f32⟩
  | 15 => ⟨S_, .f32⟩
  | 16 => ⟨S4224x512, .f32⟩
  | 17 => ⟨S4224x512, .f32⟩
  | 18 => ⟨S4224x512, .f32⟩
  | 19 => ⟨S4224x512, .f32⟩
  | 20 => ⟨S_, .f32⟩
  | 21 => ⟨S30x512, .f32⟩
  | 22 => ⟨S4254x512, .f32⟩
  | 23 => ⟨S_, .f32⟩
  | 24 => ⟨S30x512, .f32⟩
  | 25 => ⟨S4224x512, .f32⟩
  | 26 => ⟨S1x512, .f32⟩
  | 27 => ⟨S512, .f32⟩
  | 28 => ⟨S1x512, .f32⟩
  | 29 => ⟨S4224x512, .f32⟩
  | 30 => ⟨S4224x512, .f32⟩
  | 31 => ⟨S_, .f32⟩
  | 32 => ⟨S4224x512, .f32⟩
  | 33 => ⟨S4224x512, .f32⟩
  | 34 => ⟨S4224x512, .f32⟩
  | 35 => ⟨S1x512, .f32⟩
  | 36 => ⟨S512, .f32⟩
  | 37 => ⟨S1x512, .f32⟩
  | 38 => ⟨S4224x512, .f32⟩
  | 39 => ⟨S4224x512, .f32⟩
  | 40 => ⟨S4224x512, .f32⟩
  | 41 => ⟨S4224x512, .f32⟩
  | 42 => ⟨S1x512, .f32⟩
  | 43 => ⟨S512, .f32⟩
  | 44 => ⟨S1x512, .f32⟩
  | 45 => ⟨S4224x512, .f32⟩
  | 46 => ⟨S4224x512, .f32⟩
  | 47 => ⟨S4224x512, .f32⟩
  | 48 => ⟨S4224x512, .f32⟩
  | 49 => ⟨S1x512, .f32⟩
  | 50 => ⟨S512, .f32⟩
  | 51 => ⟨S1x512, .f32⟩
  | 52 => ⟨S4224x512, .f32⟩
  | 53 => ⟨S4224x512, .f32⟩
  | 54 => ⟨S4224x512, .f32⟩
  | 55 => ⟨S4224x512, .f32⟩
  | 56 => ⟨S1x512, .f32⟩
  | 57 => ⟨S512, .f32⟩
  | 58 => ⟨S1x512, .f32⟩
  | 59 => ⟨S4224x512, .f32⟩
  | 60 => ⟨S4224x512, .f32⟩
  | 61 => ⟨S4224x512, .f32⟩
  | 62 => ⟨S4224x512, .f32⟩
  | 63 => ⟨S1x512, .f32⟩
  | 64 => ⟨S512, .f32⟩
  | 65 => ⟨S1x512, .f32⟩
  | 66 => ⟨S4224x512, .f32⟩
  | 67 => ⟨S4224x512, .f32⟩
  | 68 => ⟨S4224x512, .f32⟩
  | 69 => ⟨S4224x512, .f32⟩
  | 70 => ⟨S1x512, .f32⟩
  | 71 => ⟨S512, .f32⟩
  | 72 => ⟨S1x512, .f32⟩
  | 73 => ⟨S4224x512, .f32⟩
  | 74 => ⟨S4224x512, .f32⟩
  | 75 => ⟨S4224x512, .f32⟩
  | 76 => ⟨S4224x512, .f32⟩
  | 77 => ⟨S1x512, .f32⟩
  | 78 => ⟨S512, .f32⟩
  | 79 => ⟨S1x512, .f32⟩
  | 80 => ⟨S4224x512, .f32⟩
  | 81 => ⟨S4224x512, .f32⟩
  | 82 => ⟨S4224x512, .f32⟩
  | 83 => ⟨S4224x512, .f32⟩
  | 84 => ⟨S1x512, .f32⟩
  | 85 => ⟨S512, .f32⟩
  | 86 => ⟨S1x512, .f32⟩
  | 87 => ⟨S4224x512, .f32⟩
  | 88 => ⟨S4224x512, .f32⟩
  | 89 => ⟨S4224x512, .f32⟩
  | 90 => ⟨S4224x512, .f32⟩
  | 91 => ⟨S1x512, .f32⟩
  | 92 => ⟨S512, .f32⟩
  | 93 => ⟨S1x512, .f32⟩
  | 94 => ⟨S4224x512, .f32⟩
  | 95 => ⟨S4224x512, .f32⟩
  | 96 => ⟨S4224x512, .f32⟩
  | 97 => ⟨S4224x512, .f32⟩
  | 98 => ⟨S1x512, .f32⟩
  | 99 => ⟨S512, .f32⟩
  | 100 => ⟨S1x512, .f32⟩
  | 101 => ⟨S4224x512, .f32⟩
  | 102 => ⟨S4224x512, .f32⟩
  | 103 => ⟨S4224x512, .f32⟩
  | 104 => ⟨S4224x512, .f32⟩
  | 105 => ⟨S1x512, .f32⟩
  | 106 => ⟨S512, .f32⟩
  | 107 => ⟨S1x512, .f32⟩
  | 108 => ⟨S4224x512, .f32⟩
  | 109 => ⟨S4224x512, .f32⟩
  | 110 => ⟨S4224x512, .f32⟩
  | 111 => ⟨S4224x512, .f32⟩
  | 112 => ⟨S1x512, .f32⟩
  | 113 => ⟨S512, .f32⟩
  | 114 => ⟨S1x512, .f32⟩
  | 115 => ⟨S4224x512, .f32⟩
  | 116 => ⟨S4224x512, .f32⟩
  | 117 => ⟨S4224x512, .f32⟩
  | 118 => ⟨S4224x512, .f32⟩
  | 119 => ⟨S1x512, .f32⟩
  | 120 => ⟨S512, .f32⟩
  | 121 => ⟨S1x512, .f32⟩
  | 122 => ⟨S4224x512, .f32⟩
  | 123 => ⟨S4224x512, .f32⟩
  | 124 => ⟨S4224x512, .f32⟩
  | 125 => ⟨S4224x512, .f32⟩
  | 126 => ⟨S1x512, .f32⟩
  | 127 => ⟨S512, .f32⟩
  | _ => ⟨S4224x512, .f32⟩

abbrev hbmTy0_1 (i : Nat) : BufTy := match i % 128 with
  | 0 => ⟨S1x512, .f32⟩
  | 1 => ⟨S4224x512, .f32⟩
  | 2 => ⟨S4224x512, .f32⟩
  | 3 => ⟨S4224x512, .f32⟩
  | 4 => ⟨S4224x512, .f32⟩
  | 5 => ⟨S1x512, .f32⟩
  | 6 => ⟨S512, .f32⟩
  | 7 => ⟨S1x512, .f32⟩
  | 8 => ⟨S4224x512, .f32⟩
  | 9 => ⟨S4224x512, .f32⟩
  | 10 => ⟨S4224x512, .f32⟩
  | 11 => ⟨S4224x512, .f32⟩
  | 12 => ⟨S1x512, .f32⟩
  | 13 => ⟨S512, .f32⟩
  | 14 => ⟨S1x512, .f32⟩
  | 15 => ⟨S4224x512, .f32⟩
  | 16 => ⟨S4224x512, .f32⟩
  | 17 => ⟨S4224x512, .f32⟩
  | 18 => ⟨S4224x512, .f32⟩
  | 19 => ⟨S1x512, .f32⟩
  | 20 => ⟨S512, .f32⟩
  | 21 => ⟨S1x512, .f32⟩
  | 22 => ⟨S4224x512, .f32⟩
  | 23 => ⟨S4224x512, .f32⟩
  | 24 => ⟨S4224x512, .f32⟩
  | 25 => ⟨S4224x512, .f32⟩
  | 26 => ⟨S1x512, .f32⟩
  | 27 => ⟨S512, .f32⟩
  | 28 => ⟨S1x512, .f32⟩
  | 29 => ⟨S4224x512, .f32⟩
  | 30 => ⟨S4224x512, .f32⟩
  | 31 => ⟨S4224x512, .f32⟩
  | 32 => ⟨S4224x512, .f32⟩
  | 33 => ⟨S1x512, .f32⟩
  | 34 => ⟨S512, .f32⟩
  | 35 => ⟨S1x512, .f32⟩
  | 36 => ⟨S4224x512, .f32⟩
  | 37 => ⟨S4224x512, .f32⟩
  | 38 => ⟨S4224x512, .f32⟩
  | 39 => ⟨S4224x512, .f32⟩
  | 40 => ⟨S1x512, .f32⟩
  | 41 => ⟨S512, .f32⟩
  | 42 => ⟨S1x512, .f32⟩
  | 43 => ⟨S4224x512, .f32⟩
  | 44 => ⟨S4224x512, .f32⟩
  | 45 => ⟨S4224x512, .f32⟩
  | 46 => ⟨S4224x512, .f32⟩
  | 47 => ⟨S1x512, .f32⟩
  | 48 => ⟨S512, .f32⟩
  | 49 => ⟨S1x512, .f32⟩
  | 50 => ⟨S4224x512, .f32⟩
  | 51 => ⟨S4224x512, .f32⟩
  | 52 => ⟨S4224x512, .f32⟩
  | 53 => ⟨S4224x512, .f32⟩
  | 54 => ⟨S1x512, .f32⟩
  | 55 => ⟨S512, .f32⟩
  | 56 => ⟨S1x512, .f32⟩
  | 57 => ⟨S4224x512, .f32⟩
  | 58 => ⟨S4224x512, .f32⟩
  | 59 => ⟨S4224x512, .f32⟩
  | 60 => ⟨S4224x512, .f32⟩
  | 61 => ⟨S1x512, .f32⟩
  | 62 => ⟨S512, .f32⟩
  | 63 => ⟨S1x512, .f32⟩
  | 64 => ⟨S4224x512, .f32⟩
  | 65 => ⟨S4224x512, .f32⟩
  | 66 => ⟨S4224x512, .f32⟩
  | 67 => ⟨S4224x512, .f32⟩
  | 68 => ⟨S1x512, .f32⟩
  | 69 => ⟨S512, .f32⟩
  | 70 => ⟨S1x512, .f32⟩
  | 71 => ⟨S4224x512, .f32⟩
  | 72 => ⟨S4224x512, .f32⟩
  | 73 => ⟨S4224x512, .f32⟩
  | 74 => ⟨S4224x512, .f32⟩
  | 75 => ⟨S1x512, .f32⟩
  | 76 => ⟨S512, .f32⟩
  | 77 => ⟨S1x512, .f32⟩
  | 78 => ⟨S4224x512, .f32⟩
  | 79 => ⟨S4224x512, .f32⟩
  | 80 => ⟨S4224x512, .f32⟩
  | 81 => ⟨S4224x512, .f32⟩
  | 82 => ⟨S1x512, .f32⟩
  | 83 => ⟨S512, .f32⟩
  | 84 => ⟨S1x512, .f32⟩
  | 85 => ⟨S4224x512, .f32⟩
  | 86 => ⟨S4224x512, .f32⟩
  | 87 => ⟨S4224x512, .f32⟩
  | 88 => ⟨S4224x512, .f32⟩
  | 89 => ⟨S1x512, .f32⟩
  | 90 => ⟨S512, .f32⟩
  | 91 => ⟨S1x512, .f32⟩
  | 92 => ⟨S4224x512, .f32⟩
  | 93 => ⟨S4224x512, .f32⟩
  | 94 => ⟨S4224x512, .f32⟩
  | 95 => ⟨S4224x512, .f32⟩
  | 96 => ⟨S1x512, .f32⟩
  | 97 => ⟨S512, .f32⟩
  | 98 => ⟨S1x512, .f32⟩
  | 99 => ⟨S4224x512, .f32⟩
  | 100 => ⟨S4224x512, .f32⟩
  | 101 => ⟨S4224x512, .f32⟩
  | 102 => ⟨S4224x512, .f32⟩
  | 103 => ⟨S1x512, .f32⟩
  | 104 => ⟨S512, .f32⟩
  | 105 => ⟨S1x512, .f32⟩
  | 106 => ⟨S4224x512, .f32⟩
  | 107 => ⟨S4224x512, .f32⟩
  | 108 => ⟨S4224x512, .f32⟩
  | 109 => ⟨S4224x512, .f32⟩
  | 110 => ⟨S1x512, .f32⟩
  | 111 => ⟨S512, .f32⟩
  | 112 => ⟨S1x512, .f32⟩
  | 113 => ⟨S4224x512, .f32⟩
  | 114 => ⟨S4224x512, .f32⟩
  | 115 => ⟨S4224x512, .f32⟩
  | 116 => ⟨S1x8x512, .f32⟩
  | 117 => ⟨S528x8x512, .f32⟩
  | 118 => ⟨S4224x512, .f32⟩
  | 119 => ⟨S4224x512, .f32⟩
  | 120 => ⟨S4224x512, .f32⟩
  | 121 => ⟨S4224x512, .f32⟩
  | 122 => ⟨S528x8x512, .f32⟩
  | 123 => ⟨S_, .f32⟩
  | 124 => ⟨S8x512, .f32⟩
  | 125 => ⟨S1x8x512, .f32⟩
  | 126 => ⟨S_, .f32⟩
  | 127 => ⟨S8x512, .f32⟩
  | _ => ⟨S4224x512, .f32⟩

abbrev hbmTy0_2 (i : Nat) : BufTy := match i % 128 with
  | 0 => ⟨S4224x512, .f32⟩
  | 1 => ⟨S_, .f32⟩
  | 2 => ⟨S512, .f32⟩
  | 3 => ⟨S1x512, .f32⟩
  | 4 => ⟨S4224x512, .f32⟩
  | 5 => ⟨S4224x512, .f32⟩
  | 6 => ⟨S_, .f32⟩
  | 7 => ⟨S512, .f32⟩
  | 8 => ⟨S1x512, .f32⟩
  | 9 => ⟨S_, .f32⟩
  | 10 => ⟨S32x512, .f32⟩
  | 11 => ⟨S_, .f32⟩
  | 12 => ⟨S4254x512, .f32⟩
  | 13 => ⟨S4224x512, .f32⟩
  | 14 => ⟨S_, .f32⟩
  | 15 => ⟨S512, .f32⟩
  | 16 => ⟨S1x512, .f32⟩
  | 17 => ⟨S4224x512, .f32⟩
  | 18 => ⟨S4224x512, .f32⟩
  | 19 => ⟨S_, .f32⟩
  | 20 => ⟨S512, .f32⟩
  | 21 => ⟨S1x512, .f32⟩
  | 22 => ⟨S_, .f32⟩
  | 23 => ⟨S32x512, .f32⟩
  | 24 => ⟨S32x512, .f32⟩
  | 25 => ⟨S_, .f32⟩
  | 26 => ⟨S4254x512, .f32⟩
  | 27 => ⟨S4254x512, .f32⟩
  | 28 => ⟨S4224x512, .f32⟩
  | 29 => ⟨S_, .f32⟩
  | 30 => ⟨S512, .f32⟩
  | 31 => ⟨S1x512, .f32⟩
  | 32 => ⟨S4224x512, .f32⟩
  | 33 => ⟨S4224x512, .f32⟩
  | 34 => ⟨S_, .f32⟩
  | 35 => ⟨S512, .f32⟩
  | 36 => ⟨S1x512, .f32⟩
  | 37 => ⟨S_, .f32⟩
  | 38 => ⟨S32x512, .f32⟩
  | 39 => ⟨S32x512, .f32⟩
  | 40 => ⟨S_, .f32⟩
  | 41 => ⟨S4254x512, .f32⟩
  | 42 => ⟨S4254x512, .f32⟩
  | 43 => ⟨S4224x512, .f32⟩
  | 44 => ⟨S_, .f32⟩
  | 45 => ⟨S512, .f32⟩
  | 46 => ⟨S1x512, .f32⟩
  | 47 => ⟨S4224x512, .f32⟩
  | 48 => ⟨S4224x512, .f32⟩
  | 49 => ⟨S_, .f32⟩
  | 50 => ⟨S512, .f32⟩
  | 51 => ⟨S1x512, .f32⟩
  | 52 => ⟨S_, .f32⟩
  | 53 => ⟨S32x512, .f32⟩
  | 54 => ⟨S32x512, .f32⟩
  | 55 => ⟨S_, .f32⟩
  | 56 => ⟨S4254x512, .f32⟩
  | 57 => ⟨S4254x512, .f32⟩
  | 58 => ⟨S4224x512, .f32⟩
  | 59 => ⟨S_, .f32⟩
  | 60 => ⟨S512, .f32⟩
  | 61 => ⟨S1x512, .f32⟩
  | 62 => ⟨S4224x512, .f32⟩
  | 63 => ⟨S4224x512, .f32⟩
  | 64 => ⟨S_, .f32⟩
  | 65 => ⟨S512, .f32⟩
  | 66 => ⟨S1x512, .f32⟩
  | 67 => ⟨S_, .f32⟩
  | 68 => ⟨S32x512, .f32⟩
  | 69 => ⟨S32x512, .f32⟩
  | 70 => ⟨S_, .f32⟩
  | 71 => ⟨S4254x512, .f32⟩
  | 72 => ⟨S4254x512, .f32⟩
  | 73 => ⟨S4224x512, .f32⟩
  | 74 => ⟨S_, .f32⟩
  | 75 => ⟨S512, .f32⟩
  | 76 => ⟨S1x512, .f32⟩
  | 77 => ⟨S4224x512, .f32⟩
  | 78 => ⟨S4224x512, .f32⟩
  | 79 => ⟨S_, .f32⟩
  | 80 => ⟨S512, .f32⟩
  | 81 => ⟨S1x512, .f32⟩
  | 82 => ⟨S_, .f32⟩
  | 83 => ⟨S32x512, .f32⟩
  | 84 => ⟨S32x512, .f32⟩
  | 85 => ⟨S_, .f32⟩
  | 86 => ⟨S4254x512, .f32⟩
  | 87 => ⟨S4254x512, .f32⟩
  | 88 => ⟨S4224x512, .f32⟩
  | 89 => ⟨S_, .f32⟩
  | 90 => ⟨S512, .f32⟩
  | 91 => ⟨S1x512, .f32⟩
  | 92 => ⟨S4224x512, .f32⟩
  | 93 => ⟨S4224x512, .f32⟩
  | 94 => ⟨S_, .f32⟩
  | 95 => ⟨S512, .f32⟩
  | 96 => ⟨S1x512, .f32⟩
  | 97 => ⟨S_, .f32⟩
  | 98 => ⟨S32x512, .f32⟩
  | 99 => ⟨S32x512, .f32⟩
  | 100 => ⟨S_, .f32⟩
  | 101 => ⟨S4254x512, .f32⟩
  | 102 => ⟨S4254x512, .f32⟩
  | 103 => ⟨S4224x512, .f32⟩
  | 104 => ⟨S_, .f32⟩
  | 105 => ⟨S512, .f32⟩
  | 106 => ⟨S1x512, .f32⟩
  | 107 => ⟨S4224x512, .f32⟩
  | 108 => ⟨S4224x512, .f32⟩
  | 109 => ⟨S_, .f32⟩
  | 110 => ⟨S512, .f32⟩
  | 111 => ⟨S1x512, .f32⟩
  | 112 => ⟨S_, .f32⟩
  | 113 => ⟨S32x512, .f32⟩
  | 114 => ⟨S32x512, .f32⟩
  | 115 => ⟨S_, .f32⟩
  | 116 => ⟨S4254x512, .f32⟩
  | 117 => ⟨S4254x512, .f32⟩
  | 118 => ⟨S4224x512, .f32⟩
  | 119 => ⟨S_, .f32⟩
  | 120 => ⟨S512, .f32⟩
  | 121 => ⟨S1x512, .f32⟩
  | 122 => ⟨S4224x512, .f32⟩
  | 123 => ⟨S4224x512, .f32⟩
  | 124 => ⟨S_, .f32⟩
  | 125 => ⟨S512, .f32⟩
  | 126 => ⟨S1x512, .f32⟩
  | 127 => ⟨S_, .f32⟩
  | _ => ⟨S4224x512, .f32⟩

abbrev hbmTy0_3 (i : Nat) : BufTy := match i % 128 with
  | 0 => ⟨S32x512, .f32⟩
  | 1 => ⟨S32x512, .f32⟩
  | 2 => ⟨S_, .f32⟩
  | 3 => ⟨S4254x512, .f32⟩
  | 4 => ⟨S4254x512, .f32⟩
  | 5 => ⟨S4224x512, .f32⟩
  | 6 => ⟨S_, .f32⟩
  | 7 => ⟨S512, .f32⟩
  | 8 => ⟨S1x512, .f32⟩
  | 9 => ⟨S4224x512, .f32⟩
  | 10 => ⟨S4224x512, .f32⟩
  | 11 => ⟨S_, .f32⟩
  | 12 => ⟨S512, .f32⟩
  | 13 => ⟨S1x512, .f32⟩
  | 14 => ⟨S_, .f32⟩
  | 15 => ⟨S32x512, .f32⟩
  | 16 => ⟨S32x512, .f32⟩
  | 17 => ⟨S_, .f32⟩
  | 18 => ⟨S4254x512, .f32⟩
  | 19 => ⟨S4254x512, .f32⟩
  | 20 => ⟨S4224x512, .f32⟩
  | 21 => ⟨S_, .f32⟩
  | 22 => ⟨S512, .f32⟩
  | 23 => ⟨S1x512, .f32⟩
  | 24 => ⟨S4224x512, .f32⟩
  | 25 => ⟨S4224x512, .f32⟩
  | 26 => ⟨S_, .f32⟩
  | 27 => ⟨S512, .f32⟩
  | 28 => ⟨S1x512, .f32⟩
  | 29 => ⟨S_, .f32⟩
  | 30 => ⟨S32x512, .f32⟩
  | 31 => ⟨S32x512, .f32⟩
  | 32 => ⟨S_, .f32⟩
  | 33 => ⟨S4254x512, .f32⟩
  | 34 => ⟨S4254x512, .f32⟩
  | 35 => ⟨S4224x512, .f32⟩
  | 36 => ⟨S_, .f32⟩
  | 37 => ⟨S512, .f32⟩
  | 38 => ⟨S1x512, .f32⟩
  | 39 => ⟨S4224x512, .f32⟩
  | 40 => ⟨S4224x512, .f32⟩
  | 41 => ⟨S_, .f32⟩
  | 42 => ⟨S512, .f32⟩
  | 43 => ⟨S1x512, .f32⟩
  | 44 => ⟨S_, .f32⟩
  | 45 => ⟨S32x512, .f32⟩
  | 46 => ⟨S32x512, .f32⟩
  | 47 => ⟨S_, .f32⟩
  | 48 => ⟨S4254x512, .f32⟩
  | 49 => ⟨S4254x512, .f32⟩
  | 50 => ⟨S4224x512, .f32⟩
  | 51 => ⟨S_, .f32⟩
  | 52 => ⟨S512, .f32⟩
  | 53 => ⟨S1x512, .f32⟩
  | 54 => ⟨S4224x512, .f32⟩
  | 55 => ⟨S4224x512, .f32⟩
  | 56 => ⟨S_, .f32⟩
  | 57 => ⟨S512, .f32⟩
  | 58 => ⟨S1x512, .f32⟩
  | 59 => ⟨S_, .f32⟩
  | 60 => ⟨S32x512, .f32⟩
  | 61 => ⟨S32x512, .f32⟩
  | 62 => ⟨S_, .f32⟩
  | 63 => ⟨S4254x512, .f32⟩
  | 64 => ⟨S4254x512, .f32⟩
  | 65 => ⟨S4224x512, .f32⟩
  | 66 => ⟨S_, .f32⟩
  | 67 => ⟨S512, .f32⟩
  | 68 => ⟨S1x512, .f32⟩
  | 69 => ⟨S4224x512, .f32⟩
  | 70 => ⟨S4224x512, .f32⟩
  | 71 => ⟨S_, .f32⟩
  | 72 => ⟨S512, .f32⟩
  | 73 => ⟨S1x512, .f32⟩
  | 74 => ⟨S_, .f32⟩
  | 75 => ⟨S32x512, .f32⟩
  | 76 => ⟨S32x512, .f32⟩
  | 77 => ⟨S_, .f32⟩
  | 78 => ⟨S4254x512, .f32⟩
  | 79 => ⟨S4254x512, .f32⟩
  | 80 => ⟨S4224x512, .f32⟩
  | 81 => ⟨S_, .f32⟩
  | 82 => ⟨S512, .f32⟩
  | 83 => ⟨S1x512, .f32⟩
  | 84 => ⟨S4224x512, .f32⟩
  | 85 => ⟨S4224x512, .f32⟩
  | 86 => ⟨S_, .f32⟩
  | 87 => ⟨S512, .f32⟩
  | 88 => ⟨S1x512, .f32⟩
  | 89 => ⟨S_, .f32⟩
  | 90 => ⟨S32x512, .f32⟩
  | 91 => ⟨S32x512, .f32⟩
  | 92 => ⟨S_, .f32⟩
  | 93 => ⟨S4254x512, .f32⟩
  | 94 => ⟨S4254x512, .f32⟩
  | 95 => ⟨S4224x512, .f32⟩
  | 96 => ⟨S_, .f32⟩
  | 97 => ⟨S512, .f32⟩
  | 98 => ⟨S1x512, .f32⟩
  | 99 => ⟨S4224x512, .f32⟩
  | 100 => ⟨S4224x512, .f32⟩
  | 101 => ⟨S_, .f32⟩
  | 102 => ⟨S512, .f32⟩
  | 103 => ⟨S1x512, .f32⟩
  | 104 => ⟨S_, .f32⟩
  | 105 => ⟨S32x512, .f32⟩
  | 106 => ⟨S32x512, .f32⟩
  | 107 => ⟨S_, .f32⟩
  | 108 => ⟨S4254x512, .f32⟩
  | 109 => ⟨S4254x512, .f32⟩
  | 110 => ⟨S4224x512, .f32⟩
  | 111 => ⟨S_, .f32⟩
  | 112 => ⟨S512, .f32⟩
  | 113 => ⟨S1x512, .f32⟩
  | 114 => ⟨S4224x512, .f32⟩
  | 115 => ⟨S4224x512, .f32⟩
  | 116 => ⟨S_, .f32⟩
  | 117 => ⟨S512, .f32⟩
  | 118 => ⟨S1x512, .f32⟩
  | 119 => ⟨S_, .f32⟩
  | 120 => ⟨S32x512, .f32⟩
  | 121 => ⟨S32x512, .f32⟩
  | 122 => ⟨S_, .f32⟩
  | 123 => ⟨S4254x512, .f32⟩
  | 124 => ⟨S4254x512, .f32⟩
  | 125 => ⟨S4224x512, .f32⟩
  | 126 => ⟨S_, .f32⟩
  | 127 => ⟨S512, .f32⟩
  | _ => ⟨S4224x512, .f32⟩

abbrev hbmTy0_4 (i : Nat) : BufTy := match i % 128 with
  | 0 => ⟨S1x512, .f32⟩
  | 1 => ⟨S4224x512, .f32⟩
  | 2 => ⟨S4224x512, .f32⟩
  | 3 => ⟨S_, .f32⟩
  | 4 => ⟨S512, .f32⟩
  | 5 => ⟨S1x512, .f32⟩
  | 6 => ⟨S_, .f32⟩
  | 7 => ⟨S32x512, .f32⟩
  | 8 => ⟨S32x512, .f32⟩
  | 9 => ⟨S_, .f32⟩
  | 10 => ⟨S4254x512, .f32⟩
  | 11 => ⟨S4254x512, .f32⟩
  | 12 => ⟨S4224x512, .f32⟩
  | 13 => ⟨S_, .f32⟩
  | 14 => ⟨S512, .f32⟩
  | 15 => ⟨S1x512, .f32⟩
  | 16 => ⟨S4224x512, .f32⟩
  | 17 => ⟨S4224x512, .f32⟩
  | 18 => ⟨S_, .f32⟩
  | 19 => ⟨S512, .f32⟩
  | 20 => ⟨S1x512, .f32⟩
  | 21 => ⟨S_, .f32⟩
  | 22 => ⟨S32x512, .f32⟩
  | 23 => ⟨S32x512, .f32⟩
  | 24 => ⟨S_, .f32⟩
  | 25 => ⟨S4254x512, .f32⟩
  | 26 => ⟨S4254x512, .f32⟩
  | 27 => ⟨S4224x512, .f32⟩
  | 28 => ⟨S_, .f32⟩
  | 29 => ⟨S512, .f32⟩
  | 30 => ⟨S1x512, .f32⟩
  | 31 => ⟨S4224x512, .f32⟩
  | 32 => ⟨S4224x512, .f32⟩
  | 33 => ⟨S_, .f32⟩
  | 34 => ⟨S512, .f32⟩
  | 35 => ⟨S1x512, .f32⟩
  | 36 => ⟨S_, .f32⟩
  | 37 => ⟨S32x512, .f32⟩
  | 38 => ⟨S32x512, .f32⟩
  | 39 => ⟨S_, .f32⟩
  | 40 => ⟨S4254x512, .f32⟩
  | 41 => ⟨S4254x512, .f32⟩
  | 42 => ⟨S4224x512, .f32⟩
  | 43 => ⟨S_, .f32⟩
  | 44 => ⟨S512, .f32⟩
  | 45 => ⟨S1x512, .f32⟩
  | 46 => ⟨S4224x512, .f32⟩
  | 47 => ⟨S4224x512, .f32⟩
  | 48 => ⟨S_, .f32⟩
  | 49 => ⟨S512, .f32⟩
  | 50 => ⟨S1x512, .f32⟩
  | 51 => ⟨S_, .f32⟩
  | 52 => ⟨S32x512, .f32⟩
  | 53 => ⟨S32x512, .f32⟩
  | 54 => ⟨S_, .f32⟩
  | 55 => ⟨S4254x512, .f32⟩
  | 56 => ⟨S4254x512, .f32⟩
  | 57 => ⟨S4224x512, .f32⟩
  | 58 => ⟨S_, .f32⟩
  | 59 => ⟨S512, .f32⟩
  | 60 => ⟨S1x512, .f32⟩
  | 61 => ⟨S4224x512, .f32⟩
  | 62 => ⟨S4224x512, .f32⟩
  | 63 => ⟨S_, .f32⟩
  | 64 => ⟨S512, .f32⟩
  | 65 => ⟨S1x512, .f32⟩
  | 66 => ⟨S_, .f32⟩
  | 67 => ⟨S32x512, .f32⟩
  | 68 => ⟨S32x512, .f32⟩
  | 69 => ⟨S_, .f32⟩
  | 70 => ⟨S4254x512, .f32⟩
  | 71 => ⟨S4254x512, .f32⟩
  | 72 => ⟨S4224x512, .f32⟩
  | 73 => ⟨S_, .f32⟩
  | 74 => ⟨S512, .f32⟩
  | 75 => ⟨S1x512, .f32⟩
  | 76 => ⟨S4224x512, .f32⟩
  | 77 => ⟨S4224x512, .f32⟩
  | 78 => ⟨S_, .f32⟩
  | 79 => ⟨S512, .f32⟩
  | 80 => ⟨S1x512, .f32⟩
  | 81 => ⟨S_, .f32⟩
  | 82 => ⟨S32x512, .f32⟩
  | 83 => ⟨S32x512, .f32⟩
  | 84 => ⟨S_, .f32⟩
  | 85 => ⟨S4254x512, .f32⟩
  | 86 => ⟨S4254x512, .f32⟩
  | 87 => ⟨S4224x512, .f32⟩
  | 88 => ⟨S_, .f32⟩
  | 89 => ⟨S512, .f32⟩
  | 90 => ⟨S1x512, .f32⟩
  | 91 => ⟨S4224x512, .f32⟩
  | 92 => ⟨S4224x512, .f32⟩
  | 93 => ⟨S_, .f32⟩
  | 94 => ⟨S512, .f32⟩
  | 95 => ⟨S1x512, .f32⟩
  | 96 => ⟨S_, .f32⟩
  | 97 => ⟨S32x512, .f32⟩
  | 98 => ⟨S32x512, .f32⟩
  | 99 => ⟨S_, .f32⟩
  | 100 => ⟨S4254x512, .f32⟩
  | 101 => ⟨S4254x512, .f32⟩
  | 102 => ⟨S4224x512, .f32⟩
  | 103 => ⟨S_, .f32⟩
  | 104 => ⟨S512, .f32⟩
  | 105 => ⟨S1x512, .f32⟩
  | 106 => ⟨S4224x512, .f32⟩
  | 107 => ⟨S4224x512, .f32⟩
  | 108 => ⟨S_, .f32⟩
  | 109 => ⟨S512, .f32⟩
  | 110 => ⟨S1x512, .f32⟩
  | 111 => ⟨S_, .f32⟩
  | 112 => ⟨S32x512, .f32⟩
  | 113 => ⟨S32x512, .f32⟩
  | 114 => ⟨S_, .f32⟩
  | 115 => ⟨S4254x512, .f32⟩
  | 116 => ⟨S4254x512, .f32⟩
  | 117 => ⟨S4224x512, .f32⟩
  | 118 => ⟨S_, .f32⟩
  | 119 => ⟨S512, .f32⟩
  | 120 => ⟨S1x512, .f32⟩
  | 121 => ⟨S4224x512, .f32⟩
  | 122 => ⟨S4224x512, .f32⟩
  | 123 => ⟨S_, .f32⟩
  | 124 => ⟨S512, .f32⟩
  | 125 => ⟨S1x512, .f32⟩
  | 126 => ⟨S_, .f32⟩
  | 127 => ⟨S32x512, .f32⟩
  | _ => ⟨S4224x512, .f32⟩

abbrev hbmTy0_5 (i : Nat) : BufTy := match i % 128 with
  | 0 => ⟨S32x512, .f32⟩
  | 1 => ⟨S_, .f32⟩
  | 2 => ⟨S4254x512, .f32⟩
  | 3 => ⟨S4254x512, .f32⟩
  | 4 => ⟨S4224x512, .f32⟩
  | 5 => ⟨S_, .f32⟩
  | 6 => ⟨S512, .f32⟩
  | 7 => ⟨S1x512, .f32⟩
  | 8 => ⟨S4224x512, .f32⟩
  | 9 => ⟨S4224x512, .f32⟩
  | 10 => ⟨S_, .f32⟩
  | 11 => ⟨S512, .f32⟩
  | 12 => ⟨S1x512, .f32⟩
  | 13 => ⟨S_, .f32⟩
  | 14 => ⟨S32x512, .f32⟩
  | 15 => ⟨S32x512, .f32⟩
  | 16 => ⟨S_, .f32⟩
  | 17 => ⟨S4254x512, .f32⟩
  | 18 => ⟨S4254x512, .f32⟩
  | 19 => ⟨S4224x512, .f32⟩
  | 20 => ⟨S_, .f32⟩
  | 21 => ⟨S512, .f32⟩
  | 22 => ⟨S1x512, .f32⟩
  | 23 => ⟨S4224x512, .f32⟩
  | 24 => ⟨S4224x512, .f32⟩
  | 25 => ⟨S_, .f32⟩
  | 26 => ⟨S512, .f32⟩
  | 27 => ⟨S1x512, .f32⟩
  | 28 => ⟨S_, .f32⟩
  | 29 => ⟨S32x512, .f32⟩
  | 30 => ⟨S32x512, .f32⟩
  | 31 => ⟨S_, .f32⟩
  | 32 => ⟨S4254x512, .f32⟩
  | 33 => ⟨S4254x512, .f32⟩
  | 34 => ⟨S4224x512, .f32⟩
  | 35 => ⟨S_, .f32⟩
  | 36 => ⟨S512, .f32⟩
  | 37 => ⟨S1x512, .f32⟩
  | 38 => ⟨S4224x512, .f32⟩
  | 39 => ⟨S4224x512, .f32⟩
  | 40 => ⟨S_, .f32⟩
  | 41 => ⟨S512, .f32⟩
  | 42 => ⟨S1x512, .f32⟩
  | 43 => ⟨S_, .f32⟩
  | 44 => ⟨S32x512, .f32⟩
  | 45 => ⟨S32x512, .f32⟩
  | 46 => ⟨S_, .f32⟩
  | 47 => ⟨S4254x512, .f32⟩
  | 48 => ⟨S4254x512, .f32⟩
  | 49 => ⟨S4224x512, .f32⟩
  | 50 => ⟨S_, .f32⟩
  | 51 => ⟨S512, .f32⟩
  | 52 => ⟨S1x512, .f32⟩
  | 53 => ⟨S4224x512, .f32⟩
  | 54 => ⟨S4224x512, .f32⟩
  | 55 => ⟨S_, .f32⟩
  | 56 => ⟨S512, .f32⟩
  | 57 => ⟨S1x512, .f32⟩
  | 58 => ⟨S_, .f32⟩
  | 59 => ⟨S32x512, .f32⟩
  | 60 => ⟨S32x512, .f32⟩
  | 61 => ⟨S_, .f32⟩
  | 62 => ⟨S4254x512, .f32⟩
  | 63 => ⟨S4254x512, .f32⟩
  | 64 => ⟨S4224x512, .f32⟩
  | 65 => ⟨S_, .f32⟩
  | 66 => ⟨S512, .f32⟩
  | 67 => ⟨S1x512, .f32⟩
  | 68 => ⟨S4224x512, .f32⟩
  | 69 => ⟨S4224x512, .f32⟩
  | 70 => ⟨S_, .f32⟩
  | 71 => ⟨S512, .f32⟩
  | 72 => ⟨S1x512, .f32⟩
  | 73 => ⟨S_, .f32⟩
  | 74 => ⟨S32x512, .f32⟩
  | 75 => ⟨S32x512, .f32⟩
  | 76 => ⟨S_, .f32⟩
  | 77 => ⟨S4254x512, .f32⟩
  | 78 => ⟨S4254x512, .f32⟩
  | 79 => ⟨S30x512, .f32⟩
  | 80 => ⟨S4224x512, .f32⟩
  | 81 => ⟨S4224x512, .f32⟩
  | 82 => ⟨S4224x512, .f32⟩
  | 83 => ⟨S4224x512, .f32⟩
  | 84 => ⟨S1x4224x512, .f32⟩
  | 85 => ⟨S1x4224x512, .f32⟩
  | 86 => ⟨S2x4224x512, .f32⟩
  | 87 => ⟨S2x4224x512, .bf16⟩
  | _ => ⟨S4224x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4224x512, .f32⟩

abbrev bufTy : (tb : Table) → Fin (tcTables nBuf tb) → BufTy
  | .hbm, ⟨i, _⟩ => hbmTy i
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_cst_6 : Ref sig .tc := ⟨.hbm, 251, rfl⟩
abbrev main_v241 : Ref sig .tc := ⟨.hbm, 252, rfl⟩
abbrev main_v242 : Ref sig .tc := ⟨.hbm, 253, rfl⟩
abbrev main_cst_7 : Ref sig .tc := ⟨.hbm, 254, rfl⟩
abbrev main_v243 : Ref sig .tc := ⟨.hbm, 255, rfl⟩
abbrev main_v244 : Ref sig .tc := ⟨.hbm, 256, rfl⟩
abbrev main_cst_8 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_cst_9 : Ref sig .tc := ⟨.hbm, 262, rfl⟩
abbrev main_v249 : Ref sig .tc := ⟨.hbm, 263, rfl⟩
abbrev main_v250 : Ref sig .tc := ⟨.hbm, 264, rfl⟩
abbrev main_cst_10 : Ref sig .tc := ⟨.hbm, 265, rfl⟩
abbrev main_v251 : Ref sig .tc := ⟨.hbm, 266, rfl⟩
abbrev main_cst_11 : Ref sig .tc := ⟨.hbm, 267, rfl⟩
abbrev main_v252 : Ref sig .tc := ⟨.hbm, 268, rfl⟩
abbrev main_v253 : Ref sig .tc := ⟨.hbm, 269, rfl⟩
abbrev main_cst_12 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_13 : Ref sig .tc := ⟨.hbm, 275, rfl⟩
abbrev main_v258 : Ref sig .tc := ⟨.hbm, 276, rfl⟩
abbrev main_v259 : Ref sig .tc := ⟨.hbm, 277, rfl⟩
abbrev main_cst_14 : Ref sig .tc := ⟨.hbm, 278, rfl⟩
abbrev main_v260 : Ref sig .tc := ⟨.hbm, 279, rfl⟩
abbrev main_v261 : Ref sig .tc := ⟨.hbm, 280, rfl⟩
abbrev main_cst_15 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_cst_16 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_cst_17 : Ref sig .tc := ⟨.hbm, 290, rfl⟩
abbrev main_v269 : Ref sig .tc := ⟨.hbm, 291, rfl⟩
abbrev main_v270 : Ref sig .tc := ⟨.hbm, 292, rfl⟩
abbrev main_cst_18 : Ref sig .tc := ⟨.hbm, 293, rfl⟩
abbrev main_v271 : Ref sig .tc := ⟨.hbm, 294, rfl⟩
abbrev main_v272 : Ref sig .tc := ⟨.hbm, 295, rfl⟩
abbrev main_cst_19 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_cst_20 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_cst_21 : Ref sig .tc := ⟨.hbm, 305, rfl⟩
abbrev main_v280 : Ref sig .tc := ⟨.hbm, 306, rfl⟩
abbrev main_v281 : Ref sig .tc := ⟨.hbm, 307, rfl⟩
abbrev main_cst_22 : Ref sig .tc := ⟨.hbm, 308, rfl⟩
abbrev main_v282 : Ref sig .tc := ⟨.hbm, 309, rfl⟩
abbrev main_v283 : Ref sig .tc := ⟨.hbm, 310, rfl⟩
abbrev main_cst_23 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_cst_24 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_cst_25 : Ref sig .tc := ⟨.hbm, 320, rfl⟩
abbrev main_v291 : Ref sig .tc := ⟨.hbm, 321, rfl⟩
abbrev main_v292 : Ref sig .tc := ⟨.hbm, 322, rfl⟩
abbrev main_cst_26 : Ref sig .tc := ⟨.hbm, 323, rfl⟩
abbrev main_v293 : Ref sig .tc := ⟨.hbm, 324, rfl⟩
abbrev main_v294 : Ref sig .tc := ⟨.hbm, 325, rfl⟩
abbrev main_cst_27 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_cst_28 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_cst_29 : Ref sig .tc := ⟨.hbm, 335, rfl⟩
abbrev main_v302 : Ref sig .tc := ⟨.hbm, 336, rfl⟩
abbrev main_v303 : Ref sig .tc := ⟨.hbm, 337, rfl⟩
abbrev main_cst_30 : Ref sig .tc := ⟨.hbm, 338, rfl⟩
abbrev main_v304 : Ref sig .tc := ⟨.hbm, 339, rfl⟩
abbrev main_v305 : Ref sig .tc := ⟨.hbm, 340, rfl⟩
abbrev main_cst_31 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_cst_32 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_cst_33 : Ref sig .tc := ⟨.hbm, 350, rfl⟩
abbrev main_v313 : Ref sig .tc := ⟨.hbm, 351, rfl⟩
abbrev main_v314 : Ref sig .tc := ⟨.hbm, 352, rfl⟩
abbrev main_cst_34 : Ref sig .tc := ⟨.hbm, 353, rfl⟩
abbrev main_v315 : Ref sig .tc := ⟨.hbm, 354, rfl⟩
abbrev main_v316 : Ref sig .tc := ⟨.hbm, 355, rfl⟩
abbrev main_cst_35 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_cst_36 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_cst_37 : Ref sig .tc := ⟨.hbm, 365, rfl⟩
abbrev main_v324 : Ref sig .tc := ⟨.hbm, 366, rfl⟩
abbrev main_v325 : Ref sig .tc := ⟨.hbm, 367, rfl⟩
abbrev main_cst_38 : Ref sig .tc := ⟨.hbm, 368, rfl⟩
abbrev main_v326 : Ref sig .tc := ⟨.hbm, 369, rfl⟩
abbrev main_v327 : Ref sig .tc := ⟨.hbm, 370, rfl⟩
abbrev main_cst_39 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_cst_40 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_cst_41 : Ref sig .tc := ⟨.hbm, 380, rfl⟩
abbrev main_v335 : Ref sig .tc := ⟨.hbm, 381, rfl⟩
abbrev main_v336 : Ref sig .tc := ⟨.hbm, 382, rfl⟩
abbrev main_cst_42 : Ref sig .tc := ⟨.hbm, 383, rfl⟩
abbrev main_v337 : Ref sig .tc := ⟨.hbm, 384, rfl⟩
abbrev main_v338 : Ref sig .tc := ⟨.hbm, 385, rfl⟩
abbrev main_cst_43 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_cst_44 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_cst_45 : Ref sig .tc := ⟨.hbm, 395, rfl⟩
abbrev main_v346 : Ref sig .tc := ⟨.hbm, 396, rfl⟩
abbrev main_v347 : Ref sig .tc := ⟨.hbm, 397, rfl⟩
abbrev main_cst_46 : Ref sig .tc := ⟨.hbm, 398, rfl⟩
abbrev main_v348 : Ref sig .tc := ⟨.hbm, 399, rfl⟩
abbrev main_v349 : Ref sig .tc := ⟨.hbm, 400, rfl⟩
abbrev main_cst_47 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_cst_48 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_cst_49 : Ref sig .tc := ⟨.hbm, 410, rfl⟩
abbrev main_v357 : Ref sig .tc := ⟨.hbm, 411, rfl⟩
abbrev main_v358 : Ref sig .tc := ⟨.hbm, 412, rfl⟩
abbrev main_cst_50 : Ref sig .tc := ⟨.hbm, 413, rfl⟩
abbrev main_v359 : Ref sig .tc := ⟨.hbm, 414, rfl⟩
abbrev main_v360 : Ref sig .tc := ⟨.hbm, 415, rfl⟩
abbrev main_cst_51 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_cst_52 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_cst_53 : Ref sig .tc := ⟨.hbm, 425, rfl⟩
abbrev main_v368 : Ref sig .tc := ⟨.hbm, 426, rfl⟩
abbrev main_v369 : Ref sig .tc := ⟨.hbm, 427, rfl⟩
abbrev main_cst_54 : Ref sig .tc := ⟨.hbm, 428, rfl⟩
abbrev main_v370 : Ref sig .tc := ⟨.hbm, 429, rfl⟩
abbrev main_v371 : Ref sig .tc := ⟨.hbm, 430, rfl⟩
abbrev main_cst_55 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_cst_56 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_cst_57 : Ref sig .tc := ⟨.hbm, 440, rfl⟩
abbrev main_v379 : Ref sig .tc := ⟨.hbm, 441, rfl⟩
abbrev main_v380 : Ref sig .tc := ⟨.hbm, 442, rfl⟩
abbrev main_cst_58 : Ref sig .tc := ⟨.hbm, 443, rfl⟩
abbrev main_v381 : Ref sig .tc := ⟨.hbm, 444, rfl⟩
abbrev main_v382 : Ref sig .tc := ⟨.hbm, 445, rfl⟩
abbrev main_cst_59 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_cst_60 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_cst_61 : Ref sig .tc := ⟨.hbm, 455, rfl⟩
abbrev main_v390 : Ref sig .tc := ⟨.hbm, 456, rfl⟩
abbrev main_v391 : Ref sig .tc := ⟨.hbm, 457, rfl⟩
abbrev main_cst_62 : Ref sig .tc := ⟨.hbm, 458, rfl⟩
abbrev main_v392 : Ref sig .tc := ⟨.hbm, 459, rfl⟩
abbrev main_v393 : Ref sig .tc := ⟨.hbm, 460, rfl⟩
abbrev main_cst_63 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_cst_64 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_cst_65 : Ref sig .tc := ⟨.hbm, 470, rfl⟩
abbrev main_v401 : Ref sig .tc := ⟨.hbm, 471, rfl⟩
abbrev main_v402 : Ref sig .tc := ⟨.hbm, 472, rfl⟩
abbrev main_cst_66 : Ref sig .tc := ⟨.hbm, 473, rfl⟩
abbrev main_v403 : Ref sig .tc := ⟨.hbm, 474, rfl⟩
abbrev main_v404 : Ref sig .tc := ⟨.hbm, 475, rfl⟩
abbrev main_cst_67 : Ref sig .tc := ⟨.hbm, 476, rfl⟩
abbrev main_v405 : Ref sig .tc := ⟨.hbm, 477, rfl⟩
abbrev main_v406 : Ref sig .tc := ⟨.hbm, 478, rfl⟩
abbrev main_v407 : Ref sig .tc := ⟨.hbm, 479, rfl⟩
abbrev main_cst_68 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_cst_69 : Ref sig .tc := ⟨.hbm, 485, rfl⟩
abbrev main_v412 : Ref sig .tc := ⟨.hbm, 486, rfl⟩
abbrev main_v413 : Ref sig .tc := ⟨.hbm, 487, rfl⟩
abbrev main_cst_70 : Ref sig .tc := ⟨.hbm, 488, rfl⟩
abbrev main_v414 : Ref sig .tc := ⟨.hbm, 489, rfl⟩
abbrev main_v415 : Ref sig .tc := ⟨.hbm, 490, rfl⟩
abbrev main_cst_71 : Ref sig .tc := ⟨.hbm, 491, rfl⟩
abbrev main_v416 : Ref sig .tc := ⟨.hbm, 492, rfl⟩
abbrev main_v417 : Ref sig .tc := ⟨.hbm, 493, rfl⟩
abbrev main_v418 : Ref sig .tc := ⟨.hbm, 494, rfl⟩
abbrev main_cst_72 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_cst_73 : Ref sig .tc := ⟨.hbm, 500, rfl⟩
abbrev main_v423 : Ref sig .tc := ⟨.hbm, 501, rfl⟩
abbrev main_v424 : Ref sig .tc := ⟨.hbm, 502, rfl⟩
abbrev main_cst_74 : Ref sig .tc := ⟨.hbm, 503, rfl⟩
abbrev main_v425 : Ref sig .tc := ⟨.hbm, 504, rfl⟩
abbrev main_v426 : Ref sig .tc := ⟨.hbm, 505, rfl⟩
abbrev main_cst_75 : Ref sig .tc := ⟨.hbm, 506, rfl⟩
abbrev main_v427 : Ref sig .tc := ⟨.hbm, 507, rfl⟩
abbrev main_v428 : Ref sig .tc := ⟨.hbm, 508, rfl⟩
abbrev main_v429 : Ref sig .tc := ⟨.hbm, 509, rfl⟩
abbrev main_cst_76 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_cst_77 : Ref sig .tc := ⟨.hbm, 515, rfl⟩
abbrev main_v434 : Ref sig .tc := ⟨.hbm, 516, rfl⟩
abbrev main_v435 : Ref sig .tc := ⟨.hbm, 517, rfl⟩
abbrev main_cst_78 : Ref sig .tc := ⟨.hbm, 518, rfl⟩
abbrev main_v436 : Ref sig .tc := ⟨.hbm, 519, rfl⟩
abbrev main_v437 : Ref sig .tc := ⟨.hbm, 520, rfl⟩
abbrev main_cst_79 : Ref sig .tc := ⟨.hbm, 521, rfl⟩
abbrev main_v438 : Ref sig .tc := ⟨.hbm, 522, rfl⟩
abbrev main_v439 : Ref sig .tc := ⟨.hbm, 523, rfl⟩
abbrev main_v440 : Ref sig .tc := ⟨.hbm, 524, rfl⟩
abbrev main_cst_80 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_cst_81 : Ref sig .tc := ⟨.hbm, 530, rfl⟩
abbrev main_v445 : Ref sig .tc := ⟨.hbm, 531, rfl⟩
abbrev main_v446 : Ref sig .tc := ⟨.hbm, 532, rfl⟩
abbrev main_cst_82 : Ref sig .tc := ⟨.hbm, 533, rfl⟩
abbrev main_v447 : Ref sig .tc := ⟨.hbm, 534, rfl⟩
abbrev main_v448 : Ref sig .tc := ⟨.hbm, 535, rfl⟩
abbrev main_cst_83 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_cst_84 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_cst_85 : Ref sig .tc := ⟨.hbm, 545, rfl⟩
abbrev main_v456 : Ref sig .tc := ⟨.hbm, 546, rfl⟩
abbrev main_v457 : Ref sig .tc := ⟨.hbm, 547, rfl⟩
abbrev main_cst_86 : Ref sig .tc := ⟨.hbm, 548, rfl⟩
abbrev main_v458 : Ref sig .tc := ⟨.hbm, 549, rfl⟩
abbrev main_v459 : Ref sig .tc := ⟨.hbm, 550, rfl⟩
abbrev main_cst_87 : Ref sig .tc := ⟨.hbm, 551, rfl⟩
abbrev main_v460 : Ref sig .tc := ⟨.hbm, 552, rfl⟩
abbrev main_v461 : Ref sig .tc := ⟨.hbm, 553, rfl⟩
abbrev main_v462 : Ref sig .tc := ⟨.hbm, 554, rfl⟩
abbrev main_cst_88 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_cst_89 : Ref sig .tc := ⟨.hbm, 560, rfl⟩
abbrev main_v467 : Ref sig .tc := ⟨.hbm, 561, rfl⟩
abbrev main_v468 : Ref sig .tc := ⟨.hbm, 562, rfl⟩
abbrev main_cst_90 : Ref sig .tc := ⟨.hbm, 563, rfl⟩
abbrev main_v469 : Ref sig .tc := ⟨.hbm, 564, rfl⟩
abbrev main_v470 : Ref sig .tc := ⟨.hbm, 565, rfl⟩
abbrev main_cst_91 : Ref sig .tc := ⟨.hbm, 566, rfl⟩
abbrev main_v471 : Ref sig .tc := ⟨.hbm, 567, rfl⟩
abbrev main_v472 : Ref sig .tc := ⟨.hbm, 568, rfl⟩
abbrev main_v473 : Ref sig .tc := ⟨.hbm, 569, rfl⟩
abbrev main_cst_92 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_cst_93 : Ref sig .tc := ⟨.hbm, 575, rfl⟩
abbrev main_v478 : Ref sig .tc := ⟨.hbm, 576, rfl⟩
abbrev main_v479 : Ref sig .tc := ⟨.hbm, 577, rfl⟩
abbrev main_cst_94 : Ref sig .tc := ⟨.hbm, 578, rfl⟩
abbrev main_v480 : Ref sig .tc := ⟨.hbm, 579, rfl⟩
abbrev main_v481 : Ref sig .tc := ⟨.hbm, 580, rfl⟩
abbrev main_cst_95 : Ref sig .tc := ⟨.hbm, 581, rfl⟩
abbrev main_v482 : Ref sig .tc := ⟨.hbm, 582, rfl⟩
abbrev main_v483 : Ref sig .tc := ⟨.hbm, 583, rfl⟩
abbrev main_v484 : Ref sig .tc := ⟨.hbm, 584, rfl⟩
abbrev main_cst_96 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_v488 : Ref sig .tc := ⟨.hbm, 589, rfl⟩
abbrev main_cst_97 : Ref sig .tc := ⟨.hbm, 590, rfl⟩
abbrev main_v489 : Ref sig .tc := ⟨.hbm, 591, rfl⟩
abbrev main_v490 : Ref sig .tc := ⟨.hbm, 592, rfl⟩
abbrev main_cst_98 : Ref sig .tc := ⟨.hbm, 593, rfl⟩
abbrev main_v491 : Ref sig .tc := ⟨.hbm, 594, rfl⟩
abbrev main_v492 : Ref sig .tc := ⟨.hbm, 595, rfl⟩
abbrev main_cst_99 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_cst_100 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_cst_101 : Ref sig .tc := ⟨.hbm, 605, rfl⟩
abbrev main_v500 : Ref sig .tc := ⟨.hbm, 606, rfl⟩
abbrev main_v501 : Ref sig .tc := ⟨.hbm, 607, rfl⟩
abbrev main_cst_102 : Ref sig .tc := ⟨.hbm, 608, rfl⟩
abbrev main_v502 : Ref sig .tc := ⟨.hbm, 609, rfl⟩
abbrev main_v503 : Ref sig .tc := ⟨.hbm, 610, rfl⟩
abbrev main_cst_103 : Ref sig .tc := ⟨.hbm, 611, rfl⟩
abbrev main_v504 : Ref sig .tc := ⟨.hbm, 612, rfl⟩
abbrev main_v505 : Ref sig .tc := ⟨.hbm, 613, rfl⟩
abbrev main_v506 : Ref sig .tc := ⟨.hbm, 614, rfl⟩
abbrev main_cst_104 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_v510 : Ref sig .tc := ⟨.hbm, 619, rfl⟩
abbrev main_cst_105 : Ref sig .tc := ⟨.hbm, 620, rfl⟩
abbrev main_v511 : Ref sig .tc := ⟨.hbm, 621, rfl⟩
abbrev main_v512 : Ref sig .tc := ⟨.hbm, 622, rfl⟩
abbrev main_cst_106 : Ref sig .tc := ⟨.hbm, 623, rfl⟩
abbrev main_v513 : Ref sig .tc := ⟨.hbm, 624, rfl⟩
abbrev main_v514 : Ref sig .tc := ⟨.hbm, 625, rfl⟩
abbrev main_cst_107 : Ref sig .tc := ⟨.hbm, 626, rfl⟩
abbrev main_v515 : Ref sig .tc := ⟨.hbm, 627, rfl⟩
abbrev main_v516 : Ref sig .tc := ⟨.hbm, 628, rfl⟩
abbrev main_v517 : Ref sig .tc := ⟨.hbm, 629, rfl⟩
abbrev main_cst_108 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_v521 : Ref sig .tc := ⟨.hbm, 634, rfl⟩
abbrev main_cst_109 : Ref sig .tc := ⟨.hbm, 635, rfl⟩
abbrev main_v522 : Ref sig .tc := ⟨.hbm, 636, rfl⟩
abbrev main_v523 : Ref sig .tc := ⟨.hbm, 637, rfl⟩
abbrev main_cst_110 : Ref sig .tc := ⟨.hbm, 638, rfl⟩
abbrev main_v524 : Ref sig .tc := ⟨.hbm, 639, rfl⟩
abbrev main_v525 : Ref sig .tc := ⟨.hbm, 640, rfl⟩
abbrev main_cst_111 : Ref sig .tc := ⟨.hbm, 641, rfl⟩
abbrev main_v526 : Ref sig .tc := ⟨.hbm, 642, rfl⟩
abbrev main_v527 : Ref sig .tc := ⟨.hbm, 643, rfl⟩
abbrev main_v528 : Ref sig .tc := ⟨.hbm, 644, rfl⟩
abbrev main_cst_112 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_cst_113 : Ref sig .tc := ⟨.hbm, 650, rfl⟩
abbrev main_v533 : Ref sig .tc := ⟨.hbm, 651, rfl⟩
abbrev main_v534 : Ref sig .tc := ⟨.hbm, 652, rfl⟩
abbrev main_cst_114 : Ref sig .tc := ⟨.hbm, 653, rfl⟩
abbrev main_v535 : Ref sig .tc := ⟨.hbm, 654, rfl⟩
abbrev main_v536 : Ref sig .tc := ⟨.hbm, 655, rfl⟩
abbrev main_cst_115 : Ref sig .tc := ⟨.hbm, 656, rfl⟩
abbrev main_v537 : Ref sig .tc := ⟨.hbm, 657, rfl⟩
abbrev main_v538 : Ref sig .tc := ⟨.hbm, 658, rfl⟩
abbrev main_v539 : Ref sig .tc := ⟨.hbm, 659, rfl⟩
abbrev main_cst_116 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_cst_117 : Ref sig .tc := ⟨.hbm, 665, rfl⟩
abbrev main_v544 : Ref sig .tc := ⟨.hbm, 666, rfl⟩
abbrev main_v545 : Ref sig .tc := ⟨.hbm, 667, rfl⟩
abbrev main_cst_118 : Ref sig .tc := ⟨.hbm, 668, rfl⟩
abbrev main_v546 : Ref sig .tc := ⟨.hbm, 669, rfl⟩
abbrev main_v547 : Ref sig .tc := ⟨.hbm, 670, rfl⟩
abbrev main_cst_119 : Ref sig .tc := ⟨.hbm, 671, rfl⟩
abbrev main_v548 : Ref sig .tc := ⟨.hbm, 672, rfl⟩
abbrev main_v549 : Ref sig .tc := ⟨.hbm, 673, rfl⟩
abbrev main_v550 : Ref sig .tc := ⟨.hbm, 674, rfl⟩
abbrev main_cst_120 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_cst_121 : Ref sig .tc := ⟨.hbm, 680, rfl⟩
abbrev main_v555 : Ref sig .tc := ⟨.hbm, 681, rfl⟩
abbrev main_v556 : Ref sig .tc := ⟨.hbm, 682, rfl⟩
abbrev main_cst_122 : Ref sig .tc := ⟨.hbm, 683, rfl⟩
abbrev main_v557 : Ref sig .tc := ⟨.hbm, 684, rfl⟩
abbrev main_v558 : Ref sig .tc := ⟨.hbm, 685, rfl⟩
abbrev main_cst_123 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_cst_124 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_cst_125 : Ref sig .tc := ⟨.hbm, 695, rfl⟩
abbrev main_v566 : Ref sig .tc := ⟨.hbm, 696, rfl⟩
abbrev main_v567 : Ref sig .tc := ⟨.hbm, 697, rfl⟩
abbrev main_cst_126 : Ref sig .tc := ⟨.hbm, 698, rfl⟩
abbrev main_v568 : Ref sig .tc := ⟨.hbm, 699, rfl⟩
abbrev main_v569 : Ref sig .tc := ⟨.hbm, 700, rfl⟩
abbrev main_cst_127 : Ref sig .tc := ⟨.hbm, 701, rfl⟩
abbrev main_v570 : Ref sig .tc := ⟨.hbm, 702, rfl⟩
abbrev main_v571 : Ref sig .tc := ⟨.hbm, 703, rfl⟩
abbrev main_v572 : Ref sig .tc := ⟨.hbm, 704, rfl⟩
abbrev main_cst_128 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_cst_129 : Ref sig .tc := ⟨.hbm, 710, rfl⟩
abbrev main_v577 : Ref sig .tc := ⟨.hbm, 711, rfl⟩
abbrev main_v578 : Ref sig .tc := ⟨.hbm, 712, rfl⟩
abbrev main_cst_130 : Ref sig .tc := ⟨.hbm, 713, rfl⟩
abbrev main_v579 : Ref sig .tc := ⟨.hbm, 714, rfl⟩
abbrev main_v580 : Ref sig .tc := ⟨.hbm, 715, rfl⟩
abbrev main_cst_131 : Ref sig .tc := ⟨.hbm, 716, rfl⟩
abbrev main_v581 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩
abbrev main_v588 : Ref sig .tc := ⟨.hbm, 724, rfl⟩
abbrev main_v589 : Ref sig .tc := ⟨.hbm, 725, rfl⟩
abbrev main_v590 : Ref sig .tc := ⟨.hbm, 726, rfl⟩
abbrev main_v591 : Ref sig .tc := ⟨.hbm, 727, rfl⟩

abbrev nD : Nat := 1
abbrev τ : Topo := Topo.v7x

variable {F : FTy → Type} [FloatOps F]
-- ==== KernelAct.lean ====
abbrev S4224x1024 : Shape := ⟨2, ![4224, 1024]⟩
abbrev S4224x2816 : Shape := ⟨2, ![4224, 2816]⟩
abbrev S2816x1024 : Shape := ⟨2, ![2816, 1024]⟩
abbrev S528x1024 : Shape := ⟨2, ![528, 1024]⟩
abbrev S528x1408 : Shape := ⟨2, ![528, 1408]⟩
abbrev S1408x1024 : Shape := ⟨2, ![1408, 1024]⟩
abbrev S528x256 : Shape := ⟨2, ![528, 256]⟩
abbrev S256x1024 : Shape := ⟨2, ![256, 1024]⟩
abbrev S528x128 : Shape := ⟨2, ![528, 128]⟩
abbrev S128x1024 : Shape := ⟨2, ![128, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4224x1024, .f32⟩
  | .hbm, ⟨1, _⟩ => ⟨S4224x2816, .f32⟩
  | .hbm, ⟨2, _⟩ => ⟨S4224x2816, .f32⟩
  | .hbm, ⟨3, _⟩ => ⟨S2816x1024, .bf16⟩
  | .hbm, ⟨4, _⟩ => ⟨S4224x2816, .bf16⟩
  | .hbm, ⟨5, _⟩ => ⟨S4224x2816, .bf16⟩
  | .local _ .vmem, ⟨0, _⟩ => ⟨S528x1024, .f32⟩
  | .local _ .vmem, ⟨1, _⟩ => ⟨S528x1024, .f32⟩
  | .local _ .vmem, ⟨2, _⟩ => ⟨S528x1408, .f32⟩
  | .local _ .vmem, ⟨3, _⟩ => ⟨S528x1408, .f32⟩
  | .local _ .vmem, ⟨4, _⟩ => ⟨S528x1408, .f32⟩
  | .local _ .vmem, ⟨5, _⟩ => ⟨S528x1408, .f32⟩
  | .local _ .vmem, ⟨6, _⟩ => ⟨S1408x1024, .bf16⟩
  | .local _ .vmem, ⟨7, _⟩ => ⟨S1408x1024, .bf16⟩
  | .local _ .vmem, ⟨8, _⟩ => ⟨S528x1408, .bf16⟩
  | .local _ .vmem, ⟨9, _⟩ => ⟨S528x1408, .bf16⟩
  | .local _ .vmem, ⟨10, _⟩ => ⟨S528x1408, .bf16⟩
  | .local _ .vmem, ⟨11, _⟩ => ⟨S528x1408, .bf16⟩
  | .local _ .vmem, ⟨12, _⟩ => ⟨S528x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S528x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S528x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S528x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceActIdeal.lean ====
abbrev S4224x1024 : Shape := ⟨2, ![4224, 1024]⟩
abbrev S4224x2816 : Shape := ⟨2, ![4224, 2816]⟩
abbrev S2816x1024 : Shape := ⟨2, ![2816, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x2816, .f32⟩
  | .hbm, ⟨2, _⟩ => ⟨S4224x2816, .f32⟩
  | .hbm, ⟨3, _⟩ => ⟨S2816x1024, .bf16⟩
  | .hbm, ⟨4, _⟩ => ⟨S2816x1024, .f32⟩
  | .hbm, ⟨5, _⟩ => ⟨S4224x2816, .f32⟩
  | .hbm, ⟨6, _⟩ => ⟨S4224x2816, .f32⟩
  | .hbm, ⟨7, _⟩ => ⟨S_, .f32⟩
  | .hbm, ⟨8, _⟩ => ⟨S4224x2816, .f32⟩
  | .hbm, ⟨9, _⟩ => ⟨S4224x2816, .f32⟩
  | .hbm, ⟨10, _⟩ => ⟨S_, .f32⟩
  | .hbm, ⟨11, _⟩ => ⟨S4224x2816, .f32⟩
  | .hbm, ⟨12, _⟩ => ⟨S4224x2816, .f32⟩
  | .hbm, ⟨13, _⟩ => ⟨S_, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x1024, .f32⟩
  | .hbm, ⟨20, _⟩ => ⟨S4224x2816, .f32⟩
  | .hbm, ⟨21, _⟩ => ⟨S4224x2816, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S4224x2816, .bf16⟩
  | .hbm, ⟨28, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== KernelMixbwd.lean ====
abbrev S4224x1024 : Shape := ⟨2, ![4224, 1024]⟩
abbrev S1024x1024 : Shape := ⟨2, ![1024, 1024]⟩
abbrev S4224x512 : Shape := ⟨2, ![4224, 512]⟩
abbrev S1056x1024 : Shape := ⟨2, ![1056, 1024]⟩
abbrev S1056x512 : Shape := ⟨2, ![1056, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S4224x512, .bf16⟩
  | .hbm, ⟨3, _⟩ => ⟨S4224x512, .f32⟩
  | .local _ .vmem, ⟨0, _⟩ => ⟨S1056x1024, .f32⟩
  | .local _ .vmem, ⟨1, _⟩ => ⟨S1056x1024, .f32⟩
  | .local _ .vmem, ⟨2, _⟩ => ⟨S1024x1024, .bf16⟩
  | .local _ .vmem, ⟨3, _⟩ => ⟨S1056x512, .bf16⟩
  | .local _ .vmem, ⟨4, _⟩ => ⟨S1056x512, .bf16⟩
  | .local _ .vmem, ⟨5, _⟩ => ⟨S1056x512, .f32⟩
  | .local _ .vmem, ⟨6, _⟩ => ⟨S1056x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMixbwdIdeal.lean ====
abbrev S4224x1024 : Shape := ⟨2, ![4224, 1024]⟩
abbrev S1024x1024 : Shape := ⟨2, ![1024, 1024]⟩
abbrev S_ : Shape := ⟨0, ![]⟩
abbrev S4224x512 : Shape := ⟨2, ![4224, 512]⟩

abbrev nBuf : Space → Nat
  | .hbm => 13
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4224x512, .f32⟩
  | .hbm, ⟨5, _⟩ => ⟨S_, .f32⟩
  | .hbm, ⟨6, _⟩ => ⟨S4224x512, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S4224x512, .f32⟩
  | .hbm, ⟨11, _⟩ => ⟨S4224x512, .f32⟩
  | .hbm, ⟨12, _⟩ => ⟨S4224x512, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelMixin.lean ====
abbrev S3x4224x512 : Shape := ⟨3, ![3, 4224, 512]⟩
abbrev S2x4224x512 : Shape := ⟨3, ![2, 4224, 512]⟩
abbrev S2560x1024 : Shape := ⟨2, ![2560, 1024]⟩
abbrev S4224x1024 : Shape := ⟨2, ![4224, 1024]⟩
abbrev S1x1024 : Shape := ⟨2, ![1, 1024]⟩
abbrev S8x1024 : Shape := ⟨2, ![8, 1024]⟩
abbrev S3x528x512 : Shape := ⟨3, ![3, 528, 512]⟩
abbrev S2x528x512 : Shape := ⟨3, ![2, 528, 512]⟩
abbrev S528x1024 : Shape := ⟨2, ![528, 1024]⟩
abbrev S1x528x512 : Shape := ⟨3, ![1, 528, 512]⟩
abbrev S528x512 : Shape := ⟨2, ![528, 512]⟩
abbrev S512x1024 : Shape := ⟨2, ![512, 1024]⟩
abbrev S528 : Shape := ⟨1, ![528]⟩
abbrev S528x1 : Shape := ⟨2, ![528, 1]⟩
abbrev S66x8x1024 : Shape := ⟨3, ![66, 8, 1024]⟩

abbrev nBuf : Space → Nat
  | .hbm => 8
  | .vmem => 14
  | .smem => 0
  | _ => 0

abbrev bufTy : (tb : Table) → Fin (tcTables nBuf tb) → BufTy
  | .hbm, ⟨0, _⟩ => ⟨S3x4224x512, .bf16⟩
  | .hbm, ⟨1, _⟩ => ⟨S2x4224x512, .bf16⟩
  | .hbm, ⟨2, _⟩ => ⟨S2560x1024, .bf16⟩
  | .hbm, ⟨3, _⟩ => ⟨S4224x1024, .f32⟩
  | .hbm, ⟨4, _⟩ => ⟨S1x1024, .f32⟩
  | .hbm, ⟨5, _⟩ => ⟨S4224x1024, .f32⟩
  | .hbm, ⟨6, _⟩ => ⟨S4224x1024, .f32⟩
  | .hbm, ⟨7, _⟩ => ⟨S8x1024, .f32⟩
  | .local _ .vmem, ⟨0, _⟩ => ⟨S3x528x512, .bf16⟩
  | .local _ .vmem, ⟨1, _⟩ => ⟨S3x528x512, .bf16⟩
  | .local _ .vmem, ⟨2, _⟩ => ⟨S2x528x512, .bf16⟩
  | .local _ .vmem, ⟨3, _⟩ => ⟨S2x528x512, .bf16⟩
  | .local _ .vmem, ⟨4, _⟩ => ⟨S2560x1024, .bf16⟩
  | .local _ .vmem, ⟨5, _⟩ => ⟨S528x1024, .f32⟩
  | .local _ .vmem, ⟨6, _⟩ => ⟨S528x1024, .f32⟩
  | .local _ .vmem, ⟨7, _⟩ => ⟨S1x1024, .f32⟩
  | .local _ .vmem, ⟨8, _⟩ => ⟨S528x1024, .f32⟩
  | .local _ .vmem, ⟨9, _⟩ => ⟨S528x1024, .f32⟩
  | .local _ .vmem, ⟨10, _⟩ => ⟨S528x1024, .f32⟩
  | .local _ .vmem, ⟨11, _⟩ => ⟨S528x1024, .f32⟩
  | .local _ .vmem, ⟨12, _⟩ => ⟨S8x1024, .f32⟩
  | .local _ .vmem, ⟨13, _⟩ => ⟨S528x1024, .f32⟩
  | _, _ => ⟨S3x4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x528x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x528x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceMixinIdeal.lean ====
abbrev S3x4224x512 : Shape := ⟨3, ![3, 4224, 512]⟩
abbrev S2x4224x512 : Shape := ⟨3, ![2, 4224, 512]⟩
abbrev S2560x1024 : Shape := ⟨2, ![2560, 1024]⟩
abbrev S4224x1024 : Shape := ⟨2, ![4224, 1024]⟩
abbrev S1x1024 : Shape := ⟨2, ![1, 1024]⟩
abbrev S1024x2560 : Shape := ⟨2, ![1024, 2560]⟩
abbrev S1x4224x512 : Shape := ⟨3, ![1, 4224, 512]⟩
abbrev S4224x512 : Shape := ⟨2, ![4224, 512]⟩
abbrev S4224x2560 : Shape := ⟨2, ![4224, 2560]⟩
abbrev S8x1024 : Shape := ⟨2, ![8, 1024]⟩
abbrev S_ : Shape := ⟨0, ![]⟩
abbrev S4224 : Shape := ⟨1, ![4224]⟩
abbrev S4224x1 : Shape := ⟨2, ![4224, 1]⟩
abbrev S1x8x1024 : Shape := ⟨3, ![1, 8, 1024]⟩
abbrev S528x8x1024 : Shape := ⟨3, ![528, 8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S3x4224x512, .bf16⟩
  | .hbm, ⟨1, _⟩ => ⟨S2x4224x512, .bf16⟩
  | .hbm, ⟨2, _⟩ => ⟨S2560x1024, .bf16⟩
  | .hbm, ⟨3, _⟩ => ⟨S4224x1024, .f32⟩
  | .hbm, ⟨4, _⟩ => ⟨S1x1024, .f32⟩
  | .hbm, ⟨5, _⟩ => ⟨S4224x1024, .f32⟩
  | .hbm, ⟨6, _⟩ => ⟨S2560x1024, .f32⟩
  | .hbm, ⟨7, _⟩ => ⟨S1024x2560, .f32⟩
  | .hbm, ⟨8, _⟩ => ⟨S1x4224x512, .bf16⟩
  | .hbm, ⟨9, _⟩ => ⟨S4224x512, .bf16⟩
  | .hbm, ⟨10, _⟩ => ⟨S1x4224x512, .bf16⟩
  | .hbm, ⟨11, _⟩ => ⟨S4224x512, .bf16⟩
  | .hbm, ⟨12, _⟩ => ⟨S1x4224x512, .bf16⟩
  | .hbm, ⟨13, _⟩ => ⟨S4224x512, .bf16⟩
  | .hbm, ⟨14, _⟩ => ⟨S1x4224x512, .bf16⟩
  | .hbm, ⟨15, _⟩ => ⟨S4224x512, .bf16⟩
  | .hbm, ⟨16, _⟩ => ⟨S1x4224x512, .bf16⟩
  | .hbm, ⟨17, _⟩ => ⟨S4224x512, .bf16⟩
  | .hbm, ⟨18, _⟩ => ⟨S4224x2560, .bf16⟩
  | .hbm, ⟨19, _⟩ => ⟨S4224x2560, .f32⟩
  | .hbm, ⟨20, _⟩ => ⟨S8x1024, .f32⟩
  | .hbm, ⟨21, _⟩ => ⟨S4224x1024, .f32⟩
  | .hbm, ⟨22, _⟩ => ⟨S_, .f32⟩
  | .hbm, ⟨23, _⟩ => ⟨S4224, .f32⟩
  | .hbm, ⟨24, _⟩ => ⟨S4224x1, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S_, .f32⟩
  | .hbm, ⟨29, _⟩ => ⟨S4224x1, .f32⟩
  | .hbm, ⟨30, _⟩ => ⟨S4224x1, .f32⟩
  | .hbm, ⟨31, _⟩ => ⟨S4224x1, .f32⟩
  | .hbm, ⟨32, _⟩ => ⟨S4224x1, .f32⟩
  | .hbm, ⟨33, _⟩ => ⟨S_, .f32⟩
  | .hbm, ⟨34, _⟩ => ⟨S4224x1, .f32⟩
  | .hbm, ⟨35, _⟩ => ⟨S4224x1, .f32⟩
  | .hbm, ⟨36, _⟩ => ⟨S4224x1024, .f32⟩
  | .hbm, ⟨37, _⟩ => ⟨S4224x1024, .f32⟩
  | .hbm, ⟨38, _⟩ => ⟨S1x8x1024, .f32⟩
  | .hbm, ⟨39, _⟩ => ⟨S528x8x1024, .f32⟩
  | .hbm, ⟨40, _⟩ => ⟨S4224x1024, .f32⟩
  | .hbm, ⟨41, _⟩ => ⟨S4224x1024, .f32⟩
  | .hbm, ⟨42, _⟩ => ⟨S4224x2560, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S528x8x1024, .f32⟩
  | .hbm, ⟨47, _⟩ => ⟨S_, .f32⟩
  | .hbm, ⟨48, _⟩ => ⟨S8x1024, .f32⟩
  | .hbm, ⟨49, _⟩ => ⟨S1x8x1024, .f32⟩
  | .hbm, ⟨50, _⟩ => ⟨S_, .f32⟩
  | .hbm, ⟨51, _⟩ => ⟨S8x1024, .f32⟩
  | .hbm, ⟨52, _⟩ => ⟨S4224x1024, .f32⟩
  | .hbm, ⟨53, _⟩ => ⟨S_, .f32⟩
  | .hbm, ⟨54, _⟩ => ⟨S4224, .f32⟩
  | .hbm, ⟨55, _⟩ => ⟨S4224x1, .f32⟩
  | .hbm, ⟨56, _⟩ => ⟨S4224x1024, .f32⟩
  | .hbm, ⟨57, _⟩ => ⟨S4224x1024, .f32⟩
  | .hbm, ⟨58, _⟩ => ⟨S4224x1, .f32⟩
  | .hbm, ⟨59, _⟩ => ⟨S_, .f32⟩
  | .hbm, ⟨60, _⟩ => ⟨S4224x1, .f32⟩
  | .hbm, ⟨61, _⟩ => ⟨S4224x1, .f32⟩
  | .hbm, ⟨62, _⟩ => ⟨S_, .f32⟩
  | .hbm, ⟨63, _⟩ => ⟨S4224, .f32⟩
  | .hbm, ⟨64, _⟩ => ⟨S4224x1024, .f32⟩
  | .hbm, ⟨65, _⟩ => ⟨S4224x1024, .f32⟩
  | .hbm, ⟨66, _⟩ => ⟨S4224x1024, .f32⟩
  | .hbm, ⟨67, _⟩ => ⟨S4224x1024, .f32⟩
  | .hbm, ⟨68, _⟩ => ⟨S4224x1024, .f32⟩
  | .hbm, ⟨69, _⟩ => ⟨S4224x1024, .f32⟩
  | _, _ => ⟨S3x4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== KernelFfnin.lean ====
abbrev S4224x2816 : Shape := ⟨2, ![4224, 2816]⟩
abbrev S2816x1024 : Shape := ⟨2, ![2816, 1024]⟩
abbrev S4224x1024 : Shape := ⟨2, ![4224, 1024]⟩
abbrev S1x1024 : Shape := ⟨2, ![1, 1024]⟩
abbrev S8x1024 : Shape := ⟨2, ![8, 1024]⟩
abbrev S528x1408 : Shape := ⟨2, ![528, 1408]⟩
abbrev S1408x1024 : Shape := ⟨2, ![1408, 1024]⟩
abbrev S528x1024 : Shape := ⟨2, ![528, 1024]⟩
abbrev S528 : Shape := ⟨1, ![528]⟩
abbrev S528x1 : Shape := ⟨2, ![528, 1]⟩
abbrev S66x8x1024 : Shape := ⟨3, ![66, 8, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S2816x1024, .bf16⟩
  | .hbm, ⟨3, _⟩ => ⟨S2816x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S4224x1024, .f32⟩
  | .hbm, ⟨8, _⟩ => ⟨S8x1024, .f32⟩
  | .local _ .vmem, ⟨0, _⟩ => ⟨S528x1408, .bf16⟩
  | .local _ .vmem, ⟨1, _⟩ => ⟨S528x1408, .bf16⟩
  | .local _ .vmem, ⟨2, _⟩ => ⟨S528x1408, .bf16⟩
  | .local _ .vmem, ⟨3, _⟩ => ⟨S528x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S528x1024, .f32⟩
  | .local _ .vmem, ⟨9, _⟩ => ⟨S528x1024, .f32⟩
  | .local _ .vmem, ⟨10, _⟩ => ⟨S1x1024, .f32⟩
  | .local _ .vmem, ⟨11, _⟩ => ⟨S528x1024, .f32⟩
  | .local _ .vmem, ⟨12, _⟩ => ⟨S528x1024, .f32⟩
  | .local _ .vmem, ⟨13, _⟩ => ⟨S528x1024, .f32⟩
  | .local _ .vmem, ⟨14, _⟩ => ⟨S528x1024, .f32⟩
  | .local _ .vmem, ⟨15, _⟩ => ⟨S8x1024, .f32⟩
  | .local _ .vmem, ⟨16, _⟩ => ⟨S528x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_16 : BitVec 32 := 0#32
  let v22 : BitVec 1 := Scalar.cmpi .ne v21 c0_i32_16
  v22

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S528x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S528x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceFfninIdeal.lean ====
abbrev S4224x2816 : Shape := ⟨2, ![4224, 2816]⟩
abbrev S2816x1024 : Shape := ⟨2, ![2816, 1024]⟩
abbrev S4224x1024 : Shape := ⟨2, ![4224, 1024]⟩
abbrev S1x1024 : Shape := ⟨2, ![1, 1024]⟩
abbrev S1024x2816 : Shape := ⟨2, ![1024, 2816]⟩
abbrev S8x1024 : Shape := ⟨2, ![8, 1024]⟩
abbrev S_ : Shape := ⟨0, ![]⟩
abbrev S4224 : Shape := ⟨1, ![4224]⟩
abbrev S4224x1 : Shape := ⟨2, ![4224, 1]⟩
abbrev S1x8x1024 : Shape := ⟨3, ![1, 8, 1024]⟩
abbrev S528x8x1024 : Shape := ⟨3, ![528, 8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S2816x1024, .bf16⟩
  | .hbm, ⟨3, _⟩ => ⟨S2816x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S8x1024, .f32⟩
  | .hbm, ⟨12, _⟩ => ⟨S4224x1024, .f32⟩
  | .hbm, ⟨13, _⟩ => ⟨S_, .f32⟩
  | .hbm, ⟨14, _⟩ => ⟨S4224, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S4224x1024, .f32⟩
  | .hbm, ⟨28, _⟩ => ⟨S4224x1024, .f32⟩
  | .hbm, ⟨29, _⟩ => ⟨S1x8x1024, .f32⟩
  | .hbm, ⟨30, _⟩ => ⟨S528x8x1024, .f32⟩
  | .hbm, ⟨31, _⟩ => ⟨S4224x1024, .f32⟩
  | .hbm, ⟨32, _⟩ => ⟨S4224x1024, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x2816, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S528x8x1024, .f32⟩
  | .hbm, ⟨43, _⟩ => ⟨S_, .f32⟩
  | .hbm, ⟨44, _⟩ => ⟨S8x1024, .f32⟩
  | .hbm, ⟨45, _⟩ => ⟨S1x8x1024, .f32⟩
  | .hbm, ⟨46, _⟩ => ⟨S_, .f32⟩
  | .hbm, ⟨47, _⟩ => ⟨S8x1024, .f32⟩
  | .hbm, ⟨48, _⟩ => ⟨S4224x1024, .f32⟩
  | .hbm, ⟨49, _⟩ => ⟨S_, .f32⟩
  | .hbm, ⟨50, _⟩ => ⟨S4224, .f32⟩
  | .hbm, ⟨51, _⟩ => ⟨S4224x1, .f32⟩
  | .hbm, ⟨52, _⟩ => ⟨S4224x1024, .f32⟩
  | .hbm, ⟨53, _⟩ => ⟨S4224x1024, .f32⟩
  | .hbm, ⟨54, _⟩ => ⟨S4224x1, .f32⟩
  | .hbm, ⟨55, _⟩ => ⟨S_, .f32⟩
  | .hbm, ⟨56, _⟩ => ⟨S4224x1, .f32⟩
  | .hbm, ⟨57, _⟩ => ⟨S4224x1, .f32⟩
  | .hbm, ⟨58, _⟩ => ⟨S_, .f32⟩
  | .hbm, ⟨59, _⟩ => ⟨S4224, .f32⟩
  | .hbm, ⟨60, _⟩ => ⟨S4224x1024, .f32⟩
  | .hbm, ⟨61, _⟩ => ⟨S4224x1024, .f32⟩
  | .hbm, ⟨62, _⟩ => ⟨S4224x1024, .f32⟩
  | .hbm, ⟨63, _⟩ => ⟨S4224x1024, .f32⟩
  | .hbm, ⟨64, _⟩ => ⟨S4224x1024, .f32⟩
  | .hbm, ⟨65, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== KernelMm.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmIdeal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S4224x2816, .f32⟩
  | .hbm, ⟨3, _⟩ => ⟨S_, .f32⟩
  | .hbm, ⟨4, _⟩ => ⟨S2816x1024, .f32⟩
  | .hbm, ⟨5, _⟩ => ⟨S4224x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelGate.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateIdeal.lean ====
abbrev S4224x2816 : Shape := ⟨2, ![4224, 2816]⟩
abbrev S4224x1024 : Shape := ⟨2, ![4224, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S4224x1024, .f32⟩
  | .hbm, ⟨3, _⟩ => ⟨S_, .f32⟩
  | .hbm, ⟨4, _⟩ => ⟨S1024x2816, .f32⟩
  | .hbm, ⟨5, _⟩ => ⟨S4224x2816, .f32⟩
  | .hbm, ⟨6, _⟩ => ⟨S4224x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelGout.lean ====
abbrev S4224x512 : Shape := ⟨2, ![4224, 512]⟩
abbrev S4224x1024 : Shape := ⟨2, ![4224, 1024]⟩
abbrev S2x512x1024 : Shape := ⟨3, ![2, 512, 1024]⟩
abbrev S1408x512 : Shape := ⟨2, ![1408, 512]⟩
abbrev S1408x1024 : Shape := ⟨2, ![1408, 1024]⟩
abbrev S1x512x1024 : Shape := ⟨3, ![1, 512, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x1024, .f32⟩
  | .hbm, ⟨3, _⟩ => ⟨S2x512x1024, .bf16⟩
  | .local _ .vmem, ⟨0, _⟩ => ⟨S1408x512, .bf16⟩
  | .local _ .vmem, ⟨1, _⟩ => ⟨S1408x512, .bf16⟩
  | .local _ .vmem, ⟨2, _⟩ => ⟨S1408x512, .bf16⟩
  | .local _ .vmem, ⟨3, _⟩ => ⟨S1408x512, .bf16⟩
  | .local _ .vmem, ⟨4, _⟩ => ⟨S1408x1024, .f32⟩
  | .local _ .vmem, ⟨5, _⟩ => ⟨S1408x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 3], ![false, false, false]⟩

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c2_i32 : BitVec 32 := 2#32
  let v1 : BitVec 32 := Scalar.select v0 arg2 c2_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg2 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGoutIdeal.lean ====
abbrev S4224x512 : Shape := ⟨2, ![4224, 512]⟩
abbrev S4224x1024 : Shape := ⟨2, ![4224, 1024]⟩
abbrev S_ : Shape := ⟨0, ![]⟩
abbrev S1024x1024 : Shape := ⟨2, ![1024, 1024]⟩
abbrev S2x512x1024 : Shape := ⟨3, ![2, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x1024, .f32⟩
  | .hbm, ⟨3, _⟩ => ⟨S4224x1024, .bf16⟩
  | .hbm, ⟨4, _⟩ => ⟨S4224x1024, .f32⟩
  | .hbm, ⟨5, _⟩ => ⟨S_, .f32⟩
  | .hbm, ⟨6, _⟩ => ⟨S1024x1024, .f32⟩
  | .hbm, ⟨7, _⟩ => ⟨S4224x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S2x512x1024, .bf16⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelGradin.lean ====
abbrev S3x4224x512 : Shape := ⟨3, ![3, 4224, 512]⟩
abbrev S2x4224x512 : Shape := ⟨3, ![2, 4224, 512]⟩
abbrev S4224x1024 : Shape := ⟨2, ![4224, 1024]⟩
abbrev S5x512x1024 : Shape := ⟨3, ![5, 512, 1024]⟩
abbrev S1x1408x512 : Shape := ⟨3, ![1, 1408, 512]⟩
abbrev S1408x1024 : Shape := ⟨2, ![1408, 1024]⟩
abbrev S1x512x1024 : Shape := ⟨3, ![1, 512, 1024]⟩
abbrev S512x1024 : Shape := ⟨2, ![512, 1024]⟩
abbrev S1408x512 : Shape := ⟨2, ![1408, 512]⟩

abbrev nBuf : Space → Nat
  | .hbm => 4
  | .vmem => 9
  | .smem => 0
  | _ => 0

abbrev bufTy : (tb : Table) → Fin (tcTables nBuf tb) → BufTy
  | .hbm, ⟨0, _⟩ => ⟨S3x4224x512, .bf16⟩
  | .hbm, ⟨1, _⟩ => ⟨S2x4224x512, .bf16⟩
  | .hbm, ⟨2, _⟩ => ⟨S4224x1024, .bf16⟩
  | .hbm, ⟨3, _⟩ => ⟨S5x512x1024, .bf16⟩
  | .local _ .vmem, ⟨0, _⟩ => ⟨S1x1408x512, .bf16⟩
  | .local _ .vmem, ⟨1, _⟩ => ⟨S1x1408x512, .bf16⟩
  | .local _ .vmem, ⟨2, _⟩ => ⟨S1x1408x512, .bf16⟩
  | .local _ .vmem, ⟨3, _⟩ => ⟨S1x1408x512, .bf16⟩
  | .local _ .vmem, ⟨4, _⟩ => ⟨S1408x1024, .bf16⟩
  | .local _ .vmem, ⟨5, _⟩ => ⟨S1408x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | _, _ => ⟨S3x4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 1, 3], ![false, false, false]⟩

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.minsi arg0 c2_i32
  let c0_i32 : BitVec 32 := 0#32
  let c0_i32_0 : BitVec 32 := 0#32
  ![v0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  ![v1.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGradinIdeal.lean ====
abbrev S3x4224x512 : Shape := ⟨3, ![3, 4224, 512]⟩
abbrev S2x4224x512 : Shape := ⟨3, ![2, 4224, 512]⟩
abbrev S4224x1024 : Shape := ⟨2, ![4224, 1024]⟩
abbrev S1x4224x512 : Shape := ⟨3, ![1, 4224, 512]⟩
abbrev S4224x512 : Shape := ⟨2, ![4224, 512]⟩
abbrev S4224x2560 : Shape := ⟨2, ![4224, 2560]⟩
abbrev S_ : Shape := ⟨0, ![]⟩
abbrev S1024x2560 : Shape := ⟨2, ![1024, 2560]⟩
abbrev S2560x1024 : Shape := ⟨2, ![2560, 1024]⟩
abbrev S5x512x1024 : Shape := ⟨3, ![5, 512, 1024]⟩

abbrev nBuf : Space → Nat
  | .hbm => 24
  | .vmem => 0
  | .smem => 0
  | _ => 0

abbrev bufTy : (tb : Table) → Fin (tcTables nBuf tb) → BufTy
  | .hbm, ⟨0, _⟩ => ⟨S3x4224x512, .bf16⟩
  | .hbm, ⟨1, _⟩ => ⟨S2x4224x512, .bf16⟩
  | .hbm, ⟨2, _⟩ => ⟨S4224x1024, .bf16⟩
  | .hbm, ⟨3, _⟩ => ⟨S4224x1024, .f32⟩
  | .hbm, ⟨4, _⟩ => ⟨S1x4224x512, .bf16⟩
  | .hbm, ⟨5, _⟩ => ⟨S4224x512, .bf16⟩
  | .hbm, ⟨6, _⟩ => ⟨S1x4224x512, .bf16⟩
  | .hbm, ⟨7, _⟩ => ⟨S4224x512, .bf16⟩
  | .hbm, ⟨8, _⟩ => ⟨S1x4224x512, .bf16⟩
  | .hbm, ⟨9, _⟩ => ⟨S4224x512, .bf16⟩
  | .hbm, ⟨10, _⟩ => ⟨S1x4224x512, .bf16⟩
  | .hbm, ⟨11, _⟩ => ⟨S4224x512, .bf16⟩
  | .hbm, ⟨12, _⟩ => ⟨S1x4224x512, .bf16⟩
  | .hbm, ⟨13, _⟩ => ⟨S4224x512, .bf16⟩
  | .hbm, ⟨14, _⟩ => ⟨S4224x2560, .bf16⟩
  | .hbm, ⟨15, _⟩ => ⟨S4224x2560, .f32⟩
  | .hbm, ⟨16, _⟩ => ⟨S_, .f32⟩
  | .hbm, ⟨17, _⟩ => ⟨S1024x2560, .f32⟩
  | .hbm, ⟨18, _⟩ => ⟨S4224x2560, .f32⟩
  | .hbm, ⟨19, _⟩ => ⟨S2560x1024, .f32⟩
  | .hbm, ⟨20, _⟩ => ⟨S1024x2560, .f32⟩
  | .hbm, ⟨21, _⟩ => ⟨S2560x1024, .f32⟩
  | .hbm, ⟨22, _⟩ => ⟨S2560x1024, .bf16⟩
  | .hbm, ⟨23, _⟩ => ⟨S5x512x1024, .bf16⟩
  | _, _ => ⟨S3x4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== KernelLn.lean ====
abbrev S4224x512 : Shape := ⟨2, ![4224, 512]⟩
abbrev S1x512 : Shape := ⟨2, ![1, 512]⟩
abbrev S8x512 : Shape := ⟨2, ![8, 512]⟩
abbrev S528x512 : Shape := ⟨2, ![528, 512]⟩
abbrev S528 : Shape := ⟨1, ![528]⟩
abbrev S528x1 : Shape := ⟨2, ![528, 1]⟩
abbrev S66x8x512 : Shape := ⟨3, ![66, 8, 512]⟩

abbrev nBuf : Space → Nat
  | .hbm => 7
  | .vmem => 10
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S1x512, .f32⟩
  | .hbm, ⟨3, _⟩ => ⟨S1x512, .f32⟩
  | .hbm, ⟨4, _⟩ => ⟨S4224x512, .f32⟩
  | .hbm, ⟨5, _⟩ => ⟨S8x512, .f32⟩
  | .hbm, ⟨6, _⟩ => ⟨S8x512, .f32⟩
  | .local _ .vmem, ⟨0, _⟩ => ⟨S528x512, .f32⟩
  | .local _ .vmem, ⟨1, _⟩ => ⟨S528x512, .f32⟩
  | .local _ .vmem, ⟨2, _⟩ => ⟨S528x512, .f32⟩
  | .local _ .vmem, ⟨3, _⟩ => ⟨S528x512, .f32⟩
  | .local _ .vmem, ⟨4, _⟩ => ⟨S1x512, .f32⟩
  | .local _ .vmem, ⟨5, _⟩ => ⟨S1x512, .f32⟩
  | .local _ .vmem, ⟨6, _⟩ => ⟨S528x512, .f32⟩
  | .local _ .vmem, ⟨7, _⟩ => ⟨S528x512, .f32⟩
  | .local _ .vmem, ⟨8, _⟩ => ⟨S8x512, .f32⟩
  | .local _ .vmem, ⟨9, _⟩ => ⟨S8x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S528x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLnIdeal.lean ====
abbrev S4224x512 : Shape := ⟨2, ![4224, 512]⟩
abbrev S1x512 : Shape := ⟨2, ![1, 512]⟩
abbrev S8x512 : Shape := ⟨2, ![8, 512]⟩
abbrev S_ : Shape := ⟨0, ![]⟩
abbrev S4224 : Shape := ⟨1, ![4224]⟩
abbrev S4224x1 : Shape := ⟨2, ![4224, 1]⟩
abbrev S1x8x512 : Shape := ⟨3, ![1, 8, 512]⟩
abbrev S528x8x512 : Shape := ⟨3, ![528, 8, 512]⟩

abbrev nBuf : Space → Nat
  | .hbm => 106
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S1x512, .f32⟩
  | .hbm, ⟨3, _⟩ => ⟨S1x512, .f32⟩
  | .hbm, ⟨4, _⟩ => ⟨S8x512, .f32⟩
  | .hbm, ⟨5, _⟩ => ⟨S8x512, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x512, .f32⟩
  | .hbm, ⟨13, _⟩ => ⟨S4224x512, .f32⟩
  | .hbm, ⟨14, _⟩ => ⟨S4224x512, .f32⟩
  | .hbm, ⟨15, _⟩ => ⟨S_, .f32⟩
  | .hbm, ⟨16, _⟩ => ⟨S4224x512, .f32⟩
  | .hbm, ⟨17, _⟩ => ⟨S4224x512, .f32⟩
  | .hbm, ⟨18, _⟩ => ⟨S_, .f32⟩
  | .hbm, ⟨19, _⟩ => ⟨S4224, .f32⟩
  | .hbm, ⟨20, _⟩ => ⟨S4224x1, .f32⟩
  | .hbm, ⟨21, _⟩ => ⟨S_, .f32⟩
  | .hbm, ⟨22, _⟩ => ⟨S4224x1, .f32⟩
  | .hbm, ⟨23, _⟩ => ⟨S4224x1, .f32⟩
  | .hbm, ⟨24, _⟩ => ⟨S4224x512, .f32⟩
  | .hbm, ⟨25, _⟩ => ⟨S4224x512, .f32⟩
  | .hbm, ⟨26, _⟩ => ⟨S_, .f32⟩
  | .hbm, ⟨27, _⟩ => ⟨S4224x1, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S_, .f32⟩
  | .hbm, ⟨32, _⟩ => ⟨S4224x1, .f32⟩
  | .hbm, ⟨33, _⟩ => ⟨S4224x1, .f32⟩
  | .hbm, ⟨34, _⟩ => ⟨S4224x512, .f32⟩
  | .hbm, ⟨35, _⟩ => ⟨S4224x512, .f32⟩
  | .hbm, ⟨36, _⟩ => ⟨S1x8x512, .f32⟩
  | .hbm, ⟨37, _⟩ => ⟨S528x8x512, .f32⟩
  | .hbm, ⟨38, _⟩ => ⟨S4224x512, .f32⟩
  | .hbm, ⟨39, _⟩ => ⟨S4224x512, .f32⟩
  | .hbm, ⟨40, _⟩ => ⟨S1x8x512, .f32⟩
  | .hbm, ⟨41, _⟩ => ⟨S528x8x512, .f32⟩
  | .hbm, ⟨42, _⟩ => ⟨S4224x512, .f32⟩
  | .hbm, ⟨43, _⟩ => ⟨S4224x512, .f32⟩
  | .hbm, ⟨44, _⟩ => ⟨S4224x512, .f32⟩
  | .hbm, ⟨45, _⟩ => ⟨S4224x512, .f32⟩
  | .hbm, ⟨46, _⟩ => ⟨S_, .f32⟩
  | .hbm, ⟨47, _⟩ => ⟨S4224x512, .f32⟩
  | .hbm, ⟨48, _⟩ => ⟨S4224x512, .f32⟩
  | .hbm, ⟨49, _⟩ => ⟨S_, .f32⟩
  | .hbm, ⟨50, _⟩ => ⟨S4224x512, .f32⟩
  | .hbm, ⟨51, _⟩ => ⟨S4224x512, .f32⟩
  | .hbm, ⟨52, _⟩ => ⟨S_, .f32⟩
  | .hbm, ⟨53, _⟩ => ⟨S4224x512, .f32⟩
  | .hbm, ⟨54, _⟩ => ⟨S4224x512, .f32⟩
  | .hbm, ⟨55, _⟩ => ⟨S4224x512, .f32⟩
  | .hbm, ⟨56, _⟩ => ⟨S4224x512, .f32⟩
  | .hbm, ⟨57, _⟩ => ⟨S4224x512, .f32⟩
  | .hbm, ⟨58, _⟩ => ⟨S4224x512, .f32⟩
  | .hbm, ⟨59, _⟩ => ⟨S4224x512, .f32⟩
  | .hbm, ⟨60, _⟩ => ⟨S4224x512, .f32⟩
  | .hbm, ⟨61, _⟩ => ⟨S528x8x512, .f32⟩
  | .hbm, ⟨62, _⟩ => ⟨S_, .f32⟩
  | .hbm, ⟨63, _⟩ => ⟨S8x512, .f32⟩
  | .hbm, ⟨64, _⟩ => ⟨S1x8x512, .f32⟩
  | .hbm, ⟨65, _⟩ => ⟨S_, .f32⟩
  | .hbm, ⟨66, _⟩ => ⟨S8x512, .f32⟩
  | .hbm, ⟨67, _⟩ => ⟨S4224x512, .f32⟩
  | .hbm, ⟨68, _⟩ => ⟨S4224x512, .f32⟩
  | .hbm, ⟨69, _⟩ => ⟨S528x8x512, .f32⟩
  | .hbm, ⟨70, _⟩ => ⟨S_, .f32⟩
  | .hbm, ⟨71, _⟩ => ⟨S8x512, .f32⟩
  | .hbm, ⟨72, _⟩ => ⟨S1x8x512, .f32⟩
  | .hbm, ⟨73, _⟩ => ⟨S_, .f32⟩
  | .hbm, ⟨74, _⟩ => ⟨S8x512, .f32⟩
  | .hbm, ⟨75, _⟩ => ⟨S4224x512, .f32⟩
  | .hbm, ⟨76, _⟩ => ⟨S_, .f32⟩
  | .hbm, ⟨77, _⟩ => ⟨S4224, .f32⟩
  | .hbm, ⟨78, _⟩ => ⟨S4224x1, .f32⟩
  | .hbm, ⟨79, _⟩ => ⟨S4224x512, .f32⟩
  | .hbm, ⟨80, _⟩ => ⟨S4224x512, .f32⟩
  | .hbm, ⟨81, _⟩ => ⟨S4224x1, .f32⟩
  | .hbm, ⟨82, _⟩ => ⟨S4224x512, .f32⟩
  | .hbm, ⟨83, _⟩ => ⟨S_, .f32⟩
  | .hbm, ⟨84, _⟩ => ⟨S4224, .f32⟩
  | .hbm, ⟨85, _⟩ => ⟨S4224x1, .f32⟩
  | .hbm, ⟨86, _⟩ => ⟨S_, .f32⟩
  | .hbm, ⟨87, _⟩ => ⟨S4224x1, .f32⟩
  | .hbm, ⟨88, _⟩ => ⟨S4224x1, .f32⟩
  | .hbm, ⟨89, _⟩ => ⟨S_, .f32⟩
  | .hbm, ⟨90, _⟩ => ⟨S4224, .f32⟩
  | .hbm, ⟨91, _⟩ => ⟨S4224x512, .f32⟩
  | .hbm, ⟨92, _⟩ => ⟨S4224x512, .f32⟩
  | .hbm, ⟨93, _⟩ => ⟨S4224x512, .f32⟩
  | .hbm, ⟨94, _⟩ => ⟨S_, .f32⟩
  | .hbm, ⟨95, _⟩ => ⟨S4224, .f32⟩
  | .hbm, ⟨96, _⟩ => ⟨S4224x1, .f32⟩
  | .hbm, ⟨97, _⟩ => ⟨S4224x512, .f32⟩
  | .hbm, ⟨98, _⟩ => ⟨S4224x1, .f32⟩
  | .hbm, ⟨99, _⟩ => ⟨S_, .f32⟩
  | .hbm, ⟨100, _⟩ => ⟨S4224x1, .f32⟩
  | .hbm, ⟨101, _⟩ => ⟨S4224x1, .f32⟩
  | .hbm, ⟨102, _⟩ => ⟨S_, .f32⟩
  | .hbm, ⟨103, _⟩ => ⟨S4224, .f32⟩
  | .hbm, ⟨104, _⟩ => ⟨S4224x512, .f32⟩
  | .hbm, ⟨105, _⟩ => ⟨S4224x512, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v33_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v33_1 : Ref sig .tc := ⟨.hbm, 55, rfl⟩
abbrev main_v33_0 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩

abbrev nD : Nat := 1
abbrev τ : Topo := Topo.v7x

variable {F : FTy → Type} [FloatOps F]
-- ==== KernelMixout.lean ====
abbrev S4224x512 : Shape := ⟨2, ![4224, 512]⟩
abbrev S1024x1024 : Shape := ⟨2, ![1024, 1024]⟩
abbrev S4224x1024 : Shape := ⟨2, ![4224, 1024]⟩
abbrev S1056x512 : Shape := ⟨2, ![1056, 512]⟩
abbrev S512x512 : Shape := ⟨2, ![512, 512]⟩

abbrev nBuf : Space → Nat
  | .hbm => 5
  | .vmem => 12
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S1024x1024, .bf16⟩
  | .hbm, ⟨3, _⟩ => ⟨S4224x1024, .f32⟩
  | .hbm, ⟨4, _⟩ => ⟨S4224x1024, .f32⟩
  | .local _ .vmem, ⟨0, _⟩ => ⟨S1056x512, .bf16⟩
  | .local _ .vmem, ⟨1, _⟩ => ⟨S1056x512, .bf16⟩
  | .local _ .vmem, ⟨2, _⟩ => ⟨S1056x512, .bf16⟩
  | .local _ .vmem, ⟨3, _⟩ => ⟨S1056x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1056x512, .f32⟩
  | .local _ .vmem, ⟨9, _⟩ => ⟨S1056x512, .f32⟩
  | .local _ .vmem, ⟨10, _⟩ => ⟨S1056x512, .f32⟩
  | .local _ .vmem, ⟨11, _⟩ => ⟨S1056x512, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceMixoutIdeal.lean ====
abbrev S4224x512 : Shape := ⟨2, ![4224, 512]⟩
abbrev S1024x1024 : Shape := ⟨2, ![1024, 1024]⟩
abbrev S4224x1024 : Shape := ⟨2, ![4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S1024x1024, .bf16⟩
  | .hbm, ⟨3, _⟩ => ⟨S4224x1024, .f32⟩
  | .hbm, ⟨4, _⟩ => ⟨S4224x1024, .bf16⟩
  | .hbm, ⟨5, _⟩ => ⟨S4224x1024, .f32⟩
  | .hbm, ⟨6, _⟩ => ⟨S1024x1024, .f32⟩
  | .hbm, ⟨7, _⟩ => ⟨S4224x1024, .f32⟩
  | .hbm, ⟨8, _⟩ => ⟨S4224x1024, .f32⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelMixinf.lean ====
abbrev S4224x1024 : Shape := ⟨2, ![4224, 1024]⟩
abbrev S1x1024 : Shape := ⟨2, ![1, 1024]⟩
abbrev S2560x1024 : Shape := ⟨2, ![2560, 1024]⟩
abbrev S4224x1536 : Shape := ⟨2, ![4224, 1536]⟩
abbrev S528x1024 : Shape := ⟨2, ![528, 1024]⟩
abbrev S528x1536 : Shape := ⟨2, ![528, 1536]⟩
abbrev S528 : Shape := ⟨1, ![528]⟩
abbrev S528x1 : Shape := ⟨2, ![528, 1]⟩
abbrev S1536x1024 : Shape := ⟨2, ![1536, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S2560x1024, .bf16⟩
  | .hbm, ⟨3, _⟩ => ⟨S4224x1536, .bf16⟩
  | .hbm, ⟨4, _⟩ => ⟨S4224x1024, .f32⟩
  | .hbm, ⟨5, _⟩ => ⟨S4224x1024, .bf16⟩
  | .local _ .vmem, ⟨0, _⟩ => ⟨S528x1024, .f32⟩
  | .local _ .vmem, ⟨1, _⟩ => ⟨S528x1024, .f32⟩
  | .local _ .vmem, ⟨2, _⟩ => ⟨S1x1024, .f32⟩
  | .local _ .vmem, ⟨3, _⟩ => ⟨S2560x1024, .bf16⟩
  | .local _ .vmem, ⟨4, _⟩ => ⟨S528x1536, .bf16⟩
  | .local _ .vmem, ⟨5, _⟩ => ⟨S528x1536, .bf16⟩
  | .local _ .vmem, ⟨6, _⟩ => ⟨S528x1024, .f32⟩
  | .local _ .vmem, ⟨7, _⟩ => ⟨S528x1024, .f32⟩
  | .local _ .vmem, ⟨8, _⟩ => ⟨S528x1024, .bf16⟩
  | .local _ .vmem, ⟨9, _⟩ => ⟨S528x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S528x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMixinfIdeal.lean ====
abbrev S4224x1024 : Shape := ⟨2, ![4224, 1024]⟩
abbrev S1x1024 : Shape := ⟨2, ![1, 1024]⟩
abbrev S2560x1024 : Shape := ⟨2, ![2560, 1024]⟩
abbrev S_ : Shape := ⟨0, ![]⟩
abbrev S4224 : Shape := ⟨1, ![4224]⟩
abbrev S4224x1 : Shape := ⟨2, ![4224, 1]⟩
abbrev S1024x2560 : Shape := ⟨2, ![1024, 2560]⟩
abbrev S4224x2560 : Shape := ⟨2, ![4224, 2560]⟩
abbrev S4224x1536 : Shape := ⟨2, ![4224, 1536]⟩

abbrev nBuf : Space → Nat
  | .hbm => 25
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S2560x1024, .bf16⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S2560x1024, .f32⟩
  | .hbm, ⟨19, _⟩ => ⟨S1024x2560, .f32⟩
  | .hbm, ⟨20, _⟩ => ⟨S4224x2560, .f32⟩
  | .hbm, ⟨21, _⟩ => ⟨S4224x1536, .f32⟩
  | .hbm, ⟨22, _⟩ => ⟨S4224x1536, .bf16⟩
  | .hbm, ⟨23, _⟩ => ⟨S4224x1024, .f32⟩
  | .hbm, ⟨24, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KernelLnf.lean ====
abbrev S4224x512 : Shape := ⟨2, ![4224, 512]⟩
abbrev S1x512 : Shape := ⟨2, ![1, 512]⟩
abbrev S528x512 : Shape := ⟨2, ![528, 512]⟩
abbrev S528 : Shape := ⟨1, ![528]⟩
abbrev S528x1 : Shape := ⟨2, ![528, 1]⟩

abbrev nBuf : Space → Nat
  | .hbm => 4
  | .vmem => 6
  | .smem => 0
  | _ => 0

abbrev bufTy : (tb : Table) → Fin (tcTables nBuf tb) → BufTy
  | .hbm, ⟨0, _⟩ => ⟨S4224x512, .f32⟩
  | .hbm, ⟨1, _⟩ => ⟨S1x512, .f32⟩
  | .hbm, ⟨2, _⟩ => ⟨S1x512, .f32⟩
  | .hbm, ⟨3, _⟩ => ⟨S4224x512, .bf16⟩
  | .local _ .vmem, ⟨0, _⟩ => ⟨S528x512, .f32⟩
  | .local _ .vmem, ⟨1, _⟩ => ⟨S528x512, .f32⟩
  | .local _ .vmem, ⟨2, _⟩ => ⟨S1x512, .f32⟩
  | .local _ .vmem, ⟨3, _⟩ => ⟨S1x512, .f32⟩
  | .local _ .vmem, ⟨4, _⟩ => ⟨S528x512, .bf16⟩
  | .local _ .vmem, ⟨5, _⟩ => ⟨S528x512, .bf16⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S528x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLnfIdeal.lean ====
abbrev S4224x512 : Shape := ⟨2, ![4224, 512]⟩
abbrev S1x512 : Shape := ⟨2, ![1, 512]⟩
abbrev S_ : Shape := ⟨0, ![]⟩
abbrev S4224 : Shape := ⟨1, ![4224]⟩
abbrev S4224x1 : Shape := ⟨2, ![4224, 1]⟩

abbrev nBuf : Space → Nat
  | .hbm => 40
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S4224x512, .f32⟩
  | .hbm, ⟨10, _⟩ => ⟨S4224x512, .f32⟩
  | .hbm, ⟨11, _⟩ => ⟨S4224x512, .f32⟩
  | .hbm, ⟨12, _⟩ => ⟨S_, .f32⟩
  | .hbm, ⟨13, _⟩ => ⟨S4224, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x512, .f32⟩
  | .hbm, ⟨19, _⟩ => ⟨S4224x512, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S4224x512, .f32⟩
  | .hbm, ⟨25, _⟩ => ⟨S4224x512, .f32⟩
  | .hbm, ⟨26, _⟩ => ⟨S4224x512, .f32⟩
  | .hbm, ⟨27, _⟩ => ⟨S4224x512, .f32⟩
  | .hbm, ⟨28, _⟩ => ⟨S4224x512, .f32⟩
  | .hbm, ⟨29, _⟩ => ⟨S4224x512, .f32⟩
  | .hbm, ⟨30, _⟩ => ⟨S4224x512, .f32⟩
  | .hbm, ⟨31, _⟩ => ⟨S4224x512, .f32⟩
  | .hbm, ⟨32, _⟩ => ⟨S_, .f32⟩
  | .hbm, ⟨33, _⟩ => ⟨S4224x512, .f32⟩
  | .hbm, ⟨34, _⟩ => ⟨S4224x512, .f32⟩
  | .hbm, ⟨35, _⟩ => ⟨S_, .f32⟩
  | .hbm, ⟨36, _⟩ => ⟨S4224x512, .f32⟩
  | .hbm, ⟨37, _⟩ => ⟨S4224x512, .f32⟩
  | .hbm, ⟨38, _⟩ => ⟨S4224x512, .f32⟩
  | .hbm, ⟨39, _⟩ => ⟨S4224x512, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== KernelFfn.lean ====
abbrev S4224x1024 : Shape := ⟨2, ![4224, 1024]⟩
abbrev S1x1024 : Shape := ⟨2, ![1, 1024]⟩
abbrev S2816x1024 : Shape := ⟨2, ![2816, 1024]⟩
abbrev S4224x2816 : Shape := ⟨2, ![4224, 2816]⟩
abbrev S528x1024 : Shape := ⟨2, ![528, 1024]⟩
abbrev S1408x1024 : Shape := ⟨2, ![1408, 1024]⟩
abbrev S528x1408 : Shape := ⟨2, ![528, 1408]⟩
abbrev S528 : Shape := ⟨1, ![528]⟩
abbrev S528x1 : Shape := ⟨2, ![528, 1]⟩
abbrev S256x1024 : Shape := ⟨2, ![256, 1024]⟩
abbrev S528x256 : Shape := ⟨2, ![528, 256]⟩
abbrev S128x1024 : Shape := ⟨2, ![128, 1024]⟩
abbrev S528x128 : Shape := ⟨2, ![528, 128]⟩

abbrev nBuf : Space → Nat
  | .hbm => 10
  | .vmem => 21
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4224x1024, .f32⟩
  | .hbm, ⟨6, _⟩ => ⟨S4224x1024, .bf16⟩
  | .hbm, ⟨7, _⟩ => ⟨S4224x2816, .bf16⟩
  | .hbm, ⟨8, _⟩ => ⟨S4224x2816, .f32⟩
  | .hbm, ⟨9, _⟩ => ⟨S4224x2816, .f32⟩
  | .local _ .vmem, ⟨0, _⟩ => ⟨S528x1024, .f32⟩
  | .local _ .vmem, ⟨1, _⟩ => ⟨S528x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S528x1024, .f32⟩
  | .local _ .vmem, ⟨10, _⟩ => ⟨S528x1024, .f32⟩
  | .local _ .vmem, ⟨11, _⟩ => ⟨S528x1024, .bf16⟩
  | .local _ .vmem, ⟨12, _⟩ => ⟨S528x1024, .bf16⟩
  | .local _ .vmem, ⟨13, _⟩ => ⟨S528x1408, .bf16⟩
  | .local _ .vmem, ⟨14, _⟩ => ⟨S528x1408, .bf16⟩
  | .local _ .vmem, ⟨15, _⟩ => ⟨S528x1408, .f32⟩
  | .local _ .vmem, ⟨16, _⟩ => ⟨S528x1408, .f32⟩
  | .local _ .vmem, ⟨17, _⟩ => ⟨S528x1408, .f32⟩
  | .local _ .vmem, ⟨18, _⟩ => ⟨S528x1408, .f32⟩
  | .local _ .vmem, ⟨19, _⟩ => ⟨S528x1024, .bf16⟩
  | .local _ .vmem, ⟨20, _⟩ => ⟨S528x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v139 : BitVec 1 := Scalar.cmpi .eq arg1 c1_i32
  let v140 : BitVec 32 := Scalar.extui v139
  let c0_i32_130 : BitVec 32 := 0#32
  let v141 : BitVec 1 := Scalar.cmpi .ne v140 c0_i32_130
  v141

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S528x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S528x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S528x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S528x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceFfnIdeal.lean ====
abbrev S4224x1024 : Shape := ⟨2, ![4224, 1024]⟩
abbrev S1x1024 : Shape := ⟨2, ![1, 1024]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1024x2816 : Shape := ⟨2, ![1024, 2816]⟩
abbrev S4224x2816 : Shape := ⟨2, ![4224, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S2816x1024, .f32⟩
  | .hbm, ⟨21, _⟩ => ⟨S1024x2816, .f32⟩
  | .hbm, ⟨22, _⟩ => ⟨S4224x2816, .f32⟩
  | .hbm, ⟨23, _⟩ => ⟨S2816x1024, .f32⟩
  | .hbm, ⟨24, _⟩ => ⟨S1024x2816, .f32⟩
  | .hbm, ⟨25, _⟩ => ⟨S4224x2816, .f32⟩
  | .hbm, ⟨26, _⟩ => ⟨S4224x2816, .f32⟩
  | .hbm, ⟨27, _⟩ => ⟨S4224x2816, .f32⟩
  | .hbm, ⟨28, _⟩ => ⟨S_, .f32⟩
  | .hbm, ⟨29, _⟩ => ⟨S4224x2816, .f32⟩
  | .hbm, ⟨30, _⟩ => ⟨S4224x2816, .f32⟩
  | .hbm, ⟨31, _⟩ => ⟨S_, .f32⟩
  | .hbm, ⟨32, _⟩ => ⟨S4224x2816, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S2816x1024, .f32⟩
  | .hbm, ⟨37, _⟩ => ⟨S4224x1024, .f32⟩
  | .hbm, ⟨38, _⟩ => ⟨S4224x1024, .f32⟩
  | .hbm, ⟨39, _⟩ => ⟨S4224x1024, .bf16⟩
  | .hbm, ⟨40, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== KernelOpin.lean ====
abbrev S8x320x1024 : Shape := ⟨3, ![8, 320, 1024]⟩
abbrev S2x320x1024 : Shape := ⟨3, ![2, 320, 1024]⟩
abbrev S8x160x1024 : Shape := ⟨3, ![8, 160, 1024]⟩
abbrev S1x160x1024 : Shape := ⟨3, ![1, 160, 1024]⟩
abbrev S160x1024 : Shape := ⟨2, ![160, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .bf16⟩
  | .hbm, ⟨2, _⟩ => ⟨S2x320x1024, .f32⟩
  | .hbm, ⟨3, _⟩ => ⟨S2x320x1024, .f32⟩
  | .hbm, ⟨4, _⟩ => ⟨S2x320x1024, .f32⟩
  | .hbm, ⟨5, _⟩ => ⟨S2x320x1024, .f32⟩
  | .hbm, ⟨6, _⟩ => ⟨S2x320x1024, .f32⟩
  | .hbm, ⟨7, _⟩ => ⟨S2x320x1024, .f32⟩
  | .hbm, ⟨8, _⟩ => ⟨S2x320x1024, .f32⟩
  | .local _ .vmem, ⟨0, _⟩ => ⟨S8x160x1024, .bf16⟩
  | .local _ .vmem, ⟨1, _⟩ => ⟨S8x160x1024, .bf16⟩
  | .local _ .vmem, ⟨2, _⟩ => ⟨S8x160x1024, .bf16⟩
  | .local _ .vmem, ⟨3, _⟩ => ⟨S8x160x1024, .bf16⟩
  | .local _ .vmem, ⟨4, _⟩ => ⟨S1x160x1024, .f32⟩
  | .local _ .vmem, ⟨5, _⟩ => ⟨S1x160x1024, .f32⟩
  | .local _ .vmem, ⟨6, _⟩ => ⟨S1x160x1024, .f32⟩
  | .local _ .vmem, ⟨7, _⟩ => ⟨S1x160x1024, .f32⟩
  | .local _ .vmem, ⟨8, _⟩ => ⟨S1x160x1024, .f32⟩
  | .local _ .vmem, ⟨9, _⟩ => ⟨S1x160x1024, .f32⟩
  | .local _ .vmem, ⟨10, _⟩ => ⟨S1x160x1024, .f32⟩
  | .local _ .vmem, ⟨11, _⟩ => ⟨S1x160x1024, .f32⟩
  | .local _ .vmem, ⟨12, _⟩ => ⟨S1x160x1024, .f32⟩
  | .local _ .vmem, ⟨13, _⟩ => ⟨S1x160x1024, .f32⟩
  | .local _ .vmem, ⟨14, _⟩ => ⟨S1x160x1024, .f32⟩
  | .local _ .vmem, ⟨15, _⟩ => ⟨S1x160x1024, .f32⟩
  | .local _ .vmem, ⟨16, _⟩ => ⟨S1x160x1024, .f32⟩
  | .local _ .vmem, ⟨17, _⟩ => ⟨S1x160x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x160x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceOpinIdeal.lean ====
abbrev S8x320x1024 : Shape := ⟨3, ![8, 320, 1024]⟩
abbrev S2x320x1024 : Shape := ⟨3, ![2, 320, 1024]⟩
abbrev S_ : Shape := ⟨0, ![]⟩
abbrev S320x1024 : Shape := ⟨2, ![320, 1024]⟩
abbrev S1x320x1024 : Shape := ⟨3, ![1, 320, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .bf16⟩
  | .hbm, ⟨2, _⟩ => ⟨S2x320x1024, .f32⟩
  | .hbm, ⟨3, _⟩ => ⟨S2x320x1024, .f32⟩
  | .hbm, ⟨4, _⟩ => ⟨S2x320x1024, .f32⟩
  | .hbm, ⟨5, _⟩ => ⟨S8x320x1024, .f32⟩
  | .hbm, ⟨6, _⟩ => ⟨S_, .f32⟩
  | .hbm, ⟨7, _⟩ => ⟨S320x1024, .f32⟩
  | .hbm, ⟨8, _⟩ => ⟨S8x320x1024, .f32⟩
  | .hbm, ⟨9, _⟩ => ⟨S_, .f32⟩
  | .hbm, ⟨10, _⟩ => ⟨S320x1024, .f32⟩
  | .hbm, ⟨11, _⟩ => ⟨S1x320x1024, .f32⟩
  | .hbm, ⟨12, _⟩ => ⟨S1x320x1024, .f32⟩
  | .hbm, ⟨13, _⟩ => ⟨S2x320x1024, .f32⟩
  | .hbm, ⟨14, _⟩ => ⟨S_, .f32⟩
  | .hbm, ⟨15, _⟩ => ⟨S2x320x1024, .f32⟩
  | .hbm, ⟨16, _⟩ => ⟨S2x320x1024, .f32⟩
  | .hbm, ⟨17, _⟩ => ⟨S_, .f32⟩
  | .hbm, ⟨18, _⟩ => ⟨S2x320x1024, .f32⟩
  | .hbm, ⟨19, _⟩ => ⟨S2x320x1024, .f32⟩
  | .hbm, ⟨20, _⟩ => ⟨S2x320x1024, .f32⟩
  | .hbm, ⟨21, _⟩ => ⟨S_, .f32⟩
  | .hbm, ⟨22, _⟩ => ⟨S2x320x1024, .f32⟩
  | .hbm, ⟨23, _⟩ => ⟨S2x320x1024, .f32⟩
  | .hbm, ⟨24, _⟩ => ⟨S2x320x1024, .f32⟩
  | .hbm, ⟨25, _⟩ => ⟨S_, .f32⟩
  | .hbm, ⟨26, _⟩ => ⟨S2x320x1024, .f32⟩
  | .hbm, ⟨27, _⟩ => ⟨S2x320x1024, .f32⟩
  | .hbm, ⟨28, _⟩ => ⟨S2x320x1024, .f32⟩
  | .hbm, ⟨29, _⟩ => ⟨S_, .f32⟩
  | .hbm, ⟨30, _⟩ => ⟨S2x320x1024, .f32⟩
  | .hbm, ⟨31, _⟩ => ⟨S2x320x1024, .f32⟩
  | .hbm, ⟨32, _⟩ => ⟨S_, .f32⟩
  | .hbm, ⟨33, _⟩ => ⟨S2x320x1024, .f32⟩
  | .hbm, ⟨34, _⟩ => ⟨S2x320x1024, .f32⟩
  | .hbm, ⟨35, _⟩ => ⟨S2x320x1024, .f32⟩
  | .hbm, ⟨36, _⟩ => ⟨S_, .f32⟩
  | .hbm, ⟨37, _⟩ => ⟨S2x320x1024, .f32⟩
  | .hbm, ⟨38, _⟩ => ⟨S2x320x1024, .f32⟩
  | .hbm, ⟨39, _⟩ => ⟨S2x320x1024, .f32⟩
  | .hbm, ⟨40, _⟩ => ⟨S_, .f32⟩
  | .hbm, ⟨41, _⟩ => ⟨S2x320x1024, .f32⟩
  | .hbm, ⟨42, _⟩ => ⟨S2x320x1024, .f32⟩
  | .hbm, ⟨43, _⟩ => ⟨S2x320x1024, .f32⟩
  | .hbm, ⟨44, _⟩ => ⟨S_, .f32⟩
  | .hbm, ⟨45, _⟩ => ⟨S2x320x1024, .f32⟩
  | .hbm, ⟨46, _⟩ => ⟨S2x320x1024, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.DwTrips.lean ====
/- The convolution-gradient kernel's two loops, trip by trip: what each trip stores, as plain
expressions of the rows it reads. -/
module

public import proofs.«01_k».proof.Proof.Gen.KernelDwIdeal.Frame
public import proofs.«01_k».proof.Proof.Gen.KernelDwIdeal.Loops
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelDwIdeal.DwTrips

open Cert.KernelDwIdeal Cert.KernelDwIdeal.Gen

/-! ### Where the loads and stores start -/

theorem trips1 : k0_t1_loop.trips = 33 := by decide +kernel
theorem trips2 : k0_t2_loop.trips = 33 := by decide +kernel

/-- Trip `k` of the first loop reads rows from `128 k` on, and writes them 32 rows further down in
one scratch buffer and in place in the other. -/
theorem off1_eq : ∀ k : Fin k0_t1_loop.trips, k0_off1 k = ![128 * k.val, 0] := by decide +kernel
theorem off2_eq : ∀ k : Fin k0_t1_loop.trips, k0_off2 k = ![128 * k.val + 32, 0] := by decide +kernel
theorem off3_eq : ∀ k : Fin k0_t1_loop.trips, k0_off3 k = ![128 * k.val, 0] := by decide +kernel
theorem off4_eq : ∀ k : Fin k0_t2_loop.trips, k0_off4 k = ![128 * k.val, 0] := by decide +kernel
/-- The second loop's shifted loads: `r` rows past the trip's first row. -/
theorem off5_eq : ∀ (k : Fin k0_t2_loop.trips) (r : Fin 33), k0_off5 k (BitVec.ofNat 32 r.val) = ![128 * k.val + r.val, 0] := by
  decide +kernel
theorem off6_eq : ∀ k : Fin k0_t2_loop.trips, k0_off6 k = ![0, 128 * k.val, 0] := by decide +kernel
theorem off7_eq : ∀ k : Fin k0_t2_loop.trips, k0_off7 k = ![1, 128 * k.val, 0] := by decide +kernel

/-! ### Reading a matrix at row and column numbers -/

/-- The entry at row `r` and column `c`, zero off the matrix. -/
def pk {n : ℕ} (v : (⟨2, ![n, 128]⟩ : Shape).Idx → EReal) (r c : ℕ) : EReal :=
  if h : r < n ∧ c < 128 then v (ix2 ⟨r, h.1⟩ ⟨c, h.2⟩) else 0

theorem pk_eq {n : ℕ} (v : (⟨2, ![n, 128]⟩ : Shape).Idx → EReal) (y : (⟨2, ![n, 128]⟩ : Shape).Idx) (r c : ℕ)
    (h0 : (y 0).val = r) (h1 : (y 1).val = c) : v y = pk v r c := by
  subst h0 h1
  unfold pk
  rw [dif_pos ⟨(y 0).isLt, (y 1).isLt⟩]
  exact congrArg v (funext fun a => by match a with | 0 => rfl | 1 => rfl)

theorem pk_off {n : ℕ} (v : (⟨2, ![n, 128]⟩ : Shape).Idx → EReal) (r c : ℕ) (h : n ≤ r) : pk v r c = 0 :=
  dif_neg fun h' => absurd h'.1 (by omega)

/-- The logistic function as the kernel computes it. -/
def sg (g : EReal) : EReal := Ideal.div 1 (1 + Ideal.exp (0 - g))

/-- A load of whole rows from row `o` on reads the matrix at the rows `o + ·`. -/
theorem readAt_pk {n k : ℕ} (arg : Memref sig .tc .vmem ⟨2, ![n, 128]⟩ .f32) (X : BufTy.Contents (Elt Ideal) arg.view.ty)
    (off : Fin 2 → ℕ) (o : ℕ) (ho : off = ![o, 0]) (inb) (x : (⟨2, ![k, 128]⟩ : Shape).Idx) :
    arg.view.readAt (Elt Ideal) (Rect.unit (s := ⟨2, ![n, 128]⟩) off ![k, 128] inb).toLoadRect X x
      = pk (arg.view.read (Elt Ideal) X) (o + (x 0).val) (x 1).val := by
  subst ho
  rw [View.readAt_apply]
  exact pk_eq _ _ _ _ (by show o + 1 * (x 0).val = _; omega) (by show 0 + 1 * (x 1).val = _; omega)

/-! ### The specification -/

section Spec

variable (dy a g : (⟨2, ![4224, 128]⟩ : Shape).Idx → EReal) (w : (⟨2, ![32, 128]⟩ : Shape).Idx → EReal)

/-- The gated rows, pushed down by 32 zero rows. -/
def up (r c : ℕ) : EReal := if r < 32 then 0 else pk a (r - 32) c * sg (pk g (r - 32) c)

/-- The gradient of the gated rows: 31 taps over the rows from `r` on, the last tap at row `r`. -/
def du (r c : ℕ) : EReal := ∑ j ∈ Finset.range 31, pk dy (r + (30 - j)) c * pk w j c

/-- The gradients of the two halves. -/
def specDcc (y : S2x4224x128.Idx) : EReal :=
  if (y 0).val = 0 then du dy w (y 1).val (y 2).val * sg (pk g (y 1).val (y 2).val)
  else du dy w (y 1).val (y 2).val * pk a (y 1).val (y 2).val * (sg (pk g (y 1).val (y 2).val) * (1 - sg (pk g (y 1).val (y 2).val)))

/-- One trip's share of row `r` of the bias sums. -/
def dbTrip (k r c : ℕ) : EReal := ∑ q : Fin 16, pk dy (128 * k + (q.val * 8 + r)) c

/-- One trip's share of row `r` of the tap sums: 8 rows per tap, tap `r / 8`. -/
def dwTrip (k r c : ℕ) : EReal :=
  ∑ q : Fin 16, pk dy (128 * k + (q.val * 8 + r % 8)) c * up a g (128 * k + (2 + r / 8) + (q.val * 8 + r % 8)) c

/-- The bias sums. -/
def specDb (y : S8x128.Idx) : EReal := ∑ k ∈ Finset.range 33, dbTrip dy k (y 0).val (y 1).val

/-- The tap sums: tap 31 does not exist and its row is zero. -/
def specDw (y : S32x128.Idx) : EReal :=
  ∑ q : Fin 8, if (y 0).val < 31 then ∑ k ∈ Finset.range 33, dwTrip dy a g k ((y 0).val * 8 + q.val) (y 1).val else 0

end Spec

/-! ### The payloads at an index -/

theorem pay5_at (a g : Vec Ideal S128x128 .f32) (x : S128x128.Idx) : k0_pay5 a g x = a x * sg (g x) := by
  pointwise [k0_pay5]; rfl
theorem pay6_at (a : Vec Ideal S128x128 .f32) (x : S128x128.Idx) : k0_pay6 a x = a x := by
  pointwise [k0_pay6]
theorem pay8_at (a g : Vec Ideal S128x128 .f32) (x : S1x128x128.Idx) :
    k0_pay8 a (k0_pay74 g) x = a (ix2 (x 1) (x 2)) * sg (g (ix2 (x 1) (x 2))) := by
  pointwise [k0_pay8, k0_pay7, k0_pay74]; rfl
theorem pay9_at (a b g : Vec Ideal S128x128 .f32) (x : S1x128x128.Idx) : k0_pay9 a b (k0_pay74 g) x
    = a (ix2 (x 1) (x 2)) * b (ix2 (x 1) (x 2)) * (sg (g (ix2 (x 1) (x 2))) * (1 - sg (g (ix2 (x 1) (x 2))))) := by
  pointwise [k0_pay9, k0_pay7, k0_pay74]; rfl
theorem pay10_at (a : Vec Ideal S256x128 .f32) (x : S32x128.Idx) :
    k0_pay10 a x = ∑ q : Fin 8, pk a ((x 0).val * 8 + q.val) (x 1).val := by
  pointwise [k0_pay10]
  exact Finset.sum_congr rfl fun q _ => pk_eq a _ _ _ rfl rfl
/-- A tap's payload: the rows held so far, and the 16 row groups of the products. -/
theorem pay11_at (d u : Vec Ideal S128x128 .f32) (b : Vec Ideal S8x128 .f32) (x : S8x128.Idx) :
    k0_pay11 d b u x = b x + ∑ q : Fin 16, pk d (q.val * 8 + (x 0).val) (x 1).val * pk u (q.val * 8 + (x 0).val) (x 1).val := by
  pointwise [k0_pay11]
  refine congrArg (b x + ·) (Finset.sum_congr rfl fun q _ => ?_)
  exact congrArg₂ (· * ·) (pk_eq d _ _ _ rfl rfl) (pk_eq u _ _ _ rfl rfl)
theorem pay73_at (d : Vec Ideal S128x128 .f32) (b : Vec Ideal S8x128 .f32) (x : S8x128.Idx) :
    k0_pay73 d b x = b x + ∑ q : Fin 16, pk d (q.val * 8 + (x 0).val) (x 1).val := by
  pointwise [k0_pay73]
  exact congrArg (b x + ·) (Finset.sum_congr rfl fun q _ => pk_eq d _ _ _ rfl rfl)

/-- A sum of products taken one term after the other, as the second loop writes its 31 taps. -/
def taps (d : ℕ → Vec Ideal S128x128 .f32) (w : ℕ → Vec Ideal S1x128 .f32) : ℕ → FVec Ideal S128x128 .f32
  | 0 => broadcast S128x128 (Scalar.ofBits .f32 0x00000000#32)
  | n + 1 => addf (taps d w n) (mulf (d n) (broadcastTo S128x128 (w n) broadcasts_S1x128_S128x128))

theorem taps_at (d : ℕ → Vec Ideal S128x128 .f32) (w : ℕ → Vec Ideal S1x128 .f32) (x : S128x128.Idx) :
    ∀ n, taps d w n x = ∑ j ∈ Finset.range n, d j x * w j (ix2 0 (x 1))
  | 0 => by rw [Finset.sum_range_zero]; unfold taps; pointwise []
  | n + 1 => by rw [Finset.sum_range_succ, ← taps_at d w x n]; rw [taps]; pointwise []

/-! ### The trips -/

section Trips

variable (𝒱 : Variants) (c : Dev nD) (bd : Option 𝒱.V) (i : grid0.Coords)
  (arg1 : Memref sig .tc .vmem S4224x128 .f32) (harg1 : arg1.IsWhole)
  (arg2 : Memref sig .tc .vmem S4224x128 .f32) (harg2 : arg2.IsWhole)
  (arg3 : Memref sig .tc .vmem S4224x128 .f32) (harg3 : arg3.IsWhole)
  (arg4 : Memref sig .tc .vmem S32x128 .f32) (harg4 : arg4.IsWhole)
  (arg5 : Memref sig .tc .vmem S2x4224x128 .bf16) (harg5 : arg5.IsWhole)
  (arg6 : Memref sig .tc .vmem S32x128 .f32) (harg6 : arg6.IsWhole)
  (arg7 : Memref sig .tc .vmem S8x128 .f32) (harg7 : arg7.IsWhole)
  (arg8 : Memref sig .tc .vmem S4256x128 .f32) (harg8 : arg8.IsWhole)
  (arg9 : Memref sig .tc .vmem S4256x128 .f32) (harg9 : arg9.IsWhole)
  (arg10 : Memref sig .tc .vmem S256x128 .f32) (harg10 : arg10.IsWhole)

/-- What a trip of the first loop stores into the gated scratch. -/
theorem trip1_up (X1 : BufTy.Contents (Elt Ideal) arg1.view.ty) (X2 : BufTy.Contents (Elt Ideal) arg2.view.ty) (X3 : BufTy.Contents (Elt Ideal) arg3.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 X1 X2 X3 k).1
      = [⟨Rect.unit (k0_off2 k) S128x128.size (k0_off2_inb k), k0_pay5 (arg2.view.readAt (Elt Ideal) (Rect.unit (s := S4224x128) (k0_off1 k) S128x128.size (k0_off1_inb k)).toLoadRect X2)
          (arg3.view.readAt (Elt Ideal) (Rect.unit (s := S4224x128) (k0_off1 k) S128x128.size (k0_off1_inb k)).toLoadRect X3)⟩] := by
  unfold trip_k0_t1
  rfl

/-- What a trip of the first loop stores into the scratch of incoming gradients. -/
theorem trip1_dy (X1 : BufTy.Contents (Elt Ideal) arg1.view.ty) (X2 : BufTy.Contents (Elt Ideal) arg2.view.ty) (X3 : BufTy.Contents (Elt Ideal) arg3.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 X1 X2 X3 k).2.1
      = [⟨Rect.unit (k0_off3 k) S128x128.size (k0_off3_inb k), k0_pay6 (arg1.view.readAt (Elt Ideal) (Rect.unit (s := S4224x128) (k0_off1 k) S128x128.size (k0_off1_inb k)).toLoadRect X1)⟩] := by
  unfold trip_k0_t1
  rfl

/-- The rows of incoming gradients that tap `j` of trip `k` reads. -/
abbrev tapD (X9 : BufTy.Contents (Elt Ideal) arg9.view.ty) (k : Fin k0_t2_loop.trips) (j : ℕ) : Vec Ideal S128x128 .f32 :=
  (arg9.view.readAt (Elt Ideal) (Rect.unit (s := S4256x128) (k0_off5 k (BitVec.ofNat 32 (30 - j))) S128x128.size (k0_off5_inb k ⟨30 - j, by omega⟩)).toLoadRect X9)

theorem tapW_inb (j : ℕ) (a : Fin 2) : (![j % 32, 0] : Fin 2 → ℕ) a + S1x128.size a ≤ S32x128.size a := by
  match a with
  | 0 => show j % 32 + 1 ≤ 32; omega
  | 1 => show 0 + 128 ≤ 128; omega

/-- Tap `j`. -/
abbrev tapW (X4 : BufTy.Contents (Elt Ideal) arg4.view.ty) (j : ℕ) : Vec Ideal S1x128 .f32 :=
  (arg4.view.readAt (Elt Ideal) (Rect.unit (s := S32x128) (![j % 32, 0]) S1x128.size (tapW_inb j)).toLoadRect X4)

/-- What a trip of the second loop stores into the gradients of the two halves. -/
theorem trip2_dcc (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (k : Fin k0_t2_loop.trips) (f5 : BufTy.Contents (Elt Ideal) arg5.view.ty) (f7 : BufTy.Contents (Elt Ideal) arg7.view.ty) (f10 : BufTy.Contents (Elt Ideal) arg10.view.ty) :
    (trip_k0_t2 (F := Ideal) 𝒱 c bd i arg1 harg1 arg2 harg2 arg3 harg3 arg4 harg4 arg5 harg5 arg6 harg6 arg7 harg7 arg8 harg8 arg9 harg9 arg10 harg10 X1 X2 X3 X4 X8 X9 k).1 f5 f7 f10
      = [⟨Rect.unit (k0_off7 k) S1x128x128.size (k0_off7_inb k), k0_pay9 (taps (tapD arg9 X9 k) (tapW arg4 X4) 31)
            (arg2.view.readAt (Elt Ideal) (Rect.unit (s := S4224x128) (k0_off4 k) S128x128.size (k0_off4_inb k)).toLoadRect X2) (k0_pay74 (arg3.view.readAt (Elt Ideal) (Rect.unit (s := S4224x128) (k0_off4 k) S128x128.size (k0_off4_inb k)).toLoadRect X3))⟩,
          ⟨Rect.unit (k0_off6 k) S1x128x128.size (k0_off6_inb k), k0_pay8 (taps (tapD arg9 X9 k) (tapW arg4 X4) 31)
            (k0_pay74 (arg3.view.readAt (Elt Ideal) (Rect.unit (s := S4224x128) (k0_off4 k) S128x128.size (k0_off4_inb k)).toLoadRect X3))⟩] := by
  unfold trip_k0_t2
  rfl

/-- What a trip of the second loop stores into the bias sums. -/
theorem trip2_db (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (k : Fin k0_t2_loop.trips) (f5 : BufTy.Contents (Elt Ideal) arg5.view.ty) (f7 : BufTy.Contents (Elt Ideal) arg7.view.ty) (f10 : BufTy.Contents (Elt Ideal) arg10.view.ty) :
    (trip_k0_t2 (F := Ideal) 𝒱 c bd i arg1 harg1 arg2 harg2 arg3 harg3 arg4 harg4 arg5 harg5 arg6 harg6 arg7 harg7 arg8 harg8 arg9 harg9 arg10 harg10 X1 X2 X3 X4 X8 X9 k).2.1 f5 f7 f10
      = [⟨Rect.unit ![0, 0] ![8, 128] inb_S8x128_S8x128_0_0, k0_pay73 (arg1.view.readAt (Elt Ideal) (Rect.unit (s := S4224x128) (k0_off4 k) S128x128.size (k0_off4_inb k)).toLoadRect X1)
            (arg7.view.readAt (Elt Ideal) (Rect.unit (s := S8x128) ![0, 0] ![8, 128] inb_S8x128_S8x128_0_0).toLoadRect f7)⟩] := by
  unfold trip_k0_t2
  rfl

theorem slab_inb (j : Fin 31) (a : Fin 2) : (![8 * j.val, 0] : Fin 2 → ℕ) a + S8x128.size a ≤ S256x128.size a := by
  have := j.isLt
  match a with
  | 0 => show 8 * j.val + 8 ≤ 256; omega
  | 1 => show 0 + 128 ≤ 128; omega

/-- What a trip of the second loop stores for tap `j`: 8 rows of the tap sums. -/
def slab (X1 : BufTy.Contents (Elt Ideal) arg1.view.ty) (X8 : BufTy.Contents (Elt Ideal) arg8.view.ty) (k : Fin k0_t2_loop.trips)
    (f10 : BufTy.Contents (Elt Ideal) arg10.view.ty) (j : Fin 31) : View.Piece (Elt Ideal) S256x128 .f32 :=
  ⟨Rect.unit ![8 * j.val, 0] ![8, 128] (slab_inb j), k0_pay11 (arg1.view.readAt (Elt Ideal) (Rect.unit (s := S4224x128) (k0_off4 k) S128x128.size (k0_off4_inb k)).toLoadRect X1)
      (arg10.view.readAt (Elt Ideal) (Rect.unit (s := S256x128) (![8 * j.val, 0]) S8x128.size (slab_inb j)).toLoadRect f10)
      (arg8.view.readAt (Elt Ideal) (Rect.unit (s := S4256x128) (k0_off5 k (BitVec.ofNat 32 (2 + j.val))) S128x128.size (k0_off5_inb k ⟨2 + j.val, by omega⟩)).toLoadRect X8)⟩

/-- What a trip of the second loop stores into the tap sums. -/
theorem trip2_dw (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (k : Fin k0_t2_loop.trips) (f5 : BufTy.Contents (Elt Ideal) arg5.view.ty) (f7 : BufTy.Contents (Elt Ideal) arg7.view.ty) (f10 : BufTy.Contents (Elt Ideal) arg10.view.ty) :
    (trip_k0_t2 (F := Ideal) 𝒱 c bd i arg1 harg1 arg2 harg2 arg3 harg3 arg4 harg4 arg5 harg5 arg6 harg6 arg7 harg7 arg8 harg8 arg9 harg9 arg10 harg10 X1 X2 X3 X4 X8 X9 k).2.2.1 f5 f7 f10
      = [30, 29, 28, 27, 26, 25, 24, 23, 22, 21, 20, 19, 18, 17, 16, 15, 14, 13, 12, 11, 10, 9, 8, 7, 6, 5, 4, 3, 2, 1, 0].map (slab arg1 arg8 arg10 X1 X8 k f10) := by
  unfold trip_k0_t2
  rfl

end Trips

end Cert.KernelDwIdeal.DwTrips

end
-- ==== Proof.DwStates.lean ====
/- What the convolution-gradient kernel's buffers hold after its two loops. -/
module

public import proofs.«01_k».proof.Proof.Gen.KernelDwIdeal.Frame
public import proofs.«01_k».proof.Proof.Gen.KernelDwIdeal.Loops
public import proofs.«01_k».proof.Proof.DwTrips
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelDwIdeal.DwStates

open Cert.KernelDwIdeal Cert.KernelDwIdeal.Gen Cert.KernelDwIdeal.DwTrips

/-! ### One more block of rows -/

/-- Writing a block of whole rows from row `o` on, on top of other writes. -/
theorem read_cons_rows {n k : ℕ} (arg : Memref sig .tc .vmem ⟨2, ![n, 128]⟩ .f32) (f : BufTy.Contents (Elt Ideal) arg.view.ty)
    (off : Fin 2 → ℕ) (o : ℕ) (ho : off = ![o, 0]) (inb) (w : (⟨2, ![k, 128]⟩ : Shape).Idx → EReal) (W : ℕ → ℕ → EReal)
    (hw : ∀ x, w x = W (x 0).val (x 1).val) (L : List (View.Piece (Elt Ideal) ⟨2, ![n, 128]⟩ .f32))
    (y : (⟨2, ![n, 128]⟩ : Shape).Idx) :
    arg.view.read (Elt Ideal) (arg.view.writes (Elt Ideal) f (⟨Rect.unit (s := ⟨2, ![n, 128]⟩) off ![k, 128] inb, w⟩ :: L)) y
      = if o ≤ (y 0).val ∧ (y 0).val < o + k then W ((y 0).val - o) (y 1).val
        else arg.view.read (Elt Ideal) (arg.view.writes (Elt Ideal) f L) y := by
  subst ho
  split
  · rename_i h
    rw [View.read_writes_cons_hit_of_coords arg.view f (Rect.unit (s := ⟨2, ![n, 128]⟩) ![o, 0] ![k, 128] inb) w L
      (ix2 (⟨(y 0).val - o, by omega⟩ : Fin k) (⟨(y 1).val, (y 1).isLt⟩ : Fin 128)) y (fun a => ?_)]
    · exact hw _
    · match a with
      | 0 => show (y 0).val = o + 1 * ((y 0).val - o); omega
      | 1 => show (y 1).val = 0 + 1 * (y 1).val; omega
  · rename_i h
    exact View.read_writes_cons_miss_of_axis arg.view f _ L y 0 o k rfl rfl rfl (by omega)

/-- The same for one of the two halves of the gradient array. -/
theorem read_cons_half (arg : Memref sig .tc .vmem S2x4224x128 .bf16) (f : BufTy.Contents (Elt Ideal) arg.view.ty)
    (off : Fin 3 → ℕ) (s o : ℕ) (ho : off = ![s, o, 0]) (inb) (w : S1x128x128.Idx → EReal) (W : ℕ → ℕ → EReal)
    (hw : ∀ x, w x = W (x 1).val (x 2).val) (L : List (View.Piece (Elt Ideal) S2x4224x128 .bf16)) (y : S2x4224x128.Idx) :
    arg.view.read (Elt Ideal) (arg.view.writes (Elt Ideal) f (⟨Rect.unit off S1x128x128.size inb, w⟩ :: L)) y
      = if (y 0).val = s ∧ o ≤ (y 1).val ∧ (y 1).val < o + 128 then W ((y 1).val - o) (y 2).val
        else arg.view.read (Elt Ideal) (arg.view.writes (Elt Ideal) f L) y := by
  subst ho
  split
  · rename_i h
    rw [View.read_writes_cons_hit_of_coords arg.view f (Rect.unit (s := S2x4224x128) ![s, o, 0] S1x128x128.size inb) w L
      (ix3 (0 : Fin 1) (⟨(y 1).val - o, by omega⟩ : Fin 128) (⟨(y 2).val, (y 2).isLt⟩ : Fin 128)) y (fun a => ?_)]
    · exact hw _
    · match a with
      | 0 => show (y 0).val = s + 1 * 0; omega
      | 1 => show (y 1).val = o + 1 * ((y 1).val - o); omega
      | 2 => show (y 2).val = 0 + 1 * (y 2).val; omega
  · rename_i h
    by_cases hs : (y 0).val = s
    · exact View.read_writes_cons_miss_of_axis arg.view f _ L y 1 o 128 rfl rfl rfl (by omega)
    · exact View.read_writes_cons_miss_of_axis arg.view f _ L y 0 s 1 rfl rfl rfl (by omega)

/-- An entry of a load of whole rows. -/
theorem pk_readAt {n k : ℕ} (arg : Memref sig .tc .vmem ⟨2, ![n, 128]⟩ .f32) (X : BufTy.Contents (Elt Ideal) arg.view.ty)
    (off : Fin 2 → ℕ) (o : ℕ) (ho : off = ![o, 0]) (inb) (r c : ℕ) (hr : r < k) (hc : c < 128) :
    pk (n := k) (arg.view.readAt (Elt Ideal) (Rect.unit (s := ⟨2, ![n, 128]⟩) off ![k, 128] inb).toLoadRect X) r c
      = pk (arg.view.read (Elt Ideal) X) (o + r) c := by
  unfold pk
  rw [dif_pos ⟨hr, hc⟩]
  exact readAt_pk arg X off o ho inb (ix2 ⟨r, hr⟩ ⟨c, hc⟩)

/-- A matrix known entry by entry. -/
theorem pk_of {n : ℕ} (v : (⟨2, ![n, 128]⟩ : Shape).Idx → EReal) (W : ℕ → ℕ → EReal) (hv : ∀ y, v y = W (y 0).val (y 1).val)
    (r c : ℕ) (hr : r < n) (hc : c < 128) : pk v r c = W r c := by
  unfold pk
  rw [dif_pos ⟨hr, hc⟩, hv]
  rfl

section Loops

variable (𝒱 : Variants) (c : Dev nD) (bd : Option 𝒱.V) (i : grid0.Coords)
  (arg1 : Memref sig .tc .vmem S4224x128 .f32) (harg1 : arg1.IsWhole)
  (arg2 : Memref sig .tc .vmem S4224x128 .f32) (harg2 : arg2.IsWhole)
  (arg3 : Memref sig .tc .vmem S4224x128 .f32) (harg3 : arg3.IsWhole)
  (arg4 : Memref sig .tc .vmem S32x128 .f32) (harg4 : arg4.IsWhole)
  (arg5 : Memref sig .tc .vmem S2x4224x128 .bf16) (harg5 : arg5.IsWhole)
  (arg6 : Memref sig .tc .vmem S32x128 .f32) (harg6 : arg6.IsWhole)
  (arg7 : Memref sig .tc .vmem S8x128 .f32) (harg7 : arg7.IsWhole)
  (arg8 : Memref sig .tc .vmem S4256x128 .f32) (harg8 : arg8.IsWhole)
  (arg9 : Memref sig .tc .vmem S4256x128 .f32) (harg9 : arg9.IsWhole)
  (arg10 : Memref sig .tc .vmem S256x128 .f32) (harg10 : arg10.IsWhole)

/-! ### The first loop -/

/-- The gated scratch before trip `k`: the rows the trips before wrote, the others as they were. -/
theorem loop1_up (X1 : BufTy.Contents (Elt Ideal) arg1.view.ty) (X2 : BufTy.Contents (Elt Ideal) arg2.view.ty) (X3 : BufTy.Contents (Elt Ideal) arg3.view.ty) (G8 : BufTy.Contents (Elt Ideal) arg8.view.ty) (k : ℕ) (hk : k ≤ 33) (y : S4256x128.Idx) :
    arg8.view.read (Elt Ideal) (arg8.view.writes (Elt Ideal) G8 (pb_k0_t1 (F := Ideal) 𝒱 c bd i arg1 harg1 arg2 harg2 arg3 harg3 arg4 harg4 arg5 harg5 arg6 harg6 arg7 harg7 arg8 harg8 arg9 harg9 arg10 harg10 X1 X2 X3 k).1) y
      = if 32 ≤ (y 0).val ∧ (y 0).val < 128 * k + 32 then up (arg2.view.read (Elt Ideal) X2) (arg3.view.read (Elt Ideal) X3) (y 0).val (y 1).val
        else arg8.view.read (Elt Ideal) G8 y := by
  induction k with
  | zero => rw [if_neg (by omega)]; rfl
  | succ k ih =>
    have hk' : k < k0_t1_loop.trips := by rw [trips1]; omega
    have ih := ih (by omega)
    rw [pb_k0_t1_succ 𝒱 c bd i arg1 harg1 arg2 harg2 arg3 harg3 arg4 harg4 arg5 harg5 arg6 harg6 arg7 harg7 arg8 harg8 arg9 harg9 arg10 harg10 X1 X2 X3 ⟨k, hk'⟩]
    dsimp only
    rw [trip1_up, List.cons_append, List.nil_append,
      read_cons_rows arg8 G8 _ (128 * k + 32) (off2_eq ⟨k, hk'⟩) _ _
        (fun r l => up (arg2.view.read (Elt Ideal) X2) (arg3.view.read (Elt Ideal) X3) (128 * k + 32 + r) l) (fun x => ?_), ih]
    · have := (y 0).isLt
      split
      · rw [if_pos (by omega)]
        congr 1
        omega
      · split
        · rw [if_pos (by omega)]
        · rw [if_neg (by omega)]
    · rw [pay5_at, readAt_pk arg2 X2 _ (128 * k) (off1_eq ⟨k, hk'⟩), readAt_pk arg3 X3 _ (128 * k) (off1_eq ⟨k, hk'⟩), up,
        if_neg (by omega), show 128 * k + 32 + (x 0).val - 32 = 128 * k + (x 0).val from by omega]

/-- The scratch of incoming gradients before trip `k`. -/
theorem loop1_dy (X1 : BufTy.Contents (Elt Ideal) arg1.view.ty) (X2 : BufTy.Contents (Elt Ideal) arg2.view.ty) (X3 : BufTy.Contents (Elt Ideal) arg3.view.ty) (G9 : BufTy.Contents (Elt Ideal) arg9.view.ty) (k : ℕ) (hk : k ≤ 33) (y : S4256x128.Idx) :
    arg9.view.read (Elt Ideal) (arg9.view.writes (Elt Ideal) G9 (pb_k0_t1 (F := Ideal) 𝒱 c bd i arg1 harg1 arg2 harg2 arg3 harg3 arg4 harg4 arg5 harg5 arg6 harg6 arg7 harg7 arg8 harg8 arg9 harg9 arg10 harg10 X1 X2 X3 k).2) y
      = if (y 0).val < 128 * k then pk (arg1.view.read (Elt Ideal) X1) (y 0).val (y 1).val else arg9.view.read (Elt Ideal) G9 y := by
  induction k with
  | zero => rw [if_neg (by omega)]; rfl
  | succ k ih =>
    have hk' : k < k0_t1_loop.trips := by rw [trips1]; omega
    have ih := ih (by omega)
    rw [pb_k0_t1_succ 𝒱 c bd i arg1 harg1 arg2 harg2 arg3 harg3 arg4 harg4 arg5 harg5 arg6 harg6 arg7 harg7 arg8 harg8 arg9 harg9 arg10 harg10 X1 X2 X3 ⟨k, hk'⟩]
    dsimp only
    rw [trip1_dy, List.cons_append, List.nil_append,
      read_cons_rows arg9 G9 _ (128 * k) (off3_eq ⟨k, hk'⟩) _ _
        (fun r l => pk (arg1.view.read (Elt Ideal) X1) (128 * k + r) l) (fun x => ?_), ih]
    · have := (y 0).isLt
      split
      · rw [if_pos (by omega)]
        congr 1
        omega
      · split
        · rw [if_pos (by omega)]
        · rw [if_neg (by omega)]
    · rw [pay6_at, readAt_pk arg1 X1 _ (128 * k) (off1_eq ⟨k, hk'⟩)]

/-! ### The second loop -/

/-- The 31 taps of a trip are the gradient of the gated rows. -/
theorem taps_du (X4 : BufTy.Contents (Elt Ideal) arg4.view.ty) (X9 : BufTy.Contents (Elt Ideal) arg9.view.ty) (dy : (⟨2, ![4224, 128]⟩ : Shape).Idx → EReal)
    (h9 : ∀ y, arg9.view.read (Elt Ideal) X9 y = pk dy (y 0).val (y 1).val) (k : Fin k0_t2_loop.trips) (x : S128x128.Idx) :
    taps (tapD arg9 X9 k) (tapW arg4 X4) 31 x = du dy (arg4.view.read (Elt Ideal) X4) (128 * k.val + (x 0).val) (x 1).val := by
  rw [taps_at, du]
  refine Finset.sum_congr rfl fun j hj => ?_
  have hj := Finset.mem_range.mp hj
  have hk : k.val < 33 := trips2 ▸ k.isLt
  have hx : (x 0).val < 128 := (x 0).isLt
  refine congrArg₂ (· * ·) ?_ ?_
  · refine (readAt_pk arg9 X9 _ (128 * k.val + (30 - j)) (off5_eq k ⟨30 - j, by omega⟩) _ x).trans ?_
    rw [pk_of _ (fun r l => pk dy r l) h9 _ _ (by omega) (x 1).isLt, Nat.add_right_comm]
  · refine (readAt_pk arg4 X4 _ (j % 32) rfl _ (ix2 0 (x 1))).trans ?_
    rw [Nat.mod_eq_of_lt (by omega)]
    rfl

/-- The gradients of the two halves before trip `k`. -/
theorem loop2_dcc (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G7 : BufTy.Contents (Elt Ideal) arg7.view.ty) (G10 : BufTy.Contents (Elt Ideal) arg10.view.ty)
    (h9 : ∀ y, arg9.view.read (Elt Ideal) X9 y = pk (arg1.view.read (Elt Ideal) X1) (y 0).val (y 1).val) (k : ℕ) (hk : k ≤ 33) (y : S2x4224x128.Idx) :
    arg5.view.read (Elt Ideal) (arg5.view.writes (Elt Ideal) G5 (pb_k0_t2 (F := Ideal) 𝒱 c bd i arg1 harg1 arg2 harg2 arg3 harg3 arg4 harg4 arg5 harg5 arg6 harg6 arg7 harg7 arg8 harg8 arg9 harg9 arg10 harg10 X1 X2 X3 X4 X8 X9 G5 G7 G10 k).1) y
      = if (y 1).val < 128 * k then specDcc (arg1.view.read (Elt Ideal) X1) (arg2.view.read (Elt Ideal) X2) (arg3.view.read (Elt Ideal) X3) (arg4.view.read (Elt Ideal) X4) y else arg5.view.read (Elt Ideal) G5 y := by
  induction k with
  | zero => rw [if_neg (by omega)]; rfl
  | succ k ih =>
    have hk' : k < k0_t2_loop.trips := by rw [trips2]; omega
    have ih := ih (by omega)
    rw [pb_k0_t2_succ 𝒱 c bd i arg1 harg1 arg2 harg2 arg3 harg3 arg4 harg4 arg5 harg5 arg6 harg6 arg7 harg7 arg8 harg8 arg9 harg9 arg10 harg10 X1 X2 X3 X4 X8 X9 G5 G7 G10 ⟨k, hk'⟩]
    dsimp only
    rw [trip2_dcc, List.cons_append, List.cons_append, List.nil_append,
      read_cons_half arg5 G5 _ 1 (128 * k) (off7_eq ⟨k, hk'⟩) _ _
        (fun r l => du (arg1.view.read (Elt Ideal) X1) (arg4.view.read (Elt Ideal) X4) (128 * k + r) l * pk (arg2.view.read (Elt Ideal) X2) (128 * k + r) l
          * (sg (pk (arg3.view.read (Elt Ideal) X3) (128 * k + r) l) * (1 - sg (pk (arg3.view.read (Elt Ideal) X3) (128 * k + r) l)))) (fun x => ?_),
      read_cons_half arg5 G5 _ 0 (128 * k) (off6_eq ⟨k, hk'⟩) _ _
        (fun r l => du (arg1.view.read (Elt Ideal) X1) (arg4.view.read (Elt Ideal) X4) (128 * k + r) l * sg (pk (arg3.view.read (Elt Ideal) X3) (128 * k + r) l)) (fun x => ?_), ih]
    · have hy0 : (y 0).val < 2 := (y 0).isLt
      unfold specDcc
      by_cases hb : 128 * k ≤ (y 1).val ∧ (y 1).val < 128 * k + 128
      · have e : 128 * k + ((y 1).val - 128 * k) = (y 1).val := by omega
        rw [if_pos (show (y 1).val < 128 * (k + 1) by omega), e]
        by_cases h0 : (y 0).val = 0
        · rw [if_neg (by omega), if_pos ⟨h0, hb⟩, if_pos h0]
        · rw [if_pos ⟨by omega, hb⟩, if_neg h0]
      · rw [if_neg (by omega), if_neg (by omega)]
        by_cases h1 : (y 1).val < 128 * k
        · rw [if_pos h1, if_pos (show (y 1).val < 128 * (k + 1) by omega)]
        · rw [if_neg h1, if_neg (show ¬ (y 1).val < 128 * (k + 1) by omega)]
    · rw [pay8_at, taps_du arg4 arg9 X4 X9 _ h9 ⟨k, hk'⟩, readAt_pk arg3 X3 _ (128 * k) (off4_eq ⟨k, hk'⟩)]
      rfl
    · rw [pay9_at, taps_du arg4 arg9 X4 X9 _ h9 ⟨k, hk'⟩, readAt_pk arg3 X3 _ (128 * k) (off4_eq ⟨k, hk'⟩),
        readAt_pk arg2 X2 _ (128 * k) (off4_eq ⟨k, hk'⟩)]
      rfl

/-- The bias sums before trip `k`. -/
theorem loop2_db (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G7 : BufTy.Contents (Elt Ideal) arg7.view.ty) (G10 : BufTy.Contents (Elt Ideal) arg10.view.ty) (k : ℕ) (hk : k ≤ 33) (y : S8x128.Idx) :
    arg7.view.read (Elt Ideal) (arg7.view.writes (Elt Ideal) G7 (pb_k0_t2 (F := Ideal) 𝒱 c bd i arg1 harg1 arg2 harg2 arg3 harg3 arg4 harg4 arg5 harg5 arg6 harg6 arg7 harg7 arg8 harg8 arg9 harg9 arg10 harg10 X1 X2 X3 X4 X8 X9 G5 G7 G10 k).2.1) y
      = arg7.view.read (Elt Ideal) G7 y + ∑ l ∈ Finset.range k, dbTrip (arg1.view.read (Elt Ideal) X1) l (y 0).val (y 1).val := by
  induction k generalizing y with
  | zero => rw [Finset.sum_range_zero, add_zero]; rfl
  | succ k ih =>
    have hk' : k < k0_t2_loop.trips := by rw [trips2]; omega
    have ih := ih (by omega)
    have hy : (y 0).val < 8 := (y 0).isLt
    rw [pb_k0_t2_succ 𝒱 c bd i arg1 harg1 arg2 harg2 arg3 harg3 arg4 harg4 arg5 harg5 arg6 harg6 arg7 harg7 arg8 harg8 arg9 harg9 arg10 harg10 X1 X2 X3 X4 X8 X9 G5 G7 G10 ⟨k, hk'⟩]
    dsimp only
    rw [trip2_db, List.cons_append, List.nil_append, Finset.sum_range_succ, ← add_assoc, ← ih,
      read_cons_rows arg7 G7 _ 0 rfl _ _
        (fun r l => pk (arg7.view.read (Elt Ideal) (arg7.view.writes (Elt Ideal) G7 (pb_k0_t2 (F := Ideal) 𝒱 c bd i arg1 harg1 arg2 harg2 arg3 harg3 arg4 harg4 arg5 harg5 arg6 harg6 arg7 harg7 arg8 harg8 arg9 harg9 arg10 harg10 X1 X2 X3 X4 X8 X9 G5 G7 G10 k).2.1)) r l + dbTrip (arg1.view.read (Elt Ideal) X1) k r l) (fun x => ?_), if_pos (by omega)]
    · rw [Nat.sub_zero, ← pk_eq _ y _ _ rfl rfl]
    · rw [pay73_at]
      refine congrArg₂ (· + ·) ?_ (Finset.sum_congr rfl fun q _ => ?_)
      · refine (readAt_pk arg7 _ _ 0 rfl _ x).trans ?_
        rw [Nat.zero_add]
      · exact pk_readAt arg1 X1 _ (128 * k) (off4_eq ⟨k, hk'⟩) _ _ _ (by have : (x 0).val < 8 := (x 0).isLt; omega) (x 1).isLt

/-- The stores of a trip into the tap sums, some of the taps done. -/
theorem slabs_read (X1 : BufTy.Contents (Elt Ideal) arg1.view.ty) (X2 : BufTy.Contents (Elt Ideal) arg2.view.ty) (X3 : BufTy.Contents (Elt Ideal) arg3.view.ty) (X8 : BufTy.Contents (Elt Ideal) arg8.view.ty) (f10 : BufTy.Contents (Elt Ideal) arg10.view.ty) (k : ℕ) (hk : k < k0_t2_loop.trips)
    (h8 : ∀ y, arg8.view.read (Elt Ideal) X8 y = up (arg2.view.read (Elt Ideal) X2) (arg3.view.read (Elt Ideal) X3) (y 0).val (y 1).val) (L : List (Fin 31)) (G : BufTy.Contents (Elt Ideal) arg10.view.ty)
    (y : S256x128.Idx) :
    arg10.view.read (Elt Ideal) (arg10.view.writes (Elt Ideal) G (L.map (slab arg1 arg8 arg10 X1 X8 ⟨k, hk⟩ f10))) y
      = if ∃ j ∈ L, j.val = (y 0).val / 8 then
          arg10.view.read (Elt Ideal) f10 y + dwTrip (arg1.view.read (Elt Ideal) X1) (arg2.view.read (Elt Ideal) X2) (arg3.view.read (Elt Ideal) X3) k (y 0).val (y 1).val
        else arg10.view.read (Elt Ideal) G y := by
  have hk2 : k < 33 := trips2 ▸ hk
  induction L with
  | nil => rw [if_neg (by rintro ⟨_, h, _⟩; exact absurd h List.not_mem_nil)]; rfl
  | cons j L ih =>
    have hj := j.isLt
    rw [List.map_cons, slab, read_cons_rows arg10 G _ (8 * j.val) rfl _ _
        (fun r l => pk (arg10.view.read (Elt Ideal) f10) (8 * j.val + r) l + ∑ q : Fin 16,
          pk (arg1.view.read (Elt Ideal) X1) (128 * k + (q.val * 8 + r)) l
            * up (arg2.view.read (Elt Ideal) X2) (arg3.view.read (Elt Ideal) X3) (128 * k + (2 + j.val) + (q.val * 8 + r)) l) (fun x => ?_)]
    · split
      · rename_i h
        rw [if_pos ⟨j, List.mem_cons_self, by omega⟩, dwTrip, show 8 * j.val + ((y 0).val - 8 * j.val) = (y 0).val from by omega,
          ← pk_eq _ y _ _ rfl rfl]
        refine congrArg₂ (· + ·) rfl (Finset.sum_congr rfl fun q _ => ?_)
        rw [show (y 0).val - 8 * j.val = (y 0).val % 8 from by omega, show j.val = (y 0).val / 8 from by omega]
      · rename_i h
        rw [ih]
        refine if_congr ?_ rfl rfl
        constructor
        · rintro ⟨l, hl, e⟩
          exact ⟨l, List.mem_cons_of_mem _ hl, e⟩
        · rintro ⟨l, hl, e⟩
          rcases List.mem_cons.mp hl with rfl | hl
          · exact absurd e (by omega)
          · exact ⟨l, hl, e⟩
    · have hx : (x 0).val < 8 := (x 0).isLt
      rw [pay11_at]
      refine congrArg₂ (· + ·) (readAt_pk arg10 _ _ (8 * j.val) rfl _ x) (Finset.sum_congr rfl fun q _ => ?_)
      refine congrArg₂ (· * ·) ?_ ?_
      · exact pk_readAt arg1 X1 _ (128 * k) (off4_eq ⟨k, hk⟩) _ _ _ (by omega) (x 1).isLt
      · refine (pk_readAt arg8 X8 _ (128 * k + (2 + j.val)) (off5_eq ⟨k, hk⟩ ⟨2 + j.val, by omega⟩) _ _ _ (by omega) (x 1).isLt).trans ?_
        exact pk_of _ (fun r l => up (arg2.view.read (Elt Ideal) X2) (arg3.view.read (Elt Ideal) X3) r l) h8 _ _ (by omega) (x 1).isLt

/-- The tap sums before trip `k`. -/
theorem loop2_dw (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G7 : BufTy.Contents (Elt Ideal) arg7.view.ty) (G10 : BufTy.Contents (Elt Ideal) arg10.view.ty)
    (h8 : ∀ y, arg8.view.read (Elt Ideal) X8 y = up (arg2.view.read (Elt Ideal) X2) (arg3.view.read (Elt Ideal) X3) (y 0).val (y 1).val) (k : ℕ) (hk : k ≤ 33) (y : S256x128.Idx) :
    arg10.view.read (Elt Ideal) (arg10.view.writes (Elt Ideal) G10 (pb_k0_t2 (F := Ideal) 𝒱 c bd i arg1 harg1 arg2 harg2 arg3 harg3 arg4 harg4 arg5 harg5 arg6 harg6 arg7 harg7 arg8 harg8 arg9 harg9 arg10 harg10 X1 X2 X3 X4 X8 X9 G5 G7 G10 k).2.2) y
      = arg10.view.read (Elt Ideal) G10 y + if (y 0).val < 248 then
          ∑ l ∈ Finset.range k, dwTrip (arg1.view.read (Elt Ideal) X1) (arg2.view.read (Elt Ideal) X2) (arg3.view.read (Elt Ideal) X3) l (y 0).val (y 1).val else 0 := by
  induction k generalizing y with
  | zero => rw [Finset.sum_range_zero, ite_self, add_zero]; rfl
  | succ k ih =>
    have hk' : k < k0_t2_loop.trips := by rw [trips2]; omega
    have ih := ih (by omega)
    have hall : ∀ j : Fin 31, j ∈ ([30, 29, 28, 27, 26, 25, 24, 23, 22, 21, 20, 19, 18, 17, 16, 15, 14, 13, 12, 11, 10, 9, 8, 7, 6, 5, 4, 3, 2, 1, 0] : List (Fin 31)) := by decide
    rw [pb_k0_t2_succ 𝒱 c bd i arg1 harg1 arg2 harg2 arg3 harg3 arg4 harg4 arg5 harg5 arg6 harg6 arg7 harg7 arg8 harg8 arg9 harg9 arg10 harg10 X1 X2 X3 X4 X8 X9 G5 G7 G10 ⟨k, hk'⟩]
    dsimp only
    rw [trip2_dw, View.writes_append, slabs_read arg1 arg2 arg3 arg8 arg10 X1 X2 X3 X8 _ k hk' h8, ih, Finset.sum_range_succ]
    by_cases h : (y 0).val < 248
    · rw [if_pos ⟨⟨(y 0).val / 8, by omega⟩, hall _, rfl⟩, if_pos h, if_pos h, add_assoc]
    · rw [if_neg, if_neg h, if_neg h]
      rintro ⟨j, -, e⟩
      have := j.isLt
      omega

end Loops

end Cert.KernelDwIdeal.DwStates

end
-- ==== Proof.DwRun.lean ====
/- The convolution-gradient kernel's run: the body leaves the specified gradients in its three output
blocks, so the program terminates with its arguments unchanged and its result arrays at those blocks. -/
module

public import proofs.«01_k».proof.Proof.DwStates
public import Idealize.ShloMosaic.Lib.Pipeline.FrameBody
public import Idealize.ShloMosaic.Lib.Tactic

@[expose] public section

set_option maxRecDepth 16384

noncomputable section

namespace Cert.KernelDwIdeal.DwRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelDwIdeal Cert.KernelDwIdeal.Gen Cert.KernelDwIdeal.DwTrips Cert.KernelDwIdeal.DwStates

/-- The propositions the run is stated in. -/
abbrev Res := sProp (MT nD τ sig Unit (Elt Ideal) ℕ (UR sig nD τ) ℕ)

variable (m : (ℓ : Loc nD τ sig) → Buf (Elt Ideal) ℓ) (ρ : Dev nD → PrngReg)

section Buffers

variable (𝒱 : Variants) (c : Dev nD) (bd : Option 𝒱.V) (i : grid0.Coords)
  (arg1 : Memref sig .tc .vmem S4224x128 .f32) (harg1 : arg1.IsWhole)
  (arg2 : Memref sig .tc .vmem S4224x128 .f32) (harg2 : arg2.IsWhole)
  (arg3 : Memref sig .tc .vmem S4224x128 .f32) (harg3 : arg3.IsWhole)
  (arg4 : Memref sig .tc .vmem S32x128 .f32) (harg4 : arg4.IsWhole)
  (arg5 : Memref sig .tc .vmem S2x4224x128 .bf16) (harg5 : arg5.IsWhole)
  (arg6 : Memref sig .tc .vmem S32x128 .f32) (harg6 : arg6.IsWhole)
  (arg7 : Memref sig .tc .vmem S8x128 .f32) (harg7 : arg7.IsWhole)
  (arg8 : Memref sig .tc .vmem S4256x128 .f32) (harg8 : arg8.IsWhole)
  (arg9 : Memref sig .tc .vmem S4256x128 .f32) (harg9 : arg9.IsWhole)
  (arg10 : Memref sig .tc .vmem S256x128 .f32) (harg10 : arg10.IsWhole)

theorem pay1_at (x : S32x128.Idx) : k0_pay1 (F := Ideal) x = 0 := by pointwise [k0_pay1]
theorem pay2_at (x : S32x128.Idx) : k0_pay2 (F := Ideal) x = 0 := by pointwise [k0_pay2]
theorem pay3_at (x : S256x128.Idx) : k0_pay3 (F := Ideal) x = 0 := by pointwise [k0_pay3]
theorem pay4_at (x : S8x128.Idx) : k0_pay4 (F := Ideal) x = 0 := by pointwise [k0_pay4]

/-- The gated scratch once the first loop is done. -/
theorem up_done (X1 : BufTy.Contents (Elt Ideal) arg1.view.ty) (X2 : BufTy.Contents (Elt Ideal) arg2.view.ty) (X3 : BufTy.Contents (Elt Ideal) arg3.view.ty) (G8 : BufTy.Contents (Elt Ideal) arg8.view.ty) (y : S4256x128.Idx) :
    arg8.view.read (Elt Ideal) (arg8.view.writes (Elt Ideal) G8 ((pb_k0_t1 (F := Ideal) 𝒱 c bd i arg1 harg1 arg2 harg2 arg3 harg3 arg4 harg4 arg5 harg5 arg6 harg6 arg7 harg7 arg8 harg8 arg9 harg9 arg10 harg10 X1 X2 X3 (Scf.trips k0_t1_loop.lb k0_t1_loop.ub k0_t1_loop.st)).1 ++ [⟨Rect.unit ![0, 0] S32x128.size inb_S4256x128_S32x128_0_0, (k0_pay1 (F := Ideal))⟩])) y
      = up (arg2.view.read (Elt Ideal) X2) (arg3.view.read (Elt Ideal) X3) (y 0).val (y 1).val := by
  have hy : (y 0).val < 4256 := (y 0).isLt
  rw [View.writes_append, show Scf.trips k0_t1_loop.lb k0_t1_loop.ub k0_t1_loop.st = 33 from trips1,
    loop1_up 𝒱 c bd i arg1 harg1 arg2 harg2 arg3 harg3 arg4 harg4 arg5 harg5 arg6 harg6 arg7 harg7 arg8 harg8 arg9 harg9 arg10 harg10 X1 X2 X3 _ 33 le_rfl]
  by_cases h : 32 ≤ (y 0).val
  · rw [if_pos ⟨h, by omega⟩]
  · rw [if_neg (by omega), read_cons_rows arg8 G8 _ 0 rfl _ _ (fun _ _ => 0) pay1_at, if_pos (by omega), up, if_pos (by omega)]

/-- The scratch of incoming gradients once the first loop is done. -/
theorem dy_done (X1 : BufTy.Contents (Elt Ideal) arg1.view.ty) (X2 : BufTy.Contents (Elt Ideal) arg2.view.ty) (X3 : BufTy.Contents (Elt Ideal) arg3.view.ty) (G9 : BufTy.Contents (Elt Ideal) arg9.view.ty) (y : S4256x128.Idx) :
    arg9.view.read (Elt Ideal) (arg9.view.writes (Elt Ideal) G9 ((pb_k0_t1 (F := Ideal) 𝒱 c bd i arg1 harg1 arg2 harg2 arg3 harg3 arg4 harg4 arg5 harg5 arg6 harg6 arg7 harg7 arg8 harg8 arg9 harg9 arg10 harg10 X1 X2 X3 (Scf.trips k0_t1_loop.lb k0_t1_loop.ub k0_t1_loop.st)).2 ++ [⟨Rect.unit ![4224, 0] S32x128.size inb_S4256x128_S32x128_4224_0, (k0_pay2 (F := Ideal))⟩])) y
      = pk (arg1.view.read (Elt Ideal) X1) (y 0).val (y 1).val := by
  have hy : (y 0).val < 4256 := (y 0).isLt
  rw [View.writes_append, show Scf.trips k0_t1_loop.lb k0_t1_loop.ub k0_t1_loop.st = 33 from trips1,
    loop1_dy 𝒱 c bd i arg1 harg1 arg2 harg2 arg3 harg3 arg4 harg4 arg5 harg5 arg6 harg6 arg7 harg7 arg8 harg8 arg9 harg9 arg10 harg10 X1 X2 X3 _ 33 le_rfl]
  by_cases h : (y 0).val < 4224
  · rw [if_pos h]
  · rw [if_neg (by omega), read_cons_rows arg9 G9 _ 4224 rfl _ _ (fun _ _ => 0) pay2_at, if_pos (by omega), pk_off _ _ _ (by omega)]

/-- The gradients of the two halves once the second loop is done. -/
theorem dcc_done (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G7 : BufTy.Contents (Elt Ideal) arg7.view.ty) (G10 : BufTy.Contents (Elt Ideal) arg10.view.ty) (h9 : ∀ y, arg9.view.read (Elt Ideal) X9 y = pk (arg1.view.read (Elt Ideal) X1) (y 0).val (y 1).val) :
    arg5.view.read (Elt Ideal) (arg5.view.writes (Elt Ideal) G5 (pb_k0_t2 (F := Ideal) 𝒱 c bd i arg1 harg1 arg2 harg2 arg3 harg3 arg4 harg4 arg5 harg5 arg6 harg6 arg7 harg7 arg8 harg8 arg9 harg9 arg10 harg10 X1 X2 X3 X4 X8 X9 G5 G7 G10 (Scf.trips k0_t2_loop.lb k0_t2_loop.ub k0_t2_loop.st)).1) = specDcc (arg1.view.read (Elt Ideal) X1) (arg2.view.read (Elt Ideal) X2) (arg3.view.read (Elt Ideal) X3) (arg4.view.read (Elt Ideal) X4) := by
  funext y
  have hy : (y 1).val < 4224 := (y 1).isLt
  rw [show Scf.trips k0_t2_loop.lb k0_t2_loop.ub k0_t2_loop.st = 33 from trips2,
    loop2_dcc 𝒱 c bd i arg1 harg1 arg2 harg2 arg3 harg3 arg4 harg4 arg5 harg5 arg6 harg6 arg7 harg7 arg8 harg8 arg9 harg9 arg10 harg10 X1 X2 X3 X4 X8 X9 G5 G7 G10 h9 33 le_rfl, if_pos (by omega)]

/-- The bias sums once the second loop is done. -/
theorem db_done (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G7 : BufTy.Contents (Elt Ideal) arg7.view.ty) (G10 : BufTy.Contents (Elt Ideal) arg10.view.ty) (J : BufTy.Contents (Elt Ideal) arg7.view.ty)
    (hG : G7 = arg7.view.writes (Elt Ideal) J [⟨Rect.unit ![0, 0] S8x128.size inb_S8x128_S8x128_0_0, (k0_pay4 (F := Ideal))⟩]) :
    arg7.view.read (Elt Ideal) (arg7.view.writes (Elt Ideal) J ((pb_k0_t2 (F := Ideal) 𝒱 c bd i arg1 harg1 arg2 harg2 arg3 harg3 arg4 harg4 arg5 harg5 arg6 harg6 arg7 harg7 arg8 harg8 arg9 harg9 arg10 harg10 X1 X2 X3 X4 X8 X9 G5 G7 G10 (Scf.trips k0_t2_loop.lb k0_t2_loop.ub k0_t2_loop.st)).2.1 ++ [⟨Rect.unit ![0, 0] S8x128.size inb_S8x128_S8x128_0_0, (k0_pay4 (F := Ideal))⟩])) = specDb (arg1.view.read (Elt Ideal) X1) := by
  funext y
  have hy : (y 0).val < 8 := (y 0).isLt
  rw [show Scf.trips k0_t2_loop.lb k0_t2_loop.ub k0_t2_loop.st = 33 from trips2, View.writes_append, ← hG,
    loop2_db 𝒱 c bd i arg1 harg1 arg2 harg2 arg3 harg3 arg4 harg4 arg5 harg5 arg6 harg6 arg7 harg7 arg8 harg8 arg9 harg9 arg10 harg10 X1 X2 X3 X4 X8 X9 G5 G7 G10 33 le_rfl, hG,
    read_cons_rows arg7 J _ 0 rfl _ _ (fun _ _ => 0) pay4_at, if_pos (by omega), zero_add]
  rfl

/-- The tap sums once the second loop is done. -/
theorem dw_done (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G7 : BufTy.Contents (Elt Ideal) arg7.view.ty) (G10 : BufTy.Contents (Elt Ideal) arg10.view.ty) (h8 : ∀ y, arg8.view.read (Elt Ideal) X8 y = up (arg2.view.read (Elt Ideal) X2) (arg3.view.read (Elt Ideal) X3) (y 0).val (y 1).val) (J : BufTy.Contents (Elt Ideal) arg10.view.ty)
    (hG : G10 = arg10.view.writes (Elt Ideal) J [⟨Rect.unit ![0, 0] S256x128.size inb_S256x128_S256x128_0_0, (k0_pay3 (F := Ideal))⟩]) (y : S256x128.Idx) :
    arg10.view.read (Elt Ideal) (arg10.view.writes (Elt Ideal) J ((pb_k0_t2 (F := Ideal) 𝒱 c bd i arg1 harg1 arg2 harg2 arg3 harg3 arg4 harg4 arg5 harg5 arg6 harg6 arg7 harg7 arg8 harg8 arg9 harg9 arg10 harg10 X1 X2 X3 X4 X8 X9 G5 G7 G10 (Scf.trips k0_t2_loop.lb k0_t2_loop.ub k0_t2_loop.st)).2.2 ++ [⟨Rect.unit ![0, 0] S256x128.size inb_S256x128_S256x128_0_0, (k0_pay3 (F := Ideal))⟩])) y
      = if (y 0).val < 248 then
          ∑ l ∈ Finset.range 33, dwTrip (arg1.view.read (Elt Ideal) X1) (arg2.view.read (Elt Ideal) X2) (arg3.view.read (Elt Ideal) X3) l (y 0).val (y 1).val else 0 := by
  have hy : (y 0).val < 256 := (y 0).isLt
  rw [show Scf.trips k0_t2_loop.lb k0_t2_loop.ub k0_t2_loop.st = 33 from trips2, View.writes_append, ← hG,
    loop2_dw 𝒱 c bd i arg1 harg1 arg2 harg2 arg3 harg3 arg4 harg4 arg5 harg5 arg6 harg6 arg7 harg7 arg8 harg8 arg9 harg9 arg10 harg10 X1 X2 X3 X4 X8 X9 G5 G7 G10 h8 33 le_rfl, hG,
    read_cons_rows arg10 J _ 0 rfl _ _ (fun _ _ => 0) pay3_at, if_pos (by omega), zero_add]

/-- A whole block written last is what the buffer holds. -/
theorem read_whole (w : S32x128.Idx → EReal) (J : BufTy.Contents (Elt Ideal) arg6.view.ty) :
    arg6.view.read (Elt Ideal) (arg6.view.writes (Elt Ideal) J [⟨Rect.unit ![0, 0] S32x128.size inb_S32x128_S32x128_0_0, w⟩]) = w := by
  funext y
  have hy : (y 0).val < 32 := (y 0).isLt
  rw [read_cons_rows arg6 J _ 0 rfl _ _ (fun r l => pk w r l) (fun x => pk_eq w x _ _ rfl rfl), if_pos (by omega)]
  exact (pk_eq w y _ _ rfl rfl).symm

/-- The sum over the 8 rows of each tap. -/
theorem pay10_dw (v : Vec Ideal S256x128 .f32) (dy a g : (⟨2, ![4224, 128]⟩ : Shape).Idx → EReal)
    (hv : ∀ y, v y = if (y 0).val < 248 then ∑ l ∈ Finset.range 33, dwTrip dy a g l (y 0).val (y 1).val else 0) :
    k0_pay10 v = specDw dy a g := by
  funext x
  have hx : (x 0).val < 32 := (x 0).isLt
  rw [pay10_at]
  refine Finset.sum_congr rfl fun q _ => ?_
  have hq := q.isLt
  rw [pk_of v (fun r l => if r < 248 then ∑ t ∈ Finset.range 33, dwTrip dy a g t r l else 0) hv _ _ (by omega) (x 1).isLt]
  exact if_congr (by omega) rfl rfl

end Buffers

set_option maxHeartbeats 1000000 in
/-- The body: it keeps its inputs, and leaves the gradients of the two halves, the tap sums and the bias
sums of what it read. -/
theorem body_run (c : Dev nD) (i : grid0.Coords) (arg1 : Memref sig .tc .vmem S4224x128 .f32) (harg1 : arg1.IsWhole) (arg2 : Memref sig .tc .vmem S4224x128 .f32) (harg2 : arg2.IsWhole) (arg3 : Memref sig .tc .vmem S4224x128 .f32) (harg3 : arg3.IsWhole) (arg4 : Memref sig .tc .vmem S32x128 .f32) (harg4 : arg4.IsWhole) (arg5 : Memref sig .tc .vmem S2x4224x128 .bf16) (harg5 : arg5.IsWhole) (arg6 : Memref sig .tc .vmem S32x128 .f32) (harg6 : arg6.IsWhole) (arg7 : Memref sig .tc .vmem S8x128 .f32) (harg7 : arg7.IsWhole) (arg8 : Memref sig .tc .vmem S4256x128 .f32) (harg8 : arg8.IsWhole) (arg9 : Memref sig .tc .vmem S4256x128 .f32) (harg9 : arg9.IsWhole) (arg10 : Memref sig .tc .vmem S256x128 .f32) (harg10 : arg10.IsWhole)
    (x0 x1 x2 : Vec Ideal S4224x128 .f32) (x3 : Vec Ideal S32x128 .f32) (E : Set ℕ) (K : PUnit → Res) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (specDcc x0 x1 x2 x3) ∗ owns (c : Thread nD τ) arg6 fullShare (specDw x0 x1 x2) ∗ owns (c : Thread nD τ) arg7 fullShare (specDb x0) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := Ideal)) Variants.none c none) E (cc0_conv_bwd_dw i arg1 harg1 arg2 harg2 arg3 harg3 arg4 harg4 arg5 harg5 arg6 harg6 arg7 harg7 arg8 harg8 arg9 harg9 arg10 harg10) K := by
  simp only [cc0_conv_bwd_dw_eq_skeleton]; unfold cc0_conv_bwd_dw_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  subst hf0 hf1 hf2 hf3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    exact dcc_done Variants.none c none i arg1 harg1 arg2 harg2 arg3 harg3 arg4 harg4 arg5 harg5 arg6 harg6 arg7 harg7 arg8 harg8 arg9 harg9 arg10 harg10
      _ _ _ _ _ _ _ _ _ (dy_done Variants.none c none i arg1 harg1 arg2 harg2 arg3 harg3 arg4 harg4 arg5 harg5 arg6 harg6 arg7 harg7 arg8 harg8 arg9 harg9 arg10 harg10 _ _ _ _)
  isplitl [H5]
  · iexists _; isplitr; swap; · iexact H5
    ipureintro
    sl_unfold_words
    rw [read_whole]
    refine pay10_dw _ _ _ _ fun y => ?_
    unfold View.readCov
    rw [View.readAt_apply, show (Rect.unit (s := S256x128) ![0, 0] S256x128.size inb_S256x128_S256x128_0_0).toLoadRect.idx y = y from
      funext fun a => Fin.ext (by match a with | 0 => exact (Nat.zero_add _).trans (Nat.one_mul _) | 1 => exact (Nat.zero_add _).trans (Nat.one_mul _))]
    exact dw_done Variants.none c none i arg1 harg1 arg2 harg2 arg3 harg3 arg4 harg4 arg5 harg5 arg6 harg6 arg7 harg7 arg8 harg8 arg9 harg9 arg10 harg10
      _ _ _ _ _ _ _ _ _ (up_done Variants.none c none i arg1 harg1 arg2 harg2 arg3 harg3 arg4 harg4 arg5 harg5 arg6 harg6 arg7 harg7 arg8 harg8 arg9 harg9 arg10 harg10 _ _ _ _) _ rfl y
  isplitl [H6]
  · iexists _; isplitr; swap; · iexact H6
    ipureintro
    sl_unfold_words
    exact db_done Variants.none c none i arg1 harg1 arg2 harg2 arg3 harg3 arg4 harg4 arg5 harg5 arg6 harg6 arg7 harg7 arg8 harg8 arg9 harg9 arg10 harg10
      _ _ _ _ _ _ _ _ _ _ rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-! ### The staging and scratch memrefs -/

abbrev st0 (t : Fin cfg0.N) : Memref sig .tc .vmem S4224x128 .f32 := win0_0.stage (cfg0.slots t 0)
abbrev st1 (t : Fin cfg0.N) : Memref sig .tc .vmem S4224x128 .f32 := win0_1.stage (cfg0.slots t 1)
abbrev st2 (t : Fin cfg0.N) : Memref sig .tc .vmem S4224x128 .f32 := win0_2.stage (cfg0.slots t 2)
abbrev st3 (t : Fin cfg0.N) : Memref sig .tc .vmem S32x128 .f32 := win0_3.stage (cfg0.slots t 3)
abbrev st4 (t : Fin cfg0.N) : Memref sig .tc .vmem S2x4224x128 .bf16 := win0_4.stage (cfg0.slots t 4)
abbrev st5 (t : Fin cfg0.N) : Memref sig .tc .vmem S32x128 .f32 := win0_5.stage (cfg0.slots t 5)
abbrev st6 (t : Fin cfg0.N) : Memref sig .tc .vmem S8x128 .f32 := win0_6.stage (cfg0.slots t 6)

/-- What the region keeps between points: the three scratch buffers at some contents. -/
theorem kept_eq (c : Dev nD) :
    (Pipeline.ΦA spec0 c : Res)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]
  simp only [owns_whole]
  try rfl

/-- The proof data: the inputs' blocks stay, and each output's block is its gradient of the input blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => specDcc (iblk m c 0 t) (iblk m c 1 t) (iblk m c 2 t) (iblk m c 3 t)
    | ⟨5, _⟩ => specDw (iblk m c 0 t) (iblk m c 1 t) (iblk m c 2 t)
    | ⟨6, _⟩ => specDb (iblk m c 0 t)
  Φ _ := Pipeline.ΦA spec0 c
  q w := Pipeline.shareOf spec0 w
  owed _ := 0

theorem arr_eq (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) :
    (dats m 0 c).after 4 t = specDcc (iblk m c 0 t) (iblk m c 1 t) (iblk m c 2 t) (iblk m c 3 t) := by dsimp only [dats]
theorem left5 (c : Dev nD) (t : Fin cfg0.N) :
    (dats m 0 c).after 5 t = specDw (iblk m c 0 t) (iblk m c 1 t) (iblk m c 2 t) := by dsimp only [dats]
theorem left6 (c : Dev nD) (t : Fin cfg0.N) : (dats m 0 c).after 6 t = specDb (iblk m c 0 t) := by dsimp only [dats]

theorem found0 (c : Dev nD) (t : Fin cfg0.N) (d) : (dats m 0 c).before 0 t d = iblk m c 0 t :=
  before0_0_of m (dats m 0 c) (arr_eq m c 0) (left0 m c) t d
theorem found1 (c : Dev nD) (t : Fin cfg0.N) (d) : (dats m 0 c).before 1 t d = iblk m c 1 t :=
  before0_1_of m (dats m 0 c) (arr_eq m c 1) (left1 m c) t d
theorem found2 (c : Dev nD) (t : Fin cfg0.N) (d) : (dats m 0 c).before 2 t d = iblk m c 2 t :=
  before0_2_of m (dats m 0 c) (arr_eq m c 2) (left2 m c) t d
theorem found3 (c : Dev nD) (t : Fin cfg0.N) (d) : (dats m 0 c).before 3 t d = iblk m c 3 t :=
  before0_3_of m (dats m 0 c) (arr_eq m c 3) (left3 m c) t d

/-- What the body is called with at a point, -/
def atStart (c : Dev nD) (t : Fin cfg0.N) : Res :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and what it hands back. -/
def atEnd (c : Dev nD) (t : Fin cfg0.N) : Res :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

set_option maxHeartbeats 800000 in
/-- The body at any point. -/
theorem body_at (c : Dev nD) (t : Fin cfg0.N) :
    atStart m c t ⊢ wp frame (wpE (defs₀ (F := Ideal)) Variants.none c none) Set.univ (bodyAt0 t) (fun _ => atEnd m c t) := by
  unfold atStart atEnd bodyAt0
  simp only [found0, found1, found2, found3]
  rw [show (dats m 0 c).Φ t.succ = (dats m 0 c).Φ t.castSucc from rfl,
    show (dats m 0 c).owesAt () t.succ = (dats m 0 c).owesAt () t.castSucc from rfl,
    left0, left1, left2, left3, left4, left5, left6]
  rw [show (dats m 0 c).Φ t.castSucc = Pipeline.ΦA spec0 c from rfl, kept_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg0.N) :
    defs₀ (F := Ideal) .tc cfg0.body (cfg0.bodyArgs t (cfg0.slots t)) = bodyAt0 t := by
  unfold defs₀
  rw [Defs.onTc_tc]

/-- The obligation of the region's body. -/
theorem body_ok (c : Dev nD) : BodyObligation (dats m 0 c) (defs₀ (F := Ideal)) Variants.none () Set.univ := fun t => by
  rw [bigSep_W0, bigSep_W0, body_row]
  exact triple_restated (body_at m c t) rfl .rfl fun _ => .rfl

set_option backward.isDefEq.respectTransparency.types false in
/-- The whole program's run: it ends with its arrays as the proof data says and every counter at zero. -/
theorem run_quiet : θ_run defs (onTc (τ := τ) (main (F := Ideal))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := arr_eq m) (hΦ := fun _ _ => rfl)

/-- The run without the counters. -/
theorem run_main : θ_run defs (onTc (τ := τ) (main (F := Ideal))) (s₀ m ρ) (Pipeline.FramePost cfgs (dats m) 0 (V m)) :=
  (θ_run defs _ _).mono (fun _ h => h.1) (run_quiet m ρ)

/-- The frame: the program terminates, its arguments unchanged and its counters at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arr_eq m) (run_main m ρ)) ((θ_run defs _ _).mono (fun _ h => h.2) (run_quiet m ρ))

end Cert.KernelDwIdeal.DwRun

end
-- ==== Proof.DwRef.lean ====
/- The reference of the gated convolution's gradient, read entry by entry: its 31 padded terms are sums
over the taps, its 31 column sums are sums over the rows. -/
module

public import proofs.«01_k».proof.Proof.Gen.ReferenceDwIdeal.Run
public import Idealize.ShloMosaic.Lib.Pipeline.ValueKit

@[expose] public section

set_option maxRecDepth 16384

noncomputable section

open Idealize.ShloMosaic Idealize.ShloMosaic.TcCoe Idealize.SL.Sem

namespace Cert.ReferenceDwIdeal.DwRef

open Cert.ReferenceDwIdeal Cert.ReferenceDwIdeal.Gen Cert.ReferenceDwIdeal.Value

/-! ### Reading a matrix at row and column numbers -/

/-- The entry at row `r` and column `c`, zero off the matrix. -/
def pm {n w : ℕ} (v : (⟨2, ![n, w]⟩ : Shape).Idx → EReal) (r c : ℕ) : EReal :=
  if h : r < n ∧ c < w then v (ix2 ⟨r, h.1⟩ ⟨c, h.2⟩) else 0

theorem pm_eq {n w : ℕ} (v : (⟨2, ![n, w]⟩ : Shape).Idx → EReal) (y : (⟨2, ![n, w]⟩ : Shape).Idx) (r c : ℕ)
    (h0 : (y 0).val = r) (h1 : (y 1).val = c) : v y = pm v r c := by
  subst h0 h1
  unfold pm
  rw [dif_pos ⟨(y 0).isLt, (y 1).isLt⟩]
  exact congrArg v (funext fun a => by match a with | 0 => rfl | 1 => rfl)

theorem pm_off {n w : ℕ} (v : (⟨2, ![n, w]⟩ : Shape).Idx → EReal) (r c : ℕ) (h : n ≤ r) : pm v r c = 0 :=
  dif_neg fun h' => absurd h'.1 (by omega)

theorem pm_of {n w : ℕ} (v : (⟨2, ![n, w]⟩ : Shape).Idx → EReal) (f : ℕ → ℕ → EReal) (hv : ∀ y, v y = f (y 0).val (y 1).val)
    (r c : ℕ) (hr : r < n) (hc : c < w) : pm v r c = f r c := by
  unfold pm
  rw [dif_pos ⟨hr, hc⟩, hv]
  rfl

/-- Rows of zeros put above and below. -/
theorem pad_rows {n N w : ℕ} (lo hi : ℕ) (x : (⟨2, ![n, w]⟩ : Shape).Idx → EReal) {u : Shape} (v : u.Idx → EReal) (hv : ∀ i, v i = 0)
    (h : (⟨2, ![n, w]⟩ : Shape).Pads ![lo, 0] ![hi, 0] ![0, 0] ⟨2, ![N, w]⟩) (hu : 0 < u.numel) (y : (⟨2, ![N, w]⟩ : Shape).Idx) :
    pad ⟨2, ![N, w]⟩ ![lo, 0] ![hi, 0] ![0, 0] x v h hu y = if lo ≤ (y 0).val then pm x ((y 0).val - lo) (y 1).val else 0 := by
  have hy : (y 1).val < w := (y 1).isLt
  rw [pad_apply]
  split
  · rename_i hin
    have h0 := hin 0
    have e : lo ≤ (y 0).val := h0.1
    rw [if_pos e]
    refine pm_eq x _ _ _ ?_ ?_
    · show ((y 0).val - lo) / (0 + 1) = _
      rw [Nat.zero_add, Nat.div_one]
    · show ((y 1).val - 0) / (0 + 1) = _
      rw [Nat.zero_add, Nat.div_one, Nat.sub_zero]
  · rename_i hin
    rw [hv]
    by_cases e : lo ≤ (y 0).val
    · rw [if_pos e, pm_off]
      by_contra hc
      refine hin fun a => ?_
      match a with
      | 0 => exact ⟨e, Nat.mod_one _, by show ((y 0).val - lo) / (0 + 1) < n; rw [Nat.zero_add, Nat.div_one]; omega⟩
      | 1 => exact ⟨Nat.zero_le _, Nat.mod_one _, by show ((y 1).val - 0) / (0 + 1) < w; rw [Nat.zero_add, Nat.div_one]; omega⟩
    · rw [if_neg e]

/-! ### The shapes of the 31 terms -/

theorem slice_w : ∀ j : Fin 31, S32x512.Slices ![j.val, 0] S1x512 := by decide
theorem slice_u : ∀ j : Fin 31, S4254x512.Slices ![j.val, 0] S4224x512 := by decide
theorem pads_du : ∀ j : Fin 31, S4224x512.Pads (![j.val, 0] : Fin 2 → Nat) ![30 - j.val, 0] ![0, 0] S4254x512 := by decide
theorem pads_dw : ∀ j : Fin 31, S1x512.Pads (![j.val, 0] : Fin 2 → Nat) ![31 - j.val, 0] ![0, 0] S32x512 := by decide

variable (DY : FVec Ideal S4224x512 .f32) (A : FVec Ideal S4224x1024 .f32) (W : FVec Ideal S32x512 .f32)

/-! ### The gradient of the gated rows -/

/-- The product of tap `j` with the incoming gradient. -/
def tapRow (j : Fin 31) : FVec Ideal S4224x512 .f32 :=
  mulf DY (broadcastInDim S4224x512 ![0, 1] bcast_S1x512_S4224x512_0_1
    (broadcastInDim S1x512 ![1] bcast_S512_S1x512_1 (shapeCast _ (extractStridedSlice S1x512 ![j.val, 0] W (slice_w j)) shapeCasts_S1x512_S512)))

theorem tapRow_at (j : Fin 31) (x : S4224x512.Idx) : tapRow DY W j x = pm DY (x 0).val (x 1).val * pm W j.val (x 1).val := by
  rw [← pm_eq DY x _ _ rfl rfl]
  pointwise [tapRow]
  exact congrArg (DY x * ·) (pm_eq W _ _ _ (by rfl) (by rfl))

/-- The same put back in its rows of the padded array. -/
def tapTerm (j : Fin 31) : FVec Ideal S4254x512 .f32 :=
  pad S4254x512 ![j.val, 0] ![30 - j.val, 0] ![0, 0] (tapRow DY W j) (constant S_ .f32 0x00000000#32) (pads_du j) h_S_

/-- The sum of the terms, the last tap first. -/
def tapSum : ℕ → FVec Ideal S4254x512 .f32
  | 0 => tapTerm DY W ⟨30, by omega⟩
  | n + 1 => addf (tapSum n) (tapTerm DY W ⟨29 - n, by omega⟩)

theorem zero_at (i : S_.Idx) : constant (F := Ideal) S_ .f32 0x00000000#32 i = 0 := by pointwise []

theorem tapTerm_at (j : Fin 31) (y : S4254x512.Idx) (hy : 30 ≤ (y 0).val) :
    tapTerm DY W j y = pm DY ((y 0).val - 30 + (30 - j.val)) (y 1).val * pm W j.val (y 1).val := by
  have hj := j.isLt
  have e : (y 0).val - j.val = (y 0).val - 30 + (30 - j.val) := by omega
  unfold tapTerm
  rw [pad_rows _ _ _ _ zero_at, if_pos (by omega), e]
  by_cases h : (y 0).val - 30 + (30 - j.val) < 4224
  · exact pm_of _ (fun r l => pm DY r l * pm W j.val l) (tapRow_at DY W j) _ _ h (y 1).isLt
  · rw [pm_off _ _ _ (by omega), pm_off _ _ _ (by omega), zero_mul]

theorem tapSum_at (y : S4254x512.Idx) (hy : 30 ≤ (y 0).val) : ∀ n, n ≤ 30 →
    tapSum DY W n y = ∑ k ∈ Finset.range (n + 1), pm DY ((y 0).val - 30 + (30 - (30 - k))) (y 1).val * pm W (30 - k) (y 1).val
  | 0, _ => by rw [Finset.sum_range_one]; exact tapTerm_at DY W ⟨30, by omega⟩ y hy
  | n + 1, h => by
    rw [Finset.sum_range_succ, ← tapSum_at y hy n (by omega)]
    refine congrArg (tapSum DY W n y + ·) ((tapTerm_at DY W ⟨29 - n, by omega⟩ y hy).trans ?_)
    rw [show 30 - (n + 1) = 29 - n from by omega]

/-- The gradient of the gated rows as the reference has it. -/
def refDu : FVec Ideal S4224x512 .f32 := extractStridedSlice S4224x512 ![30, 0] (tapSum DY W 30) slices_S4254x512_S4224x512_30_0

theorem refDu_at (y : S4224x512.Idx) :
    refDu DY W y = ∑ j ∈ Finset.range 31, pm DY ((y 0).val + (30 - j)) (y 1).val * pm W j (y 1).val := by
  have hy : (y 0).val < 4224 := (y 0).isLt
  have e : refDu DY W y = tapSum DY W 30 (ix2 (⟨30 + (y 0).val, by omega⟩ : Fin 4254) (y 1)) := by pointwise [refDu]
  rw [e, tapSum_at DY W _ (Nat.le_add_right 30 _) 30 le_rfl,
    ← Finset.sum_range_reflect (fun j => pm DY ((y 0).val + (30 - j)) (y 1).val * pm W j (y 1).val) 31]
  refine Finset.sum_congr rfl fun k hk => ?_
  rw [show 31 - 1 - k = 30 - k from rfl]
  exact congrArg (pm DY · _ * _) (congrArg (· + (30 - (30 - k))) (Nat.add_sub_cancel_left 30 (y 0).val))

/-! ### The gated rows -/

/-- The logistic function as the reference computes it. -/
def lg (g : EReal) : EReal := Ideal.div 1 (1 + Ideal.exp (-g))

def refSig : FVec Ideal S4224x512 .f32 :=
  Host.divf (broadcastInDim S4224x512 ![] bcast_S_S4224x512 (constant S_ .f32 0x3F800000#32)) (addf (broadcastInDim S4224x512 ![] bcast_S_S4224x512 (constant S_ .f32 0x3F800000#32)) (Host.exp (Host.negf (extractStridedSlice S4224x512 ![0, 512] A slices_S4224x1024_S4224x512_0_512))))

theorem refSig_at (y : S4224x512.Idx) : refSig A y = lg (pm A (y 0).val (512 + (y 1).val)) := by
  pointwise [refSig]
  exact congrArg lg (pm_eq A _ _ _ rfl rfl)

def refA : FVec Ideal S4224x512 .f32 := extractStridedSlice S4224x512 ![0, 0] A slices_S4224x1024_S4224x512_0_0

theorem refA_at (y : S4224x512.Idx) : refA A y = pm A (y 0).val (y 1).val := by
  pointwise [refA]
  exact pm_eq A _ _ _ (by rfl) (by rfl)

/-- The gated rows below 30 rows of zeros. -/
def refUp : FVec Ideal S4254x512 .f32 :=
  concatenate S4254x512 0 [⟨S30x512, (broadcastInDim S30x512 ![] bcast_S_S30x512 (constant S_ .f32 0x00000000#32))⟩, ⟨S4224x512, (mulf (refA A) (refSig A))⟩] concatenates_S30x512_S4224x512_S4254x512_d0

theorem refUp_at (y : S4254x512.Idx) : refUp A y
    = if (y 0).val < 30 then 0 else pm A ((y 0).val - 30) (y 1).val * lg (pm A ((y 0).val - 30) (512 + (y 1).val)) := by
  have hy : (y 0).val < 4254 := (y 0).isLt
  pointwise [refUp]
  split
  · rfl
  · exact congrArg₂ (· * ·) ((refA_at A _).trans rfl) ((refSig_at A _).trans rfl)

/-! ### The tap sums -/

/-- The column sums of tap `j`. -/
def colRow (j : Fin 31) : FVec Ideal S1x512 .f32 :=
  broadcastInDim S1x512 ![1] bcast_S512_S1x512_1 (Host.reduceAdd (shapeCast _ (Host.reduceAdd
    (mulf (extractStridedSlice S4224x512 ![j.val, 0] (refUp A) (slice_u j)) DY) (constant S_ .f32 0x00000000#32) reducesTo_S4224x512_S512_d0 h_S_)
      shapeCasts_S512_S1x512) (constant S_ .f32 0x00000000#32) reducesTo_S1x512_S512_d0 h_S_)

theorem colRow_at (j : Fin 31) (x : S1x512.Idx) :
    colRow DY A j x = ∑ l ∈ Finset.range 4224, pm (refUp A) (j.val + l) (x 1).val * pm DY l (x 1).val := by
  rw [← Fin.sum_univ_eq_sum_range (fun l => pm (refUp A) (j.val + l) (x 1).val * pm DY l (x 1).val)]
  pointwise [colRow]
  refine (Fintype.sum_unique _).trans (Finset.sum_congr rfl fun l _ => ?_)
  exact congrArg₂ (· * ·) (pm_eq _ _ _ _ (by rfl) (by rfl)) (pm_eq _ _ _ _ (by rfl) (by rfl))

def colTerm (j : Fin 31) : FVec Ideal S32x512 .f32 :=
  pad S32x512 ![j.val, 0] ![31 - j.val, 0] ![0, 0] (colRow DY A j) (constant S_ .f32 0x00000000#32) (pads_dw j) h_S_

/-- The sum of the terms, the last tap first. -/
def colSum : ℕ → FVec Ideal S32x512 .f32
  | 0 => colTerm DY A ⟨30, by omega⟩
  | n + 1 => addf (colSum n) (colTerm DY A ⟨29 - n, by omega⟩)

theorem colTerm_at (j : Fin 31) (y : S32x512.Idx) :
    colTerm DY A j y = if (y 0).val = j.val then
      ∑ l ∈ Finset.range 4224, pm (refUp A) ((y 0).val + l) (y 1).val * pm DY l (y 1).val else 0 := by
  unfold colTerm
  rw [pad_rows _ _ _ _ zero_at]
  by_cases h : (y 0).val = j.val
  · rw [if_pos (le_of_eq h.symm), if_pos h, h, Nat.sub_self]
    exact pm_of _ (fun r k => ∑ l ∈ Finset.range 4224, pm (refUp A) (j.val + l) k * pm DY l k) (colRow_at DY A j) 0 _ Nat.one_pos (y 1).isLt
  · rw [if_neg h]
    split
    · exact pm_off _ _ _ (by omega)
    · rfl

theorem colSum_at (y : S32x512.Idx) : ∀ n, n ≤ 30 → colSum DY A n y = if 30 - n ≤ (y 0).val ∧ (y 0).val < 31 then
      ∑ l ∈ Finset.range 4224, pm (refUp A) ((y 0).val + l) (y 1).val * pm DY l (y 1).val else 0
  | 0, _ => (colTerm_at DY A ⟨30, by omega⟩ y).trans (if_congr (by dsimp only; omega) rfl rfl)
  | n + 1, h => by
    show colSum DY A n y + colTerm DY A ⟨29 - n, by omega⟩ y = _
    rw [colSum_at y n (by omega), colTerm_at]
    dsimp only
    by_cases h1 : (y 0).val = 29 - n
    · rw [if_neg (by omega), if_pos h1, if_pos (by omega), zero_add]
    · rw [if_neg h1, add_zero]
      exact if_congr (by omega) rfl rfl

/-! ### The three results -/

def refDcc : FVec Ideal S2x4224x512 .bf16 :=
  truncf .bf16 (concatenate S2x4224x512 0 [⟨S1x4224x512, (broadcastInDim S1x4224x512 ![1, 2] bcast_S4224x512_S1x4224x512_1_2 (mulf (refDu DY W) (refSig A)))⟩,
    ⟨S1x4224x512, (broadcastInDim S1x4224x512 ![1, 2] bcast_S4224x512_S1x4224x512_1_2 (mulf (mulf (refA A) (refDu DY W)) (mulf (refSig A) (subf (broadcastInDim S4224x512 ![] bcast_S_S4224x512 (constant S_ .f32 0x3F800000#32)) (refSig A)))))⟩] concatenates_S1x4224x512_S1x4224x512_S2x4224x512_d0) bitsLt_bf16_f32

def refDb : FVec Ideal S8x512 .f32 :=
  Host.reduceAdd (broadcastInDim S1x8x512 ![1, 2] bcast_S8x512_S1x8x512_1_2 (Host.reduceAdd (shapeCast _ (shapeCast _ DY shapeCasts_S4224x512_S4224x512) shapeCasts_S4224x512_S528x8x512) (constant S_ .f32 0x00000000#32) reducesTo_S528x8x512_S8x512_d0 h_S_)) (constant S_ .f32 0x00000000#32) reducesTo_S1x8x512_S8x512_d0 h_S_

theorem refDb_at (y : S8x512.Idx) : refDb DY y = ∑ n ∈ Finset.range 528, pm DY (n * 8 + (y 0).val) (y 1).val := by
  rw [← Fin.sum_univ_eq_sum_range (fun n => pm DY (n * 8 + (y 0).val) (y 1).val)]
  pointwise [refDb]
  exact (Fintype.sum_unique _).trans (Finset.sum_congr rfl fun l _ => pm_eq _ _ _ _ (by rfl) (by rfl))

theorem refDcc_at (y : S2x4224x512.Idx) : refDcc DY A W y
    = if (y 0).val = 0 then refDu DY W (ix2 (y 1) (y 2)) * lg (pm A (y 1).val (512 + (y 2).val))
      else pm A (y 1).val (y 2).val * refDu DY W (ix2 (y 1) (y 2))
        * (lg (pm A (y 1).val (512 + (y 2).val)) * (1 - lg (pm A (y 1).val (512 + (y 2).val)))) := by
  pointwise [refDcc, refSig_at, refA_at]
  simp only [Nat.lt_one_iff, dite_eq_ite]

/-- A reshape to the same shape changes nothing. -/
theorem same (x : FVec Ideal S4224x512 .f32) : shapeCast S4224x512 x shapeCasts_S4224x512_S4224x512 = x := by
  funext y
  pointwise []

/-- The reference's printed results are these three. -/
theorem dcc_eq (V0 : Valuation τ sig (Elt Ideal)) : truncf .bf16 (concatenate Cert.ReferenceDwIdeal.S2x4224x512 0 [⟨Cert.ReferenceDwIdeal.S1x4224x512, (broadcastInDim Cert.ReferenceDwIdeal.S1x4224x512 ![1, 2] Cert.ReferenceDwIdeal.Gen.bcast_S4224x512_S1x4224x512_1_2 (mulf (res_main_v584 V0) (res_main_v8 V0)))⟩, ⟨Cert.ReferenceDwIdeal.S1x4224x512, (broadcastInDim Cert.ReferenceDwIdeal.S1x4224x512 ![1, 2] Cert.ReferenceDwIdeal.Gen.bcast_S4224x512_S1x4224x512_1_2 (mulf (mulf (res_main_v0 V0) (res_main_v584 V0)) (mulf (res_main_v8 V0) (subf (broadcastInDim Cert.ReferenceDwIdeal.S4224x512 ![] Cert.ReferenceDwIdeal.Gen.bcast_S_S4224x512 (constant Cert.ReferenceDwIdeal.S_ .f32 0x3F800000#32)) (res_main_v8 V0)))))⟩] Cert.ReferenceDwIdeal.Gen.concatenates_S1x4224x512_S1x4224x512_S2x4224x512_d0) Cert.ReferenceDwIdeal.Gen.bitsLt_bf16_f32
    = refDcc (V0 (Proc.devRef .tc main_arg0)) (V0 (Proc.devRef .tc main_arg1)) (V0 (Proc.devRef .tc main_arg2)) := by
  unfold res_main_v584 res_main_v582 res_main_v439
  exact congrArg (refDcc · _ _) (same (V0 (Proc.devRef .tc main_arg0)))
theorem dw_eq (V0 : Valuation τ sig (Elt Ideal)) : addf (res_main_v569 V0) (pad Cert.ReferenceDwIdeal.S32x512 ![0, 0] ![31, 0] ![0, 0] (broadcastInDim Cert.ReferenceDwIdeal.S1x512 ![1] Cert.ReferenceDwIdeal.Gen.bcast_S512_S1x512_1 (Host.reduceAdd (shapeCast _ (Host.reduceAdd (mulf (res_main_v16 V0) (res_main_v238 V0)) (constant Cert.ReferenceDwIdeal.S_ .f32 0x00000000#32) Cert.ReferenceDwIdeal.Gen.reducesTo_S4224x512_S512_d0 Cert.ReferenceDwIdeal.Gen.h_S_) Cert.ReferenceDwIdeal.Gen.shapeCasts_S512_S1x512) (constant Cert.ReferenceDwIdeal.S_ .f32 0x00000000#32) Cert.ReferenceDwIdeal.Gen.reducesTo_S1x512_S512_d0 Cert.ReferenceDwIdeal.Gen.h_S_)) (constant Cert.ReferenceDwIdeal.S_ .f32 0x00000000#32) Cert.ReferenceDwIdeal.Gen.pads_S1x512_S32x512_0310_000 Cert.ReferenceDwIdeal.Gen.h_S_)
    = colSum (V0 (Proc.devRef .tc main_arg0)) (V0 (Proc.devRef .tc main_arg1)) 30 := by
  unfold res_main_v569 res_main_v459 res_main_v349
  exact congrArg (colSum · _ 30) (same (V0 (Proc.devRef .tc main_arg0)))
theorem db_eq (V0 : Valuation τ sig (Elt Ideal)) : Host.reduceAdd (broadcastInDim Cert.ReferenceDwIdeal.S1x8x512 ![1, 2] Cert.ReferenceDwIdeal.Gen.bcast_S8x512_S1x8x512_1_2 (Host.reduceAdd (shapeCast _ (shapeCast _ (V0 (Proc.devRef .tc main_arg0)) Cert.ReferenceDwIdeal.Gen.shapeCasts_S4224x512_S4224x512) Cert.ReferenceDwIdeal.Gen.shapeCasts_S4224x512_S528x8x512) (constant Cert.ReferenceDwIdeal.S_ .f32 0x00000000#32) Cert.ReferenceDwIdeal.Gen.reducesTo_S528x8x512_S8x512_d0 Cert.ReferenceDwIdeal.Gen.h_S_)) (constant Cert.ReferenceDwIdeal.S_ .f32 0x00000000#32) Cert.ReferenceDwIdeal.Gen.reducesTo_S1x8x512_S8x512_d0 Cert.ReferenceDwIdeal.Gen.h_S_
    = refDb (V0 (Proc.devRef .tc main_arg0)) := rfl

/-- The reference's run: its result arrays are these three, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v591) = refDcc (m ((c.tc : Thread nD τ).loc main_arg0)) (m ((c.tc : Thread nD τ).loc main_arg1)) (m ((c.tc : Thread nD τ).loc main_arg2))
      ∧ r.2.mem ((c.tc : Thread nD τ).loc main_v580) = colSum (m ((c.tc : Thread nD τ).loc main_arg0)) (m ((c.tc : Thread nD τ).loc main_arg1)) 30
      ∧ r.2.mem ((c.tc : Thread nD τ).loc main_v243) = refDb (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (dcc_eq _), (h c).2.1.trans (dw_eq _), (h c).2.2.1.trans (db_eq _), (h c).2.2.2⟩)
    (Value.run (F := Ideal) m ρ)

end Cert.ReferenceDwIdeal.DwRef

end
-- ==== Proof.DwValue.lean ====
/- The gradients of the gated convolution: the kernel's three result arrays, read off its run, are the reference's.
   Each of the four grid points holds 128 columns; the kernel sums the rows 128 at a time, 8 of them apart. -/
module

public import proofs.«01_k».proof.Proof.DwRun
public import proofs.«01_k».proof.Proof.DwRef
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelDwIdeal.DwValue

open Cert.KernelDwIdeal Cert.KernelDwIdeal.Gen Cert.KernelDwIdeal.DwTrips Cert.KernelDwIdeal.DwRun
open Cert.ReferenceDwIdeal.DwRef (pm pm_off refDcc refDcc_at refDu refDu_at refUp refUp_at colSum colSum_at refDb refDb_at lg)

variable (m : (ℓ : Loc nD τ sig) → Buf (Elt Ideal) ℓ)

/-! ### Sums taken in pieces -/

/-- Pieces of `n` terms make the whole sum. -/
theorem sum_pieces (n : ℕ) (g : ℕ → EReal) : ∀ K, ∑ k ∈ Finset.range K, ∑ q : Fin n, g (n * k + q.val) = ∑ i ∈ Finset.range (n * K), g i
  | 0 => rfl
  | K + 1 => by
    rw [Finset.sum_range_succ, sum_pieces n g K, Nat.mul_succ, Finset.sum_range_add, Fin.sum_univ_eq_sum_range (fun q => g (n * K + q))]

/-- The rows `r`, `r + 8`, …, sixteen of them at a time. -/
theorem sum_eighth (f : ℕ → EReal) (r : ℕ) :
    ∑ k ∈ Finset.range 33, ∑ q : Fin 16, f (128 * k + (q.val * 8 + r)) = ∑ n ∈ Finset.range 528, f (n * 8 + r) := by
  rw [← sum_pieces 16 (fun n => f (n * 8 + r)) 33]
  exact Finset.sum_congr rfl fun k _ => Finset.sum_congr rfl fun q _ => congrArg f (by ring)

/-- The eight of them together are all rows. -/
theorem sum_all (f : ℕ → EReal) :
    ∑ q : Fin 8, ∑ k ∈ Finset.range 33, ∑ q' : Fin 16, f (128 * k + (q'.val * 8 + q.val)) = ∑ l ∈ Finset.range 4224, f l := by
  simp only [sum_eighth]
  rw [Finset.sum_comm, ← sum_pieces 8 f 528]
  exact Finset.sum_congr rfl fun n _ => Finset.sum_congr rfl fun q _ => congrArg f (by ring)

/-! ### The blocks -/

/-- The block index of each window at each grid point. -/
theorem idx : ∀ t : Fin cfg0.N, win0_0.index t = ![0, t.val] ∧ win0_1.index t = ![0, t.val] ∧ win0_2.index t = ![0, t.val + 4]
    ∧ win0_3.index t = ![0, t.val] ∧ win0_4.index t = ![0, 0, t.val] ∧ win0_5.index t = ![0, t.val] ∧ win0_6.index t = ![0, t.val] :=
  (by decide +kernel : ∀ t : Fin grid0.N, _)

theorem lg_eq (g : EReal) : sg g = lg g := by unfold sg lg; rw [zero_sub]

variable (c : Dev nD) (t : Fin cfg0.N)

/-- The argument arrays: the incoming gradient, the two halves side by side, the taps. -/
abbrev gr : FVec Ideal S4224x512 .f32 := m ((c : Thread nD τ).loc main_arg0)
abbrev halves : FVec Ideal S4224x1024 .f32 := m ((c : Thread nD τ).loc main_arg1)
abbrev tap : FVec Ideal S32x512 .f32 := m ((c : Thread nD τ).loc main_arg2)

/-- A block's entry is the array's, 128 columns to a block. -/
theorem col0 (r l : ℕ) (hl : l < 128) : pk (iblk m c 0 t) r l = pm (gr m c) r (t.val * 128 + l) := by
  have ht : t.val < 4 := t.isLt
  by_cases h : r < 4224
  · unfold pk pm
    rw [dif_pos ⟨h, hl⟩, dif_pos ⟨h, by omega⟩]
    blk_point [iblk, V, idx t]
  · rw [pk_off _ _ _ (by omega), pm_off _ _ _ (by omega)]

theorem col1 (r l : ℕ) (hl : l < 128) : pk (iblk m c 1 t) r l = pm (halves m c) r (t.val * 128 + l) := by
  have ht : t.val < 4 := t.isLt
  by_cases h : r < 4224
  · unfold pk pm
    rw [dif_pos ⟨h, hl⟩, dif_pos ⟨h, by omega⟩]
    blk_point [iblk, V, idx t]
  · rw [pk_off _ _ _ (by omega), pm_off _ _ _ (by omega)]

theorem col2 (r l : ℕ) (hl : l < 128) : pk (iblk m c 2 t) r l = pm (halves m c) r (512 + (t.val * 128 + l)) := by
  have ht : t.val < 4 := t.isLt
  by_cases h : r < 4224
  · unfold pk pm
    rw [dif_pos ⟨h, hl⟩, dif_pos ⟨h, by omega⟩]
    blk_point [iblk, V, idx t]
  · rw [pk_off _ _ _ (by omega), pm_off _ _ _ (by omega)]

theorem col3 (r l : ℕ) (hl : l < 128) : pk (iblk m c 3 t) r l = pm (tap m c) r (t.val * 128 + l) := by
  have ht : t.val < 4 := t.isLt
  by_cases h : r < 32
  · unfold pk pm
    rw [dif_pos ⟨h, hl⟩, dif_pos ⟨h, by omega⟩]
    blk_point [iblk, V, idx t]
  · rw [pk_off _ _ _ (by omega), pm_off _ _ _ (by omega)]

/-- Where a block's entries lie in the result arrays. -/
theorem at6 (y) : (((win0_6.blk t).view.emb y) 0).val = (y 0).val ∧ (((win0_6.blk t).view.emb y) 1).val = t.val * 128 + (y 1).val :=
  ⟨(win0_6.rect_emb_val t y 0).trans (by rw [idx t |>.2.2.2.2.2.2]; exact Nat.zero_add _),
   (win0_6.rect_emb_val t y 1).trans (by rw [idx t |>.2.2.2.2.2.2]; rfl)⟩

theorem at5 (y) : (((win0_5.blk t).view.emb y) 0).val = (y 0).val ∧ (((win0_5.blk t).view.emb y) 1).val = t.val * 128 + (y 1).val :=
  ⟨(win0_5.rect_emb_val t y 0).trans (by rw [idx t |>.2.2.2.2.2.1]; exact Nat.zero_add _),
   (win0_5.rect_emb_val t y 1).trans (by rw [idx t |>.2.2.2.2.2.1]; rfl)⟩

theorem at4 (y) : (((win0_4.blk t).view.emb y) 0).val = (y 0).val ∧ (((win0_4.blk t).view.emb y) 1).val = (y 1).val
    ∧ (((win0_4.blk t).view.emb y) 2).val = t.val * 128 + (y 2).val :=
  ⟨(win0_4.rect_emb_val t y 0).trans (by rw [idx t |>.2.2.2.2.1]; exact Nat.zero_add _),
   (win0_4.rect_emb_val t y 1).trans (by rw [idx t |>.2.2.2.2.1]; exact Nat.zero_add _),
   (win0_4.rect_emb_val t y 2).trans (by rw [idx t |>.2.2.2.2.1]; rfl)⟩

/-! ### The three results -/

/-- The gated rows: the kernel puts 32 zero rows above them, the reference 30. -/
theorem up_eq (r l : ℕ) (hr : r < 4254) (hl : l < 128) :
    up (iblk m c 1 t) (iblk m c 2 t) (2 + r) l = pm (refUp (halves m c)) r (t.val * 128 + l) := by
  have ht : t.val < 4 := t.isLt
  rw [Cert.ReferenceDwIdeal.DwRef.pm_of _ (fun r l => if r < 30 then 0 else pm (halves m c) (r - 30) l * lg (pm (halves m c) (r - 30) (512 + l)))
    (refUp_at (halves m c)) r (t.val * 128 + l) hr (by omega)]
  unfold up
  by_cases h : r < 30
  · rw [if_pos (by omega), if_pos h]
  · rw [if_neg (by omega), if_neg h, show 2 + r - 32 = r - 30 from by omega, col1 m c t _ _ hl, col2 m c t _ _ hl, lg_eq]

/-- The gradient of the gated rows. -/
theorem du_eq (y : S4224x512.Idx) (r l : ℕ) (hl : l < 128) (h0 : (y 0).val = r) (h1 : (y 1).val = t.val * 128 + l) :
    du (iblk m c 0 t) (iblk m c 3 t) r l = refDu (gr m c) (tap m c) y := by
  rw [refDu_at, h0, h1]
  unfold du
  exact Finset.sum_congr rfl fun j _ => by rw [col0 m c t _ _ hl, col3 m c t _ _ hl]

theorem final_dcc : (dats m 0 c).arrAt 4 (cfgs 0).N = refDcc (gr m c) (halves m c) (tap m c) := by
  refine (dats m 0 c).arrAt_eq_of_covers 4 _ (by decide +kernel) fun t hf y => ?_
  blk_simp
  rw [left4]
  obtain ⟨e0, e1, e2⟩ := at4 t y
  have hl : (y 2).val < 128 := (y 2).isLt
  rw [refDcc_at, e0, e1, e2, ← du_eq m c t _ (y 1).val (y 2).val hl e1 e2, ← col1 m c t _ _ hl, ← col2 m c t _ _ hl, ← lg_eq]
  unfold specDcc
  rw [mul_comm (pk (iblk m c 1 t) _ _)]

/-- A tap's sum: all 4224 rows. -/
theorem specDw_at (y : S32x128.Idx) : specDw (iblk m c 0 t) (iblk m c 1 t) (iblk m c 2 t) y
    = if 30 - 30 ≤ (y 0).val ∧ (y 0).val < 31 then
      ∑ l ∈ Finset.range 4224, pm (refUp (halves m c)) ((y 0).val + l) (t.val * 128 + (y 1).val) * pm (gr m c) l (t.val * 128 + (y 1).val) else 0 := by
  have hl : (y 1).val < 128 := (y 1).isLt
  unfold specDw
  by_cases h : (y 0).val < 31
  · rw [if_pos ⟨Nat.zero_le _, h⟩]
    simp only [if_pos h]
    rw [← sum_all]
    refine Finset.sum_congr rfl fun q _ => Finset.sum_congr rfl fun k hk => Finset.sum_congr rfl fun q' _ => ?_
    have hk := Finset.mem_range.mp hk
    have hq := q.isLt
    have hq' := q'.isLt
    rw [show ((y 0).val * 8 + q.val) % 8 = q.val from by omega, show ((y 0).val * 8 + q.val) / 8 = (y 0).val from by omega,
      show 128 * k + (2 + (y 0).val) + (q'.val * 8 + q.val) = 2 + ((y 0).val + (128 * k + (q'.val * 8 + q.val))) from by omega,
      up_eq m c t _ _ (by omega) hl, col0 m c t _ _ hl, mul_comm]
  · rw [if_neg fun h' => h h'.2]
    simp only [if_neg h]
    exact Finset.sum_const_zero

theorem final_dw : (dats m 0 c).arrAt 5 (cfgs 0).N = colSum (gr m c) (halves m c) 30 := by
  refine (dats m 0 c).arrAt_eq_of_covers 5 _ (by decide +kernel) fun t hf y => ?_
  blk_simp
  rw [left5]
  obtain ⟨e0, e1⟩ := at5 t y
  rw [colSum_at _ _ _ 30 le_rfl, e0, e1]
  exact specDw_at m c t y

theorem final_db : (dats m 0 c).arrAt 6 (cfgs 0).N = refDb (gr m c) := by
  refine (dats m 0 c).arrAt_eq_of_covers 6 _ (by decide +kernel) fun t hf y => ?_
  blk_simp
  rw [left6]
  obtain ⟨e0, e1⟩ := at6 t y
  have hl : (y 1).val < 128 := (y 1).isLt
  rw [refDb_at, e0, e1]
  simp only [← col0 m c t _ _ hl]
  exact sum_eighth (fun n => pk (iblk m c 0 t) n (y 1).val) (y 0).val

end Cert.KernelDwIdeal.DwValue

end
-- ==== Proof.DwFrame.lean ====
/- The convolution-gradient kernel over any numbers: whatever its body leaves in its output blocks, the program terminates
with its arguments unchanged and its counters at zero. -/
module

public import proofs.«01_k».proof.Proof.Gen.KernelDw.Frame
public import proofs.«01_k».proof.Proof.Gen.KernelDw.Loops
public import proofs.«01_k».proof.Proof.Gen.KernelDw.Skeleton
public import Idealize.ShloMosaic.Lib.Pipeline.FrameBody
public import Idealize.ShloMosaic.Lib.Tactic
public import Idealize.ShloMosaic.Lib.Claim

@[expose] public section

set_option maxRecDepth 16384

noncomputable section

namespace Cert.KernelDw.DwFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelDw Cert.KernelDw.Gen

variable {F : FTy → Type} [FloatOps F]

/-- The propositions the run is stated in. -/
abbrev Res (F : FTy → Type) := sProp (MT nD τ sig Unit (Elt F) ℕ (UR sig nD τ) ℕ)

/-- A buffer held whole, at contents that are not named. -/
abbrev some_ {s : Shape} {e : EltTy} (c : Dev nD) (arg : Memref sig .tc .vmem s e) : Res F := iprop(∃ d, owns (c : Thread nD τ) arg fullShare d)

/-- A buffer held whole, at contents `x`. -/
abbrev at_ {s : Shape} {e : EltTy} (c : Dev nD) (arg : Memref sig .tc .vmem s e) (x : Vec F s e) : Res F := iprop(owns (c : Thread nD τ) arg fullShare x)

variable (m : (ℓ : Loc nD τ sig) → Buf (Elt F) ℓ) (ρ : Dev nD → PrngReg)

section Body

variable (c : Dev nD) (i : grid0.Coords)
  (arg1 : Memref sig .tc .vmem S4224x128 .f32) (harg1 : arg1.IsWhole)
  (arg2 : Memref sig .tc .vmem S4224x128 .f32) (harg2 : arg2.IsWhole)
  (arg3 : Memref sig .tc .vmem S4224x128 .f32) (harg3 : arg3.IsWhole)
  (arg4 : Memref sig .tc .vmem S32x128 .f32) (harg4 : arg4.IsWhole)
  (arg5 : Memref sig .tc .vmem S2x4224x128 .bf16) (harg5 : arg5.IsWhole)
  (arg6 : Memref sig .tc .vmem S32x128 .f32) (harg6 : arg6.IsWhole)
  (arg7 : Memref sig .tc .vmem S8x128 .f32) (harg7 : arg7.IsWhole)
  (arg8 : Memref sig .tc .vmem S4256x128 .f32) (harg8 : arg8.IsWhole)
  (arg9 : Memref sig .tc .vmem S4256x128 .f32) (harg9 : arg9.IsWhole)
  (arg10 : Memref sig .tc .vmem S256x128 .f32) (harg10 : arg10.IsWhole)
  (x0 x1 x2 : Vec F S4224x128 .f32) (x3 : Vec F S32x128 .f32)

/-- The buffers of a point: the inputs at their blocks, the rest at anything. -/
abbrev bufs : Res F :=
  iprop(at_ c arg1 x0 ∗ at_ c arg2 x1 ∗ at_ c arg3 x2 ∗ at_ c arg4 x3 ∗ some_ c arg5 ∗ some_ c arg6 ∗ some_ c arg7 ∗ some_ c arg8 ∗ some_ c arg9 ∗ some_ c arg10)

set_option maxHeartbeats 1000000 in
/-- The body runs on those buffers and hands them back, its inputs as they were. -/
theorem body_keeps (E : Set ℕ) (K : PUnit → Res F) :
    iprop(bufs c arg1 arg2 arg3 arg4 arg5 arg6 arg7 arg8 arg9 arg10 x0 x1 x2 x3 ∗ (bufs c arg1 arg2 arg3 arg4 arg5 arg6 arg7 arg8 arg9 arg10 x0 x1 x2 x3 -∗ K ⟨⟩))
      ⊢ wp frame (wpE (defs₀ (F := F)) Variants.none c none) E (cc0_conv_bwd_dw i arg1 harg1 arg2 harg2 arg3 harg3 arg4 harg4 arg5 harg5 arg6 harg6 arg7 harg7 arg8 harg8 arg9 harg9 arg10 harg10) K := by
  simp only [cc0_conv_bwd_dw_eq_skeleton]; unfold cc0_conv_bwd_dw_skel
  unfold bufs at_ some_ owns
  iintro ⟨⟨⟨%f0, %h0, H0⟩, ⟨%f1, %h1, H1⟩, ⟨%f2, %h2, H2⟩, ⟨%f3, %h3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩⟩, Hk⟩
  subst h0 h1 h2 h3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

end Body

/-- What the region keeps between points: the three scratch buffers at some contents. -/
theorem kept_eq (c : Dev nD) : (Pipeline.ΦA spec0 c : Res F)
    = iprop(iprop(some_ c (Memref.whole cc0_scratch0) ∗ some_ c (Memref.whole cc0_scratch1) ∗ some_ c (Memref.whole cc0_scratch2)) ∗ (∃ r, prngReg c r)) := by
  unfold Pipeline.ΦA
  rw [scopedRest0_eq]
  unfold some_
  simp only [owns_whole]
  try rfl

/-- The three windows whose contents are not named. -/
def unread : Fin 7 → Bool := fun w => w.val == 4 || w.val == 5 || w.val == 6

/-- The proof data: the inputs' blocks stay, and nothing is said of the outputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q w := Pipeline.shareOf spec0 w
  owed _ := 0

theorem arr_eq (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem found0 (c : Dev nD) (t : Fin cfg0.N) (d) : (dats m 0 c).before 0 t d = iblk m c 0 t := before0_0_of m (dats m 0 c) (arr_eq m c 0) (left0 m c) t d
theorem found1 (c : Dev nD) (t : Fin cfg0.N) (d) : (dats m 0 c).before 1 t d = iblk m c 1 t := before0_1_of m (dats m 0 c) (arr_eq m c 1) (left1 m c) t d
theorem found2 (c : Dev nD) (t : Fin cfg0.N) (d) : (dats m 0 c).before 2 t d = iblk m c 2 t := before0_2_of m (dats m 0 c) (arr_eq m c 2) (left2 m c) t d
theorem found3 (c : Dev nD) (t : Fin cfg0.N) (d) : (dats m 0 c).before 3 t d = iblk m c 3 t := before0_3_of m (dats m 0 c) (arr_eq m c 3) (left3 m c) t d

/-- What the body is called with at a point, -/
def atStart (c : Dev nD) (t : Fin cfg0.N) : Res F :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ some_ c (win0_4.stage (cfg0.slots t 4))
    ∗ some_ c (win0_5.stage (cfg0.slots t 5))
    ∗ some_ c (win0_6.stage (cfg0.slots t 6)))

/-- and what it hands back. -/
def atEnd (c : Dev nD) (t : Fin cfg0.N) : Res F :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ some_ c (win0_4.stage (cfg0.slots t 4))
    ∗ some_ c (win0_5.stage (cfg0.slots t 5))
    ∗ some_ c (win0_6.stage (cfg0.slots t 6)))

set_option maxHeartbeats 800000 in
/-- The body at any point. -/
theorem body_at (c : Dev nD) (t : Fin cfg0.N) :
    atStart m c t ⊢ wp frame (wpE (defs₀ (F := F)) Variants.none c none) Set.univ (bodyAt0 t) (fun _ => atEnd m c t) := by
  unfold atStart atEnd bodyAt0
  simp only [found0, found1, found2, found3]
  rw [show (dats m 0 c).Φ t.succ = (dats m 0 c).Φ t.castSucc from rfl,
    show (dats m 0 c).owesAt () t.succ = (dats m 0 c).owesAt () t.castSucc from rfl, left0, left1, left2, left3]
  rw [show (dats m 0 c).Φ t.castSucc = Pipeline.ΦA spec0 c from rfl, kept_eq]
  iintro ⟨⟨⟨S0, S1, S2⟩, Hg⟩, Ho, ⟨%d0, H0⟩, ⟨%d1, H1⟩, ⟨%d2, H2⟩, ⟨%d3, H3⟩, H4, H5, H6⟩
  iapply (body_keeps c (grid0.coords t) _ _ _ _ _ _ _ _ _ _ _ _ _ _ _ _ _ _ _ _ (iblk m c 0 t) (iblk m c 1 t) (iblk m c 2 t) (iblk m c 3 t) Set.univ _)
  isplitl [H0 H1 H2 H3 H4 H5 H6 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    iexact S2
  iintro ⟨H0, H1, H2, H3, H4, H5, H6, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation of the region's body. -/
theorem body_ok (c : Dev nD) : BodyObligation (dats m 0 c) (defs₀ (F := F)) Variants.none () Set.univ unread := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The whole program's run: its input arrays end as they were, and every counter at zero. -/
theorem run_quiet : θ_run defs (onTc (τ := τ) (main (F := F))) (s₀ m ρ)
    (fun r => (Pipeline.RDat.FramePost (cfgs 0) (fun c => (dats m 0 c).toRForget unread) (V m)) r ∧ r.2.sem = fun _ => 0) :=
  Pipeline.θ_run_frame_forget_shared (Q' := _) cfgs (dats m) (0 : Fin 1) launch₀0 defs₀ Variants.none unread m ρ main
    (hbody := fun c => (body_ok m c).loose) (hq := fun _ _ _ => rfl)
    (howed := fun _ _ => rfl) (V := V m) (hmain := hmain m Variants.none) (hA := arr_eq m) (hΦ := fun _ _ => rfl)

/-- The frame: the program terminates, its arguments unchanged and its counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((arr_eq m c 0).trans (V_main_arg0 m c)),
    (Pipeline.RDat.FramePost.arr_in h.1 c 2 rfl).trans ((arr_eq m c 2).trans (V_main_arg1 m c)),
    (Pipeline.RDat.FramePost.arr_in h.1 c 3 rfl).trans ((arr_eq m c 3).trans (V_main_arg2 m c))⟩, h.2⟩) (run_quiet m ρ)

end Cert.KernelDw.DwFrame

end
-- ==== Proof.Reals.lean ====
/- Facts about extended reals shared by the value claims: sums of reals, reading an array as an array of reals, and
   what the statement's finiteness tests say. -/
module

public import Idealize.ShloMosaic.Lib.Pipeline.ValueKit
public import Idealize.ShloMosaic.PureOps.Ideal

@[expose] public section

noncomputable section

open Idealize.ShloMosaic

namespace Cert.Reals

/-- A sum of reals is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every element of the array is a real. -/
def AllReal {s : Shape} {φ : FTy} (x : FVec Ideal s φ) : Prop := ∀ i : s.Idx, ∃ r : ℝ, x i = (r : EReal)

/-- An array whose elements are all reals is an array of reals. -/
theorem lift {s : Shape} {φ : FTy} {x : FVec Ideal s φ} (h : AllReal x) : ∃ f : s.Idx → ℝ, x = fun i => (f i : EReal) := by
  choose f hf using h
  exact ⟨f, funext hf⟩

/-- An extended real whose absolute value is below infinity is a real. -/
theorem real_of_abs {x : EReal} (h : max x (-x) < ⊤) : ∃ r : ℝ, x = r := by
  induction x using EReal.rec with
  | bot => simp at h
  | top => simp at h
  | coe r => exact ⟨r, rfl⟩

/-- The pattern the finiteness tests compare with is infinity. -/
theorem inf_word : Ideal.ofBits .f32 0x7F800000#32 = ⊤ := by
  simp [Ideal.ofBits, Ideal.ieee]

/-- The finiteness test of a precondition: every element of the tested array is a real. -/
theorem real_of_test {s : Shape} {S0 : Shape} {d} (hb : S0.BroadcastsInDim s d) (x : FVec Ideal s .f32)
    (h : cmpf .olt (Host.absf x) (broadcastInDim s d hb (constant (F := Ideal) S0 .f32 0x7F800000#32)) = fun _ => 1#1) :
    AllReal x := by
  intro i
  have h1 : Ideal.cmp .olt (max (x i) (-(x i))) (Ideal.ofBits .f32 0x7F800000#32) = 1#1 := congrFun h i
  rw [inf_word] at h1
  refine real_of_abs ?_
  by_contra h2
  simp [Ideal.cmp, h2] at h1

/-- The product of the gradient with the derivative of the gated unit, in the kernel's spelling and in the reference's. -/
theorem silu_grad (p : ℝ) (g : EReal) :
    (p : EReal) * (Ideal.div 1 (1 + Ideal.exp (0 - g)) * (1 + g * (1 - Ideal.div 1 (1 + Ideal.exp (0 - g)))))
      = (p : EReal) * Ideal.div 1 (1 + Ideal.exp (-g)) + g * (p : EReal) * (Ideal.div 1 (1 + Ideal.exp (-g)) * (1 - Ideal.div 1 (1 + Ideal.exp (-g)))) := by
  have e : (0 - g : EReal) = -g := by rw [sub_eq_add_neg, zero_add]
  have l : Ideal.div 1 (1 + Ideal.exp (-g)) = Ideal.logistic g := rfl
  rw [e, l]
  have one_sub_one : (1 - 1 : EReal) = 0 := by rw [← EReal.coe_one, ← EReal.coe_sub, sub_self, EReal.coe_zero]
  induction g using EReal.rec with
  | bot => simp
  | top => simp [one_sub_one]
  | coe r =>
    rw [Ideal.logistic_coe, ← EReal.coe_one]
    norm_cast
    ring

end Cert.Reals

end
-- ==== Proof.ActValue.lean ====
/- The gradients of the gated activation with respect to its two inputs: the kernel's two result arrays, read off its
   frame run, are the reference's. -/
module

public import proofs.«01_k».proof.Proof.Gen.KernelActIdeal.Frame
public import proofs.«01_k».proof.Proof.Gen.ReferenceActIdeal.Run
public import proofs.«01_k».proof.Proof.Reals
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelActIdeal.ActValue

open Cert.KernelActIdeal Cert.KernelActIdeal.Gen

variable (m : (ℓ : Loc nD τ sig) → Buf (Elt Ideal) ℓ)

/-- The block index of each window at each grid point. -/
theorem idx : ∀ t : Fin cfg0.N, win0_0.index t = ![t.val / 2, 0] ∧ win0_1.index t = ![t.val / 2, t.val % 2]
    ∧ win0_2.index t = ![t.val / 2, t.val % 2] ∧ win0_3.index t = ![t.val % 2, 0]
    ∧ win0_4.index t = ![t.val / 2, t.val % 2] ∧ win0_5.index t = ![t.val / 2, t.val % 2] :=
  (by decide +kernel : ∀ t : Fin grid0.N, _)

/-- At the first point of a row the scratch is filled with the gradient block's rows. -/
theorem scratch_A (c : Dev nD) (t : Fin cfg0.N) (h : t.val % 2 = 0) (y) :
    (outsAt0 m c t.val t.isLt).2.2 y = (iblk m c 0 t : FVec Ideal S528x1024 .f32) y := by
  rw [outsAt0_A m c t h]; frame_out
  pointwise [k0_pay5]

/-- At the second point of a row the scratch still holds that row's gradient block. -/
theorem carried (c : Dev nD) (t : Fin cfg0.N) (h : ¬t.val % 2 = 0) :
    (outsAt0 m c (t.val - 1) (Nat.lt_of_le_of_lt (Nat.sub_le _ _) t.isLt)).2.2 = (iblk m c 0 t : FVec Ideal S528x1024 .f32) := by
  funext y
  have hl : t.val - 1 < cfg0.N := Nat.lt_of_le_of_lt (Nat.sub_le _ _) t.isLt
  refine (scratch_A m c ⟨t.val - 1, hl⟩ (by show (t.val - 1) % 2 = 0; omega) y).trans ?_
  have e : (t.val - 1) / 2 = t.val / 2 := by omega
  have h1 := (idx ⟨t.val - 1, hl⟩).1
  dsimp only at h1
  rw [e] at h1
  blk_point [iblk, V, h1, (idx t).1]

/-- The gradient of the product of the activated gate with the other factor, at row `i` and column `j`. -/
abbrev dprod (x0 : FVec Ideal S528x1024 .f32) (x3 : FVec Ideal S1408x1024 .bf16) (i : Fin 528) (j : Fin 1408) : EReal :=
  ∑ k : Fin 1024, x0 (ix2 i k) * x3 (ix2 j k)

/-- The logistic function as the kernel spells it. -/
abbrev sg (g : EReal) : EReal := Ideal.div 1 (1 + Ideal.exp (0 - g))

/-- What the kernel stores for the gate's gradient, from the product's gradient `a`, the other factor `u` and the gate `g`. -/
abbrev gateK (a u g : EReal) : EReal := a * u * (sg g * (1 + g * (1 - sg g)))

/-- What the kernel stores for the other factor's gradient. -/
abbrev upK (a g : EReal) : EReal := a * (g * sg g)

/-- The block of the gate's gradient that a grid point stores, over the four blocks it reads. -/
abbrev gateB (x0 : FVec Ideal S528x1024 .f32) (x1 x2 : FVec Ideal S528x1408 .f32) (x3 : FVec Ideal S1408x1024 .bf16) (i : Fin 528) (j : Fin 1408) : EReal :=
  gateK (dprod x0 x3 i j) (x2 (ix2 i j)) (x1 (ix2 i j))

/-- The block of the other factor's gradient that a grid point stores. -/
abbrev upB (x0 : FVec Ideal S528x1024 .f32) (x1 : FVec Ideal S528x1408 .f32) (x3 : FVec Ideal S1408x1024 .bf16) (i : Fin 528) (j : Fin 1408) : EReal :=
  upK (dprod x0 x3 i j) (x1 (ix2 i j))

/-- Every grid point leaves the gate's gradient block in the first output. -/
theorem gate_at (c : Dev nD) (t : Fin cfg0.N) (y : S528x1408.Idx) :
    (outsAt0 m c t.val t.isLt).1 y = gateB (iblk m c 0 t) (iblk m c 1 t) (iblk m c 2 t) (iblk m c 3 t) (y 0) (y 1) := by
  by_cases h0 : t.val % 2 = 0
  · rw [outsAt0_A m c t h0]; frame_out
    canon_tiles x h using View.cover_of_tiledBy _ ![528, 128] (by sl_kernel_rfl) _
    all_goals
      open_payloads; pointwise
      generalize y 0 = i at h0 ⊢
      generalize y 1 = j at h1 ⊢
      obtain ⟨i, hi⟩ := i
      obtain ⟨j, hj⟩ := j
      dsimp only at h0 h1
      subst h0 h1
      rfl
  · rw [outsAt0_B m c t h0]; frame_out
    simp only [read_unread_whole, carried m c t h0]
    canon_tiles x h using View.cover_of_tiledBy _ ![528, 128] (by sl_kernel_rfl) _
    all_goals
      open_payloads; pointwise
      generalize y 0 = i at h0 ⊢
      generalize y 1 = j at h1 ⊢
      obtain ⟨i, hi⟩ := i
      obtain ⟨j, hj⟩ := j
      dsimp only at h0 h1
      subst h0 h1
      rfl

/-- Every grid point leaves the other factor's gradient block in the second output. -/
theorem up_at (c : Dev nD) (t : Fin cfg0.N) (y : S528x1408.Idx) :
    (outsAt0 m c t.val t.isLt).2.1 y = upB (iblk m c 0 t) (iblk m c 1 t) (iblk m c 3 t) (y 0) (y 1) := by
  by_cases h0 : t.val % 2 = 0
  · rw [outsAt0_A m c t h0]; frame_out
    canon_tiles x h using View.cover_of_tiledBy _ ![528, 128] (by sl_kernel_rfl) _
    all_goals
      open_payloads; pointwise
      generalize y 0 = i at h0 ⊢
      generalize y 1 = j at h1 ⊢
      obtain ⟨i, hi⟩ := i
      obtain ⟨j, hj⟩ := j
      dsimp only at h0 h1
      subst h0 h1
      rfl
  · rw [outsAt0_B m c t h0]; frame_out
    simp only [read_unread_whole, carried m c t h0]
    canon_tiles x h using View.cover_of_tiledBy _ ![528, 128] (by sl_kernel_rfl) _
    all_goals
      open_payloads; pointwise
      generalize y 0 = i at h0 ⊢
      generalize y 1 = j at h1 ⊢
      obtain ⟨i, hi⟩ := i
      obtain ⟨j, hj⟩ := j
      dsimp only at h0 h1
      subst h0 h1
      rfl

/-- The reference's gradient of the gate over the four argument arrays. -/
abbrev refGate (A0 : FVec Ideal S4224x1024 .f32) (A1 A2 : FVec Ideal S4224x2816 .f32) (A3 : FVec Ideal S2816x1024 .bf16) : FVec Ideal S4224x2816 .bf16 :=
  truncf .bf16 (addf (mulf (mulf (Host.dotGeneral Cert.ReferenceActIdeal.dot_S4224x1024_S2816x1024_S4224x2816_1_1_0_0_n_n none A0 (extf .f32 A3 Cert.ReferenceActIdeal.Gen.bitsLt_bf16_f32)) A2) (Host.divf (broadcastInDim Cert.ReferenceActIdeal.S4224x2816 ![] Cert.ReferenceActIdeal.Gen.bcast_S_S4224x2816 (constant Cert.ReferenceActIdeal.S_ .f32 0x3F800000#32)) (addf (broadcastInDim Cert.ReferenceActIdeal.S4224x2816 ![] Cert.ReferenceActIdeal.Gen.bcast_S_S4224x2816 (constant Cert.ReferenceActIdeal.S_ .f32 0x3F800000#32)) (Host.exp (Host.negf A1))))) (mulf (mulf A1 (mulf (Host.dotGeneral Cert.ReferenceActIdeal.dot_S4224x1024_S2816x1024_S4224x2816_1_1_0_0_n_n none A0 (extf .f32 A3 Cert.ReferenceActIdeal.Gen.bitsLt_bf16_f32)) A2)) (mulf (Host.divf (broadcastInDim Cert.ReferenceActIdeal.S4224x2816 ![] Cert.ReferenceActIdeal.Gen.bcast_S_S4224x2816 (constant Cert.ReferenceActIdeal.S_ .f32 0x3F800000#32)) (addf (broadcastInDim Cert.ReferenceActIdeal.S4224x2816 ![] Cert.ReferenceActIdeal.Gen.bcast_S_S4224x2816 (constant Cert.ReferenceActIdeal.S_ .f32 0x3F800000#32)) (Host.exp (Host.negf A1)))) (subf (broadcastInDim Cert.ReferenceActIdeal.S4224x2816 ![] Cert.ReferenceActIdeal.Gen.bcast_S_S4224x2816 (constant Cert.ReferenceActIdeal.S_ .f32 0x3F800000#32)) (Host.divf (broadcastInDim Cert.ReferenceActIdeal.S4224x2816 ![] Cert.ReferenceActIdeal.Gen.bcast_S_S4224x2816 (constant Cert.ReferenceActIdeal.S_ .f32 0x3F800000#32)) (addf (broadcastInDim Cert.ReferenceActIdeal.S4224x2816 ![] Cert.ReferenceActIdeal.Gen.bcast_S_S4224x2816 (constant Cert.ReferenceActIdeal.S_ .f32 0x3F800000#32)) (Host.exp (Host.negf A1)))))))) Cert.ReferenceActIdeal.Gen.bitsLt_bf16_f32

/-- The reference's gradient of the other factor over the argument arrays. -/
abbrev refUp (A0 : FVec Ideal S4224x1024 .f32) (A1 A2 : FVec Ideal S4224x2816 .f32) (A3 : FVec Ideal S2816x1024 .bf16) : FVec Ideal S4224x2816 .bf16 :=
  truncf .bf16 (mulf (mulf A1 (Host.divf (broadcastInDim Cert.ReferenceActIdeal.S4224x2816 ![] Cert.ReferenceActIdeal.Gen.bcast_S_S4224x2816 (constant Cert.ReferenceActIdeal.S_ .f32 0x3F800000#32)) (addf (broadcastInDim Cert.ReferenceActIdeal.S4224x2816 ![] Cert.ReferenceActIdeal.Gen.bcast_S_S4224x2816 (constant Cert.ReferenceActIdeal.S_ .f32 0x3F800000#32)) (Host.exp (Host.negf A1))))) (Host.dotGeneral Cert.ReferenceActIdeal.dot_S4224x1024_S2816x1024_S4224x2816_1_1_0_0_n_n none A0 (extf .f32 A3 Cert.ReferenceActIdeal.Gen.bitsLt_bf16_f32))) Cert.ReferenceActIdeal.Gen.bitsLt_bf16_f32

/-- The gradient of the gated product at row `i` and column `j` of the whole arrays. -/
abbrev dprodA (A0 : FVec Ideal S4224x1024 .f32) (A3 : FVec Ideal S2816x1024 .bf16) (i : Fin 4224) (j : Fin 2816) : EReal :=
  ∑ k : Fin 1024, A0 (ix2 i k) * A3 (ix2 j k)

/-- The reference's gradient of the gate at an index, where the incoming gradient, the other factor and the weight are reals. -/
theorem refGate_at (A0 A1 A2 A3) (h0 : Reals.AllReal A0) (h2 : Reals.AllReal A2) (h3 : Reals.AllReal A3) (j) :
    refGate A0 A1 A2 A3 j = gateK (dprodA A0 A3 (j 0) (j 1)) (A2 j) (A1 j) := by
  obtain ⟨a0, rfl⟩ := Reals.lift h0
  obtain ⟨a2, rfl⟩ := Reals.lift h2
  obtain ⟨a3, rfl⟩ := Reals.lift h3
  pointwise [refGate]
  have e : dprodA (fun i => (a0 i : EReal)) (fun i => (a3 i : EReal)) (j 0) (j 1) * (a2 j : EReal)
      = (((∑ k : Fin 1024, a0 (ix2 (j 0) k) * a3 (ix2 (j 1) k)) * a2 j : ℝ) : EReal) := by
    unfold dprodA
    simp only [← EReal.coe_mul, ← Reals.coe_sum]
  unfold gateK sg
  rw [e, Reals.silu_grad]

/-- The reference's gradient of the other factor at an index. -/
theorem refUp_at (A0 A1 A2 A3) (j) : refUp A0 A1 A2 A3 j = upK (dprodA A0 A3 (j 0) (j 1)) (A1 j) := by
  pointwise [refUp]
  unfold upK sg
  rw [mul_comm, sub_eq_add_neg, zero_add]

/-- The first output's array after the run. -/
theorem final_gate (c : Dev nD) (h0 : Reals.AllReal (s := S4224x1024) (φ := .f32) (m ((c : Thread nD τ).loc main_arg0)))
    (h2 : Reals.AllReal (s := S4224x2816) (φ := .f32) (m ((c : Thread nD τ).loc main_arg2)))
    (h3 : Reals.AllReal (s := S2816x1024) (φ := .bf16) (m ((c : Thread nD τ).loc main_arg3))) :
    (dats m 0 c).arrAt 4 (cfgs 0).N
      = refGate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, gate_at m c t, refGate_at _ _ _ _ h0 h2 h3 _]
  unfold gateB gateK sg dprod dprodA
  blk_point [iblk, V, idx t]

/-- The second output's array after the run. -/
theorem final_up (c : Dev nD) : (dats m 0 c).arrAt 5 (cfgs 0).N
    = refUp (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, up_at m c t, refUp_at]
  unfold upB upK sg dprod dprodA
  blk_point [iblk, V, idx t]

end Cert.KernelActIdeal.ActValue

end
-- ==== Proof.MixbwdValue.lean ====
/- The gradient of the mixer's output projection with respect to its two inputs: the kernel's two result arrays, read off
   its frame run, are the two halves of the reference's product with the transposed weight. -/
module

public import proofs.«01_k».proof.Proof.Gen.KernelMixbwdIdeal.Frame
public import proofs.«01_k».proof.Proof.Gen.ReferenceMixbwdIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelMixbwdIdeal.MixbwdValue

open Cert.KernelMixbwdIdeal Cert.KernelMixbwdIdeal.Gen

variable (m : (ℓ : Loc nD τ sig) → Buf (Elt Ideal) ℓ)

/-- The reference's gradient for the attention half. -/
abbrev refA (A : FVec Ideal S4224x1024 .f32) (W : FVec Ideal S1024x1024 .bf16) : FVec Ideal S4224x512 .bf16 :=
  truncf .bf16 (extractStridedSlice Cert.ReferenceMixbwdIdeal.S4224x512 ![0, 0] (Host.dotGeneral Cert.ReferenceMixbwdIdeal.dot_S4224x1024_S1024x1024_S4224x1024_1_1_0_0_n_n none A (extf .f32 W Cert.ReferenceMixbwdIdeal.Gen.bitsLt_bf16_f32)) Cert.ReferenceMixbwdIdeal.Gen.slices_S4224x1024_S4224x512_0_0) Cert.ReferenceMixbwdIdeal.Gen.bitsLt_bf16_f32

/-- The reference's gradient for the convolution half. -/
abbrev refC (A : FVec Ideal S4224x1024 .f32) (W : FVec Ideal S1024x1024 .bf16) : FVec Ideal S4224x512 .f32 :=
  extractStridedSlice Cert.ReferenceMixbwdIdeal.S4224x512 ![0, 512] (Host.dotGeneral Cert.ReferenceMixbwdIdeal.dot_S4224x1024_S1024x1024_S4224x1024_1_1_0_0_n_n none A (extf .f32 W Cert.ReferenceMixbwdIdeal.Gen.bitsLt_bf16_f32)) Cert.ReferenceMixbwdIdeal.Gen.slices_S4224x1024_S4224x512_0_512

/-- The block index of each window at each grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result array for the attention half after the run. -/
theorem final_attn (c : Dev nD) : (dats m 0 c).arrAt 2 (cfgs 0).N
    = refA (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, k0_pay2, refA]
  refine Fin.sum_fin_congr fun k => ?_
  blk_point [iblk, V, idx t]

/-- The result array for the convolution half after the run. -/
theorem final_conv (c : Dev nD) : (dats m 0 c).arrAt 3 (cfgs 0).N
    = refC (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay1, k0_pay3, refC]
  refine Fin.sum_fin_congr fun k => ?_
  blk_point [iblk, V, idx t]

end Cert.KernelMixbwdIdeal.MixbwdValue

end
-- ==== Proof.Rms.lean ====
/- The gradient of the root-mean-square normalisation of a row, in the kernel's spelling and in the reference's: the two are
   equal at every row of extended reals. -/
module

public import Idealize.ShloMosaic.Lib.Pipeline.ValueKit
public import Idealize.ShloMosaic.PureOps.Ideal

@[expose] public section

noncomputable section

open Idealize.ShloMosaic

namespace Cert.Rms

/-- The row length, the added constant, and minus one half, as the programs hold them. -/
theorem word_n : Ideal.ofBits .f32 0x44800000#32 = ((1024 : ℝ) : EReal) := by
  simp [Ideal.ofBits, Ideal.ieee]; rw [← EReal.coe_mul]; norm_num
theorem word_h : Ideal.ofBits .f32 0xBF000000#32 = ((-1 / 2 : ℝ) : EReal) := by
  simp [Ideal.ofBits, Ideal.ieee]; rw [← EReal.coe_mul]; norm_num
theorem word_e : ∃ e : ℝ, 0 < e ∧ Ideal.ofBits .f32 0x358637BD#32 = (e : EReal) := by
  refine ⟨_, ?_, by simp [Ideal.ofBits, Ideal.ieee]; rfl⟩
  norm_num

/-- The mean square of a row with the constant added. -/
def ms (x : Fin 1024 → EReal) : EReal := Ideal.div (∑ k, x k * x k) (Ideal.ofBits .f32 0x44800000#32) + Ideal.ofBits .f32 0x358637BD#32

/-- The row's factor. -/
def inv (x : Fin 1024 → EReal) : EReal := Ideal.rsqrt (ms x)

/-- The gradient at column `j` from the scaled incoming gradient `y`, as the kernel has it. -/
def bwdK (x y : Fin 1024 → EReal) (j : Fin 1024) : EReal :=
  inv x * (y j - x j * inv x * Ideal.div (∑ k, y k * (x k * inv x)) (Ideal.ofBits .f32 0x44800000#32))

/-- What the reference multiplies the row with, twice. -/
def half (x y : Fin 1024 → EReal) : EReal :=
  Ideal.div ((∑ k, x k * y k) * (Ideal.ofBits .f32 0xBF000000#32 * Ideal.div (inv x) (ms x))) (Ideal.ofBits .f32 0x44800000#32)

/-- The gradient as the reference has it. -/
def bwdR (x y : Fin 1024 → EReal) (j : Fin 1024) : EReal := y j * inv x + x j * half x y + half x y * x j

theorem mul_self_nonneg (x : EReal) : 0 ≤ x * x := by
  induction x using EReal.rec with
  | bot => simp
  | top => simp
  | coe r => rw [← EReal.coe_mul]; exact_mod_cast _root_.mul_self_nonneg r

/-- A nonnegative real factor goes into a sum. -/
theorem real_mul_add (r : ℝ) (h : 0 ≤ r) (a b : EReal) : (r : EReal) * (a + b) = r * a + r * b :=
  EReal.left_distrib_of_nonneg_of_ne_top (by exact_mod_cast h) (EReal.coe_ne_top r) a b

theorem real_mul_sum {ι : Type} (s : Finset ι) (r : ℝ) (h : 0 ≤ r) (f : ι → EReal) : (r : EReal) * ∑ i ∈ s, f i = ∑ i ∈ s, (r : EReal) * f i := by
  classical
  induction s using Finset.induction_on with
  | empty => simp
  | insert a s ha ih => rw [Finset.sum_insert ha, Finset.sum_insert ha, real_mul_add r h, ih]

/-- Twice a product with a negative factor. -/
theorem twice_neg (w : EReal) (p : ℝ) (hp : 0 ≤ p) : w * ((-(p / 2) : ℝ) : EReal) + w * ((-(p / 2) : ℝ) : EReal) = -(w * (p : EReal)) := by
  have e : ∀ z : EReal, z + z = ((2 : ℝ) : EReal) * z := by
    intro z
    induction z using EReal.rec with
    | bot => rw [EReal.coe_mul_bot_of_pos (by norm_num)]; rfl
    | top => rw [EReal.coe_mul_top_of_pos (by norm_num)]; rfl
    | coe z => rw [← EReal.coe_add, ← EReal.coe_mul, two_mul]
  rw [e, ← mul_assoc, mul_comm _ w, mul_assoc, ← EReal.coe_mul, show (2 : ℝ) * (-(p / 2)) = -p by ring, EReal.coe_neg, mul_neg]

/-- The two spellings agree. -/
theorem bwd (x y : Fin 1024 → EReal) (j : Fin 1024) : bwdK x y j = bwdR x y j := by
  obtain ⟨e, he, we⟩ := word_e
  have hS : 0 ≤ ∑ k, x k * x k := Finset.sum_nonneg fun k _ => mul_self_nonneg (x k)
  have hms : ms x = (∑ k, x k * x k) * ((1 / 1024 : ℝ) : EReal) + (e : EReal) := by
    unfold ms
    rw [word_n, we, Ideal.div_coe (by norm_num)]
  generalize (∑ k, x k * x k) = S at hS hms
  induction S using EReal.rec with
  | bot => exact absurd hS (by simp)
  | top =>
    have hm : ms x = ⊤ := by rw [hms, EReal.top_mul_coe_of_pos (by norm_num), EReal.top_add_coe]
    have hi : inv x = 0 := by unfold inv; rw [hm]; rfl
    have hh : half x y = 0 := by
      unfold half
      rw [hi, hm, word_n, Ideal.div_coe (by norm_num)]
      have : Ideal.div 0 ⊤ = 0 := by unfold Ideal.div; simp
      rw [this, mul_zero, mul_zero, zero_mul]
    unfold bwdK bwdR
    rw [hi, hh]
    simp
  | coe s =>
    have hs : 0 ≤ s := by exact_mod_cast hS
    set v : ℝ := s * (1 / 1024) + e with hv
    have hv0 : 0 < v := by positivity
    have hm : ms x = (v : EReal) := by rw [hms, hv, EReal.coe_add, EReal.coe_mul]
    set r : ℝ := (Real.sqrt v)⁻¹ with hr
    have hr0 : 0 < r := inv_pos.mpr (Real.sqrt_pos.mpr hv0)
    have hi : inv x = (r : EReal) := by
      unfold inv
      rw [hm, Ideal.rsqrt_coe, if_neg (not_lt.mpr hv0.le), if_neg hv0.ne']
    have hrv : r * (1 / v) = r * r * r := by
      have : r * r = 1 / v := by rw [hr, ← mul_inv, Real.mul_self_sqrt hv0.le, one_div]
      rw [← this, mul_assoc]
    have hT : ∑ k, y k * (x k * (r : EReal)) = (r : EReal) * ∑ k, x k * y k := by
      rw [real_mul_sum _ r hr0.le]
      exact Finset.sum_congr rfl fun k _ => by rw [← mul_assoc, mul_comm, mul_comm (y k)]
    unfold bwdK bwdR half
    rw [hi, hm, word_n, word_h, hT, Ideal.div_coe (by norm_num), Ideal.div_coe hv0.ne', Ideal.div_coe (by norm_num), ← EReal.coe_mul, hrv,
      ← EReal.coe_mul]
    generalize (∑ k, x k * y k) = T
    rw [sub_eq_add_neg, real_mul_add r hr0.le, mul_neg, mul_comm (r : EReal) (y j), add_assoc]
    have h2 := twice_neg (x j * T) (r * r * r * (1 / 1024)) (by positivity)
    have ez : x j * (T * ((-1 / 2 * (r * r * r) : ℝ) : EReal) * ((1 / 1024 : ℝ) : EReal)) = x j * T * ((-(r * r * r * (1 / 1024) / 2) : ℝ) : EReal) := by
      rw [mul_assoc T, ← EReal.coe_mul, ← mul_assoc, show -1 / 2 * (r * r * r) * (1 / 1024) = -(r * r * r * (1 / 1024) / 2) by ring]
    rw [mul_comm _ (x j), ez, h2]
    refine congrArg (y j * (r : EReal) + -·) ?_
    simp only [EReal.coe_mul]
    ac_rfl

end Cert.Rms

end
-- ==== Proof.MixinValue.lean ====
/- The gradient of the mixer's input projection and of the normalisation before it: the kernel's two result arrays, read off
   its frame run, are the reference's. The weight's five row blocks are multiplied one by one and added. -/
module

public import proofs.«01_k».proof.Proof.Gen.KernelMixinIdeal.Frame
public import proofs.«01_k».proof.Proof.Gen.ReferenceMixinIdeal.Run
public import proofs.«01_k».proof.Proof.Rms
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelMixinIdeal.MixinValue

open Cert.KernelMixinIdeal Cert.KernelMixinIdeal.Gen

variable (m : (ℓ : Loc nD τ sig) → Buf (Elt Ideal) ℓ)

section Ref

open Cert.ReferenceMixinIdeal Cert.ReferenceMixinIdeal.Gen

variable (A0 : FVec Ideal S3x4224x512 .bf16) (A1 : FVec Ideal S2x4224x512 .bf16) (A2 : FVec Ideal S2560x1024 .bf16) (A3 : FVec Ideal S4224x1024 .f32)
  (A4 : FVec Ideal S1x1024 .f32) (A5 : FVec Ideal S4224x1024 .f32)

/-- The gradient of the normalised rows, before the scale. -/
def refDy : FVec Ideal S4224x1024 .f32 := (Host.dotGeneral dot_S4224x2560_S1024x2560_S4224x1024_1_1_0_0_n_n none (extf .f32 ((concatenate S4224x2560 1 [⟨S4224x512, ((shapeCast _ (extractStridedSlice S1x4224x512 ![0, 0, 0] A0 slices_S3x4224x512_S1x4224x512_0_0_0) shapeCasts_S1x4224x512_S4224x512) : (⟨S4224x512, .bf16⟩ : BufTy).Contents (Elt Ideal))⟩, ⟨S4224x512, ((shapeCast _ (extractStridedSlice S1x4224x512 ![1, 0, 0] A0 slices_S3x4224x512_S1x4224x512_1_0_0) shapeCasts_S1x4224x512_S4224x512) : (⟨S4224x512, .bf16⟩ : BufTy).Contents (Elt Ideal))⟩, ⟨S4224x512, ((shapeCast _ (extractStridedSlice S1x4224x512 ![2, 0, 0] A0 slices_S3x4224x512_S1x4224x512_2_0_0) shapeCasts_S1x4224x512_S4224x512) : (⟨S4224x512, .bf16⟩ : BufTy).Contents (Elt Ideal))⟩, ⟨S4224x512, ((shapeCast _ (extractStridedSlice S1x4224x512 ![0, 0, 0] A1 slices_S2x4224x512_S1x4224x512_0_0_0) shapeCasts_S1x4224x512_S4224x512) : (⟨S4224x512, .bf16⟩ : BufTy).Contents (Elt Ideal))⟩, ⟨S4224x512, ((shapeCast _ (extractStridedSlice S1x4224x512 ![1, 0, 0] A1 slices_S2x4224x512_S1x4224x512_1_0_0) shapeCasts_S1x4224x512_S4224x512) : (⟨S4224x512, .bf16⟩ : BufTy).Contents (Elt Ideal))⟩] concatenates_S4224x512_S4224x512_S4224x512_S4224x512_S4224x512_S4224x2560_d1 : (⟨S4224x2560, .bf16⟩ : BufTy).Contents (Elt Ideal))) bitsLt_bf16_f32) (transpose S1024x2560 [1, 0] (extf .f32 A2 bitsLt_bf16_f32) transposes_S2560x1024_S1024x2560_1_0))

/-- The scale, once per row. -/
def refG : FVec Ideal S4224x1024 .f32 := (shapeCast S4224x1024 (broadcastInDim S528x8x1024 ![0, 1, 2] bcast_S1x8x1024_S528x8x1024_0_1_2 (broadcastInDim S1x8x1024 ![1, 2] bcast_S8x1024_S1x8x1024_1_2 (broadcastInDim S8x1024 ![0, 1] bcast_S1x1024_S8x1024_0_1 A4))) shapeCasts_S528x8x1024_S4224x1024)

/-- The mean square of each row, with the constant added. -/
def refV : FVec Ideal S4224x1 .f32 := (addf (Host.divf (broadcastInDim S4224x1 ![0] bcast_S4224_S4224x1_0 (Host.reduceAdd (mulf A3 A3) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))

/-- The gradient of the rows. -/
def refDx : FVec Ideal S4224x1024 .f32 := addf A5 (addf (addf (mulf (mulf (refDy A0 A1 A2) (refG A4)) (broadcastInDim S4224x1024 ![0, 1] bcast_S4224x1_S4224x1024_0_1 (Host.rsqrt (refV A3)))) (mulf A3 (broadcastInDim S4224x1024 ![0] bcast_S4224_S4224x1024_0 (Host.reduceAdd (Host.divf (mulf (shapeCast _ (Host.reduceAdd (mulf A3 (mulf (refDy A0 A1 A2) (refG A4))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (refV A3)) (refV A3)))) (broadcastInDim S4224x1 ![] bcast_S_S4224x1 (constant S_ .f32 0x44800000#32))) (constant S_ .f32 0x00000000#32) reducesTo_S4224x1_S4224_d1 h_S_)))) (mulf (broadcastInDim S4224x1024 ![0] bcast_S4224_S4224x1024_0 (Host.reduceAdd (Host.divf (mulf (shapeCast _ (Host.reduceAdd (mulf A3 (mulf (refDy A0 A1 A2) (refG A4))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (refV A3)) (refV A3)))) (broadcastInDim S4224x1 ![] bcast_S_S4224x1 (constant S_ .f32 0x44800000#32))) (constant S_ .f32 0x00000000#32) reducesTo_S4224x1_S4224_d1 h_S_)) A3))

/-- The gradient of the scale, kept as eight row sums. -/
def refDg : FVec Ideal S8x1024 .f32 :=
  Host.reduceAdd (broadcastInDim S1x8x1024 ![1, 2] bcast_S8x1024_S1x8x1024_1_2 (Host.reduceAdd (shapeCast _ (mulf (mulf A3 (broadcastInDim S4224x1024 ![0, 1] bcast_S4224x1_S4224x1024_0_1 (Host.rsqrt (refV A3)))) (refDy A0 A1 A2)) shapeCasts_S4224x1024_S528x8x1024) (constant S_ .f32 0x00000000#32) reducesTo_S528x8x1024_S8x1024_d0 h_S_)) (constant S_ .f32 0x00000000#32) reducesTo_S1x8x1024_S8x1024_d0 h_S_

theorem refV_at (y : S4224x1.Idx) : refV A3 y = Rms.ms fun k => A3 (ix2 (y 0) k) := by
  pointwise [refV]
  rfl

theorem refG_at (y : S4224x1024.Idx) : refG A4 y = A4 (ix2 0 (y 1)) := by pointwise [refG]

/-- One fifth of the contraction: 512 of the weight's rows, from row `o` on. -/
abbrev fifth (a : Fin 512 → EReal) (A2 : FVec Ideal S2560x1024 .bf16) (o : ℕ) (ho : o + 512 ≤ 2560) (j : Fin 1024) : EReal :=
  ∑ k : Fin 512, a k * A2 (ix2 ⟨o + k.val, by omega⟩ j)

theorem fifths (f : Fin 2560 → EReal) : ∑ x, f x = (∑ k : Fin 512, f ⟨0 + k.val, by omega⟩) + (∑ k : Fin 512, f ⟨512 + k.val, by omega⟩)
    + (∑ k : Fin 512, f ⟨1024 + k.val, by omega⟩) + (∑ k : Fin 512, f ⟨1536 + k.val, by omega⟩) + ∑ k : Fin 512, f ⟨2048 + k.val, by omega⟩ :=
  (Fin.sum_mul_add_congr (S := 5) (n := 512) (F := fun s k => f ⟨s.val * 512 + k.val, by omega⟩) fun s k hl => rfl).symm.trans (Fin.sum_univ_five _)

theorem refDy_at (i : Fin 4224) (j : Fin 1024) : refDy A0 A1 A2 (ix2 i j)
    = fifth (fun k => A0 (ix3 0 i k)) A2 0 (by omega) j + fifth (fun k => A0 (ix3 1 i k)) A2 512 (by omega) j
      + fifth (fun k => A0 (ix3 2 i k)) A2 1024 (by omega) j + fifth (fun k => A1 (ix3 0 i k)) A2 1536 (by omega) j
      + fifth (fun k => A1 (ix3 1 i k)) A2 2048 (by omega) j := by
  pointwise [refDy]
  refine (fifths _).trans (congrArg₂ (· + ·) (congrArg₂ (· + ·) (congrArg₂ (· + ·) (congrArg₂ (· + ·) ?_ ?_) ?_) ?_) ?_) <;>
    refine Finset.sum_congr rfl fun k _ => ?_ <;> have hk := k.isLt
  · rw [dif_pos (by dsimp only; omega)]
    exact congrArg₂ (· * ·) (congrArg (fun q => A0 (ix3 0 i q)) (Fin.ext (by dsimp only; omega))) rfl
  · rw [dif_neg (by dsimp only; omega), dif_pos (by dsimp only; omega)]
    exact congrArg₂ (· * ·) (congrArg (fun q => A0 (ix3 1 i q)) (Fin.ext (by dsimp only; omega))) rfl
  · rw [dif_neg (by dsimp only; omega), dif_neg (by dsimp only; omega), dif_pos (by dsimp only; omega)]
    exact congrArg₂ (· * ·) (congrArg (fun q => A0 (ix3 2 i q)) (Fin.ext (by dsimp only; omega))) rfl
  · rw [dif_neg (by dsimp only; omega), dif_neg (by dsimp only; omega), dif_neg (by dsimp only; omega), dif_pos (by dsimp only; omega)]
    exact congrArg₂ (· * ·) (congrArg (fun q => A1 (ix3 0 i q)) (Fin.ext (by dsimp only; omega))) rfl
  · rw [dif_neg (by dsimp only; omega), dif_neg (by dsimp only; omega), dif_neg (by dsimp only; omega), dif_neg (by dsimp only; omega)]
    exact congrArg₂ (· * ·) (congrArg (fun q => A1 (ix3 1 i q)) (Fin.ext (by dsimp only; omega))) rfl

theorem refDx_at (i : Fin 4224) (j : Fin 1024) : refDx A0 A1 A2 A3 A4 A5 (ix2 i j)
    = A5 (ix2 i j) + Rms.bwdR (fun k => A3 (ix2 i k)) (fun k => refDy A0 A1 A2 (ix2 i k) * A4 (ix2 0 k)) j := by
  pointwise [refDx, refV_at, refG_at]
  simp only [Fintype.sum_unique]
  rfl

theorem refDg_at (y : S8x1024.Idx) : refDg A0 A1 A2 A3 y
    = ∑ n : Fin 528, refDy A0 A1 A2 (ix2 ⟨n.val * 8 + (y 0).val, by have := (y 0).isLt; have : (y 0).val < 8 := this; omega⟩ (y 1))
      * (A3 (ix2 ⟨n.val * 8 + (y 0).val, by have := (y 0).isLt; have : (y 0).val < 8 := this; omega⟩ (y 1))
        * Rms.inv fun k => A3 (ix2 ⟨n.val * 8 + (y 0).val, by have := (y 0).isLt; have : (y 0).val < 8 := this; omega⟩ k)) := by
  pointwise [refDg, refV_at]
  refine (Fintype.sum_unique _).trans (Finset.sum_congr rfl fun n _ => ?_)
  rw [mul_comm]
  rfl

end Ref

/-- The reference's run: its result arrays are these two, its arguments are unchanged. -/
theorem ref_run (m : (ℓ : Loc Cert.ReferenceMixinIdeal.nD Cert.ReferenceMixinIdeal.τ Cert.ReferenceMixinIdeal.sig) → Buf (Elt Ideal) ℓ) (ρ : Dev Cert.ReferenceMixinIdeal.nD → PrngReg) :
    θ_run Cert.ReferenceMixinIdeal.defs (onTc (τ := Cert.ReferenceMixinIdeal.τ) (Cert.ReferenceMixinIdeal.main (F := Ideal))) ⟨m, fun _ => 0, ρ⟩ fun r => ∀ c : Dev Cert.ReferenceMixinIdeal.nD,
      r.2.mem ((c.tc : Thread Cert.ReferenceMixinIdeal.nD Cert.ReferenceMixinIdeal.τ).loc Cert.ReferenceMixinIdeal.main_v54) = refDx (m ((c.tc : Thread Cert.ReferenceMixinIdeal.nD Cert.ReferenceMixinIdeal.τ).loc Cert.ReferenceMixinIdeal.main_arg0)) (m ((c.tc : Thread Cert.ReferenceMixinIdeal.nD Cert.ReferenceMixinIdeal.τ).loc Cert.ReferenceMixinIdeal.main_arg1)) (m ((c.tc : Thread Cert.ReferenceMixinIdeal.nD Cert.ReferenceMixinIdeal.τ).loc Cert.ReferenceMixinIdeal.main_arg2)) (m ((c.tc : Thread Cert.ReferenceMixinIdeal.nD Cert.ReferenceMixinIdeal.τ).loc Cert.ReferenceMixinIdeal.main_arg3)) (m ((c.tc : Thread Cert.ReferenceMixinIdeal.nD Cert.ReferenceMixinIdeal.τ).loc Cert.ReferenceMixinIdeal.main_arg4)) (m ((c.tc : Thread Cert.ReferenceMixinIdeal.nD Cert.ReferenceMixinIdeal.τ).loc Cert.ReferenceMixinIdeal.main_arg5))
      ∧ r.2.mem ((c.tc : Thread Cert.ReferenceMixinIdeal.nD Cert.ReferenceMixinIdeal.τ).loc Cert.ReferenceMixinIdeal.main_v39) = refDg (m ((c.tc : Thread Cert.ReferenceMixinIdeal.nD Cert.ReferenceMixinIdeal.τ).loc Cert.ReferenceMixinIdeal.main_arg0)) (m ((c.tc : Thread Cert.ReferenceMixinIdeal.nD Cert.ReferenceMixinIdeal.τ).loc Cert.ReferenceMixinIdeal.main_arg1)) (m ((c.tc : Thread Cert.ReferenceMixinIdeal.nD Cert.ReferenceMixinIdeal.τ).loc Cert.ReferenceMixinIdeal.main_arg2)) (m ((c.tc : Thread Cert.ReferenceMixinIdeal.nD Cert.ReferenceMixinIdeal.τ).loc Cert.ReferenceMixinIdeal.main_arg3))
      ∧ r.2.mem ((c.tc : Thread Cert.ReferenceMixinIdeal.nD Cert.ReferenceMixinIdeal.τ).loc Cert.ReferenceMixinIdeal.main_arg0) = m ((c.tc : Thread Cert.ReferenceMixinIdeal.nD Cert.ReferenceMixinIdeal.τ).loc Cert.ReferenceMixinIdeal.main_arg0)
      ∧ r.2.mem ((c.tc : Thread Cert.ReferenceMixinIdeal.nD Cert.ReferenceMixinIdeal.τ).loc Cert.ReferenceMixinIdeal.main_arg1) = m ((c.tc : Thread Cert.ReferenceMixinIdeal.nD Cert.ReferenceMixinIdeal.τ).loc Cert.ReferenceMixinIdeal.main_arg1)
      ∧ r.2.mem ((c.tc : Thread Cert.ReferenceMixinIdeal.nD Cert.ReferenceMixinIdeal.τ).loc Cert.ReferenceMixinIdeal.main_arg2) = m ((c.tc : Thread Cert.ReferenceMixinIdeal.nD Cert.ReferenceMixinIdeal.τ).loc Cert.ReferenceMixinIdeal.main_arg2)
      ∧ r.2.mem ((c.tc : Thread Cert.ReferenceMixinIdeal.nD Cert.ReferenceMixinIdeal.τ).loc Cert.ReferenceMixinIdeal.main_arg3) = m ((c.tc : Thread Cert.ReferenceMixinIdeal.nD Cert.ReferenceMixinIdeal.τ).loc Cert.ReferenceMixinIdeal.main_arg3)
      ∧ r.2.mem ((c.tc : Thread Cert.ReferenceMixinIdeal.nD Cert.ReferenceMixinIdeal.τ).loc Cert.ReferenceMixinIdeal.main_arg4) = m ((c.tc : Thread Cert.ReferenceMixinIdeal.nD Cert.ReferenceMixinIdeal.τ).loc Cert.ReferenceMixinIdeal.main_arg4)
      ∧ r.2.mem ((c.tc : Thread Cert.ReferenceMixinIdeal.nD Cert.ReferenceMixinIdeal.τ).loc Cert.ReferenceMixinIdeal.main_arg5) = m ((c.tc : Thread Cert.ReferenceMixinIdeal.nD Cert.ReferenceMixinIdeal.τ).loc Cert.ReferenceMixinIdeal.main_arg5) :=
  (θ_run Cert.ReferenceMixinIdeal.defs _ _).mono (fun _ h c => ⟨(h c).1.trans rfl, (h c).2.1.trans rfl, (h c).2.2⟩)
    (Cert.ReferenceMixinIdeal.Value.run (F := Ideal) m ρ)

/-! ### The kernel's blocks -/

/-- The gradient of the normalised rows in a block: five products, one per row block of the weight. -/
def dyK (X0 : FVec Ideal S3x528x512 .bf16) (X1 : FVec Ideal S2x528x512 .bf16) (X2 : FVec Ideal S2560x1024 .bf16) (i : Fin 528) (j : Fin 1024) : EReal :=
  fifth (fun k => X0 (ix3 0 i k)) X2 0 (by omega) j + fifth (fun k => X0 (ix3 1 i k)) X2 512 (by omega) j
    + fifth (fun k => X0 (ix3 2 i k)) X2 1024 (by omega) j + fifth (fun k => X1 (ix3 0 i k)) X2 1536 (by omega) j
    + fifth (fun k => X1 (ix3 1 i k)) X2 2048 (by omega) j

theorem zero_at (x) : k0_pay1 (F := Ideal) x = 0 := by pointwise [k0_pay1]

theorem inv_at (x : FVec Ideal S528x1024 .f32) (i) : k0_pay5 (F := Ideal) x i = Rms.inv fun k => x (ix2 (i 0) k) := by
  pointwise [k0_pay5]
  rfl

theorem dx_at (x d : FVec Ideal S528x1024 .f32) (g : FVec Ideal S1x1024 .f32) (r : FVec Ideal S528x1024 .f32) (i : Fin 528) (j : Fin 1024) :
    k0_pay7 (F := Ideal) x d g r (ix2 i j) = r (ix2 i j) + Rms.bwdK (fun k => x (ix2 i k)) (fun k => d (ix2 i k) * g (ix2 0 k)) j := by
  pointwise [k0_pay7, k0_pay6, inv_at]
  rfl

theorem step_at (x d : FVec Ideal S528x1024 .f32) (a : FVec Ideal S8x1024 .f32) (i : S8x1024.Idx) :
    k0_pay8 (F := Ideal) x d a i = a i + ∑ n : Fin 66, d (ix2 ⟨n.val * 8 + (i 0).val, by have := (i 0).isLt; have : (i 0).val < 8 := this; omega⟩ (i 1))
      * (x (ix2 ⟨n.val * 8 + (i 0).val, by have := (i 0).isLt; have : (i 0).val < 8 := this; omega⟩ (i 1))
        * Rms.inv fun k => x (ix2 ⟨n.val * 8 + (i 0).val, by have := (i 0).isLt; have : (i 0).val < 8 := this; omega⟩ k)) := by
  pointwise [k0_pay8, k0_pay6, inv_at]

theorem prod_at (X0 : FVec Ideal S3x528x512 .bf16) (X1 : FVec Ideal S2x528x512 .bf16) (X2 : FVec Ideal S2560x1024 .bf16) (i) :
    k0_pay4 (F := Ideal)
        (k0_pay2 (View.ld (Val := Elt Ideal) (e' := .bf16) X0 (Rect.unit ![0, 0, 0] ![1, 528, 512] inb_S3x528x512_S1x528x512_0_0_0))
          (View.ld (Val := Elt Ideal) (e' := .bf16) X0 (Rect.unit ![1, 0, 0] ![1, 528, 512] inb_S3x528x512_S1x528x512_1_0_0))
          (View.ld (Val := Elt Ideal) (e' := .bf16) X0 (Rect.unit ![2, 0, 0] ![1, 528, 512] inb_S3x528x512_S1x528x512_2_0_0))
          (View.ld (Val := Elt Ideal) (e' := .bf16) X1 (Rect.unit ![0, 0, 0] ![1, 528, 512] inb_S2x528x512_S1x528x512_0_0_0))
          (View.ld (Val := Elt Ideal) (e' := .bf16) X2 (Rect.unit ![0, 0] ![512, 1024] inb_S2560x1024_S512x1024_0_0))
          (View.ld (Val := Elt Ideal) (e' := .bf16) X2 (Rect.unit ![512, 0] ![512, 1024] inb_S2560x1024_S512x1024_512_0))
          (View.ld (Val := Elt Ideal) (e' := .bf16) X2 (Rect.unit ![1024, 0] ![512, 1024] inb_S2560x1024_S512x1024_1024_0))
          (View.ld (Val := Elt Ideal) (e' := .bf16) X2 (Rect.unit ![1536, 0] ![512, 1024] inb_S2560x1024_S512x1024_1536_0)))
        (k0_pay3 (View.ld (Val := Elt Ideal) (e' := .bf16) X1 (Rect.unit ![1, 0, 0] ![1, 528, 512] inb_S2x528x512_S1x528x512_1_0_0))
          (View.ld (Val := Elt Ideal) (e' := .bf16) X2 (Rect.unit ![2048, 0] ![512, 1024] inb_S2560x1024_S512x1024_2048_0))) i
      = dyK X0 X1 X2 (i 0) (i 1) := by
  pointwise [k0_pay4, k0_pay3, k0_pay2, dyK]
  simp only [fifth, Nat.zero_add]

/-- The block index of each window at each grid point. -/
theorem idx : ∀ t : Fin cfg0.N, win0_0.index t = ![0, t.val, 0] ∧ win0_1.index t = ![0, t.val, 0] ∧ win0_2.index t = ![0, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

/-- Row `i` of the block at point `t`, in the whole array. -/
abbrev row (t : Fin cfg0.N) (i : Fin 528) : Fin 4224 := ⟨t.val * 528 + i.val, by have : t.val < 8 := t.isLt; omega⟩

variable (c : Dev nD)

abbrev a0 : FVec Ideal S3x4224x512 .bf16 := m ((c : Thread nD τ).loc main_arg0)
abbrev a1 : FVec Ideal S2x4224x512 .bf16 := m ((c : Thread nD τ).loc main_arg1)
abbrev a2 : FVec Ideal S2560x1024 .bf16 := m ((c : Thread nD τ).loc main_arg2)
abbrev a3 : FVec Ideal S4224x1024 .f32 := m ((c : Thread nD τ).loc main_arg3)
abbrev a4 : FVec Ideal S1x1024 .f32 := m ((c : Thread nD τ).loc main_arg4)
abbrev a5 : FVec Ideal S4224x1024 .f32 := m ((c : Thread nD τ).loc main_arg5)

theorem h_blk (t : Fin cfg0.N) (s : Fin 3) (i : Fin 528) (k : Fin 512) : (iblk m c 0 t : FVec Ideal S3x528x512 .bf16) (ix3 s i k) = a0 m c (ix3 s (row t i) k) := by
  blk_point [iblk, V, idx t]

theorem v_blk (t : Fin cfg0.N) (s : Fin 2) (i : Fin 528) (k : Fin 512) : (iblk m c 1 t : FVec Ideal S2x528x512 .bf16) (ix3 s i k) = a1 m c (ix3 s (row t i) k) := by
  blk_point [iblk, V, idx t]

theorem w_blk (t : Fin cfg0.N) (k : Fin 2560) (j : Fin 1024) : (iblk m c 2 t : FVec Ideal S2560x1024 .bf16) (ix2 k j) = a2 m c (ix2 k j) := by
  blk_point [iblk, V, idx t]

theorem dy_blk (t : Fin cfg0.N) (i : Fin 528) (j : Fin 1024) :
    dyK (iblk m c 0 t) (iblk m c 1 t) (iblk m c 2 t) i j = refDy (a0 m c) (a1 m c) (a2 m c) (ix2 (row t i) j) := by
  rw [refDy_at]
  unfold dyK fifth
  simp only [h_blk, v_blk, w_blk]

theorem x_blk (t : Fin cfg0.N) (i : Fin 528) (k : Fin 1024) : (iblk m c 3 t : FVec Ideal S528x1024 .f32) (ix2 i k) = a3 m c (ix2 (row t i) k) := by
  blk_point [iblk, V, idx t]

theorem g_blk (t : Fin cfg0.N) (k : Fin 1024) : (iblk m c 4 t : FVec Ideal S1x1024 .f32) (ix2 0 k) = a4 m c (ix2 0 k) := by
  blk_point [iblk, V, idx t]

theorem r_blk (t : Fin cfg0.N) (i : Fin 528) (k : Fin 1024) : (iblk m c 5 t : FVec Ideal S528x1024 .f32) (ix2 i k) = a5 m c (ix2 (row t i) k) := by
  blk_point [iblk, V, idx t]

/-- What a grid point leaves in the first output. -/
theorem out_at (t : Fin cfg0.N) (i : Fin 528) (j : Fin 1024) :
    (outsAt0 m c t.val t.isLt).1 (ix2 i j) = a5 m c (ix2 (row t i) j)
      + Rms.bwdK (fun k => a3 m c (ix2 (row t i) k)) (fun k => refDy (a0 m c) (a1 m c) (a2 m c) (ix2 (row t i) k) * a4 m c (ix2 0 k)) j := by
  by_cases h0 : t.val % 8 = 0
  · rw [outsAt0_A m c t h0]; frame_out
    refine (dx_at ..).trans ?_
    simp only [prod_at, ix2_0, ix2_1, dy_blk, x_blk, g_blk, r_blk]
  · rw [outsAt0_B m c t h0]; frame_out
    refine (dx_at ..).trans ?_
    simp only [prod_at, ix2_0, ix2_1, dy_blk, x_blk, g_blk, r_blk]

/-- One point's share of the scale's gradient. -/
abbrev share (t : Fin cfg0.N) (i : S8x1024.Idx) : EReal :=
  ∑ n : Fin 66, refDy (a0 m c) (a1 m c) (a2 m c) (ix2 (row t ⟨n.val * 8 + (i 0).val, by have := (i 0).isLt; have : (i 0).val < 8 := this; omega⟩) (i 1))
      * (a3 m c (ix2 (row t ⟨n.val * 8 + (i 0).val, by have := (i 0).isLt; have : (i 0).val < 8 := this; omega⟩) (i 1))
        * Rms.inv fun k => a3 m c (ix2 (row t ⟨n.val * 8 + (i 0).val, by have := (i 0).isLt; have : (i 0).val < 8 := this; omega⟩) k))

theorem dg_A (t : Fin cfg0.N) (h : t.val % 8 = 0) (y : S8x1024.Idx) : (outsAt0 m c t.val t.isLt).2 y = 0 + share m c t y := by
  obtain ⟨p, q, rfl⟩ : ∃ (p : Fin 8) (q : Fin 1024), y = ix2 p q := ⟨y 0, y 1, eq_ix2 y⟩
  rw [outsAt0_A m c t h]; frame_out
  refine (step_at ..).trans ?_
  rw [zero_at]
  simp only [prod_at, ix2_0, ix2_1, dy_blk, x_blk]
  rfl

theorem dg_B (t : Fin cfg0.N) (h : ¬t.val % 8 = 0) (y : S8x1024.Idx) : (outsAt0 m c t.val t.isLt).2 y
    = (outsAt0 m c (t.val - 1) (Nat.lt_of_le_of_lt (Nat.sub_le _ _) t.isLt)).2 y + share m c t y := by
  obtain ⟨p, q, rfl⟩ : ∃ (p : Fin 8) (q : Fin 1024), y = ix2 p q := ⟨y 0, y 1, eq_ix2 y⟩
  rw [outsAt0_B m c t h]; frame_out
  refine (step_at ..).trans ?_
  simp only [prod_at, ix2_0, ix2_1, dy_blk, x_blk]
  rfl

/-- The rows' gradient after the run. -/
theorem final_dx : (dats m 0 c).arrAt 6 (cfgs 0).N = refDx (a0 m c) (a1 m c) (a2 m c) (a3 m c) (a4 m c) (a5 m c) := by
  refine (dats m 0 c).arrAt_eq_of_covers 6 _ (by decide +kernel) fun t hf y => ?_
  obtain ⟨i, j, rfl⟩ : ∃ (i : Fin 528) (j : Fin 1024), y = ix2 i j := ⟨y 0, y 1, eq_ix2 y⟩
  have e : ((win0_6.blk t).view.emb (ix2 i j) : S4224x1024.Idx) = ix2 (row t i) j := by
    funext a
    apply Fin.ext
    refine (win0_6.rect_emb_val t _ a).trans ?_
    rw [(idx t).2.2.2.2.2.2.1]
    match a with
    | 0 => rfl
    | 1 => show 0 * 1024 + j.val = j.val; omega
  blk_simp
  rw [after0_6]
  exact (out_at m c t i j).trans ((congrArg _ (Rms.bwd ..)).trans ((congrArg _ e).trans (refDx_at ..)).symm)

/-- The scale's gradient after the run. -/
theorem final_dg : (dats m 0 c).arrAt 7 (cfgs 0).N = refDg (a0 m c) (a1 m c) (a2 m c) (a3 m c) := by
  refine (dats m 0 c).arrAt_eq_of_covers 7 _ (by decide +kernel) fun t hf y => ?_
  obtain ⟨p, q, rfl⟩ : ∃ (p : Fin 8) (q : Fin 1024), y = ix2 p q := ⟨y 0, y 1, eq_ix2 y⟩
  have e : ((win0_7.blk t).view.emb (ix2 p q) : S8x1024.Idx) = ix2 p q := by
    funext a
    apply Fin.ext
    refine (win0_7.rect_emb_val t _ a).trans ?_
    rw [(idx t).2.2.2.2.2.2.2]
    match a with
    | 0 => show 0 * 8 + p.val = p.val; omega
    | 1 => show 0 * 1024 + q.val = q.val; omega
  blk_simp
  rw [after0_7]
  rw [Pipeline.eq_sum_fin_of_reset_step_apply_of_flush (fun n h => (outsAt0 m c n h).2) 8 (fun _ => 0) _
    (fun t h j => dg_A m c t h j) (fun t h j => dg_B m c t h j) t ((flush0_7 t).mp hf) _, zero_add]
  refine Eq.trans ?_ ((congrArg _ e).trans (refDg_at ..)).symm
  refine Fin.sum_mul_add_congr fun s k hl => ?_
  have ht : t.val < 8 := t.isLt
  exact congrArg (fun n : Fin 4224 => refDy (a0 m c) (a1 m c) (a2 m c) (ix2 n q) * (a3 m c (ix2 n q) * Rms.inv fun k => a3 m c (ix2 n k)))
    (Fin.ext (by show (8 * (t.val / 8) + s.val) * 528 + (k.val * 8 + p.val) = (s.val * 66 + k.val) * 8 + p.val; omega))

end Cert.KernelMixinIdeal.MixinValue

end
-- ==== Proof.FfninValue.lean ====
/- The gradient of the feed-forward's gate and up projections and of the normalisation before them: the kernel's two result
   arrays, read off its frame run, are the reference's. A block of rows takes two grid points, each with one half of the
   2816 columns, added into one scratch; at the second the normalisation's gradient is formed. -/
module

public import proofs.«01_k».proof.Proof.Gen.KernelFfninIdeal.Frame
public import proofs.«01_k».proof.Proof.Gen.ReferenceFfninIdeal.Run
public import proofs.«01_k».proof.Proof.Rms
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelFfninIdeal.FfninValue

open Cert.KernelFfninIdeal Cert.KernelFfninIdeal.Gen

variable (m : (ℓ : Loc nD τ sig) → Buf (Elt Ideal) ℓ)

section Ref

open Cert.ReferenceFfninIdeal Cert.ReferenceFfninIdeal.Gen

variable (A0 : FVec Ideal S4224x2816 .bf16) (A1 : FVec Ideal S4224x2816 .bf16) (A2 : FVec Ideal S2816x1024 .bf16) (A3 : FVec Ideal S2816x1024 .bf16)
  (A4 : FVec Ideal S4224x1024 .f32) (A5 : FVec Ideal S1x1024 .f32) (A6 : FVec Ideal S4224x1024 .f32)

/-- The gradient of the normalised rows, before the scale: the up projection's part and the gate projection's. -/
def refDy : FVec Ideal S4224x1024 .f32 := addf (Host.dotGeneral dot_S4224x2816_S1024x2816_S4224x1024_1_1_0_0_n_n none (extf .f32 A1 bitsLt_bf16_f32) (transpose S1024x2816 [1, 0] (extf .f32 A3 bitsLt_bf16_f32) transposes_S2816x1024_S1024x2816_1_0)) (Host.dotGeneral dot_S4224x2816_S1024x2816_S4224x1024_1_1_0_0_n_n none (extf .f32 A0 bitsLt_bf16_f32) (transpose S1024x2816 [1, 0] (extf .f32 A2 bitsLt_bf16_f32) transposes_S2816x1024_S1024x2816_1_0))

/-- The scale, once per row. -/
def refG : FVec Ideal S4224x1024 .f32 := (shapeCast S4224x1024 (broadcastInDim S528x8x1024 ![0, 1, 2] bcast_S1x8x1024_S528x8x1024_0_1_2 (broadcastInDim S1x8x1024 ![1, 2] bcast_S8x1024_S1x8x1024_1_2 (broadcastInDim S8x1024 ![0, 1] bcast_S1x1024_S8x1024_0_1 A5))) shapeCasts_S528x8x1024_S4224x1024)

/-- The mean square of each row, with the constant added. -/
def refV : FVec Ideal S4224x1 .f32 := (addf (Host.divf (broadcastInDim S4224x1 ![0] bcast_S4224_S4224x1_0 (Host.reduceAdd (mulf A4 A4) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))

/-- The gradient of the rows. -/
def refDx : FVec Ideal S4224x1024 .f32 := addf A6 (addf (addf (mulf (mulf (refDy A0 A1 A2 A3) (refG A5)) (broadcastInDim S4224x1024 ![0, 1] bcast_S4224x1_S4224x1024_0_1 (Host.rsqrt (refV A4)))) (mulf A4 (broadcastInDim S4224x1024 ![0] bcast_S4224_S4224x1024_0 (Host.reduceAdd (Host.divf (mulf (shapeCast _ (Host.reduceAdd (mulf A4 (mulf (refDy A0 A1 A2 A3) (refG A5))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (refV A4)) (refV A4)))) (broadcastInDim S4224x1 ![] bcast_S_S4224x1 (constant S_ .f32 0x44800000#32))) (constant S_ .f32 0x00000000#32) reducesTo_S4224x1_S4224_d1 h_S_)))) (mulf (broadcastInDim S4224x1024 ![0] bcast_S4224_S4224x1024_0 (Host.reduceAdd (Host.divf (mulf (shapeCast _ (Host.reduceAdd (mulf A4 (mulf (refDy A0 A1 A2 A3) (refG A5))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (refV A4)) (refV A4)))) (broadcastInDim S4224x1 ![] bcast_S_S4224x1 (constant S_ .f32 0x44800000#32))) (constant S_ .f32 0x00000000#32) reducesTo_S4224x1_S4224_d1 h_S_)) A4))

/-- The gradient of the scale, kept as eight row sums. -/
def refDg : FVec Ideal S8x1024 .f32 :=
  Host.reduceAdd (broadcastInDim S1x8x1024 ![1, 2] bcast_S8x1024_S1x8x1024_1_2 (Host.reduceAdd (shapeCast _ (mulf (mulf A4 (broadcastInDim S4224x1024 ![0, 1] bcast_S4224x1_S4224x1024_0_1 (Host.rsqrt (refV A4)))) (refDy A0 A1 A2 A3)) shapeCasts_S4224x1024_S528x8x1024) (constant S_ .f32 0x00000000#32) reducesTo_S528x8x1024_S8x1024_d0 h_S_)) (constant S_ .f32 0x00000000#32) reducesTo_S1x8x1024_S8x1024_d0 h_S_

theorem refV_at (y : S4224x1.Idx) : refV A4 y = Rms.ms fun k => A4 (ix2 (y 0) k) := by
  pointwise [refV]
  rfl

theorem refG_at (y : S4224x1024.Idx) : refG A5 y = A5 (ix2 0 (y 1)) := by pointwise [refG]

/-- One half of a contraction: 1408 columns, from column `o` on. -/
abbrev half (X : FVec Ideal S4224x2816 .bf16) (W : FVec Ideal S2816x1024 .bf16) (i : Fin 4224) (j : Fin 1024) (o : ℕ) (ho : o < 2) : EReal :=
  ∑ k : Fin 1408, X (ix2 i ⟨o * 1408 + k.val, by omega⟩) * W (ix2 ⟨o * 1408 + k.val, by omega⟩ j)

theorem halves (X : FVec Ideal S4224x2816 .bf16) (W : FVec Ideal S2816x1024 .bf16) (i : Fin 4224) (j : Fin 1024) :
    ∑ k : Fin 2816, X (ix2 i k) * W (ix2 k j) = half X W i j 0 (by omega) + half X W i j 1 (by omega) :=
  (Fin.sum_mul_add_congr (S := 2) (n := 1408) (F := fun s k => X (ix2 i ⟨s.val * 1408 + k.val, by omega⟩) * W (ix2 ⟨s.val * 1408 + k.val, by omega⟩ j))
    fun s k hl => rfl).symm.trans (Fin.sum_univ_two _)

theorem refDy_at (i : Fin 4224) (j : Fin 1024) : refDy A0 A1 A2 A3 (ix2 i j)
    = (half A0 A2 i j 0 (by omega) + half A1 A3 i j 0 (by omega)) + (half A0 A2 i j 1 (by omega) + half A1 A3 i j 1 (by omega)) := by
  pointwise [refDy]
  refine (congrArg₂ (· + ·) (halves A1 A3 i j) (halves A0 A2 i j)).trans ((add_comm _ _).trans (add_add_add_comm _ _ _ _))

theorem refDx_at (i : Fin 4224) (j : Fin 1024) : refDx A0 A1 A2 A3 A4 A5 A6 (ix2 i j)
    = A6 (ix2 i j) + Rms.bwdR (fun k => A4 (ix2 i k)) (fun k => refDy A0 A1 A2 A3 (ix2 i k) * A5 (ix2 0 k)) j := by
  pointwise [refDx, refV_at, refG_at]
  simp only [Fintype.sum_unique]
  rfl

theorem refDg_at (y : S8x1024.Idx) : refDg A0 A1 A2 A3 A4 y
    = ∑ n : Fin 528, refDy A0 A1 A2 A3 (ix2 ⟨n.val * 8 + (y 0).val, by have := (y 0).isLt; have : (y 0).val < 8 := this; omega⟩ (y 1))
      * (A4 (ix2 ⟨n.val * 8 + (y 0).val, by have := (y 0).isLt; have : (y 0).val < 8 := this; omega⟩ (y 1))
        * Rms.inv fun k => A4 (ix2 ⟨n.val * 8 + (y 0).val, by have := (y 0).isLt; have : (y 0).val < 8 := this; omega⟩ k)) := by
  pointwise [refDg, refV_at]
  refine (Fintype.sum_unique _).trans (Finset.sum_congr rfl fun n _ => ?_)
  rw [mul_comm]
  rfl

end Ref

/-- The reference's run: its result arrays are these two, its arguments are unchanged. -/
theorem ref_run (m : (ℓ : Loc Cert.ReferenceFfninIdeal.nD Cert.ReferenceFfninIdeal.τ Cert.ReferenceFfninIdeal.sig) → Buf (Elt Ideal) ℓ) (ρ : Dev Cert.ReferenceFfninIdeal.nD → PrngReg) :
    θ_run Cert.ReferenceFfninIdeal.defs (onTc (τ := Cert.ReferenceFfninIdeal.τ) (Cert.ReferenceFfninIdeal.main (F := Ideal))) ⟨m, fun _ => 0, ρ⟩ fun r => ∀ c : Dev Cert.ReferenceFfninIdeal.nD,
      r.2.mem ((c.tc : Thread Cert.ReferenceFfninIdeal.nD Cert.ReferenceFfninIdeal.τ).loc Cert.ReferenceFfninIdeal.main_v49) = refDx (m ((c.tc : Thread Cert.ReferenceFfninIdeal.nD Cert.ReferenceFfninIdeal.τ).loc Cert.ReferenceFfninIdeal.main_arg0)) (m ((c.tc : Thread Cert.ReferenceFfninIdeal.nD Cert.ReferenceFfninIdeal.τ).loc Cert.ReferenceFfninIdeal.main_arg1)) (m ((c.tc : Thread Cert.ReferenceFfninIdeal.nD Cert.ReferenceFfninIdeal.τ).loc Cert.ReferenceFfninIdeal.main_arg2)) (m ((c.tc : Thread Cert.ReferenceFfninIdeal.nD Cert.ReferenceFfninIdeal.τ).loc Cert.ReferenceFfninIdeal.main_arg3)) (m ((c.tc : Thread Cert.ReferenceFfninIdeal.nD Cert.ReferenceFfninIdeal.τ).loc Cert.ReferenceFfninIdeal.main_arg4)) (m ((c.tc : Thread Cert.ReferenceFfninIdeal.nD Cert.ReferenceFfninIdeal.τ).loc Cert.ReferenceFfninIdeal.main_arg5)) (m ((c.tc : Thread Cert.ReferenceFfninIdeal.nD Cert.ReferenceFfninIdeal.τ).loc Cert.ReferenceFfninIdeal.main_arg6))
      ∧ r.2.mem ((c.tc : Thread Cert.ReferenceFfninIdeal.nD Cert.ReferenceFfninIdeal.τ).loc Cert.ReferenceFfninIdeal.main_v34) = refDg (m ((c.tc : Thread Cert.ReferenceFfninIdeal.nD Cert.ReferenceFfninIdeal.τ).loc Cert.ReferenceFfninIdeal.main_arg0)) (m ((c.tc : Thread Cert.ReferenceFfninIdeal.nD Cert.ReferenceFfninIdeal.τ).loc Cert.ReferenceFfninIdeal.main_arg1)) (m ((c.tc : Thread Cert.ReferenceFfninIdeal.nD Cert.ReferenceFfninIdeal.τ).loc Cert.ReferenceFfninIdeal.main_arg2)) (m ((c.tc : Thread Cert.ReferenceFfninIdeal.nD Cert.ReferenceFfninIdeal.τ).loc Cert.ReferenceFfninIdeal.main_arg3)) (m ((c.tc : Thread Cert.ReferenceFfninIdeal.nD Cert.ReferenceFfninIdeal.τ).loc Cert.ReferenceFfninIdeal.main_arg4))
      ∧ r.2.mem ((c.tc : Thread Cert.ReferenceFfninIdeal.nD Cert.ReferenceFfninIdeal.τ).loc Cert.ReferenceFfninIdeal.main_arg0) = m ((c.tc : Thread Cert.ReferenceFfninIdeal.nD Cert.ReferenceFfninIdeal.τ).loc Cert.ReferenceFfninIdeal.main_arg0)
      ∧ r.2.mem ((c.tc : Thread Cert.ReferenceFfninIdeal.nD Cert.ReferenceFfninIdeal.τ).loc Cert.ReferenceFfninIdeal.main_arg1) = m ((c.tc : Thread Cert.ReferenceFfninIdeal.nD Cert.ReferenceFfninIdeal.τ).loc Cert.ReferenceFfninIdeal.main_arg1)
      ∧ r.2.mem ((c.tc : Thread Cert.ReferenceFfninIdeal.nD Cert.ReferenceFfninIdeal.τ).loc Cert.ReferenceFfninIdeal.main_arg2) = m ((c.tc : Thread Cert.ReferenceFfninIdeal.nD Cert.ReferenceFfninIdeal.τ).loc Cert.ReferenceFfninIdeal.main_arg2)
      ∧ r.2.mem ((c.tc : Thread Cert.ReferenceFfninIdeal.nD Cert.ReferenceFfninIdeal.τ).loc Cert.ReferenceFfninIdeal.main_arg3) = m ((c.tc : Thread Cert.ReferenceFfninIdeal.nD Cert.ReferenceFfninIdeal.τ).loc Cert.ReferenceFfninIdeal.main_arg3)
      ∧ r.2.mem ((c.tc : Thread Cert.ReferenceFfninIdeal.nD Cert.ReferenceFfninIdeal.τ).loc Cert.ReferenceFfninIdeal.main_arg4) = m ((c.tc : Thread Cert.ReferenceFfninIdeal.nD Cert.ReferenceFfninIdeal.τ).loc Cert.ReferenceFfninIdeal.main_arg4)
      ∧ r.2.mem ((c.tc : Thread Cert.ReferenceFfninIdeal.nD Cert.ReferenceFfninIdeal.τ).loc Cert.ReferenceFfninIdeal.main_arg5) = m ((c.tc : Thread Cert.ReferenceFfninIdeal.nD Cert.ReferenceFfninIdeal.τ).loc Cert.ReferenceFfninIdeal.main_arg5)
      ∧ r.2.mem ((c.tc : Thread Cert.ReferenceFfninIdeal.nD Cert.ReferenceFfninIdeal.τ).loc Cert.ReferenceFfninIdeal.main_arg6) = m ((c.tc : Thread Cert.ReferenceFfninIdeal.nD Cert.ReferenceFfninIdeal.τ).loc Cert.ReferenceFfninIdeal.main_arg6) :=
  (θ_run Cert.ReferenceFfninIdeal.defs _ _).mono (fun _ h c => ⟨(h c).1.trans rfl, (h c).2.1.trans rfl, (h c).2.2⟩)
    (Cert.ReferenceFfninIdeal.Value.run (F := Ideal) m ρ)

/-! ### The kernel's blocks -/

theorem zero_at (x) : k0_pay1 (F := Ideal) x = 0 := by pointwise [k0_pay1]

theorem zero8_at (x) : k0_pay2 (F := Ideal) x = 0 := by pointwise [k0_pay2]

/-- One accumulation step: what was held, plus this half of both products. -/
theorem step_at (a : FVec Ideal S528x1024 .f32) (x0 : FVec Ideal S528x1408 .bf16) (w0 : FVec Ideal S1408x1024 .bf16) (x1 : FVec Ideal S528x1408 .bf16)
    (w1 : FVec Ideal S1408x1024 .bf16) (i) : k0_pay3 a x0 w0 x1 w1 i
      = a i + ((∑ k : Fin 1408, x0 (ix2 (i 0) k) * w0 (ix2 k (i 1))) + ∑ k : Fin 1408, x1 (ix2 (i 0) k) * w1 (ix2 k (i 1))) := by
  pointwise [k0_pay3]

theorem inv_at (x : FVec Ideal S528x1024 .f32) (i) : k0_pay4 (F := Ideal) x i = Rms.inv fun k => x (ix2 (i 0) k) := by
  pointwise [k0_pay4]
  rfl

theorem dx_at (x d : FVec Ideal S528x1024 .f32) (g : FVec Ideal S1x1024 .f32) (r : FVec Ideal S528x1024 .f32) (i : Fin 528) (j : Fin 1024) :
    k0_pay6 (F := Ideal) x d g r (ix2 i j) = r (ix2 i j) + Rms.bwdK (fun k => x (ix2 i k)) (fun k => d (ix2 i k) * g (ix2 0 k)) j := by
  pointwise [k0_pay6, k0_pay5, inv_at]
  rfl

theorem share_at (x d : FVec Ideal S528x1024 .f32) (a : FVec Ideal S8x1024 .f32) (i : S8x1024.Idx) :
    k0_pay7 (F := Ideal) x d a i = a i + ∑ n : Fin 66, d (ix2 ⟨n.val * 8 + (i 0).val, by have := (i 0).isLt; have : (i 0).val < 8 := this; omega⟩ (i 1))
      * (x (ix2 ⟨n.val * 8 + (i 0).val, by have := (i 0).isLt; have : (i 0).val < 8 := this; omega⟩ (i 1))
        * Rms.inv fun k => x (ix2 ⟨n.val * 8 + (i 0).val, by have := (i 0).isLt; have : (i 0).val < 8 := this; omega⟩ k)) := by
  pointwise [k0_pay7, k0_pay5, inv_at]

/-- The block index of each window at each grid point. -/
theorem idx : ∀ t : Fin cfg0.N, win0_0.index t = ![t.val / 2, t.val % 2] ∧ win0_1.index t = ![t.val / 2, t.val % 2] ∧ win0_2.index t = ![t.val % 2, 0]
    ∧ win0_3.index t = ![t.val % 2, 0] ∧ win0_4.index t = ![t.val / 2, 0] ∧ win0_5.index t = ![0, 0] ∧ win0_6.index t = ![t.val / 2, 0]
    ∧ win0_7.index t = ![t.val / 2, 0] ∧ win0_8.index t = ![0, 0] :=
  (by decide +kernel : ∀ t : Fin grid0.N, _)

/-- Row `i` of the block at point `t`, in the whole array. -/
abbrev row (t : Fin cfg0.N) (i : Fin 528) : Fin 4224 := ⟨t.val / 2 * 528 + i.val, by have : t.val < 16 := t.isLt; omega⟩

variable (c : Dev nD)

abbrev a0 : FVec Ideal S4224x2816 .bf16 := m ((c : Thread nD τ).loc main_arg0)
abbrev a1 : FVec Ideal S4224x2816 .bf16 := m ((c : Thread nD τ).loc main_arg1)
abbrev a2 : FVec Ideal S2816x1024 .bf16 := m ((c : Thread nD τ).loc main_arg2)
abbrev a3 : FVec Ideal S2816x1024 .bf16 := m ((c : Thread nD τ).loc main_arg3)
abbrev a4 : FVec Ideal S4224x1024 .f32 := m ((c : Thread nD τ).loc main_arg4)
abbrev a5 : FVec Ideal S1x1024 .f32 := m ((c : Thread nD τ).loc main_arg5)
abbrev a6 : FVec Ideal S4224x1024 .f32 := m ((c : Thread nD τ).loc main_arg6)

theorem gate_blk (t : Fin cfg0.N) (i : Fin 528) (k : Fin 1408) : (iblk m c 0 t : FVec Ideal S528x1408 .bf16) (ix2 i k)
    = a0 m c (ix2 (row t i) ⟨t.val % 2 * 1408 + k.val, by omega⟩) := by
  blk_point [iblk, V, idx t]

theorem up_blk (t : Fin cfg0.N) (i : Fin 528) (k : Fin 1408) : (iblk m c 1 t : FVec Ideal S528x1408 .bf16) (ix2 i k)
    = a1 m c (ix2 (row t i) ⟨t.val % 2 * 1408 + k.val, by omega⟩) := by
  blk_point [iblk, V, idx t]

theorem wg_blk (t : Fin cfg0.N) (k : Fin 1408) (j : Fin 1024) : (iblk m c 2 t : FVec Ideal S1408x1024 .bf16) (ix2 k j)
    = a2 m c (ix2 ⟨t.val % 2 * 1408 + k.val, by omega⟩ j) := by
  blk_point [iblk, V, idx t]

theorem wu_blk (t : Fin cfg0.N) (k : Fin 1408) (j : Fin 1024) : (iblk m c 3 t : FVec Ideal S1408x1024 .bf16) (ix2 k j)
    = a3 m c (ix2 ⟨t.val % 2 * 1408 + k.val, by omega⟩ j) := by
  blk_point [iblk, V, idx t]

theorem x_blk (t : Fin cfg0.N) (i : Fin 528) (k : Fin 1024) : (iblk m c 4 t : FVec Ideal S528x1024 .f32) (ix2 i k) = a4 m c (ix2 (row t i) k) := by
  blk_point [iblk, V, idx t]

theorem g_blk (t : Fin cfg0.N) (k : Fin 1024) : (iblk m c 5 t : FVec Ideal S1x1024 .f32) (ix2 0 k) = a5 m c (ix2 0 k) := by
  blk_point [iblk, V, idx t]

theorem r_blk (t : Fin cfg0.N) (i : Fin 528) (k : Fin 1024) : (iblk m c 6 t : FVec Ideal S528x1024 .f32) (ix2 i k) = a6 m c (ix2 (row t i) k) := by
  blk_point [iblk, V, idx t]

/-- What a grid point adds to the scratch. -/
abbrev add2 (t : Fin cfg0.N) (i : Fin 528) (j : Fin 1024) : EReal :=
  half (a0 m c) (a2 m c) (row t i) j (t.val % 2) (by omega) + half (a1 m c) (a3 m c) (row t i) j (t.val % 2) (by omega)

/-- The first point of a block of rows leaves its own products in the scratch. -/
theorem acc_even (t : Fin cfg0.N) (h : t.val % 2 = 0) (i : Fin 528) (j : Fin 1024) : (outsAt0 m c t.val t.isLt).2.2 (ix2 i j) = add2 m c t i j := by
  have hN : t.val < 16 := t.isLt
  by_cases h0 : t.val % 16 = 0
  · rw [outsAt0_A m c t h h0 (by omega)]; frame_out
    rw [step_at, zero_at]
    simp only [ix2_0, ix2_1, gate_blk, up_blk, wg_blk, wu_blk, zero_add]
  · rw [outsAt0_C m c t h h0 (by omega)]; frame_out
    rw [step_at, zero_at]
    simp only [ix2_0, ix2_1, gate_blk, up_blk, wg_blk, wu_blk, zero_add]

/-- What the second point of a block of rows forms its results of: the whole contraction. -/
theorem acc_odd (t : Fin cfg0.N) (h : t.val % 2 = 1) (i : Fin 528) (j : Fin 1024) :
    k0_pay3 (outsAt0 m c (t.val - 1) (Nat.lt_of_le_of_lt (Nat.sub_le _ _) t.isLt)).2.2 (iblk m c 0 t) (iblk m c 2 t) (iblk m c 1 t) (iblk m c 3 t) (ix2 i j)
      = refDy (a0 m c) (a1 m c) (a2 m c) (a3 m c) (ix2 (row t i) j) := by
  have hN : t.val < 16 := t.isLt
  refine (step_at ..).trans ?_
  have e := acc_even m c ⟨t.val - 1, by show t.val - 1 < 16; omega⟩ (by show (t.val - 1) % 2 = 0; omega) i j
  have hd : (t.val - 1) / 2 = t.val / 2 := by omega
  have hm : (t.val - 1) % 2 = 0 := by omega
  simp only [add2, row, hd, hm] at e
  simp only [ix2_0, ix2_1, gate_blk, up_blk, wg_blk, wu_blk, h]
  rw [refDy_at]
  exact congrArg₂ (· + ·) e rfl

/-- What the second point of a block of rows leaves in the first output. -/
theorem out_at (t : Fin cfg0.N) (h : t.val % 2 = 1) (i : Fin 528) (j : Fin 1024) :
    (outsAt0 m c t.val t.isLt).1 (ix2 i j) = a6 m c (ix2 (row t i) j)
      + Rms.bwdK (fun k => a4 m c (ix2 (row t i) k)) (fun k => refDy (a0 m c) (a1 m c) (a2 m c) (a3 m c) (ix2 (row t i) k) * a5 m c (ix2 0 k)) j := by
  rw [outsAt0_B m c t (by omega) (by omega) h]; frame_out
  refine (dx_at ..).trans ?_
  simp only [read_unread_whole, acc_odd m c t h, x_blk, g_blk, r_blk]

/-- A block of rows' share of the scale's gradient. -/
abbrev share (t : Fin cfg0.N) (i : S8x1024.Idx) : EReal :=
  ∑ n : Fin 66, refDy (a0 m c) (a1 m c) (a2 m c) (a3 m c) (ix2 (row t ⟨n.val * 8 + (i 0).val, by have := (i 0).isLt; have : (i 0).val < 8 := this; omega⟩) (i 1))
      * (a4 m c (ix2 (row t ⟨n.val * 8 + (i 0).val, by have := (i 0).isLt; have : (i 0).val < 8 := this; omega⟩) (i 1))
        * Rms.inv fun k => a4 m c (ix2 (row t ⟨n.val * 8 + (i 0).val, by have := (i 0).isLt; have : (i 0).val < 8 := this; omega⟩) k))

/-- One point's share: the second point of a block of rows adds it, the first adds nothing. -/
abbrev shareAt (t : Fin cfg0.N) (i : S8x1024.Idx) : EReal := if t.val % 2 = 1 then share m c t i else 0

theorem dg_A (t : Fin cfg0.N) (h : t.val % 16 = 0) (y : S8x1024.Idx) : (outsAt0 m c t.val t.isLt).2.1 y = 0 + shareAt m c t y := by
  rw [outsAt0_A m c t (by omega) h (by omega)]; frame_out
  rw [zero8_at]
  simp only [shareAt, show ¬t.val % 2 = 1 by omega, if_false, add_zero]

theorem dg_B (t : Fin cfg0.N) (h : ¬t.val % 16 = 0) (y : S8x1024.Idx) : (outsAt0 m c t.val t.isLt).2.1 y
    = (outsAt0 m c (t.val - 1) (Nat.lt_of_le_of_lt (Nat.sub_le _ _) t.isLt)).2.1 y + shareAt m c t y := by
  obtain ⟨p, q, rfl⟩ : ∃ (p : Fin 8) (q : Fin 1024), y = ix2 p q := ⟨y 0, y 1, eq_ix2 y⟩
  by_cases h2 : t.val % 2 = 1
  · rw [outsAt0_B m c t (by omega) h h2]; frame_out
    refine (share_at ..).trans ?_
    simp only [read_unread_whole, acc_odd m c t h2, ix2_0, ix2_1, x_blk, shareAt, h2, if_true]
    rfl
  · rw [outsAt0_C m c t (by omega) h h2]; frame_out
    simp only [shareAt, h2, if_false, add_zero]
    rfl

/-- The rows' gradient after the run. -/
theorem final_dx : (dats m 0 c).arrAt 7 (cfgs 0).N = refDx (a0 m c) (a1 m c) (a2 m c) (a3 m c) (a4 m c) (a5 m c) (a6 m c) := by
  refine (dats m 0 c).arrAt_eq_of_covers 7 _ (by decide +kernel) fun t hf y => ?_
  obtain ⟨i, j, rfl⟩ : ∃ (i : Fin 528) (j : Fin 1024), y = ix2 i j := ⟨y 0, y 1, eq_ix2 y⟩
  have e : ((win0_7.blk t).view.emb (ix2 i j) : S4224x1024.Idx) = ix2 (row t i) j := by
    funext a
    apply Fin.ext
    refine (win0_7.rect_emb_val t _ a).trans ?_
    rw [(idx t).2.2.2.2.2.2.2.1]
    match a with
    | 0 => rfl
    | 1 => show 0 * 1024 + j.val = j.val; omega
  blk_simp
  rw [after0_7]
  exact (out_at m c t ((flush0_7 t).mp hf) i j).trans ((congrArg _ (Rms.bwd ..)).trans ((congrArg _ e).trans (refDx_at ..)).symm)

/-- The scale's gradient after the run. -/
theorem final_dg : (dats m 0 c).arrAt 8 (cfgs 0).N = refDg (a0 m c) (a1 m c) (a2 m c) (a3 m c) (a4 m c) := by
  refine (dats m 0 c).arrAt_eq_of_covers 8 _ (by decide +kernel) fun t hf y => ?_
  obtain ⟨p, q, rfl⟩ : ∃ (p : Fin 8) (q : Fin 1024), y = ix2 p q := ⟨y 0, y 1, eq_ix2 y⟩
  have e : ((win0_8.blk t).view.emb (ix2 p q) : S8x1024.Idx) = ix2 p q := by
    funext a
    apply Fin.ext
    refine (win0_8.rect_emb_val t _ a).trans ?_
    rw [(idx t).2.2.2.2.2.2.2.2]
    match a with
    | 0 => show 0 * 8 + p.val = p.val; omega
    | 1 => show 0 * 1024 + q.val = q.val; omega
  blk_simp
  rw [after0_8]
  rw [Pipeline.eq_sum_fin_of_reset_step_apply_of_flush (fun n h => (outsAt0 m c n h).2.1) 16 (fun _ => 0) _
    (fun t h j => dg_A m c t h j) (fun t h j => dg_B m c t h j) t ((flush0_8 t).mp hf) _, zero_add]
  refine Eq.trans ?_ ((congrArg _ e).trans (refDg_at ..)).symm
  have ht : t.val < 16 := t.isLt
  refine (Fin.sum_mul_add_congr (S := 8) (n := 2) (F := fun s k => if k.val = 1 then share m c ⟨s.val * 2 + 1, by show s.val * 2 + 1 < 16; omega⟩ (ix2 p q) else 0)
    fun s k hl => ?_).symm.trans ?_
  · have hk := k.isLt
    by_cases h1 : k.val = 1
    · have h2 : (16 * (t.val / 16) + (s.val * 2 + k.val)) % 2 = 1 := by omega
      simp only [shareAt, h1, if_true]
      refine ((if_pos (by omega)).trans (congrArg (fun n : Fin cfg0.N => share m c n (ix2 p q)) (Fin.ext ?_))).symm
      show 16 * (t.val / 16) + (s.val * 2 + 1) = s.val * 2 + 1
      omega
    · have h2 : ¬(16 * (t.val / 16) + (s.val * 2 + k.val)) % 2 = 1 := by omega
      simp only [shareAt, h1, h2, if_false]
  · simp only [Fin.sum_univ_two, Fin.val_zero, Fin.val_one, zero_ne_one, if_false, if_true, zero_add]
    refine Fin.sum_mul_add_congr fun s k hl => ?_
    exact congrArg (fun n : Fin 4224 => refDy (a0 m c) (a1 m c) (a2 m c) (a3 m c) (ix2 n q) * (a4 m c (ix2 n q) * Rms.inv fun k => a4 m c (ix2 n k)))
      (Fin.ext (by show (s.val * 2 + 1) / 2 * 528 + (k.val * 8 + p.val) = (s.val * 66 + k.val) * 8 + p.val; omega))

end Cert.KernelFfninIdeal.FfninValue

end
-- ==== Proof.MmValue.lean ====
/- The gradient of the down projection's weight: the kernel's result array, read off its frame run, is the
   reference's product of the transposed activations with the incoming gradient. The contraction over the 4224 rows is
   three grid points of 1408 rows each, added into one scratch. -/
module

public import proofs.«01_k».proof.Proof.Gen.KernelMmIdeal.Frame
public import proofs.«01_k».proof.Proof.Gen.ReferenceMmIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelMmIdeal.MmValue

open Cert.KernelMmIdeal Cert.KernelMmIdeal.Gen

variable (m : (ℓ : Loc nD τ sig) → Buf (Elt Ideal) ℓ)

/-- The reference's term over the two argument arrays. -/
abbrev ref (A : FVec Ideal S4224x2816 .bf16) (B : FVec Ideal S4224x1024 .f32) : FVec Ideal S2816x1024 .bf16 :=
  truncf .bf16 (transpose Cert.ReferenceMmIdeal.S2816x1024 [1, 0] (Host.dotGeneral Cert.ReferenceMmIdeal.dot_S4224x1024_S4224x2816_S1024x2816_0_0_1_1_n_n none B (extf .f32 A Cert.ReferenceMmIdeal.Gen.bitsLt_bf16_f32)) Cert.ReferenceMmIdeal.Gen.transposes_S1024x2816_S2816x1024_1_0) Cert.ReferenceMmIdeal.Gen.bitsLt_bf16_f32

/-- The zero fill of the accumulator. -/
theorem zero_at (j) : k0_pay1 (F := Ideal) j = 0 := by pointwise [k0_pay1]

/-- One accumulation step: what was held, plus this block's 1408 products. -/
theorem step_at (acc : FVec Ideal S1408x1024 .f32) (x0 : FVec Ideal S1408x1408 .bf16) (x1 : FVec Ideal S1408x1024 .f32) (j) :
    k0_pay2 acc x0 x1 j = acc j + ∑ k : Fin 1408, x0 (ix2 k (j 0)) * x1 (ix2 k (j 1)) := by pointwise [k0_pay2]

/-- The reference at an index: the sum over the 4224 rows. -/
theorem ref_at (A B) (j) : ref A B j = ∑ l : Fin 4224, A (ix2 l (j 0)) * B (ix2 l (j 1)) := by
  pointwise [ref]
  exact Fin.sum_fin_congr fun l => mul_comm _ _

/-- The block index of each window at each grid point. -/
theorem idx : ∀ t : Fin cfg0.N, win0_0.index t = ![t.val % 3, t.val / 3] ∧ win0_1.index t = ![t.val % 3, 0] ∧ win0_2.index t = ![t.val / 3, 0] :=
  (by decide +kernel : ∀ t : Fin grid0.N, _)

/-- At a flushing point the stored block is what the accumulator holds. -/
theorem stored_at (c : Dev nD) (t : Fin cfg0.N) (h : t.val % 3 = 2) (y) :
    (outsAt0 m c t.val t.isLt).1 y = (outsAt0 m c t.val t.isLt).2 y := by
  rw [outsAt0_C m c t (by omega) h]
  frame_out
  pointwise [k0_pay3]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2, stored_at m c t ((flush0_2 t).mp hf)]
  rw [Pipeline.eq_sum_fin_of_reset_step_apply_of_flush (fun n h => (outsAt0 m c n h).2) 3 (fun _ => 0) _
    (fun t h j => by rw [outsAt0_A m c t h (by omega)]; frame_out; rw [step_at, zero_at])
    (fun t h j => by
      by_cases h2 : t.val % 3 = 2
      · rw [outsAt0_C m c t h h2]; frame_out; rw [step_at]; simp only [read_unread_whole]
      · rw [outsAt0_B m c t h h2]; frame_out; rw [step_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.KernelMmIdeal.MmValue

end
-- ==== Proof.GateValue.lean ====
/- The gradients of the gate and up projections' weights (one program for both): the kernel's result array, read off its
   frame run, is the reference's product of the transposed cotangent with the normalised rows. As for the down
   projection, the 4224 rows are contracted in three grid points, added into one scratch. -/
module

public import proofs.«01_k».proof.Proof.Gen.KernelGateIdeal.Frame
public import proofs.«01_k».proof.Proof.Gen.ReferenceGateIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelGateIdeal.GateValue

open Cert.KernelGateIdeal Cert.KernelGateIdeal.Gen

variable (m : (ℓ : Loc nD τ sig) → Buf (Elt Ideal) ℓ)

/-- The reference's term over the two argument arrays. -/
abbrev ref (A : FVec Ideal S4224x2816 .bf16) (B : FVec Ideal S4224x1024 .bf16) : FVec Ideal S2816x1024 .bf16 :=
  truncf .bf16 (transpose Cert.ReferenceGateIdeal.S2816x1024 [1, 0] (transpose Cert.ReferenceGateIdeal.S1024x2816 [1, 0] (Host.dotGeneral Cert.ReferenceGateIdeal.dot_S4224x2816_S4224x1024_S2816x1024_0_0_1_1_n_n none (extf .f32 A Cert.ReferenceGateIdeal.Gen.bitsLt_bf16_f32) (extf .f32 B Cert.ReferenceGateIdeal.Gen.bitsLt_bf16_f32)) Cert.ReferenceGateIdeal.Gen.transposes_S2816x1024_S1024x2816_1_0) Cert.ReferenceGateIdeal.Gen.transposes_S1024x2816_S2816x1024_1_0) Cert.ReferenceGateIdeal.Gen.bitsLt_bf16_f32

/-- The zero fill of the accumulator. -/
theorem zero_at (j) : k0_pay1 (F := Ideal) j = 0 := by pointwise [k0_pay1]

/-- One accumulation step: what was held, plus this block's 1408 products. -/
theorem step_at (acc : FVec Ideal S1408x1024 .f32) (x0 : FVec Ideal S1408x1408 .bf16) (x1 : FVec Ideal S1408x1024 .bf16) (j) :
    k0_pay2 acc x0 x1 j = acc j + ∑ k : Fin 1408, x0 (ix2 k (j 0)) * x1 (ix2 k (j 1)) := by pointwise [k0_pay2]

/-- The reference at an index: the sum over the 4224 rows. -/
theorem ref_at (A B) (j) : ref A B j = ∑ l : Fin 4224, A (ix2 l (j 0)) * B (ix2 l (j 1)) := by
  pointwise [ref]

/-- The block index of each window at each grid point. -/
theorem idx : ∀ t : Fin cfg0.N, win0_0.index t = ![t.val % 3, t.val / 3] ∧ win0_1.index t = ![t.val % 3, 0] ∧ win0_2.index t = ![t.val / 3, 0] :=
  (by decide +kernel : ∀ t : Fin grid0.N, _)

/-- At a flushing point the stored block is what the accumulator holds. -/
theorem stored_at (c : Dev nD) (t : Fin cfg0.N) (h : t.val % 3 = 2) (y) :
    (outsAt0 m c t.val t.isLt).1 y = (outsAt0 m c t.val t.isLt).2 y := by
  rw [outsAt0_C m c t (by omega) h]
  frame_out
  pointwise [k0_pay3]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2, stored_at m c t ((flush0_2 t).mp hf)]
  rw [Pipeline.eq_sum_fin_of_reset_step_apply_of_flush (fun n h => (outsAt0 m c n h).2) 3 (fun _ => 0) _
    (fun t h j => by rw [outsAt0_A m c t h (by omega)]; frame_out; rw [step_at, zero_at])
    (fun t h j => by
      by_cases h2 : t.val % 3 = 2
      · rw [outsAt0_C m c t h h2]; frame_out; rw [step_at]; simp only [read_unread_whole]
      · rw [outsAt0_B m c t h h2]; frame_out; rw [step_at]; simp only [read_unread_whole])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.KernelGateIdeal.GateValue

end
-- ==== Proof.GoutValue.lean ====
/- The gradient of the output projection's weight, whose rows are those of the attention half followed by those of the
   convolution half: the kernel's result array, read off its frame run, is the reference's product of the transposed
   joined activations with the incoming gradient. Each half is one run of three grid points of 1408 rows each, added
   into one scratch. -/
module

public import proofs.«01_k».proof.Proof.Gen.KernelGoutIdeal.Frame
public import proofs.«01_k».proof.Proof.Gen.ReferenceGoutIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelGoutIdeal.GoutValue

open Cert.KernelGoutIdeal Cert.KernelGoutIdeal.Gen

variable (m : (ℓ : Loc nD τ sig) → Buf (Elt Ideal) ℓ)

/-- The reference's term over the three argument arrays. -/
abbrev ref (A0 A1 : FVec Ideal S4224x512 .bf16) (A2 : FVec Ideal S4224x1024 .f32) : FVec Ideal S2x512x1024 .bf16 :=
  shapeCast Cert.ReferenceGoutIdeal.S2x512x1024 (truncf .bf16 (transpose Cert.ReferenceGoutIdeal.S1024x1024 [1, 0] (Host.dotGeneral Cert.ReferenceGoutIdeal.dot_S4224x1024_S4224x1024_S1024x1024_0_0_1_1_n_n none A2 (extf .f32 (concatenate Cert.ReferenceGoutIdeal.S4224x1024 1 [⟨Cert.ReferenceGoutIdeal.S4224x512, A0⟩, ⟨Cert.ReferenceGoutIdeal.S4224x512, A1⟩] Cert.ReferenceGoutIdeal.Gen.concatenates_S4224x512_S4224x512_S4224x1024_d1) Cert.ReferenceGoutIdeal.Gen.bitsLt_bf16_f32)) Cert.ReferenceGoutIdeal.Gen.transposes_S1024x1024_S1024x1024_1_0) Cert.ReferenceGoutIdeal.Gen.bitsLt_bf16_f32) Cert.ReferenceGoutIdeal.Gen.shapeCasts_S1024x1024_S2x512x1024

/-- The zero fill of the accumulator. -/
theorem zero_at (j) : k0_pay1 (F := Ideal) j = 0 := by pointwise [k0_pay1]

/-- One accumulation step over a block of the attention half. -/
theorem step_at (acc : FVec Ideal S512x1024 .f32) (x0 : FVec Ideal S1408x512 .bf16) (x1 : FVec Ideal S1408x1024 .f32) (j) :
    k0_pay2 acc x0 x1 j = acc j + ∑ k : Fin 1408, x0 (ix2 k (j 0)) * x1 (ix2 k (j 1)) := by pointwise [k0_pay2]

/-- One accumulation step over a block of the convolution half. -/
theorem step_at' (acc : FVec Ideal S512x1024 .f32) (x0 : FVec Ideal S1408x512 .bf16) (x1 : FVec Ideal S1408x1024 .f32) (j) :
    k0_pay3 acc x0 x1 j = acc j + ∑ k : Fin 1408, x0 (ix2 k (j 0)) * x1 (ix2 k (j 1)) := by pointwise [k0_pay3]

/-- The reference at an index: the sum over the 4224 rows, of the half the index lies in. -/
theorem ref_at (A0 A1 A2) (j) : ref A0 A1 A2 j = ∑ l : Fin 4224, (if (j 0).val = 0 then A0 (ix2 l (j 1)) else A1 (ix2 l (j 1))) * A2 (ix2 l (j 2)) := by
  pointwise [ref]
  refine Fin.sum_fin_congr fun l => ?_
  rw [mul_comm]
  have h1 : (j 1).val < 512 := (j 1).isLt
  congr 1
  by_cases h : (j 0).val = 0
  · rw [dif_pos (by omega), if_pos h]
    blk_ext
  · have h0 : (j 0).val < 2 := (j 0).isLt
    rw [dif_neg (by omega), if_neg h]
    blk_ext

/-- The block index of each window at each grid point. -/
theorem idx : ∀ t : Fin cfg0.N, (t.val < 3 → win0_0.index t = ![t.val % 3, 0]) ∧ (3 ≤ t.val → win0_1.index t = ![t.val % 3, 0]) ∧ win0_2.index t = ![t.val % 3, 0] ∧ win0_3.index t = ![t.val / 3, 0, 0] :=
  (by decide +kernel : ∀ t : Fin grid0.N, _)

/-- The rows a grid point multiplies: the attention half's in the first run, the convolution half's in the second. -/
abbrev xblk (c : Dev nD) (t : Fin cfg0.N) : FVec Ideal S1408x512 .bf16 := if t.val < 3 then iblk m c 0 t else iblk m c 1 t

/-- At a flushing point the stored block is what the accumulator holds. -/
theorem stored_at (c : Dev nD) (t : Fin cfg0.N) (h : t.val % 3 = 2) (y) :
    (outsAt0 m c t.val t.isLt).1 y = (outsAt0 m c t.val t.isLt).2 (ix2 (y 1) (y 2)) := by
  by_cases h1 : t.val < 3
  · rw [outsAt0_C m c t (by omega) h1 (by omega) h]
    frame_out
    pointwise [k0_pay4]
  · rw [outsAt0_F m c t (by omega) h1 (by omega) h]
    frame_out
    pointwise [k0_pay4]

/-- The first point of a run leaves its own products in the accumulator. -/
theorem acc_first (c : Dev nD) (t : Fin cfg0.N) (h : t.val % 3 = 0) (j) :
    (outsAt0 m c t.val t.isLt).2 j = 0 + ∑ k : Fin 1408, xblk m c t (ix2 k (j 0)) * (iblk m c 2 t : FVec Ideal S1408x1024 .f32) (ix2 k (j 1)) := by
  by_cases h1 : t.val < 3
  · rw [outsAt0_A m c t h h1 (by omega) (by omega)]; frame_out
    rw [step_at, zero_at]; simp only [xblk, h1, if_true]
  · rw [outsAt0_D m c t h h1 (by omega) (by omega)]; frame_out
    rw [step_at', zero_at]; simp only [xblk, h1, if_false]

/-- A later point of a run adds its products to what the point before left. -/
theorem acc_next (c : Dev nD) (t : Fin cfg0.N) (h : ¬t.val % 3 = 0) (j) :
    (outsAt0 m c t.val t.isLt).2 j = (outsAt0 m c (t.val - 1) (Nat.lt_of_le_of_lt (Nat.sub_le _ _) t.isLt)).2 j
      + ∑ k : Fin 1408, xblk m c t (ix2 k (j 0)) * (iblk m c 2 t : FVec Ideal S1408x1024 .f32) (ix2 k (j 1)) := by
  by_cases h1 : t.val < 3
  · by_cases h2 : t.val % 3 = 2
    · rw [outsAt0_C m c t h h1 (by omega) h2]; frame_out
      rw [step_at]; simp only [read_unread_whole, xblk, h1, if_true]
    · rw [outsAt0_B m c t h h1 (by omega) h2]; frame_out
      rw [step_at]; simp only [read_unread_whole, xblk, h1, if_true]
  · by_cases h2 : t.val % 3 = 2
    · rw [outsAt0_F m c t h h1 (by omega) h2]; frame_out
      rw [step_at']; simp only [read_unread_whole, xblk, h1, if_false]
    · rw [outsAt0_E m c t h h1 (by omega) h2]; frame_out
      rw [step_at']; simp only [read_unread_whole, xblk, h1, if_false]

/-- The result array after the run. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have hfl := (flush0_3 t).mp hf
  blk_simp
  rw [after0_3, stored_at m c t hfl]
  rw [Pipeline.eq_sum_fin_of_reset_step_apply_of_flush (fun n h => (outsAt0 m c n h).2) 3 (fun _ => 0) _
    (fun t h j => acc_first m c t h j) (fun t h j => acc_next m c t h j)
    t hfl _, zero_add, ref_at]
  refine Fin.sum_mul_add_congr fun s k hl => ?_
  have hs : s.val < 3 := s.isLt
  have hN : t.val < 6 := t.isLt
  have hp := idx ⟨_, Pipeline.run_point_lt_of_flush t hfl s⟩
  by_cases h1 : t.val < 3
  · have hx : 3 * (t.val / 3) + s.val < 3 := by omega
    have e : ((win0_3.blk t).view.emb y 0).val = 0 := by
      blk_simp [(idx t).2.2.2]
      idx_bounds_all
      omega
    rw [if_pos e]
    simp only [xblk, hx, if_true]
    blk_point [iblk, V, idx t, hp.1 hx, hp.2.2.1]
  · have hx : ¬3 * (t.val / 3) + s.val < 3 := by omega
    have e : ¬((win0_3.blk t).view.emb y 0).val = 0 := by
      blk_simp [(idx t).2.2.2]
      omega
    rw [if_neg e]
    simp only [xblk, hx, if_false]
    blk_point [iblk, V, idx t, hp.2.1 (by simpa using hx), hp.2.2.1]

end Cert.KernelGoutIdeal.GoutValue

end
-- ==== Proof.GradinValue.lean ====
/- The gradient of the mixer's input projection's weight, whose rows are those of five parts, three for the attention and two
   for the convolution: the kernel's result array, read off its frame run, is the reference's product of the joined
   incoming gradients, transposed, with the normalised rows. Each part is one run of three grid points of 1408 rows each,
   added into one scratch. -/
module

public import proofs.«01_k».proof.Proof.Gen.KernelGradinIdeal.Frame
public import proofs.«01_k».proof.Proof.Gen.ReferenceGradinIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelGradinIdeal.GradinValue

open Cert.KernelGradinIdeal Cert.KernelGradinIdeal.Gen

variable (m : (ℓ : Loc nD τ sig) → Buf (Elt Ideal) ℓ)

section Ref

open Cert.ReferenceGradinIdeal Cert.ReferenceGradinIdeal.Gen

/-- The reference's term over the three argument arrays. -/
def ref (A0 : FVec Ideal S3x4224x512 .bf16) (A1 : FVec Ideal S2x4224x512 .bf16) (A2 : FVec Ideal S4224x1024 .bf16) : FVec Ideal S5x512x1024 .bf16 :=
  shapeCast _ (truncf .bf16 (transpose S2560x1024 [1, 0] (transpose S1024x2560 [1, 0] (Host.dotGeneral dot_S4224x2560_S4224x1024_S2560x1024_0_0_1_1_n_n none (extf .f32 ((concatenate S4224x2560 1 [⟨S4224x512, ((shapeCast _ (extractStridedSlice S1x4224x512 ![0, 0, 0] A0 slices_S3x4224x512_S1x4224x512_0_0_0) shapeCasts_S1x4224x512_S4224x512) : (⟨S4224x512, .bf16⟩ : BufTy).Contents (Elt Ideal))⟩, ⟨S4224x512, ((shapeCast _ (extractStridedSlice S1x4224x512 ![1, 0, 0] A0 slices_S3x4224x512_S1x4224x512_1_0_0) shapeCasts_S1x4224x512_S4224x512) : (⟨S4224x512, .bf16⟩ : BufTy).Contents (Elt Ideal))⟩, ⟨S4224x512, ((shapeCast _ (extractStridedSlice S1x4224x512 ![2, 0, 0] A0 slices_S3x4224x512_S1x4224x512_2_0_0) shapeCasts_S1x4224x512_S4224x512) : (⟨S4224x512, .bf16⟩ : BufTy).Contents (Elt Ideal))⟩, ⟨S4224x512, ((shapeCast _ (extractStridedSlice S1x4224x512 ![0, 0, 0] A1 slices_S2x4224x512_S1x4224x512_0_0_0) shapeCasts_S1x4224x512_S4224x512) : (⟨S4224x512, .bf16⟩ : BufTy).Contents (Elt Ideal))⟩, ⟨S4224x512, ((shapeCast _ (extractStridedSlice S1x4224x512 ![1, 0, 0] A1 slices_S2x4224x512_S1x4224x512_1_0_0) shapeCasts_S1x4224x512_S4224x512) : (⟨S4224x512, .bf16⟩ : BufTy).Contents (Elt Ideal))⟩] concatenates_S4224x512_S4224x512_S4224x512_S4224x512_S4224x512_S4224x2560_d1 : (⟨S4224x2560, .bf16⟩ : BufTy).Contents (Elt Ideal))) Cert.ReferenceGradinIdeal.Gen.bitsLt_bf16_f32) (extf .f32 A2 Cert.ReferenceGradinIdeal.Gen.bitsLt_bf16_f32)) transposes_S2560x1024_S1024x2560_1_0) transposes_S1024x2560_S2560x1024_1_0) Cert.ReferenceGradinIdeal.Gen.bitsLt_bf16_f32) shapeCasts_S2560x1024_S5x512x1024

/-- The part of the incoming gradient that row block `p` of the weight belongs to. -/
def part (A0 : FVec Ideal S3x4224x512 .bf16) (A1 : FVec Ideal S2x4224x512 .bf16) (p : ℕ) (l : Fin 4224) (k : Fin 512) : EReal :=
  if h : p < 3 then A0 (ix3 ⟨p, h⟩ l k) else if h' : p - 3 < 2 then A1 (ix3 ⟨p - 3, h'⟩ l k) else 0

theorem part_attn (A0 A1) (p : ℕ) (h : p < 3) (l k) : part A0 A1 p l k = A0 (ix3 ⟨p, h⟩ l k) := dif_pos h

theorem part_conv (A0 A1) (p : ℕ) (h : ¬p < 3) (h' : p - 3 < 2) (l k) : part A0 A1 p l k = A1 (ix3 ⟨p - 3, h'⟩ l k) := (dif_neg h).trans (dif_pos h')

/-- The reference at an index: the sum over the 4224 rows, of the part the index lies in. -/
theorem ref_at (A0 A1 A2) (a : Fin 5) (b : Fin 512) (d : Fin 1024) : ref A0 A1 A2 (ix3 a b d) = ∑ l : Fin 4224, part A0 A1 a.val l b * A2 (ix2 l d) := by
  pointwise [ref]
  refine Fin.sum_fin_congr fun l => ?_
  have h1 := b.isLt
  have h0 := a.isLt
  refine congrArg₂ (· * ·) ?_ rfl
  rcases (by omega : a.val = 0 ∨ a.val = 1 ∨ a.val = 2 ∨ a.val = 3 ∨ a.val = 4) with e | e | e | e | e
  · rw [dif_pos (by (try dsimp only); omega)]
    exact (congrArg₂ (fun (s : Fin 3) q => A0 (ix3 s l q)) (Fin.ext (by show 0 = a.val; omega)) (Fin.ext (by (try dsimp only); omega))).trans (part_attn A0 A1 a.val (by omega) l b).symm
  · rw [dif_neg (by (try dsimp only); omega), dif_pos (by (try dsimp only); omega)]
    exact (congrArg₂ (fun (s : Fin 3) q => A0 (ix3 s l q)) (Fin.ext (by show 1 = a.val; omega)) (Fin.ext (by (try dsimp only); omega))).trans (part_attn A0 A1 a.val (by omega) l b).symm
  · rw [dif_neg (by (try dsimp only); omega), dif_neg (by (try dsimp only); omega), dif_pos (by (try dsimp only); omega)]
    exact (congrArg₂ (fun (s : Fin 3) q => A0 (ix3 s l q)) (Fin.ext (by show 2 = a.val; omega)) (Fin.ext (by (try dsimp only); omega))).trans (part_attn A0 A1 a.val (by omega) l b).symm
  · rw [dif_neg (by (try dsimp only); omega), dif_neg (by (try dsimp only); omega), dif_neg (by (try dsimp only); omega), dif_pos (by (try dsimp only); omega)]
    exact (congrArg₂ (fun (s : Fin 2) q => A1 (ix3 s l q)) (Fin.ext (by show 0 = a.val - 3; omega)) (Fin.ext (by (try dsimp only); omega))).trans (part_conv A0 A1 a.val (by omega) (by omega) l b).symm
  · rw [dif_neg (by (try dsimp only); omega), dif_neg (by (try dsimp only); omega), dif_neg (by (try dsimp only); omega), dif_neg (by (try dsimp only); omega)]
    exact (congrArg₂ (fun (s : Fin 2) q => A1 (ix3 s l q)) (Fin.ext (by show 1 = a.val - 3; omega)) (Fin.ext (by (try dsimp only); omega))).trans (part_conv A0 A1 a.val (by omega) (by omega) l b).symm

end Ref

/-- The reference's run: its result array is this one, its arguments are unchanged. -/
theorem ref_run (m : (ℓ : Loc Cert.ReferenceGradinIdeal.nD Cert.ReferenceGradinIdeal.τ Cert.ReferenceGradinIdeal.sig) → Buf (Elt Ideal) ℓ) (ρ : Dev Cert.ReferenceGradinIdeal.nD → PrngReg) :
    θ_run Cert.ReferenceGradinIdeal.defs (onTc (τ := Cert.ReferenceGradinIdeal.τ) (Cert.ReferenceGradinIdeal.main (F := Ideal))) ⟨m, fun _ => 0, ρ⟩ fun r => ∀ c : Dev Cert.ReferenceGradinIdeal.nD,
      r.2.mem ((c.tc : Thread Cert.ReferenceGradinIdeal.nD Cert.ReferenceGradinIdeal.τ).loc Cert.ReferenceGradinIdeal.main_v19) = ref (m ((c.tc : Thread Cert.ReferenceGradinIdeal.nD Cert.ReferenceGradinIdeal.τ).loc Cert.ReferenceGradinIdeal.main_arg0)) (m ((c.tc : Thread Cert.ReferenceGradinIdeal.nD Cert.ReferenceGradinIdeal.τ).loc Cert.ReferenceGradinIdeal.main_arg1)) (m ((c.tc : Thread Cert.ReferenceGradinIdeal.nD Cert.ReferenceGradinIdeal.τ).loc Cert.ReferenceGradinIdeal.main_arg2))
      ∧ r.2.mem ((c.tc : Thread Cert.ReferenceGradinIdeal.nD Cert.ReferenceGradinIdeal.τ).loc Cert.ReferenceGradinIdeal.main_arg0) = m ((c.tc : Thread Cert.ReferenceGradinIdeal.nD Cert.ReferenceGradinIdeal.τ).loc Cert.ReferenceGradinIdeal.main_arg0)
      ∧ r.2.mem ((c.tc : Thread Cert.ReferenceGradinIdeal.nD Cert.ReferenceGradinIdeal.τ).loc Cert.ReferenceGradinIdeal.main_arg1) = m ((c.tc : Thread Cert.ReferenceGradinIdeal.nD Cert.ReferenceGradinIdeal.τ).loc Cert.ReferenceGradinIdeal.main_arg1)
      ∧ r.2.mem ((c.tc : Thread Cert.ReferenceGradinIdeal.nD Cert.ReferenceGradinIdeal.τ).loc Cert.ReferenceGradinIdeal.main_arg2) = m ((c.tc : Thread Cert.ReferenceGradinIdeal.nD Cert.ReferenceGradinIdeal.τ).loc Cert.ReferenceGradinIdeal.main_arg2) :=
  (θ_run Cert.ReferenceGradinIdeal.defs _ _).mono (fun _ h c => ⟨(h c).1.trans rfl, (h c).2⟩)
    (Cert.ReferenceGradinIdeal.Value.run (F := Ideal) m ρ)

/-- The zero fill of the accumulator. -/
theorem zero_at (j) : k0_pay1 (F := Ideal) j = 0 := by pointwise [k0_pay1]

/-- One accumulation step over a block of an attention part. -/
theorem step_at (acc : FVec Ideal S512x1024 .f32) (x0 : FVec Ideal S1x1408x512 .bf16) (x1 : FVec Ideal S1408x1024 .bf16) (j) :
    k0_pay2 acc x0 x1 j = acc j + ∑ k : Fin 1408, x0 (ix3 0 k (j 0)) * x1 (ix2 k (j 1)) := by pointwise [k0_pay2]

/-- One accumulation step over a block of a convolution part. -/
theorem step_at' (acc : FVec Ideal S512x1024 .f32) (x0 : FVec Ideal S1x1408x512 .bf16) (x1 : FVec Ideal S1408x1024 .bf16) (j) :
    k0_pay3 acc x0 x1 j = acc j + ∑ k : Fin 1408, x0 (ix3 0 k (j 0)) * x1 (ix2 k (j 1)) := by pointwise [k0_pay3]

/-- The block index of each window at each grid point. -/
theorem idx : ∀ t : Fin cfg0.N, (t.val < 9 → win0_0.index t = ![t.val / 3, t.val % 3, 0]) ∧ (9 ≤ t.val → win0_1.index t = ![t.val / 3 - 3, t.val % 3, 0]) ∧ win0_2.index t = ![t.val % 3, 0] ∧ win0_3.index t = ![t.val / 3, 0, 0] :=
  (by decide +kernel : ∀ t : Fin grid0.N, _)

/-- The rows a grid point multiplies: an attention part's in the first three runs, a convolution part's in the last two. -/
abbrev xblk (c : Dev nD) (t : Fin cfg0.N) : FVec Ideal S1x1408x512 .bf16 := if t.val < 9 then iblk m c 0 t else iblk m c 1 t

/-- At a flushing point the stored block is what the accumulator holds. -/
theorem stored_at (c : Dev nD) (t : Fin cfg0.N) (h : t.val % 3 = 2) (y) :
    (outsAt0 m c t.val t.isLt).1 y = (outsAt0 m c t.val t.isLt).2 (ix2 (y 1) (y 2)) := by
  by_cases h1 : t.val < 9
  · rw [outsAt0_C m c t (by omega) h1 (by omega) h]
    frame_out
    pointwise [k0_pay4]
  · rw [outsAt0_F m c t (by omega) h1 (by omega) h]
    frame_out
    pointwise [k0_pay4]

/-- The first point of a run leaves its own products in the accumulator. -/
theorem acc_first (c : Dev nD) (t : Fin cfg0.N) (h : t.val % 3 = 0) (j) :
    (outsAt0 m c t.val t.isLt).2 j = 0 + ∑ k : Fin 1408, xblk m c t (ix3 0 k (j 0)) * (iblk m c 2 t : FVec Ideal S1408x1024 .bf16) (ix2 k (j 1)) := by
  by_cases h1 : t.val < 9
  · rw [outsAt0_A m c t h h1 (by omega) (by omega)]; frame_out
    rw [step_at, zero_at]; simp only [xblk, h1, if_true]
  · rw [outsAt0_D m c t h h1 (by omega) (by omega)]; frame_out
    rw [step_at', zero_at]; simp only [xblk, h1, if_false]

/-- A later point of a run adds its products to what the point before left. -/
theorem acc_next (c : Dev nD) (t : Fin cfg0.N) (h : ¬t.val % 3 = 0) (j) :
    (outsAt0 m c t.val t.isLt).2 j = (outsAt0 m c (t.val - 1) (Nat.lt_of_le_of_lt (Nat.sub_le _ _) t.isLt)).2 j
      + ∑ k : Fin 1408, xblk m c t (ix3 0 k (j 0)) * (iblk m c 2 t : FVec Ideal S1408x1024 .bf16) (ix2 k (j 1)) := by
  by_cases h1 : t.val < 9
  · by_cases h2 : t.val % 3 = 2
    · rw [outsAt0_C m c t h h1 (by omega) h2]; frame_out
      rw [step_at]; simp only [read_unread_whole, xblk, h1, if_true]
    · rw [outsAt0_B m c t h h1 (by omega) h2]; frame_out
      rw [step_at]; simp only [read_unread_whole, xblk, h1, if_true]
  · by_cases h2 : t.val % 3 = 2
    · rw [outsAt0_F m c t h h1 (by omega) h2]; frame_out
      rw [step_at']; simp only [read_unread_whole, xblk, h1, if_false]
    · rw [outsAt0_E m c t h h1 (by omega) h2]; frame_out
      rw [step_at']; simp only [read_unread_whole, xblk, h1, if_false]

/-- The result array after the run. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have hfl := (flush0_3 t).mp hf
  have hN : t.val < 15 := t.isLt
  obtain ⟨b, d, rfl⟩ : ∃ (b : Fin 512) (d : Fin 1024), y = ix3 0 b d := ⟨y 1, y 2, (eq_ix3 y).trans (congrArg (fun p => ix3 p (y 1) (y 2)) (Subsingleton.elim (α := Fin 1) _ _))⟩
  have e : ((win0_3.blk t).view.emb (ix3 0 b d) : S5x512x1024.Idx) = ix3 ⟨t.val / 3, by omega⟩ b d := by
    funext a
    apply Fin.ext
    refine (win0_3.rect_emb_val t _ a).trans ?_
    rw [(idx t).2.2.2]
    match a with
    | 0 => show t.val / 3 * 1 + 0 = t.val / 3; omega
    | 1 => show 0 * 512 + b.val = b.val; omega
    | 2 => show 0 * 1024 + d.val = d.val; omega
  blk_simp
  rw [after0_3, stored_at m c t hfl]
  rw [Pipeline.eq_sum_fin_of_reset_step_apply_of_flush (fun n h => (outsAt0 m c n h).2) 3 (fun _ => 0) _
    (fun t h j => acc_first m c t h j) (fun t h j => acc_next m c t h j)
    t hfl _, zero_add]
  refine Eq.trans ?_ ((congrArg _ e).trans (ref_at ..)).symm
  refine Fin.sum_mul_add_congr fun s k hl => ?_
  have hs : s.val < 3 := s.isLt
  have hp := idx ⟨_, Pipeline.run_point_lt_of_flush t hfl s⟩
  by_cases h1 : t.val < 9
  · have hx : 3 * (t.val / 3) + s.val < 9 := by omega
    simp only [xblk, hx, if_true]
    rw [part_attn _ _ _ (by show t.val / 3 < 3; omega)]
    blk_point [iblk, V, idx t, hp.1 hx, hp.2.2.1]
  · have hx : ¬3 * (t.val / 3) + s.val < 9 := by omega
    simp only [xblk, hx, if_false]
    rw [part_conv _ _ _ (by show ¬t.val / 3 < 3; omega) (by show t.val / 3 - 3 < 2; omega)]
    blk_point [iblk, V, idx t, hp.2.1 (by simpa using hx), hp.2.2.1]

end Cert.KernelGradinIdeal.GradinValue

end
-- ==== Proof.Ln.lean ====
/- The layer normalisation of a row of 512 columns and the activation after it, and the gradient of both in the kernel's spelling
   and in the reference's. -/
module

public import proofs.«01_k».proof.Proof.Reals
public import Idealize.ShloMosaic.Lib.Pipeline.ValueKit
public import Idealize.ShloMosaic.PureOps.Ideal

@[expose] public section

noncomputable section

open Idealize.ShloMosaic

namespace Cert.Ln

/-- A row less its mean. -/
def dev (x : Fin 512 → EReal) (j : Fin 512) : EReal := x j - Ideal.div (∑ k, x k) (Ideal.ofBits .f32 0x44000000#32)

/-- The variance of a row with the constant added. -/
def var (x : Fin 512 → EReal) : EReal := Ideal.div (∑ k, dev x k * dev x k) (Ideal.ofBits .f32 0x44000000#32) + Ideal.ofBits .f32 0x358637BD#32

/-- The row's factor. -/
def inv (x : Fin 512 → EReal) : EReal := Ideal.rsqrt (var x)

/-- The normalised row at column `j`. -/
def nrm (x : Fin 512 → EReal) (j : Fin 512) : EReal := dev x j * inv x

/-- The normalised row, scaled and shifted. -/
def lin (x : Fin 512 → EReal) (j : Fin 512) (g b : EReal) : EReal := nrm x j * g + b

/-- The activation. -/
def silu (x : EReal) : EReal := x * Ideal.div 1 (1 + Ideal.exp (-x))

/-- The row length, the added constant, minus one half, and two, as the programs hold them. -/
theorem word_n : Ideal.ofBits .f32 0x44000000#32 = ((512 : ℝ) : EReal) := by
  simp [Ideal.ofBits, Ideal.ieee]; rw [← EReal.coe_mul]; norm_num
theorem word_h : Ideal.ofBits .f32 0xBF000000#32 = ((-1 / 2 : ℝ) : EReal) := by
  simp [Ideal.ofBits, Ideal.ieee]; rw [← EReal.coe_mul]; norm_num
theorem word_t : Ideal.ofBits .f32 0x40000000#32 = ((2 : ℝ) : EReal) := by
  simp [Ideal.ofBits, Ideal.ieee]; rw [← EReal.coe_mul]; norm_num
theorem word_e : ∃ e : ℝ, 0 < e ∧ Ideal.ofBits .f32 0x358637BD#32 = (e : EReal) := by
  refine ⟨_, ?_, by simp [Ideal.ofBits, Ideal.ieee]; rfl⟩
  norm_num

/-- The gradient at column `j` from the scaled incoming gradient `y`, as the kernel has it. -/
def bwdK (x y : Fin 512 → EReal) (j : Fin 512) : EReal :=
  inv x * (y j - Ideal.div (∑ k, y k) (Ideal.ofBits .f32 0x44000000#32)
    - nrm x j * Ideal.div (∑ k, y k * nrm x k) (Ideal.ofBits .f32 0x44000000#32))

/-- What the reference multiplies the row with, twice. -/
def half (x y : Fin 512 → EReal) : EReal :=
  Ideal.div ((∑ k, dev x k * y k) * (Ideal.ofBits .f32 0xBF000000#32 * Ideal.div (inv x) (var x))) (Ideal.ofBits .f32 0x44000000#32)

/-- The gradient as the reference has it. -/
def bwdR (x y : Fin 512 → EReal) (j : Fin 512) : EReal :=
  y j * inv x + half x y * (Ideal.ofBits .f32 0x40000000#32 * dev x j)
    + Ideal.div ((∑ k, -(y k * inv x)) + ∑ k, -(half x y * (Ideal.ofBits .f32 0x40000000#32 * dev x k))) (Ideal.ofBits .f32 0x44000000#32)

/-- A row that is not all reals has an infinite variance. -/
theorem var_top (x : Fin 512 → EReal) (h : ¬∀ k, ∃ r : ℝ, x k = r) : var x = ⊤ := by
  obtain ⟨e, he, we⟩ := word_e
  have hq : ∀ k, dev x k * dev x k = ⊤ := by
    intro k
    have hm : Ideal.div (∑ k, x k) (Ideal.ofBits .f32 0x44000000#32) = ⊤ ∨ Ideal.div (∑ k, x k) (Ideal.ofBits .f32 0x44000000#32) = ⊥ := by
      rw [word_n, Ideal.div_coe (by norm_num)]
      have hs : (∑ k, x k) = ⊤ ∨ (∑ k, x k) = ⊥ := by
        by_contra hc
        rw [not_or] at hc
        refine h fun k => ?_
        have : ∀ s : Finset (Fin 512), (∑ k ∈ s, x k) ≠ ⊤ → (∑ k ∈ s, x k) ≠ ⊥ → ∀ k ∈ s, ∃ r : ℝ, x k = r := by
          intro s
          induction s using Finset.induction_on with
          | empty => simp
          | insert a s ha ih =>
            intro h1 h2 k hk
            rw [Finset.sum_insert ha] at h1 h2
            generalize (∑ k ∈ s, x k) = S at *
            have hb : (∃ r : ℝ, x a = r) ∧ S ≠ ⊤ ∧ S ≠ ⊥ := by
              generalize x a = z at *
              induction z using EReal.rec <;> induction S using EReal.rec <;> simp_all
            rcases Finset.mem_insert.mp hk with rfl | hk
            · exact hb.1
            · exact ih hb.2.1 hb.2.2 k hk
        exact this Finset.univ hc.1 hc.2 k (Finset.mem_univ k)
      rcases hs with hs | hs <;> rw [hs]
      · exact .inl (EReal.top_mul_coe_of_pos (by norm_num))
      · exact .inr (EReal.bot_mul_coe_of_pos (by norm_num))
    unfold dev
    rcases hm with hm | hm <;> rw [hm] <;> generalize x k = z <;> induction z using EReal.rec <;> first | rfl | simp
  unfold var
  simp only [hq]
  rw [word_n, we, Ideal.div_coe (by norm_num), Finset.sum_const, Finset.card_univ, Fintype.card_fin]
  have : (512 • (⊤ : EReal)) = ⊤ := by
    rw [EReal.nsmul_eq_mul]
    exact EReal.coe_mul_top_of_pos (x := ((512 : ℕ) : ℝ)) (by norm_num)
  rw [this, EReal.top_mul_coe_of_pos (by norm_num), EReal.top_add_coe]

/-- The two spellings agree where the scaled incoming gradient is real. -/
theorem bwd (x y : Fin 512 → EReal) (hy : ∀ k, ∃ r : ℝ, y k = r) (j : Fin 512) : bwdK x y j = bwdR x y j := by
  by_cases hx : ∀ k, ∃ r : ℝ, x k = r
  · obtain ⟨e, he, we⟩ := word_e
    choose X hX using hx
    choose Y hY using hy
    obtain rfl : x = fun k => (X k : EReal) := funext hX
    obtain rfl : y = fun k => (Y k : EReal) := funext hY
    set D : Fin 512 → ℝ := fun k => X k - (∑ k, X k) * (1 / 512) with hD
    have hd : ∀ k, dev (fun k => (X k : EReal)) k = (D k : EReal) := by
      intro k
      unfold dev
      rw [word_n, Ideal.div_coe (by norm_num), ← Reals.coe_sum, ← EReal.coe_mul, ← EReal.coe_sub]
    set v : ℝ := (∑ k, D k * D k) * (1 / 512) + e with hv
    have hv0 : 0 < v := by
      have : 0 ≤ ∑ k, D k * D k := Finset.sum_nonneg fun k _ => mul_self_nonneg (D k)
      positivity
    have hvar : var (fun k => (X k : EReal)) = (v : EReal) := by
      unfold var
      simp only [hd]
      rw [word_n, we, Ideal.div_coe (by norm_num)]
      simp only [← EReal.coe_mul, ← Reals.coe_sum, ← EReal.coe_add, hv]
    set r : ℝ := (Real.sqrt v)⁻¹ with hr
    have hi : inv (fun k => (X k : EReal)) = (r : EReal) := by
      unfold inv
      rw [hvar, Ideal.rsqrt_coe, if_neg (not_lt.mpr hv0.le), if_neg hv0.ne']
    have hrv : r * (1 / v) = r * r * r := by
      have : r * r = 1 / v := by rw [hr, ← mul_inv, Real.mul_self_sqrt hv0.le, one_div]
      rw [← this, mul_assoc]
    have hD0 : ∑ k, D k = 0 := by
      rw [hD, Finset.sum_sub_distrib, Finset.sum_const, Finset.card_univ, Fintype.card_fin, nsmul_eq_mul]
      push_cast
      ring
    unfold bwdK bwdR half nrm
    simp only [hd, hi, hvar, word_n, word_h, word_t]
    rw [Ideal.div_coe (by norm_num), Ideal.div_coe (by norm_num), Ideal.div_coe (by norm_num), Ideal.div_coe hv0.ne', Ideal.div_coe (by norm_num)]
    simp only [← EReal.coe_mul, ← Reals.coe_sum, ← EReal.coe_add, ← EReal.coe_sub, ← EReal.coe_neg]
    rw [hrv]
    refine congrArg _ ?_
    have e1 : ∑ k, Y k * (D k * r) = (∑ k, D k * Y k) * r := by
      rw [Finset.sum_mul]
      exact Finset.sum_congr rfl fun k _ => by ring
    have e2 : ∑ k, -(Y k * r) = -((∑ k, Y k) * r) := by rw [Finset.sum_neg_distrib, Finset.sum_mul]
    have e3 : ∀ q : ℝ, ∑ k, -(q * (2 * D k)) = 0 := by
      intro q
      rw [Finset.sum_neg_distrib, ← Finset.mul_sum, ← Finset.mul_sum, hD0]
      ring
    rw [e1, e2, e3]
    ring
  · have hv := var_top x hx
    have hi : inv x = 0 := by unfold inv; rw [hv]; rfl
    have hh : half x y = 0 := by
      unfold half
      rw [hi, hv, word_n, Ideal.div_coe (by norm_num)]
      have : Ideal.div 0 ⊤ = 0 := by unfold Ideal.div; simp
      rw [this, mul_zero, mul_zero, zero_mul]
    unfold bwdK bwdR
    rw [hi, hh, word_n, Ideal.div_coe (by norm_num), Ideal.div_coe (by norm_num), Ideal.div_coe (by norm_num)]
    simp

/-- The gradient before the activation, as the kernel has it. -/
def actK (p g : EReal) : EReal := p * (Ideal.div 1 (1 + Ideal.exp (0 - g)) * (1 + g * (1 - Ideal.div 1 (1 + Ideal.exp (0 - g)))))

/-- The gradient before the activation, as the reference has it. -/
def actR (p g : EReal) : EReal :=
  p * Ideal.div 1 (1 + Ideal.exp (-g)) + g * p * (Ideal.div 1 (1 + Ideal.exp (-g)) * (1 - Ideal.div 1 (1 + Ideal.exp (-g))))

theorem act (p : ℝ) (g : EReal) : actK p g = actR p g := Reals.silu_grad p g

/-- It is real where the incoming gradient is. -/
theorem act_real (p : ℝ) (g : EReal) : ∃ r : ℝ, actR p g = r := by
  unfold actR
  have l : Ideal.div 1 (1 + Ideal.exp (-g)) = Ideal.logistic g := rfl
  have one_sub_one : (1 - 1 : EReal) = 0 := by rw [← EReal.coe_one, ← EReal.coe_sub, sub_self, EReal.coe_zero]
  rw [l]
  induction g using EReal.rec with
  | bot => exact ⟨0, by simp⟩
  | top => exact ⟨p, by simp [one_sub_one]⟩
  | coe r =>
    rw [Ideal.logistic_coe, ← EReal.coe_one]
    norm_cast
    exact ⟨_, rfl⟩

end Cert.Ln

end
-- ==== Proof.LnValue.lean ====
/- The gradient of the convolution branch's layer normalisation and activation: the kernel's three result arrays, read off its
   frame run, are the reference's, where the incoming gradient and the scale are reals. -/
module

public import proofs.«01_k».proof.Proof.Gen.KernelLnIdeal.Frame
public import proofs.«01_k».proof.Proof.Gen.ReferenceLnIdeal.Run
public import proofs.«01_k».proof.Proof.Ln
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelLnIdeal.LnValue

open Cert.KernelLnIdeal Cert.KernelLnIdeal.Gen

variable (m : (ℓ : Loc nD τ sig) → Buf (Elt Ideal) ℓ)

section Ref

open Cert.ReferenceLnIdeal Cert.ReferenceLnIdeal.Gen

variable (A0 A1 : FVec Ideal S4224x512 .f32) (A2 A3 : FVec Ideal S1x512 .f32)

/-- The rows less their means. -/
def refD : FVec Ideal S4224x512 .f32 := (subf A0 (broadcastInDim S4224x512 ![0, 1] bcast_S4224x1_S4224x512_0_1 (Host.divf (broadcastInDim S4224x1 ![0] bcast_S4224_S4224x1_0 (Host.reduceAdd A0 (constant S_ .f32 0x00000000#32) reducesTo_S4224x512_S4224_d1 h_S_)) (broadcastInDim S4224x1 ![] bcast_S_S4224x1 (constant S_ .f32 0x44000000#32)))))

/-- The variance of each row, with the constant added. -/
def refV : FVec Ideal S4224x1 .f32 := (addf (Host.divf (broadcastInDim S4224x1 ![0] bcast_S4224_S4224x1_0 (Host.reduceAdd (mulf (refD A0) (refD A0)) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))

/-- The scale, once per row. -/
def refG : FVec Ideal S4224x512 .f32 := (shapeCast S4224x512 (broadcastInDim S528x8x512 ![0, 1, 2] bcast_S1x8x512_S528x8x512_0_1_2 (broadcastInDim S1x8x512 ![1, 2] bcast_S8x512_S1x8x512_1_2 (broadcastInDim S8x512 ![0, 1] bcast_S1x512_S8x512_0_1 A2))) shapeCasts_S528x8x512_S4224x512)

/-- The shift, once per row. -/
def refB : FVec Ideal S4224x512 .f32 := (shapeCast S4224x512 (broadcastInDim S528x8x512 ![0, 1, 2] bcast_S1x8x512_S528x8x512_0_1_2 (broadcastInDim S1x8x512 ![1, 2] bcast_S8x512_S1x8x512_1_2 (broadcastInDim S8x512 ![0, 1] bcast_S1x512_S8x512_0_1 A3))) shapeCasts_S528x8x512_S4224x512)

/-- The rows before the activation. -/
def refL : FVec Ideal S4224x512 .f32 := (addf (mulf (mulf (refD A0) (broadcastInDim S4224x512 ![0, 1] bcast_S4224x1_S4224x512_0_1 (Host.rsqrt (refV A0)))) (refG A2)) (refB A3))

/-- The gradient before the activation. -/
def refA : FVec Ideal S4224x512 .f32 := (addf (mulf A1 (Host.divf (broadcastInDim S4224x512 ![] bcast_S_S4224x512 (constant S_ .f32 0x3F800000#32)) (addf (broadcastInDim S4224x512 ![] bcast_S_S4224x512 (constant S_ .f32 0x3F800000#32)) (Host.exp (Host.negf (refL A0 A2 A3)))))) (mulf (mulf (refL A0 A2 A3) A1) (mulf (Host.divf (broadcastInDim S4224x512 ![] bcast_S_S4224x512 (constant S_ .f32 0x3F800000#32)) (addf (broadcastInDim S4224x512 ![] bcast_S_S4224x512 (constant S_ .f32 0x3F800000#32)) (Host.exp (Host.negf (refL A0 A2 A3))))) (subf (broadcastInDim S4224x512 ![] bcast_S_S4224x512 (constant S_ .f32 0x3F800000#32)) (Host.divf (broadcastInDim S4224x512 ![] bcast_S_S4224x512 (constant S_ .f32 0x3F800000#32)) (addf (broadcastInDim S4224x512 ![] bcast_S_S4224x512 (constant S_ .f32 0x3F800000#32)) (Host.exp (Host.negf (refL A0 A2 A3)))))))))

/-- The variance's share of the gradient. -/
def refH : FVec Ideal S4224x512 .f32 := (mulf (broadcastInDim S4224x512 ![0] bcast_S4224_S4224x512_0 (Host.reduceAdd (Host.divf (mulf (shapeCast _ (Host.reduceAdd (mulf (refD A0) (mulf (refA A0 A1 A2 A3) (refG A2))) (constant S_ .f32 0x00000000#32) reducesTo_S4224x512_S4224_d1 h_S_) shapeCasts_S4224_S4224x1) (mulf (broadcastInDim S4224x1 ![] bcast_S_S4224x1 (constant S_ .f32 0xBF000000#32)) (Host.divf (Host.rsqrt (refV A0)) (refV A0)))) (broadcastInDim S4224x1 ![] bcast_S_S4224x1 (constant S_ .f32 0x44000000#32))) (constant S_ .f32 0x00000000#32) reducesTo_S4224x1_S4224_d1 h_S_)) (mulf (broadcastInDim S4224x512 ![] bcast_S_S4224x512 (constant S_ .f32 0x40000000#32)) (refD A0)))

/-- The gradient of the rows. -/
def refDx : FVec Ideal S4224x512 .f32 := addf (addf (mulf (mulf (refA A0 A1 A2 A3) (refG A2)) (broadcastInDim S4224x512 ![0, 1] bcast_S4224x1_S4224x512_0_1 (Host.rsqrt (refV A0)))) (refH A0 A1 A2 A3)) (broadcastInDim S4224x512 ![0] bcast_S4224_S4224x512_0 (Host.reduceAdd (Host.divf (addf (shapeCast _ (Host.reduceAdd (Host.negf (mulf (mulf (refA A0 A1 A2 A3) (refG A2)) (broadcastInDim S4224x512 ![0, 1] bcast_S4224x1_S4224x512_0_1 (Host.rsqrt (refV A0))))) (constant S_ .f32 0x00000000#32) reducesTo_S4224x512_S4224_d1 h_S_) shapeCasts_S4224_S4224x1) (shapeCast _ (Host.reduceAdd (Host.negf (refH A0 A1 A2 A3)) (constant S_ .f32 0x00000000#32) reducesTo_S4224x512_S4224_d1 h_S_) shapeCasts_S4224_S4224x1)) (broadcastInDim S4224x1 ![] bcast_S_S4224x1 (constant S_ .f32 0x44000000#32))) (constant S_ .f32 0x00000000#32) reducesTo_S4224x1_S4224_d1 h_S_))

/-- The gradient of the scale, kept as eight row sums. -/
def refDg : FVec Ideal S8x512 .f32 := Host.reduceAdd (broadcastInDim S1x8x512 ![1, 2] bcast_S8x512_S1x8x512_1_2 (Host.reduceAdd (shapeCast _ (mulf (mulf (refD A0) (broadcastInDim S4224x512 ![0, 1] bcast_S4224x1_S4224x512_0_1 (Host.rsqrt (refV A0)))) (refA A0 A1 A2 A3)) shapeCasts_S4224x512_S528x8x512) (constant S_ .f32 0x00000000#32) reducesTo_S528x8x512_S8x512_d0 h_S_)) (constant S_ .f32 0x00000000#32) reducesTo_S1x8x512_S8x512_d0 h_S_

/-- The gradient of the shift, kept as eight row sums. -/
def refDb : FVec Ideal S8x512 .f32 := Host.reduceAdd (broadcastInDim S1x8x512 ![1, 2] bcast_S8x512_S1x8x512_1_2 (Host.reduceAdd (shapeCast _ (refA A0 A1 A2 A3) shapeCasts_S4224x512_S528x8x512) (constant S_ .f32 0x00000000#32) reducesTo_S528x8x512_S8x512_d0 h_S_)) (constant S_ .f32 0x00000000#32) reducesTo_S1x8x512_S8x512_d0 h_S_

/-- A row of the array. -/
abbrev line (A : FVec Ideal S4224x512 .f32) (i : Fin 4224) : Fin 512 → EReal := fun k => A (ix2 i k)

theorem refD_at (i : Fin 4224) (j : Fin 512) : refD A0 (ix2 i j) = Ln.dev (line A0 i) j := by
  pointwise [refD]
  rfl

theorem refV_at (i : Fin 4224) (j : Fin 1) : refV A0 (ix2 i j) = Ln.var (line A0 i) := by
  pointwise [refV]
  simp only [refD_at]
  rfl

theorem refG_at (i : Fin 4224) (j : Fin 512) : refG A2 (ix2 i j) = A2 (ix2 0 j) := by pointwise [refG]

theorem refB_at (i : Fin 4224) (j : Fin 512) : refB A3 (ix2 i j) = A3 (ix2 0 j) := by pointwise [refB]

/-- The row before the activation. -/
abbrev pre (i : Fin 4224) (j : Fin 512) : EReal := Ln.lin (line A0 i) j (A2 (ix2 0 j)) (A3 (ix2 0 j))

theorem refL_at (i : Fin 4224) (j : Fin 512) : refL A0 A2 A3 (ix2 i j) = pre A0 A2 A3 i j := by
  pointwise [refL]
  simp only [refD_at, refV_at, refG_at, refB_at]
  rfl

theorem refA_at (i : Fin 4224) (j : Fin 512) : refA A0 A1 A2 A3 (ix2 i j) = Ln.actR (A1 (ix2 i j)) (pre A0 A2 A3 i j) := by
  pointwise [refA]
  simp only [refL_at]
  rfl

/-- The scaled gradient of a normalised row. -/
abbrev grow (i : Fin 4224) : Fin 512 → EReal := fun k => Ln.actR (A1 (ix2 i k)) (pre A0 A2 A3 i k) * A2 (ix2 0 k)

theorem refH_at (i : Fin 4224) (j : Fin 512) : refH A0 A1 A2 A3 (ix2 i j)
    = Ln.half (line A0 i) (grow A0 A1 A2 A3 i) * (Ideal.ofBits .f32 0x40000000#32 * Ln.dev (line A0 i) j) := by
  pointwise [refH]
  simp only [refD_at, refV_at, refG_at, refA_at, Fintype.sum_unique]
  rfl

theorem refDx_at (i : Fin 4224) (j : Fin 512) : refDx A0 A1 A2 A3 (ix2 i j) = Ln.bwdR (line A0 i) (grow A0 A1 A2 A3 i) j := by
  pointwise [refDx]
  simp only [refD_at, refV_at, refG_at, refA_at, refH_at, Fintype.sum_unique]
  rfl

theorem refDg_at (p : Fin 8) (q : Fin 512) : refDg A0 A1 A2 A3 (ix2 p q)
    = ∑ n : Fin 528, Ln.actR (A1 (ix2 ⟨n.val * 8 + p.val, by omega⟩ q)) (pre A0 A2 A3 ⟨n.val * 8 + p.val, by omega⟩ q) * Ln.nrm (line A0 ⟨n.val * 8 + p.val, by omega⟩) q := by
  pointwise [refDg]
  refine (Fintype.sum_unique _).trans (Finset.sum_congr rfl fun n _ => ?_)
  simp only [refD_at, refV_at, refA_at]
  exact mul_comm _ _

theorem refDb_at (p : Fin 8) (q : Fin 512) : refDb A0 A1 A2 A3 (ix2 p q)
    = ∑ n : Fin 528, Ln.actR (A1 (ix2 ⟨n.val * 8 + p.val, by omega⟩ q)) (pre A0 A2 A3 ⟨n.val * 8 + p.val, by omega⟩ q) := by
  pointwise [refDb]
  refine (Fintype.sum_unique _).trans (Finset.sum_congr rfl fun n _ => ?_)
  simp only [refA_at]

end Ref

/-- The reference's run: its result arrays are these three, its arguments are unchanged. -/
theorem ref_run (m : (ℓ : Loc Cert.ReferenceLnIdeal.nD Cert.ReferenceLnIdeal.τ Cert.ReferenceLnIdeal.sig) → Buf (Elt Ideal) ℓ) (ρ : Dev Cert.ReferenceLnIdeal.nD → PrngReg) :
    θ_run Cert.ReferenceLnIdeal.defs (onTc (τ := Cert.ReferenceLnIdeal.τ) (Cert.ReferenceLnIdeal.main (F := Ideal))) ⟨m, fun _ => 0, ρ⟩ fun r => ∀ c : Dev Cert.ReferenceLnIdeal.nD,
      r.2.mem ((c.tc : Thread Cert.ReferenceLnIdeal.nD Cert.ReferenceLnIdeal.τ).loc Cert.ReferenceLnIdeal.main_v68) = refDx (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2)) (m ((c.tc : Thread Cert.ReferenceLnIdeal.nD Cert.ReferenceLnIdeal.τ).loc Cert.ReferenceLnIdeal.main_arg3))
      ∧ r.2.mem ((c.tc : Thread Cert.ReferenceLnIdeal.nD Cert.ReferenceLnIdeal.τ).loc Cert.ReferenceLnIdeal.main_v44) = refDg (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2)) (m ((c.tc : Thread Cert.ReferenceLnIdeal.nD Cert.ReferenceLnIdeal.τ).loc Cert.ReferenceLnIdeal.main_arg3))
      ∧ r.2.mem ((c.tc : Thread Cert.ReferenceLnIdeal.nD Cert.ReferenceLnIdeal.τ).loc Cert.ReferenceLnIdeal.main_v38) = refDb (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2)) (m ((c.tc : Thread Cert.ReferenceLnIdeal.nD Cert.ReferenceLnIdeal.τ).loc Cert.ReferenceLnIdeal.main_arg3))
      ∧ r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3) :=
  (θ_run Cert.ReferenceLnIdeal.defs _ _).mono (fun _ h c => ⟨(h c).1.trans rfl, (h c).2.1.trans rfl, (h c).2.2.1.trans rfl, (h c).2.2.2⟩)
    (Cert.ReferenceLnIdeal.Value.run (F := Ideal) m ρ)

/-! ### The kernel's blocks -/

abbrev bline (x : FVec Ideal S528x512 .f32) (i : Fin 528) : Fin 512 → EReal := fun k => x (ix2 i k)

theorem dev_at (x : FVec Ideal S528x512 .f32) (i : Fin 528) (j : Fin 512) : k0_pay7 (F := Ideal) x (ix2 i j) = Ln.dev (bline x i) j := by
  pointwise [k0_pay7]
  rfl

theorem inv_at (x : FVec Ideal S528x512 .f32) (i : Fin 528) (j : Fin 1) : k0_pay8 (F := Ideal) x (ix2 i j) = Ln.inv (bline x i) := by
  pointwise [k0_pay8]
  simp only [dev_at]
  rfl

theorem nrm_at (x : FVec Ideal S528x512 .f32) (i : Fin 528) (j : Fin 512) : k0_pay9 (F := Ideal) x (ix2 i j) = Ln.nrm (bline x i) j := by
  pointwise [k0_pay9]
  simp only [dev_at, inv_at]
  rfl

theorem lin_at (x : FVec Ideal S528x512 .f32) (g b : FVec Ideal S1x512 .f32) (i : Fin 528) (j : Fin 512) :
    k0_pay10 (F := Ideal) x g b (ix2 i j) = Ln.lin (bline x i) j (g (ix2 0 j)) (b (ix2 0 j)) := by
  pointwise [k0_pay10]
  simp only [nrm_at]
  rfl

theorem act_at (x d : FVec Ideal S528x512 .f32) (g b : FVec Ideal S1x512 .f32) (i : Fin 528) (j : Fin 512) :
    k0_pay1 (F := Ideal) (k0_pay11 x g b) d (k0_pay12 x g b) (k0_pay13 (F := Ideal)) (ix2 i j)
      = Ln.actK (d (ix2 i j)) (Ln.lin (bline x i) j (g (ix2 0 j)) (b (ix2 0 j))) := by
  pointwise [k0_pay1, k0_pay11, k0_pay12, k0_pay13]
  simp only [lin_at]
  rfl

theorem dx_at (x d : FVec Ideal S528x512 .f32) (g b : FVec Ideal S1x512 .f32) (i : Fin 528) (j : Fin 512) :
    k0_pay4 (F := Ideal) (k0_pay8 x) (k0_pay9 x) (k0_pay11 x g b) d (k0_pay12 x g b) (k0_pay13 (F := Ideal)) g (ix2 i j)
      = Ln.bwdK (bline x i) (fun k => Ln.actK (d (ix2 i k)) (Ln.lin (bline x i) k (g (ix2 0 k)) (b (ix2 0 k))) * g (ix2 0 k)) j := by
  pointwise [k0_pay4]
  simp only [inv_at, nrm_at, act_at]
  rfl

theorem dg_at (x d : FVec Ideal S528x512 .f32) (g b : FVec Ideal S1x512 .f32) (a : FVec Ideal S8x512 .f32) (p : Fin 8) (q : Fin 512) :
    k0_pay2 (F := Ideal) (k0_pay9 x) (k0_pay11 x g b) d (k0_pay12 x g b) (k0_pay13 (F := Ideal)) a (ix2 p q)
      = a (ix2 p q) + ∑ n : Fin 66, Ln.actK (d (ix2 ⟨n.val * 8 + p.val, by omega⟩ q)) (Ln.lin (bline x ⟨n.val * 8 + p.val, by omega⟩) q (g (ix2 0 q)) (b (ix2 0 q))) * Ln.nrm (bline x ⟨n.val * 8 + p.val, by omega⟩) q := by
  pointwise [k0_pay2]
  simp only [nrm_at, act_at]

theorem db_at (x d : FVec Ideal S528x512 .f32) (g b : FVec Ideal S1x512 .f32) (a : FVec Ideal S8x512 .f32) (p : Fin 8) (q : Fin 512) :
    k0_pay3 (F := Ideal) (k0_pay11 x g b) d (k0_pay12 x g b) (k0_pay13 (F := Ideal)) a (ix2 p q)
      = a (ix2 p q) + ∑ n : Fin 66, Ln.actK (d (ix2 ⟨n.val * 8 + p.val, by omega⟩ q)) (Ln.lin (bline x ⟨n.val * 8 + p.val, by omega⟩) q (g (ix2 0 q)) (b (ix2 0 q))) := by
  pointwise [k0_pay3]
  simp only [act_at]

theorem zero5 (y) : k0_pay5 (F := Ideal) y = 0 := by pointwise [k0_pay5]
theorem zero6 (y) : k0_pay6 (F := Ideal) y = 0 := by pointwise [k0_pay6]

/-- The block index of each window at each grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] :=
  (by decide +kernel : ∀ t : Fin grid0.N, _)

/-- Row `i` of the block at point `t`, in the whole array. -/
abbrev row (t : Fin cfg0.N) (i : Fin 528) : Fin 4224 := ⟨t.val * 528 + i.val, by have : t.val < 8 := t.isLt; omega⟩

variable (c : Dev nD)

abbrev a0 : FVec Ideal S4224x512 .f32 := m ((c : Thread nD τ).loc main_arg0)
abbrev a1 : FVec Ideal S4224x512 .f32 := m ((c : Thread nD τ).loc main_arg1)
abbrev a2 : FVec Ideal S1x512 .f32 := m ((c : Thread nD τ).loc main_arg2)
abbrev a3 : FVec Ideal S1x512 .f32 := m ((c : Thread nD τ).loc main_arg3)

theorem x_blk (t : Fin cfg0.N) (i : Fin 528) (k : Fin 512) : (iblk m c 0 t : FVec Ideal S528x512 .f32) (ix2 i k) = a0 m c (ix2 (row t i) k) := by
  blk_point [iblk, V, idx t]

theorem d_blk (t : Fin cfg0.N) (i : Fin 528) (k : Fin 512) : (iblk m c 1 t : FVec Ideal S528x512 .f32) (ix2 i k) = a1 m c (ix2 (row t i) k) := by
  blk_point [iblk, V, idx t]

theorem g_blk (t : Fin cfg0.N) (k : Fin 512) : (iblk m c 2 t : FVec Ideal S1x512 .f32) (ix2 0 k) = a2 m c (ix2 0 k) := by
  blk_point [iblk, V, idx t]

theorem b_blk (t : Fin cfg0.N) (k : Fin 512) : (iblk m c 3 t : FVec Ideal S1x512 .f32) (ix2 0 k) = a3 m c (ix2 0 k) := by
  blk_point [iblk, V, idx t]

theorem line_blk (t : Fin cfg0.N) (i : Fin 528) : bline (iblk m c 0 t) i = line (a0 m c) (row t i) := funext fun k => x_blk m c t i k

variable (h1 : Reals.AllReal (a1 m c)) (h2 : Reals.AllReal (a2 m c))

include h1

/-- The kernel's gradient before the activation is the reference's. -/
theorem act_eq (i : Fin 4224) (j : Fin 512) (g : EReal) : Ln.actK (a1 m c (ix2 i j)) g = Ln.actR (a1 m c (ix2 i j)) g := by
  obtain ⟨r, hr⟩ := h1 (ix2 i j)
  rw [hr]
  exact Ln.act r g

include h2 in
/-- What a grid point leaves in the first output. -/
theorem out_at (t : Fin cfg0.N) (i : Fin 528) (j : Fin 512) :
    (outsAt0 m c t.val t.isLt).1 (ix2 i j) = Ln.bwdR (line (a0 m c) (row t i)) (grow (a0 m c) (a1 m c) (a2 m c) (a3 m c) (row t i)) j := by
  have e : Ln.bwdK (line (a0 m c) (row t i)) (grow (a0 m c) (a1 m c) (a2 m c) (a3 m c) (row t i)) j
      = Ln.bwdR (line (a0 m c) (row t i)) (grow (a0 m c) (a1 m c) (a2 m c) (a3 m c) (row t i)) j := by
    refine Ln.bwd _ _ (fun k => ?_) j
    obtain ⟨r, hr⟩ := h1 (ix2 (row t i) k)
    obtain ⟨s, hs⟩ := h2 (ix2 0 k)
    obtain ⟨q, hq⟩ := Ln.act_real r (pre (a0 m c) (a2 m c) (a3 m c) (row t i) k)
    refine ⟨q * s, ?_⟩
    show Ln.actR (a1 m c (ix2 (row t i) k)) _ * a2 m c (ix2 0 k) = _
    rw [hr, hs, hq, EReal.coe_mul]
  refine Eq.trans ?_ e
  by_cases h0 : t.val % 8 = 0
  · rw [outsAt0_A m c t h0]; frame_out
    refine (dx_at ..).trans ?_
    simp only [line_blk, d_blk, g_blk, b_blk, act_eq m c h1]
  · rw [outsAt0_B m c t h0]; frame_out
    refine (dx_at ..).trans ?_
    simp only [line_blk, d_blk, g_blk, b_blk, act_eq m c h1]

/-- One point's share of the scale's gradient. -/
abbrev shareG (t : Fin cfg0.N) (p : Fin 8) (q : Fin 512) : EReal :=
  ∑ n : Fin 66, Ln.actR (a1 m c (ix2 (row t ⟨n.val * 8 + p.val, by omega⟩) q)) (pre (a0 m c) (a2 m c) (a3 m c) (row t ⟨n.val * 8 + p.val, by omega⟩) q) * Ln.nrm (line (a0 m c) (row t ⟨n.val * 8 + p.val, by omega⟩)) q

/-- One point's share of the shift's gradient. -/
abbrev shareB (t : Fin cfg0.N) (p : Fin 8) (q : Fin 512) : EReal :=
  ∑ n : Fin 66, Ln.actR (a1 m c (ix2 (row t ⟨n.val * 8 + p.val, by omega⟩) q)) (pre (a0 m c) (a2 m c) (a3 m c) (row t ⟨n.val * 8 + p.val, by omega⟩) q)

theorem dg_A (t : Fin cfg0.N) (h : t.val % 8 = 0) (y : S8x512.Idx) : (outsAt0 m c t.val t.isLt).2.1 y = 0 + shareG m c t (y 0) (y 1) := by
  obtain ⟨p, q, rfl⟩ : ∃ (p : Fin 8) (q : Fin 512), y = ix2 p q := ⟨y 0, y 1, eq_ix2 y⟩
  rw [outsAt0_A m c t h]; frame_out
  refine (dg_at ..).trans ?_
  rw [zero5]
  simp only [line_blk, d_blk, g_blk, b_blk, act_eq m c h1]
  rfl

theorem dg_B (t : Fin cfg0.N) (h : ¬t.val % 8 = 0) (y : S8x512.Idx) : (outsAt0 m c t.val t.isLt).2.1 y
    = (outsAt0 m c (t.val - 1) (Nat.lt_of_le_of_lt (Nat.sub_le _ _) t.isLt)).2.1 y + shareG m c t (y 0) (y 1) := by
  obtain ⟨p, q, rfl⟩ : ∃ (p : Fin 8) (q : Fin 512), y = ix2 p q := ⟨y 0, y 1, eq_ix2 y⟩
  rw [outsAt0_B m c t h]; frame_out
  refine (dg_at ..).trans ?_
  simp only [line_blk, d_blk, g_blk, b_blk, act_eq m c h1]
  rfl

theorem db_A (t : Fin cfg0.N) (h : t.val % 8 = 0) (y : S8x512.Idx) : (outsAt0 m c t.val t.isLt).2.2 y = 0 + shareB m c t (y 0) (y 1) := by
  obtain ⟨p, q, rfl⟩ : ∃ (p : Fin 8) (q : Fin 512), y = ix2 p q := ⟨y 0, y 1, eq_ix2 y⟩
  rw [outsAt0_A m c t h]; frame_out
  refine (db_at ..).trans ?_
  rw [zero6]
  simp only [line_blk, d_blk, g_blk, b_blk, act_eq m c h1]
  rfl

theorem db_B (t : Fin cfg0.N) (h : ¬t.val % 8 = 0) (y : S8x512.Idx) : (outsAt0 m c t.val t.isLt).2.2 y
    = (outsAt0 m c (t.val - 1) (Nat.lt_of_le_of_lt (Nat.sub_le _ _) t.isLt)).2.2 y + shareB m c t (y 0) (y 1) := by
  obtain ⟨p, q, rfl⟩ : ∃ (p : Fin 8) (q : Fin 512), y = ix2 p q := ⟨y 0, y 1, eq_ix2 y⟩
  rw [outsAt0_B m c t h]; frame_out
  refine (db_at ..).trans ?_
  simp only [line_blk, d_blk, g_blk, b_blk, act_eq m c h1]
  rfl

include h2 in
/-- The rows' gradient after the run. -/
theorem final_dx : (dats m 0 c).arrAt 4 (cfgs 0).N = refDx (a0 m c) (a1 m c) (a2 m c) (a3 m c) := by
  refine (dats m 0 c).arrAt_eq_of_covers 4 _ (by decide +kernel) fun t hf y => ?_
  obtain ⟨i, j, rfl⟩ : ∃ (i : Fin 528) (j : Fin 512), y = ix2 i j := ⟨y 0, y 1, eq_ix2 y⟩
  have e : ((win0_4.blk t).view.emb (ix2 i j) : S4224x512.Idx) = ix2 (row t i) j := by
    funext a
    apply Fin.ext
    refine (win0_4.rect_emb_val t _ a).trans ?_
    rw [(idx t).2.2.2.2.1]
    match a with
    | 0 => rfl
    | 1 => show 0 * 512 + j.val = j.val; omega
  blk_simp
  rw [after0_4]
  exact (out_at m c h1 h2 t i j).trans ((congrArg _ e).trans (refDx_at ..)).symm

/-- The scale's gradient after the run. -/
theorem final_dg : (dats m 0 c).arrAt 5 (cfgs 0).N = refDg (a0 m c) (a1 m c) (a2 m c) (a3 m c) := by
  refine (dats m 0 c).arrAt_eq_of_covers 5 _ (by decide +kernel) fun t hf y => ?_
  obtain ⟨p, q, rfl⟩ : ∃ (p : Fin 8) (q : Fin 512), y = ix2 p q := ⟨y 0, y 1, eq_ix2 y⟩
  have e : ((win0_5.blk t).view.emb (ix2 p q) : S8x512.Idx) = ix2 p q := by
    funext a
    apply Fin.ext
    refine (win0_5.rect_emb_val t _ a).trans ?_
    rw [(idx t).2.2.2.2.2.1]
    match a with
    | 0 => show 0 * 8 + p.val = p.val; omega
    | 1 => show 0 * 512 + q.val = q.val; omega
  blk_simp
  rw [after0_5]
  rw [Pipeline.eq_sum_fin_of_reset_step_apply_of_flush (fun n h => (outsAt0 m c n h).2.1) 8 (fun _ => 0) _
    (fun t h j => dg_A m c h1 t h j) (fun t h j => dg_B m c h1 t h j) t ((flush0_5 t).mp hf) _, zero_add]
  refine Eq.trans ?_ ((congrArg _ e).trans (refDg_at ..)).symm
  refine Fin.sum_mul_add_congr fun s k hl => ?_
  have ht : t.val < 8 := t.isLt
  exact congrArg (fun n : Fin 4224 => Ln.actR (a1 m c (ix2 n q)) (pre (a0 m c) (a2 m c) (a3 m c) n q) * Ln.nrm (line (a0 m c) n) q)
    (Fin.ext (by show (8 * (t.val / 8) + s.val) * 528 + (k.val * 8 + p.val) = (s.val * 66 + k.val) * 8 + p.val; omega))

/-- The shift's gradient after the run. -/
theorem final_db : (dats m 0 c).arrAt 6 (cfgs 0).N = refDb (a0 m c) (a1 m c) (a2 m c) (a3 m c) := by
  refine (dats m 0 c).arrAt_eq_of_covers 6 _ (by decide +kernel) fun t hf y => ?_
  obtain ⟨p, q, rfl⟩ : ∃ (p : Fin 8) (q : Fin 512), y = ix2 p q := ⟨y 0, y 1, eq_ix2 y⟩
  have e : ((win0_6.blk t).view.emb (ix2 p q) : S8x512.Idx) = ix2 p q := by
    funext a
    apply Fin.ext
    refine (win0_6.rect_emb_val t _ a).trans ?_
    rw [(idx t).2.2.2.2.2.2]
    match a with
    | 0 => show 0 * 8 + p.val = p.val; omega
    | 1 => show 0 * 512 + q.val = q.val; omega
  blk_simp
  rw [after0_6]
  rw [Pipeline.eq_sum_fin_of_reset_step_apply_of_flush (fun n h => (outsAt0 m c n h).2.2) 8 (fun _ => 0) _
    (fun t h j => db_A m c h1 t h j) (fun t h j => db_B m c h1 t h j) t ((flush0_6 t).mp hf) _, zero_add]
  refine Eq.trans ?_ ((congrArg _ e).trans (refDb_at ..)).symm
  refine Fin.sum_mul_add_congr fun s k hl => ?_
  have ht : t.val < 8 := t.isLt
  exact congrArg (fun n : Fin 4224 => Ln.actR (a1 m c (ix2 n q)) (pre (a0 m c) (a2 m c) (a3 m c) n q))
    (Fin.ext (by show (8 * (t.val / 8) + s.val) * 528 + (k.val * 8 + p.val) = (s.val * 66 + k.val) * 8 + p.val; omega))

end Cert.KernelLnIdeal.LnValue

end
-- ==== Proof.MixoutValue.lean ====
/- The mixer's output projection added to the residual stream: the kernel's result array, read off its frame run, is the
   reference's. -/
module

public import proofs.«01_k».proof.Proof.Gen.KernelMixoutIdeal.Frame
public import proofs.«01_k».proof.Proof.Gen.ReferenceMixoutIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelMixoutIdeal.MixoutValue

open Cert.KernelMixoutIdeal Cert.KernelMixoutIdeal.Gen

variable (m : (ℓ : Loc nD τ sig) → Buf (Elt Ideal) ℓ)

/-- The reference's term over the four argument arrays. -/
abbrev ref (A C : FVec Ideal S4224x512 .bf16) (W : FVec Ideal S1024x1024 .bf16) (R : FVec Ideal S4224x1024 .f32) : FVec Ideal S4224x1024 .f32 :=
  addf R (Host.dotGeneral Cert.ReferenceMixoutIdeal.dot_S4224x1024_S1024x1024_S4224x1024_1_0_0_1_n_n none (extf .f32 (concatenate Cert.ReferenceMixoutIdeal.S4224x1024 1 [⟨Cert.ReferenceMixoutIdeal.S4224x512, A⟩, ⟨Cert.ReferenceMixoutIdeal.S4224x512, C⟩] Cert.ReferenceMixoutIdeal.Gen.concatenates_S4224x512_S4224x512_S4224x1024_d1) Cert.ReferenceMixoutIdeal.Gen.bitsLt_bf16_f32) (extf .f32 W Cert.ReferenceMixoutIdeal.Gen.bitsLt_bf16_f32))

/-- The block index of each window at each grid point. -/
theorem idx : ∀ t : Fin cfg0.N, win0_0.index t = ![t.val / 2, 0] ∧ win0_1.index t = ![t.val / 2, 0] ∧ win0_2.index t = ![0, t.val % 2]
    ∧ win0_3.index t = ![1, t.val % 2] ∧ win0_4.index t = ![t.val / 2, t.val % 2] ∧ win0_5.index t = ![t.val / 2, t.val % 2] :=
  (by decide +kernel : ∀ t : Fin grid0.N, _)

/-- Three equal summands, regrouped. -/
theorem add_three {a b d a' b' d' : EReal} (h : a = a') (h' : b = b') (h'' : d = d') : a + b + d = a' + (b' + d') := by
  rw [h, h', h'', add_assoc]

/-- The result array after the run. -/
theorem final (c : Dev nD) : (dats m 0 c).arrAt 5 (cfgs 0).N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  frame_out
  pointwise [k0_pay1, ref]
  refine add_three ?_ (Fin.sum_fin_congr fun k => ?_) (Fin.sum_fin_congr fun k => ?_)
  all_goals blk_point [iblk, V, idx t]

end Cert.KernelMixoutIdeal.MixoutValue

end
-- ==== Proof.MixinfValue.lean ====
/- The mixer's input projection with the normalisation before it: the kernel's three result arrays, read off its frame run,
   are the reference's. -/
module

public import proofs.«01_k».proof.Proof.Gen.KernelMixinfIdeal.Frame
public import proofs.«01_k».proof.Proof.Gen.ReferenceMixinfIdeal.Run
public import proofs.«01_k».proof.Proof.Rms
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelMixinfIdeal.MixinfValue

open Cert.KernelMixinfIdeal Cert.KernelMixinfIdeal.Gen

variable (m : (ℓ : Loc nD τ sig) → Buf (Elt Ideal) ℓ)

section Ref

open Cert.ReferenceMixinfIdeal Cert.ReferenceMixinfIdeal.Gen

variable (A0 : FVec Ideal S4224x1024 .f32) (A1 : FVec Ideal S1x1024 .f32) (A2 : FVec Ideal S2560x1024 .bf16)

/-- The normalised rows, scaled. -/
def refN : FVec Ideal S4224x1024 .f32 := (mulf (mulf A0 (broadcastInDim S4224x1024 ![0, 1] bcast_S4224x1_S4224x1024_0_1 (Host.rsqrt (addf (Host.divf (broadcastInDim S4224x1 ![0] bcast_S4224_S4224x1_0 (Host.reduceAdd (mulf A0 A0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 A1))

/-- The attention's part of the projection. -/
def refQkv : FVec Ideal S4224x1536 .bf16 := truncf .bf16 (extractStridedSlice S4224x1536 ![0, 0] (Host.dotGeneral dot_S4224x1024_S1024x2560_S4224x2560_1_0_0_1_n_n none (refN A0 A1) (transpose S1024x2560 [1, 0] (extf .f32 A2 Cert.ReferenceMixinfIdeal.Gen.bitsLt_bf16_f32) transposes_S2560x1024_S1024x2560_1_0)) slices_S4224x2560_S4224x1536_0_0) Cert.ReferenceMixinfIdeal.Gen.bitsLt_bf16_f32

/-- The convolution's part of the projection. -/
def refCc : FVec Ideal S4224x1024 .f32 := extractStridedSlice S4224x1024 ![0, 1536] (Host.dotGeneral dot_S4224x1024_S1024x2560_S4224x2560_1_0_0_1_n_n none (refN A0 A1) (transpose S1024x2560 [1, 0] (extf .f32 A2 Cert.ReferenceMixinfIdeal.Gen.bitsLt_bf16_f32) transposes_S2560x1024_S1024x2560_1_0)) slices_S4224x2560_S4224x1024_0_1536

/-- The normalised rows as they are kept. -/
def refHn : FVec Ideal S4224x1024 .bf16 := truncf .bf16 (refN A0 A1) Cert.ReferenceMixinfIdeal.Gen.bitsLt_bf16_f32

theorem refN_at (i : Fin 4224) (j : Fin 1024) : refN A0 A1 (ix2 i j) = A0 (ix2 i j) * (Rms.inv fun k => A0 (ix2 i k)) * A1 (ix2 0 j) := by
  pointwise [refN]
  rfl

theorem refQkv_at (i : Fin 4224) (j : Fin 1536) : refQkv A0 A1 A2 (ix2 i j) = ∑ k : Fin 1024, refN A0 A1 (ix2 i k) * A2 (ix2 ⟨j.val, by omega⟩ k) := by
  pointwise [refQkv]

theorem refCc_at (i : Fin 4224) (j : Fin 1024) : refCc A0 A1 A2 (ix2 i j) = ∑ k : Fin 1024, refN A0 A1 (ix2 i k) * A2 (ix2 ⟨1536 + j.val, by omega⟩ k) := by
  pointwise [refCc]

theorem refHn_at (i : Fin 4224) (j : Fin 1024) : refHn A0 A1 (ix2 i j) = refN A0 A1 (ix2 i j) := by
  pointwise [refHn]

end Ref

/-- The reference's run: its result arrays are these three, its arguments are unchanged. -/
theorem ref_run (m : (ℓ : Loc Cert.ReferenceMixinfIdeal.nD Cert.ReferenceMixinfIdeal.τ Cert.ReferenceMixinfIdeal.sig) → Buf (Elt Ideal) ℓ) (ρ : Dev Cert.ReferenceMixinfIdeal.nD → PrngReg) :
    θ_run Cert.ReferenceMixinfIdeal.defs (onTc (τ := Cert.ReferenceMixinfIdeal.τ) (Cert.ReferenceMixinfIdeal.main (F := Ideal))) ⟨m, fun _ => 0, ρ⟩ fun r => ∀ c : Dev Cert.ReferenceMixinfIdeal.nD,
      r.2.mem ((c.tc : Thread Cert.ReferenceMixinfIdeal.nD Cert.ReferenceMixinfIdeal.τ).loc Cert.ReferenceMixinfIdeal.main_v16) = refQkv (m ((c.tc : Thread Cert.ReferenceMixinfIdeal.nD Cert.ReferenceMixinfIdeal.τ).loc Cert.ReferenceMixinfIdeal.main_arg0)) (m ((c.tc : Thread Cert.ReferenceMixinfIdeal.nD Cert.ReferenceMixinfIdeal.τ).loc Cert.ReferenceMixinfIdeal.main_arg1)) (m ((c.tc : Thread Cert.ReferenceMixinfIdeal.nD Cert.ReferenceMixinfIdeal.τ).loc Cert.ReferenceMixinfIdeal.main_arg2))
      ∧ r.2.mem ((c.tc : Thread Cert.ReferenceMixinfIdeal.nD Cert.ReferenceMixinfIdeal.τ).loc Cert.ReferenceMixinfIdeal.main_v17) = refCc (m ((c.tc : Thread Cert.ReferenceMixinfIdeal.nD Cert.ReferenceMixinfIdeal.τ).loc Cert.ReferenceMixinfIdeal.main_arg0)) (m ((c.tc : Thread Cert.ReferenceMixinfIdeal.nD Cert.ReferenceMixinfIdeal.τ).loc Cert.ReferenceMixinfIdeal.main_arg1)) (m ((c.tc : Thread Cert.ReferenceMixinfIdeal.nD Cert.ReferenceMixinfIdeal.τ).loc Cert.ReferenceMixinfIdeal.main_arg2))
      ∧ r.2.mem ((c.tc : Thread Cert.ReferenceMixinfIdeal.nD Cert.ReferenceMixinfIdeal.τ).loc Cert.ReferenceMixinfIdeal.main_v18) = refHn (m ((c.tc : Thread Cert.ReferenceMixinfIdeal.nD Cert.ReferenceMixinfIdeal.τ).loc Cert.ReferenceMixinfIdeal.main_arg0)) (m ((c.tc : Thread Cert.ReferenceMixinfIdeal.nD Cert.ReferenceMixinfIdeal.τ).loc Cert.ReferenceMixinfIdeal.main_arg1))
      ∧ r.2.mem ((c.tc : Thread Cert.ReferenceMixinfIdeal.nD Cert.ReferenceMixinfIdeal.τ).loc Cert.ReferenceMixinfIdeal.main_arg0) = m ((c.tc : Thread Cert.ReferenceMixinfIdeal.nD Cert.ReferenceMixinfIdeal.τ).loc Cert.ReferenceMixinfIdeal.main_arg0)
      ∧ r.2.mem ((c.tc : Thread Cert.ReferenceMixinfIdeal.nD Cert.ReferenceMixinfIdeal.τ).loc Cert.ReferenceMixinfIdeal.main_arg1) = m ((c.tc : Thread Cert.ReferenceMixinfIdeal.nD Cert.ReferenceMixinfIdeal.τ).loc Cert.ReferenceMixinfIdeal.main_arg1)
      ∧ r.2.mem ((c.tc : Thread Cert.ReferenceMixinfIdeal.nD Cert.ReferenceMixinfIdeal.τ).loc Cert.ReferenceMixinfIdeal.main_arg2) = m ((c.tc : Thread Cert.ReferenceMixinfIdeal.nD Cert.ReferenceMixinfIdeal.τ).loc Cert.ReferenceMixinfIdeal.main_arg2) :=
  (θ_run Cert.ReferenceMixinfIdeal.defs _ _).mono (fun _ h c => ⟨(h c).1.trans rfl, (h c).2.1.trans rfl, (h c).2.2.1.trans rfl, (h c).2.2.2⟩)
    (Cert.ReferenceMixinfIdeal.Value.run (F := Ideal) m ρ)

/-- The normalised rows of a block. -/
theorem norm_at (x : FVec Ideal S528x1024 .f32) (g : FVec Ideal S1x1024 .f32) (i : Fin 528) (j : Fin 1024) :
    k0_pay1 (F := Ideal) x g (ix2 i j) = x (ix2 i j) * (Rms.inv fun k => x (ix2 i k)) * g (ix2 0 j) := by
  pointwise [k0_pay1]
  rfl

theorem qkv_at (x : FVec Ideal S528x1024 .f32) (g : FVec Ideal S1x1024 .f32) (w : FVec Ideal S1536x1024 .bf16) (i : Fin 528) (j : Fin 1536) :
    k0_pay2 (F := Ideal) x g w (ix2 i j) = ∑ k : Fin 1024, k0_pay1 (F := Ideal) x g (ix2 i k) * w (ix2 j k) := by
  pointwise [k0_pay2]

theorem cc_at (x : FVec Ideal S528x1024 .f32) (g : FVec Ideal S1x1024 .f32) (w : FVec Ideal S1024x1024 .bf16) (i : Fin 528) (j : Fin 1024) :
    k0_pay3 (F := Ideal) x g w (ix2 i j) = ∑ k : Fin 1024, k0_pay1 (F := Ideal) x g (ix2 i k) * w (ix2 j k) := by
  pointwise [k0_pay3]

/-- The block index of each window at each grid point. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] :=
  (by decide +kernel : ∀ t : Fin grid0.N, _)

/-- Row `i` of the block at point `t`, in the whole array. -/
abbrev row (t : Fin cfg0.N) (i : Fin 528) : Fin 4224 := ⟨t.val * 528 + i.val, by have : t.val < 8 := t.isLt; omega⟩

variable (c : Dev nD)

abbrev a0 : FVec Ideal S4224x1024 .f32 := m ((c : Thread nD τ).loc main_arg0)
abbrev a1 : FVec Ideal S1x1024 .f32 := m ((c : Thread nD τ).loc main_arg1)
abbrev a2 : FVec Ideal S2560x1024 .bf16 := m ((c : Thread nD τ).loc main_arg2)

theorem x_blk (t : Fin cfg0.N) (i : Fin 528) (k : Fin 1024) : (iblk m c 0 t : FVec Ideal S528x1024 .f32) (ix2 i k) = a0 m c (ix2 (row t i) k) := by
  blk_point [iblk, V, idx t]

theorem g_blk (t : Fin cfg0.N) (k : Fin 1024) : (iblk m c 1 t : FVec Ideal S1x1024 .f32) (ix2 0 k) = a1 m c (ix2 0 k) := by
  blk_point [iblk, V, idx t]

theorem w_blk (t : Fin cfg0.N) (k : Fin 2560) (j : Fin 1024) : (iblk m c 2 t : FVec Ideal S2560x1024 .bf16) (ix2 k j) = a2 m c (ix2 k j) := by
  blk_point [iblk, V, idx t]

theorem norm_blk (t : Fin cfg0.N) (i : Fin 528) (j : Fin 1024) :
    k0_pay1 (F := Ideal) (iblk m c 0 t) (iblk m c 1 t) (ix2 i j) = refN (a0 m c) (a1 m c) (ix2 (row t i) j) := by
  rw [norm_at, refN_at]
  simp only [x_blk, g_blk]

/-- The attention's part of the projection after the run. -/
theorem final_qkv : (dats m 0 c).arrAt 3 (cfgs 0).N = refQkv (a0 m c) (a1 m c) (a2 m c) := by
  refine (dats m 0 c).arrAt_eq_of_covers 3 _ (by decide +kernel) fun t hf y => ?_
  obtain ⟨i, j, rfl⟩ : ∃ (i : Fin 528) (j : Fin 1536), y = ix2 i j := ⟨y 0, y 1, eq_ix2 y⟩
  have e : ((win0_3.blk t).view.emb (ix2 i j) : S4224x1536.Idx) = ix2 (row t i) j := by
    funext a
    apply Fin.ext
    refine (win0_3.rect_emb_val t _ a).trans ?_
    rw [(idx t).2.2.2.1]
    match a with
    | 0 => rfl
    | 1 => show 0 * 1536 + j.val = j.val; omega
  blk_simp
  rw [after0_3]
  frame_out
  refine Eq.trans ?_ ((congrArg _ e).trans (refQkv_at ..)).symm
  refine (qkv_at ..).trans ?_
  refine Finset.sum_congr rfl fun k _ => ?_
  rw [norm_blk]
  refine congrArg₂ (· * ·) rfl ?_
  blk_point [iblk, V, idx t]

/-- The convolution's part of the projection after the run. -/
theorem final_cc : (dats m 0 c).arrAt 4 (cfgs 0).N = refCc (a0 m c) (a1 m c) (a2 m c) := by
  refine (dats m 0 c).arrAt_eq_of_covers 4 _ (by decide +kernel) fun t hf y => ?_
  obtain ⟨i, j, rfl⟩ : ∃ (i : Fin 528) (j : Fin 1024), y = ix2 i j := ⟨y 0, y 1, eq_ix2 y⟩
  have e : ((win0_4.blk t).view.emb (ix2 i j) : S4224x1024.Idx) = ix2 (row t i) j := by
    funext a
    apply Fin.ext
    refine (win0_4.rect_emb_val t _ a).trans ?_
    rw [(idx t).2.2.2.2.1]
    match a with
    | 0 => rfl
    | 1 => show 0 * 1024 + j.val = j.val; omega
  blk_simp
  rw [after0_4]
  frame_out
  refine Eq.trans ?_ ((congrArg _ e).trans (refCc_at ..)).symm
  refine (cc_at ..).trans ?_
  refine Finset.sum_congr rfl fun k _ => ?_
  rw [norm_blk]
  refine congrArg₂ (· * ·) rfl ?_
  blk_point [iblk, V, idx t]

/-- The normalised rows after the run. -/
theorem final_hn : (dats m 0 c).arrAt 5 (cfgs 0).N = refHn (a0 m c) (a1 m c) := by
  refine (dats m 0 c).arrAt_eq_of_covers 5 _ (by decide +kernel) fun t hf y => ?_
  obtain ⟨i, j, rfl⟩ : ∃ (i : Fin 528) (j : Fin 1024), y = ix2 i j := ⟨y 0, y 1, eq_ix2 y⟩
  have e : ((win0_5.blk t).view.emb (ix2 i j) : S4224x1024.Idx) = ix2 (row t i) j := by
    funext a
    apply Fin.ext
    refine (win0_5.rect_emb_val t _ a).trans ?_
    rw [(idx t).2.2.2.2.2]
    match a with
    | 0 => rfl
    | 1 => show 0 * 1024 + j.val = j.val; omega
  blk_simp
  rw [after0_5]
  frame_out
  refine Eq.trans ?_ ((congrArg _ e).trans (refHn_at ..)).symm
  exact norm_blk m c t i j

end Cert.KernelMixinfIdeal.MixinfValue

end
-- ==== Proof.LnfValue.lean ====
/- The layer normalisation and the activation of the convolution branch: the kernel's result array, read off its frame run, is
   the reference's. -/
module

public import proofs.«01_k».proof.Proof.Gen.KernelLnfIdeal.Frame
public import proofs.«01_k».proof.Proof.Gen.ReferenceLnfIdeal.Run
public import proofs.«01_k».proof.Proof.Ln
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelLnfIdeal.LnfValue

open Cert.KernelLnfIdeal Cert.KernelLnfIdeal.Gen

variable (m : (ℓ : Loc nD τ sig) → Buf (Elt Ideal) ℓ)

section Ref

open Cert.ReferenceLnfIdeal Cert.ReferenceLnfIdeal.Gen

variable (A0 : FVec Ideal S4224x512 .f32) (A1 A2 : FVec Ideal S1x512 .f32)

/-- The rows less their means. -/
def refD : FVec Ideal S4224x512 .f32 := (subf A0 (broadcastInDim S4224x512 ![0, 1] bcast_S4224x1_S4224x512_0_1 (Host.divf (broadcastInDim S4224x1 ![0] bcast_S4224_S4224x1_0 (Host.reduceAdd A0 (constant S_ .f32 0x00000000#32) reducesTo_S4224x512_S4224_d1 h_S_)) (broadcastInDim S4224x1 ![] bcast_S_S4224x1 (constant S_ .f32 0x44000000#32)))))

/-- The normalised rows, scaled and shifted. -/
def refP : FVec Ideal S4224x512 .f32 := (addf (mulf (mulf (refD A0) (broadcastInDim S4224x512 ![0, 1] bcast_S4224x1_S4224x512_0_1 (Host.rsqrt (addf (Host.divf (broadcastInDim S4224x1 ![0] bcast_S4224_S4224x1_0 (Host.reduceAdd (mulf (refD A0) (refD A0)) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (broadcastInDim S4224x512 ![0, 1] bcast_S1x512_S4224x512_0_1 A1)) (broadcastInDim S4224x512 ![0, 1] bcast_S1x512_S4224x512_0_1 A2))

/-- The result. -/
def refO : FVec Ideal S4224x512 .bf16 := truncf .bf16 (mulf (refP A0 A1 A2) (Host.divf (broadcastInDim S4224x512 ![] bcast_S_S4224x512 (constant S_ .f32 0x3F800000#32)) (addf (broadcastInDim S4224x512 ![] bcast_S_S4224x512 (constant S_ .f32 0x3F800000#32)) (Host.exp (Host.negf (refP A0 A1 A2)))))) Cert.ReferenceLnfIdeal.Gen.bitsLt_bf16_f32

theorem refD_at (i : Fin 4224) (j : Fin 512) : refD A0 (ix2 i j) = Ln.dev (fun k => A0 (ix2 i k)) j := by
  pointwise [refD]
  rfl

theorem refP_at (i : Fin 4224) (j : Fin 512) : refP A0 A1 A2 (ix2 i j) = Ln.lin (fun k => A0 (ix2 i k)) j (A1 (ix2 0 j)) (A2 (ix2 0 j)) := by
  pointwise [refP]
  simp only [refD_at]
  rfl

theorem refO_at (i : Fin 4224) (j : Fin 512) : refO A0 A1 A2 (ix2 i j) = Ln.silu (Ln.lin (fun k => A0 (ix2 i k)) j (A1 (ix2 0 j)) (A2 (ix2 0 j))) := by
  pointwise [refO]
  simp only [refP_at]
  rfl

end Ref

/-- The reference's run: its result array is this one, its arguments are unchanged. -/
theorem ref_run (m : (ℓ : Loc Cert.ReferenceLnfIdeal.nD Cert.ReferenceLnfIdeal.τ Cert.ReferenceLnfIdeal.sig) → Buf (Elt Ideal) ℓ) (ρ : Dev Cert.ReferenceLnfIdeal.nD → PrngReg) :
    θ_run Cert.ReferenceLnfIdeal.defs (onTc (τ := Cert.ReferenceLnfIdeal.τ) (Cert.ReferenceLnfIdeal.main (F := Ideal))) ⟨m, fun _ => 0, ρ⟩ fun r => ∀ c : Dev Cert.ReferenceLnfIdeal.nD,
      r.2.mem ((c.tc : Thread Cert.ReferenceLnfIdeal.nD Cert.ReferenceLnfIdeal.τ).loc Cert.ReferenceLnfIdeal.main_v23) = refO (m ((c.tc : Thread Cert.ReferenceLnfIdeal.nD Cert.ReferenceLnfIdeal.τ).loc Cert.ReferenceLnfIdeal.main_arg0)) (m ((c.tc : Thread Cert.ReferenceLnfIdeal.nD Cert.ReferenceLnfIdeal.τ).loc Cert.ReferenceLnfIdeal.main_arg1)) (m ((c.tc : Thread Cert.ReferenceLnfIdeal.nD Cert.ReferenceLnfIdeal.τ).loc Cert.ReferenceLnfIdeal.main_arg2))
      ∧ r.2.mem ((c.tc : Thread Cert.ReferenceLnfIdeal.nD Cert.ReferenceLnfIdeal.τ).loc Cert.ReferenceLnfIdeal.main_arg0) = m ((c.tc : Thread Cert.ReferenceLnfIdeal.nD Cert.ReferenceLnfIdeal.τ).loc Cert.ReferenceLnfIdeal.main_arg0)
      ∧ r.2.mem ((c.tc : Thread Cert.ReferenceLnfIdeal.nD Cert.ReferenceLnfIdeal.τ).loc Cert.ReferenceLnfIdeal.main_arg1) = m ((c.tc : Thread Cert.ReferenceLnfIdeal.nD Cert.ReferenceLnfIdeal.τ).loc Cert.ReferenceLnfIdeal.main_arg1)
      ∧ r.2.mem ((c.tc : Thread Cert.ReferenceLnfIdeal.nD Cert.ReferenceLnfIdeal.τ).loc Cert.ReferenceLnfIdeal.main_arg2) = m ((c.tc : Thread Cert.ReferenceLnfIdeal.nD Cert.ReferenceLnfIdeal.τ).loc Cert.ReferenceLnfIdeal.main_arg2) :=
  (θ_run Cert.ReferenceLnfIdeal.defs _ _).mono (fun _ h c => ⟨(h c).1.trans rfl, (h c).2⟩)
    (Cert.ReferenceLnfIdeal.Value.run (F := Ideal) m ρ)

theorem out_at (x : FVec Ideal S528x512 .f32) (g b : FVec Ideal S1x512 .f32) (i : Fin 528) (j : Fin 512) :
    k0_pay1 (F := Ideal) x g b (ix2 i j) = Ln.silu (Ln.lin (fun k => x (ix2 i k)) j (g (ix2 0 j)) (b (ix2 0 j))) := by
  pointwise [k0_pay1]
  rw [Ln.silu, ← zero_sub]
  rfl

/-- The block index of each window at each grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Row `i` of the block at point `t`, in the whole array. -/
abbrev row (t : Fin cfg0.N) (i : Fin 528) : Fin 4224 := ⟨t.val * 528 + i.val, by have : t.val < 8 := t.isLt; omega⟩

variable (c : Dev nD)

abbrev a0 : FVec Ideal S4224x512 .f32 := m ((c : Thread nD τ).loc main_arg0)
abbrev a1 : FVec Ideal S1x512 .f32 := m ((c : Thread nD τ).loc main_arg1)
abbrev a2 : FVec Ideal S1x512 .f32 := m ((c : Thread nD τ).loc main_arg2)

theorem x_blk (t : Fin cfg0.N) (i : Fin 528) (k : Fin 512) : (iblk m c 0 t : FVec Ideal S528x512 .f32) (ix2 i k) = a0 m c (ix2 (row t i) k) := by
  blk_point [iblk, V, idx t]

theorem g_blk (t : Fin cfg0.N) (k : Fin 512) : (iblk m c 1 t : FVec Ideal S1x512 .f32) (ix2 0 k) = a1 m c (ix2 0 k) := by
  blk_point [iblk, V, idx t]

theorem b_blk (t : Fin cfg0.N) (k : Fin 512) : (iblk m c 2 t : FVec Ideal S1x512 .f32) (ix2 0 k) = a2 m c (ix2 0 k) := by
  blk_point [iblk, V, idx t]

/-- The result array after the run. -/
theorem final : (dats m 0 c).arrAt 3 (cfgs 0).N = refO (a0 m c) (a1 m c) (a2 m c) := by
  refine (dats m 0 c).arrAt_eq_of_covers 3 _ (by decide +kernel) fun t hf y => ?_
  obtain ⟨i, j, rfl⟩ : ∃ (i : Fin 528) (j : Fin 512), y = ix2 i j := ⟨y 0, y 1, eq_ix2 y⟩
  have e : ((win0_3.blk t).view.emb (ix2 i j) : S4224x512.Idx) = ix2 (row t i) j := by
    funext a
    apply Fin.ext
    refine (win0_3.rect_emb_val t _ a).trans ?_
    rw [(idx t).2.2.2]
    match a with
    | 0 => rfl
    | 1 => show 0 * 512 + j.val = j.val; omega
  blk_simp
  rw [after0_3]
  frame_out
  refine Eq.trans ?_ ((congrArg _ e).trans (refO_at ..)).symm
  refine (out_at ..).trans ?_
  simp only [x_blk, g_blk, b_blk]

end Cert.KernelLnfIdeal.LnfValue
-- ==== Proof.FfnBlocks.lean ====
/- The feed-forward kernel over one grid point: what its body computes from the blocks it reads. -/
module

public import proofs.«01_k».proof.Proof.Gen.KernelFfnIdeal.Frame
public import proofs.«01_k».proof.Proof.Gen.KernelFfnIdeal.Skeleton
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelFfnIdeal.FfnBlocks

open Cert.KernelFfnIdeal Cert.KernelFfnIdeal.Gen

/-- The normalised rows of a block. -/
def hnB (x0 : FVec Ideal S528x1024 .f32) (x1 : FVec Ideal S1x1024 .f32) : FVec Ideal S528x1024 .bf16 := k0_pay2 x0 x1

/-- The product of normalised rows with a block of a projection's rows. -/
def projB (w : FVec Ideal S528x1024 .bf16) (x : FVec Ideal S1408x1024 .bf16) : FVec Ideal S528x1408 .f32 :=
  fun y => ∑ k : Fin 1024, w (ix2 (y 0) k) * x (ix2 (y 1) k)

/-- The logistic function as the kernel spells it. -/
def sg (g : EReal) : EReal := Ideal.div 1 (1 + Ideal.exp (0 - g))

/-- The gated activation of a block. -/
def actB (w : FVec Ideal S528x1024 .bf16) (x2 x3 : FVec Ideal S1408x1024 .bf16) : FVec Ideal S528x1408 .bf16 :=
  fun y => projB w x2 y * sg (projB w x2 y) * projB w x3 y

/-- The part of the down projection's product over one block of its columns. -/
def partB (w : FVec Ideal S528x1024 .bf16) (x2 x3 x4 : FVec Ideal S1408x1024 .bf16) : FVec Ideal S528x1024 .f32 :=
  fun y => ∑ j : Fin 1408, actB w x2 x3 (ix2 (y 0) j) * x4 (ix2 j (y 1))

/-- The result's block: the rows and the two parts of the product. -/
def outB (x0 p q : FVec Ideal S528x1024 .f32) : FVec Ideal S528x1024 .f32 := fun y => x0 y + (p y + q y)

/-! ### The stores of one grid point -/

/-- 256 rows of a weight's block, from row `o` on. -/
abbrev cut256 (x : FVec Ideal S1408x1024 .bf16) (o : ℕ) (h : ∀ a, (![o, 0] : Fin 2 → ℕ) a + S256x1024.size a ≤ S1408x1024.size a) : Vec Ideal S256x1024 .bf16 :=
  View.ld (Val := Elt Ideal) (e' := EltTy.bf16) x (Rect.unit (s := S1408x1024) ![o, 0] S256x1024.size h)

/-- 128 rows of a weight's block, from row `o` on. -/
abbrev cut128 (x : FVec Ideal S1408x1024 .bf16) (o : ℕ) (h : ∀ a, (![o, 0] : Fin 2 → ℕ) a + S128x1024.size a ≤ S1408x1024.size a) : Vec Ideal S128x1024 .bf16 :=
  View.ld (Val := Elt Ideal) (e' := EltTy.bf16) x (Rect.unit (s := S1408x1024) ![o, 0] S128x1024.size h)

/-- The stores of the gate's block, last first. -/
abbrev gateL (w : FVec Ideal S528x1024 .bf16) (x2 : FVec Ideal S1408x1024 .bf16) : List (View.Piece (Elt Ideal) S528x1408 .f32) :=
  [⟨Rect.unit (s := S528x1408) ![0, 1280] S528x128.size inb_S528x1408_S528x128_0_1280, k0_pay25 (F := Ideal) w (cut128 x2 1280 inb_S1408x1024_S128x1024_1280_0)⟩,
    ⟨Rect.unit (s := S528x1408) ![0, 1024] S528x256.size inb_S528x1408_S528x256_0_1024, k0_pay22 (F := Ideal) w (cut256 x2 1024 inb_S1408x1024_S256x1024_1024_0)⟩,
    ⟨Rect.unit (s := S528x1408) ![0, 768] S528x256.size inb_S528x1408_S528x256_0_768, k0_pay17 (F := Ideal) w (cut256 x2 768 inb_S1408x1024_S256x1024_768_0)⟩,
    ⟨Rect.unit (s := S528x1408) ![0, 512] S528x256.size inb_S528x1408_S528x256_0_512, k0_pay13 (F := Ideal) w (cut256 x2 512 inb_S1408x1024_S256x1024_512_0)⟩,
    ⟨Rect.unit (s := S528x1408) ![0, 256] S528x256.size inb_S528x1408_S528x256_0_256, k0_pay9 (F := Ideal) w (cut256 x2 256 inb_S1408x1024_S256x1024_256_0)⟩,
    ⟨Rect.unit (s := S528x1408) ![0, 0] S528x256.size inb_S528x1408_S528x256_0_0, k0_pay5 (F := Ideal) w (cut256 x2 0 inb_S1408x1024_S256x1024_0_0)⟩]

/-- The stores of the other factor's block, last first. -/
abbrev upL (w : FVec Ideal S528x1024 .bf16) (x3 : FVec Ideal S1408x1024 .bf16) : List (View.Piece (Elt Ideal) S528x1408 .f32) :=
  [⟨Rect.unit (s := S528x1408) ![0, 1280] S528x128.size inb_S528x1408_S528x128_0_1280, k0_pay26 (F := Ideal) w (cut128 x3 1280 inb_S1408x1024_S128x1024_1280_0)⟩,
    ⟨Rect.unit (s := S528x1408) ![0, 1024] S528x256.size inb_S528x1408_S528x256_0_1024, k0_pay23 (F := Ideal) w (cut256 x3 1024 inb_S1408x1024_S256x1024_1024_0)⟩,
    ⟨Rect.unit (s := S528x1408) ![0, 768] S528x256.size inb_S528x1408_S528x256_0_768, k0_pay18 (F := Ideal) w (cut256 x3 768 inb_S1408x1024_S256x1024_768_0)⟩,
    ⟨Rect.unit (s := S528x1408) ![0, 512] S528x256.size inb_S528x1408_S528x256_0_512, k0_pay14 (F := Ideal) w (cut256 x3 512 inb_S1408x1024_S256x1024_512_0)⟩,
    ⟨Rect.unit (s := S528x1408) ![0, 256] S528x256.size inb_S528x1408_S528x256_0_256, k0_pay10 (F := Ideal) w (cut256 x3 256 inb_S1408x1024_S256x1024_256_0)⟩,
    ⟨Rect.unit (s := S528x1408) ![0, 0] S528x256.size inb_S528x1408_S528x256_0_0, k0_pay6 (F := Ideal) w (cut256 x3 0 inb_S1408x1024_S256x1024_0_0)⟩]

/-- The stores of the activation's block, last first. -/
abbrev actL (w : FVec Ideal S528x1024 .bf16) (x2 x3 : FVec Ideal S1408x1024 .bf16) : List (View.Piece (Elt Ideal) S528x1408 .bf16) :=
  [⟨Rect.unit (s := S528x1408) ![0, 1280] S528x128.size inb_S528x1408_S528x128_0_1280, k0_pay27 (F := Ideal) w (cut128 x2 1280 inb_S1408x1024_S128x1024_1280_0) w (cut128 x3 1280 inb_S1408x1024_S128x1024_1280_0)⟩,
    ⟨Rect.unit (s := S528x1408) ![0, 1024] S528x256.size inb_S528x1408_S528x256_0_1024, k0_pay24 (F := Ideal) w (cut256 x2 1024 inb_S1408x1024_S256x1024_1024_0) w (cut256 x3 1024 inb_S1408x1024_S256x1024_1024_0)⟩,
    ⟨Rect.unit (s := S528x1408) ![0, 768] S528x256.size inb_S528x1408_S528x256_0_768, k0_pay20 (F := Ideal) (k0_pay17 w (cut256 x2 768 inb_S1408x1024_S256x1024_768_0)) (k0_pay18 w (cut256 x3 768 inb_S1408x1024_S256x1024_768_0)) (k0_pay19 w (cut256 x2 768 inb_S1408x1024_S256x1024_768_0)) (FloatOps.ofBits FTy.f32 1065353216#32)⟩,
    ⟨Rect.unit (s := S528x1408) ![0, 512] S528x256.size inb_S528x1408_S528x256_0_512, k0_pay15 (F := Ideal) (k0_pay13 w (cut256 x2 512 inb_S1408x1024_S256x1024_512_0)) (k0_pay14 w (cut256 x3 512 inb_S1408x1024_S256x1024_512_0))⟩,
    ⟨Rect.unit (s := S528x1408) ![0, 256] S528x256.size inb_S528x1408_S528x256_0_256, k0_pay11 (F := Ideal) w (cut256 x2 256 inb_S1408x1024_S256x1024_256_0) w (cut256 x3 256 inb_S1408x1024_S256x1024_256_0)⟩,
    ⟨Rect.unit (s := S528x1408) ![0, 0] S528x256.size inb_S528x1408_S528x256_0_0, k0_pay7 (F := Ideal) w (cut256 x2 0 inb_S1408x1024_S256x1024_0_0) w (cut256 x3 0 inb_S1408x1024_S256x1024_0_0)⟩]

/-- A row of the cut is a row of the block. -/
theorem cut256_at (x : FVec Ideal S1408x1024 .bf16) (o : ℕ) (h) (ho : o + 256 ≤ 1408) (a : Fin 256) (k : Fin 1024) :
    cut256 x o h (ix2 a k) = x (ix2 ⟨o + a.val, by omega⟩ k) := by
  refine congrArg x (funext fun b => Fin.ext ?_)
  match b with
  | 0 => exact congrArg (o + ·) (Nat.one_mul _)
  | 1 => exact (Nat.zero_add _).trans (Nat.one_mul _)

/-- The same, of the short cut. -/
theorem cut128_at (x : FVec Ideal S1408x1024 .bf16) (o : ℕ) (h) (ho : o + 128 ≤ 1408) (a : Fin 128) (k : Fin 1024) :
    cut128 x o h (ix2 a k) = x (ix2 ⟨o + a.val, by omega⟩ k) := by
  refine congrArg x (funext fun b => Fin.ext ?_)
  match b with
  | 0 => exact congrArg (o + ·) (Nat.one_mul _)
  | 1 => exact (Nat.zero_add _).trans (Nat.one_mul _)

/-- A sum against 256 rows of a weight is the projection there. -/
theorem proj256 (w : FVec Ideal S528x1024 .bf16) (x : FVec Ideal S1408x1024 .bf16) (o : ℕ) (h) (ho : o + 256 ≤ 1408) (i : Fin 528) (a : Fin 256) (y : S528x1408.Idx)
    (h0 : (y 0).val = i.val) (h1 : (y 1).val = o + a.val) : ∑ k : Fin 1024, w (ix2 i k) * cut256 x o h (ix2 a k) = projB w x y := by
  have e0 : y 0 = i := Fin.ext h0
  have e1 : y 1 = ⟨o + a.val, by omega⟩ := Fin.ext h1
  unfold projB
  rw [e0, e1]
  exact Finset.sum_congr rfl fun k _ => congrArg (w (ix2 i k) * ·) (cut256_at x o h ho a k)

/-- A sum against 128 rows of a weight is the projection there. -/
theorem proj128 (w : FVec Ideal S528x1024 .bf16) (x : FVec Ideal S1408x1024 .bf16) (o : ℕ) (h) (ho : o + 128 ≤ 1408) (i : Fin 528) (a : Fin 128) (y : S528x1408.Idx)
    (h0 : (y 0).val = i.val) (h1 : (y 1).val = o + a.val) : ∑ k : Fin 1024, w (ix2 i k) * cut128 x o h (ix2 a k) = projB w x y := by
  have e0 : y 0 = i := Fin.ext h0
  have e1 : y 1 = ⟨o + a.val, by omega⟩ := Fin.ext h1
  unfold projB
  rw [e0, e1]
  exact Finset.sum_congr rfl fun k _ => congrArg (w (ix2 i k) * ·) (cut128_at x o h ho a k)

/-- The activation from its two factors. -/
theorem act_of (w : FVec Ideal S528x1024 .bf16) (x2 x3 : FVec Ideal S1408x1024 .bf16) (y : S528x1408.Idx) {a b : EReal}
    (ha : a = projB w x2 y) (hb : b = projB w x3 y) : a * sg a * b = actB w x2 x3 y := by
  subst ha hb
  rfl

/-- A part of the product, over 256 rows of the weights. -/
theorem part256 (w : FVec Ideal S528x1024 .bf16) (x2 x3 x4 : FVec Ideal S1408x1024 .bf16) (o : ℕ) (h) (ho : o + 256 ≤ 1408) (i : Fin 528) (c : Fin 1024)
    (g : Fin 256 → Fin 1408) (hg : ∀ a, (g a).val = o + a.val) :
    ∑ a : Fin 256, (∑ k : Fin 1024, w (ix2 i k) * cut256 x2 o h (ix2 a k)) * sg (∑ k : Fin 1024, w (ix2 i k) * cut256 x2 o h (ix2 a k)) * (∑ k : Fin 1024, w (ix2 i k) * cut256 x3 o h (ix2 a k)) * cut256 x4 o h (ix2 a c)
      = ∑ a : Fin 256, actB w x2 x3 (ix2 i (g a)) * x4 (ix2 (g a) c) :=
  Finset.sum_congr rfl fun a _ => congrArg₂ (· * ·)
    (act_of w x2 x3 _ (proj256 w x2 o h ho i a (ix2 i (g a)) rfl (hg a)) (proj256 w x3 o h ho i a (ix2 i (g a)) rfl (hg a)))
    ((cut256_at x4 o h ho a c).trans (congrArg (fun j => x4 (ix2 j c)) (Fin.ext (hg a).symm)))

/-- A part of the product, over 128 rows of the weights. -/
theorem part128 (w : FVec Ideal S528x1024 .bf16) (x2 x3 x4 : FVec Ideal S1408x1024 .bf16) (o : ℕ) (h) (ho : o + 128 ≤ 1408) (i : Fin 528) (c : Fin 1024)
    (g : Fin 128 → Fin 1408) (hg : ∀ a, (g a).val = o + a.val) :
    ∑ a : Fin 128, (∑ k : Fin 1024, w (ix2 i k) * cut128 x2 o h (ix2 a k)) * sg (∑ k : Fin 1024, w (ix2 i k) * cut128 x2 o h (ix2 a k)) * (∑ k : Fin 1024, w (ix2 i k) * cut128 x3 o h (ix2 a k)) * cut128 x4 o h (ix2 a c)
      = ∑ a : Fin 128, actB w x2 x3 (ix2 i (g a)) * x4 (ix2 (g a) c) :=
  Finset.sum_congr rfl fun a _ => congrArg₂ (· * ·)
    (act_of w x2 x3 _ (proj128 w x2 o h ho i a (ix2 i (g a)) rfl (hg a)) (proj128 w x3 o h ho i a (ix2 i (g a)) rfl (hg a)))
    ((cut128_at x4 o h ho a c).trans (congrArg (fun j => x4 (ix2 j c)) (Fin.ext (hg a).symm)))

/-- The gate's stores fill its block with the projection. -/
theorem gate_canon (w : FVec Ideal S528x1024 .bf16) (x2 : FVec Ideal S1408x1024 .bf16) : View.canon (gateL w x2) = projB w x2 := by
  funext y
  canon_tiles x h using View.cover_of_tiledBy _ ![528, 128] (by sl_kernel_rfl) _
  all_goals
    open_payloads; pointwise
    first | exact proj256 _ _ _ _ (by omega) (x 0) (x 1) y (by omega) (by omega) | exact proj128 _ _ _ _ (by omega) (x 0) (x 1) y (by omega) (by omega)

/-- So do the other factor's. -/
theorem up_canon (w : FVec Ideal S528x1024 .bf16) (x3 : FVec Ideal S1408x1024 .bf16) : View.canon (upL w x3) = projB w x3 := by
  funext y
  canon_tiles x h using View.cover_of_tiledBy _ ![528, 128] (by sl_kernel_rfl) _
  all_goals
    open_payloads; pointwise
    first | exact proj256 _ _ _ _ (by omega) (x 0) (x 1) y (by omega) (by omega) | exact proj128 _ _ _ _ (by omega) (x 0) (x 1) y (by omega) (by omega)

/-- The activation's stores fill its block with the activation. -/
theorem act_canon (w : FVec Ideal S528x1024 .bf16) (x2 x3 : FVec Ideal S1408x1024 .bf16) : View.canon (actL w x2 x3) = actB w x2 x3 := by
  funext y
  canon_tiles x h using View.cover_of_tiledBy _ ![528, 128] (by sl_kernel_rfl) _
  all_goals
    open_payloads; pointwise
    refine act_of _ _ _ y ?_ ?_
    all_goals first | exact proj256 _ _ _ _ (by omega) (x 0) (x 1) y (by omega) (by omega) | exact proj128 _ _ _ _ (by omega) (x 0) (x 1) y (by omega) (by omega)

/-- The stores cover the block. -/
theorem cover_wide {e : EltTy} (L : List (View.Piece (Elt Ideal) S528x1408 e)) (h : View.Piece.tiledBy L ![528, 128] = true) (y : S528x1408.Idx) : ∃ p ∈ L, y ∈ p.1.set :=
  View.cover_of_tiledBy L ![528, 128] h y

/-- What a grid point adds to the product so far `q`, as the body spells it. -/
def accK (w : FVec Ideal S528x1024 .bf16) (x2 x3 x4 : FVec Ideal S1408x1024 .bf16) (q : FVec Ideal S528x1024 .f32) : FVec Ideal S528x1024 .f32 :=
  k0_pay28 (k0_pay21 (k0_pay16 (k0_pay12 (k0_pay8 w (cut256 x2 0 inb_S1408x1024_S256x1024_0_0) w (cut256 x3 0 inb_S1408x1024_S256x1024_0_0) (cut256 x4 0 inb_S1408x1024_S256x1024_0_0))
      w (cut256 x2 256 inb_S1408x1024_S256x1024_256_0) w (cut256 x3 256 inb_S1408x1024_S256x1024_256_0) (cut256 x4 256 inb_S1408x1024_S256x1024_256_0))
      (k0_pay13 w (cut256 x2 512 inb_S1408x1024_S256x1024_512_0)) (k0_pay14 w (cut256 x3 512 inb_S1408x1024_S256x1024_512_0)) (cut256 x4 512 inb_S1408x1024_S256x1024_512_0))
      (k0_pay17 w (cut256 x2 768 inb_S1408x1024_S256x1024_768_0)) (k0_pay18 w (cut256 x3 768 inb_S1408x1024_S256x1024_768_0)) (k0_pay19 w (cut256 x2 768 inb_S1408x1024_S256x1024_768_0)) (FloatOps.ofBits FTy.f32 1065353216#32) (cut256 x4 768 inb_S1408x1024_S256x1024_768_0))
      (k0_pay24 w (cut256 x2 1024 inb_S1408x1024_S256x1024_1024_0) w (cut256 x3 1024 inb_S1408x1024_S256x1024_1024_0)) (cut256 x4 1024 inb_S1408x1024_S256x1024_1024_0) (constant S528x1024 FTy.f32 0#32)
      w (cut128 x2 1280 inb_S1408x1024_S128x1024_1280_0) w (cut128 x3 1280 inb_S1408x1024_S128x1024_1280_0) (cut128 x4 1280 inb_S1408x1024_S128x1024_1280_0) q

/-- A sum over 1408 terms, cut as the body cuts it. -/
theorem sum_cut (f : Fin 1408 → EReal) : ∑ j, f j = ∑ j : Fin 256, f ⟨0 + j.val, by omega⟩ + ∑ j : Fin 256, f ⟨256 + j.val, by omega⟩ + ∑ j : Fin 256, f ⟨512 + j.val, by omega⟩
    + ∑ j : Fin 256, f ⟨768 + j.val, by omega⟩ + ∑ j : Fin 256, f ⟨1024 + j.val, by omega⟩ + ∑ j : Fin 128, f ⟨1280 + j.val, by omega⟩ := by
  have h5 := Fin.sum_univ_add (a := 1280) (b := 128) f
  have h4 := Fin.sum_univ_add (a := 1024) (b := 256) fun i => f (Fin.castAdd 128 i)
  have h3 := Fin.sum_univ_add (a := 768) (b := 256) fun i => f (Fin.castAdd 128 (Fin.castAdd 256 i))
  have h2 := Fin.sum_univ_add (a := 512) (b := 256) fun i => f (Fin.castAdd 128 (Fin.castAdd 256 (Fin.castAdd 256 i)))
  have h1 := Fin.sum_univ_add (a := 256) (b := 256) fun i => f (Fin.castAdd 128 (Fin.castAdd 256 (Fin.castAdd 256 (Fin.castAdd 256 i))))
  simp only [Nat.zero_add]
  exact h5.trans (congrArg (· + _) (h4.trans (congrArg (· + _) (h3.trans (congrArg (· + _) (h2.trans (congrArg (· + _) h1)))))))

theorem acc_at (w : FVec Ideal S528x1024 .bf16) (x2 x3 x4 : FVec Ideal S1408x1024 .bf16) (q : FVec Ideal S528x1024 .f32) (y : S528x1024.Idx) :
    accK w x2 x3 x4 q y = q y + partB w x2 x3 x4 y := by
  unfold accK partB
  rw [sum_cut]
  open_payloads; pointwise
  refine congrArg (q y + ·) (congrArg₂ (· + ·) (congrArg₂ (· + ·) (congrArg₂ (· + ·) (congrArg₂ (· + ·) (congrArg₂ (· + ·) ?_ ?_) ?_) ?_) ?_) ?_)
  rotate_right
  · exact part128 w x2 x3 x4 _ _ (by omega) (y 0) (y 1) _ (fun _ => rfl)
  · exact part256 w x2 x3 x4 _ _ (by omega) (y 0) (y 1) _ (fun _ => (Nat.zero_add _).symm)
  all_goals exact part256 w x2 x3 x4 _ _ (by omega) (y 0) (y 1) _ (fun _ => rfl)

/-- The normalised rows, stored twice, once through a cast to the same shape. -/
theorem hn_stored (x0 : FVec Ideal S528x1024 .f32) (x1 : FVec Ideal S1x1024 .f32) : k0_pay3 x0 x1 = hnB x0 x1 := by
  unfold hnB
  funext y
  pointwise [k0_pay3]

theorem zero_at (y : S528x1024.Idx) : k0_pay4 (F := Ideal) y = 0 := by pointwise [k0_pay4]

end Cert.KernelFfnIdeal.FfnBlocks

end
-- ==== Proof.FfnRun.lean ====
/- The feed-forward's run: at each grid point the body leaves the specified blocks in its outputs and carries the normalised
rows and the partial product to the next point, so the program terminates with its arguments unchanged and its result arrays
at those blocks. -/
module

public import proofs.«01_k».proof.Proof.FfnBlocks
public import Idealize.ShloMosaic.Lib.Pipeline.FrameBody
public import Idealize.ShloMosaic.Lib.Pipeline.TableIdle
public import Idealize.ShloMosaic.Lib.Tactic
public import Idealize.ShloMosaic.Lib.WordCmp

@[expose] public section

set_option maxRecDepth 16384

noncomputable section

namespace Cert.KernelFfnIdeal.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnIdeal Cert.KernelFfnIdeal.Gen Cert.KernelFfnIdeal.FfnBlocks

/-- The propositions the run is stated in. -/
abbrev Res := sProp (MT nD τ sig Unit (Elt Ideal) ℕ (UR sig nD τ) ℕ)

/-- A buffer stored whole holds what was stored last. -/
theorem read_row {κ : Kind} {sp : Space} {e : EltTy} (v : View sig κ sp S528x1024 e) (f : v.ty.Contents (Elt Ideal)) (h : ∀ a, (![0, 0] : Fin 2 → ℕ) a + S528x1024.size a ≤ S528x1024.size a)
    (Z : Vec Ideal S528x1024 e) (L : List (View.Piece (Elt Ideal) S528x1024 e)) :
    v.read (Elt Ideal) (v.writes (Elt Ideal) f (⟨Rect.unit (s := S528x1024) ![0, 0] S528x1024.size h, Z⟩ :: L)) = Z := by
  rw [View.read_writes_eq_canon _ _ _ fun y => ⟨_, List.mem_cons_self, (by
    obtain ⟨p, hp, hy⟩ := View.cover_of_tiledBy [(⟨Rect.unit (s := S528x1024) ![0, 0] S528x1024.size h, Z⟩ : View.Piece (Elt Ideal) S528x1024 e)] ![528, 1024] (by sl_kernel_rfl) y
    obtain rfl := List.mem_singleton.mp hp
    exact hy)⟩]
  exact View.canon_cons_unit_lit h Z L (by decide)

/-- The last sum. -/
theorem add_at (x q : FVec Ideal S528x1024 .f32) (y : S528x1024.Idx) : k0_pay1 x q y = x y + q y := by pointwise [k0_pay1]

variable (m : (ℓ : Loc nD τ sig) → Buf (Elt Ideal) ℓ) (ρ : Dev nD → PrngReg)

set_option maxHeartbeats 1000000 in
/-- The body at the first of a row's two points: it keeps its inputs and what the result's buffer held, and leaves the normalised rows
(twice), the blocks of the activation and its two factors, and the first part of the product. -/
theorem body_first (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S528x1024 .f32) (harg7 : arg7.IsWhole) (arg8 : Memref sig .tc .vmem S528x1024 .bf16) (harg8 : arg8.IsWhole) (arg9 : Memref sig .tc .vmem S528x1408 .bf16) (harg9 : arg9.IsWhole) (arg10 : Memref sig .tc .vmem S528x1408 .f32) (harg10 : arg10.IsWhole) (arg11 : Memref sig .tc .vmem S528x1408 .f32) (harg11 : arg11.IsWhole) (arg12 : Memref sig .tc .vmem S528x1024 .bf16) (harg12 : arg12.IsWhole) (arg13 : Memref sig .tc .vmem S528x1024 .f32) (harg13 : arg13.IsWhole) (hc0 : k0_cond1 i = 1#1) (hc1 : ¬k0_cond2 i = 1#1)
    (x0 : Vec Ideal S528x1024 .f32) (x1 : Vec Ideal S1x1024 .f32) (x2 x3 x4 : Vec Ideal S1408x1024 .bf16) (z : Vec Ideal S528x1024 .f32) (E : Set ℕ) (K : PUnit → Res) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare z ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare z ∗ owns (c : Thread nD τ) arg8 fullShare (hnB x0 x1) ∗ owns (c : Thread nD τ) arg9 fullShare (actB (hnB x0 x1) x2 x3) ∗ owns (c : Thread nD τ) arg10 fullShare (projB (hnB x0 x1) x2) ∗ owns (c : Thread nD τ) arg11 fullShare (projB (hnB x0 x1) x3) ∗ owns (c : Thread nD τ) arg12 fullShare (hnB x0 x1) ∗ owns (c : Thread nD τ) arg13 fullShare (partB (hnB x0 x1) x2 x3 x4)) -∗ K ⟨⟩))
      ⊢ wp frame (wpE (defs₀ (F := Ideal)) Variants.none c none) E (cc0_ffn_fwd_1 i arg2 harg2 arg3 harg3 arg4 harg4 arg5 harg5 arg6 harg6 arg7 harg7 arg8 harg8 arg9 harg9 arg10 harg10 arg11 harg11 arg12 harg12 arg13 harg13) K := by
  simp only [cc0_ffn_fwd_1_eq_skeleton]; unfold cc0_ffn_fwd_1_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact harg7.read_unread _
  isplitl [H6]
  · iexists _; isplitr; swap; · iexact H6
    ipureintro
    sl_unfold_words; simp (disch := decide) only [View.canon_cons_unit_lit', View.ld_unit_lit', View.readCov_unit_lit', View.readCov_cons_unit_lit', View.readAt_eq_ld, Memref.IsWhole.read_unread]; clear * -; (try rw [hn_stored]); rw [read_row]; rfl
  isplitl [H7]
  · iexists _; isplitr; swap; · iexact H7
    ipureintro
    sl_unfold_words; simp (disch := decide) only [View.canon_cons_unit_lit', View.ld_unit_lit', View.readCov_unit_lit', View.readCov_cons_unit_lit', View.readAt_eq_ld, Memref.IsWhole.read_unread]; clear * -; (try rw [hn_stored]); rw [View.read_writes_eq_canon _ _ _ (cover_wide _ (by sl_kernel_rfl))]; exact act_canon _ _ _
  isplitl [H8]
  · iexists _; isplitr; swap; · iexact H8
    ipureintro
    sl_unfold_words; simp (disch := decide) only [View.canon_cons_unit_lit', View.ld_unit_lit', View.readCov_unit_lit', View.readCov_cons_unit_lit', View.readAt_eq_ld, Memref.IsWhole.read_unread]; clear * -; (try rw [hn_stored]); rw [View.read_writes_eq_canon _ _ _ (cover_wide _ (by sl_kernel_rfl))]; exact gate_canon _ _
  isplitl [H9]
  · iexists _; isplitr; swap; · iexact H9
    ipureintro
    sl_unfold_words; simp (disch := decide) only [View.canon_cons_unit_lit', View.ld_unit_lit', View.readCov_unit_lit', View.readCov_cons_unit_lit', View.readAt_eq_ld, Memref.IsWhole.read_unread]; clear * -; (try rw [hn_stored]); rw [View.read_writes_eq_canon _ _ _ (cover_wide _ (by sl_kernel_rfl))]; exact up_canon _ _
  isplitl [HS0]
  · iexists _; isplitr; swap; · iexact HS0
    ipureintro
    sl_unfold_words; simp (disch := decide) only [View.canon_cons_unit_lit', View.ld_unit_lit', View.readCov_unit_lit', View.readCov_cons_unit_lit', View.readAt_eq_ld, Memref.IsWhole.read_unread]; clear * -; (try rw [hn_stored]); rw [read_row]
  iexists _; isplitr; swap; · iexact HS1
  ipureintro
  sl_unfold_words; simp (disch := decide) only [View.canon_cons_unit_lit', View.ld_unit_lit', View.readCov_unit_lit', View.readCov_cons_unit_lit', View.readAt_eq_ld, Memref.IsWhole.read_unread]; clear * -; (try rw [hn_stored]); rw [read_row]; funext y; exact (acc_at (hnB x0 x1) x2 x3 x4 k0_pay4 y).trans (by rw [zero_at, zero_add])

set_option maxHeartbeats 1000000 in
/-- The body at the second of a row's two points: it keeps its inputs and what the normalised rows' buffer held, reads the
normalised rows and the first part of the product where the first point left them, and leaves the result and its three other blocks. -/
theorem body_second (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S528x1024 .f32) (harg7 : arg7.IsWhole) (arg8 : Memref sig .tc .vmem S528x1024 .bf16) (harg8 : arg8.IsWhole) (arg9 : Memref sig .tc .vmem S528x1408 .bf16) (harg9 : arg9.IsWhole) (arg10 : Memref sig .tc .vmem S528x1408 .f32) (harg10 : arg10.IsWhole) (arg11 : Memref sig .tc .vmem S528x1408 .f32) (harg11 : arg11.IsWhole) (arg12 : Memref sig .tc .vmem S528x1024 .bf16) (harg12 : arg12.IsWhole) (arg13 : Memref sig .tc .vmem S528x1024 .f32) (harg13 : arg13.IsWhole) (hc0 : ¬k0_cond1 i = 1#1) (hc1 : k0_cond2 i = 1#1)
    (x0 : Vec Ideal S528x1024 .f32) (x1 : Vec Ideal S1x1024 .f32) (x2 x3 x4 : Vec Ideal S1408x1024 .bf16) (z w : Vec Ideal S528x1024 .bf16) (p : Vec Ideal S528x1024 .f32) (E : Set ℕ) (K : PUnit → Res) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare z ∗ (∃ d, owns (c : Thread nD τ) arg9 fullShare d) ∗ (∃ d, owns (c : Thread nD τ) arg10 fullShare d) ∗ (∃ d, owns (c : Thread nD τ) arg11 fullShare d) ∗ owns (c : Thread nD τ) arg12 fullShare w ∗ owns (c : Thread nD τ) arg13 fullShare p
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outB x0 p (partB w x2 x3 x4)) ∗ owns (c : Thread nD τ) arg8 fullShare z ∗ owns (c : Thread nD τ) arg9 fullShare (actB w x2 x3) ∗ owns (c : Thread nD τ) arg10 fullShare (projB w x2) ∗ owns (c : Thread nD τ) arg11 fullShare (projB w x3) ∗ (∃ d, owns (c : Thread nD τ) arg12 fullShare d) ∗ (∃ d, owns (c : Thread nD τ) arg13 fullShare d)) -∗ K ⟨⟩))
      ⊢ wp frame (wpE (defs₀ (F := Ideal)) Variants.none c none) E (cc0_ffn_fwd_1 i arg2 harg2 arg3 harg3 arg4 harg4 arg5 harg5 arg6 harg6 arg7 harg7 arg8 harg8 arg9 harg9 arg10 harg10 arg11 harg11 arg12 harg12 arg13 harg13) K := by
  simp only [cc0_ffn_fwd_1_eq_skeleton]; unfold cc0_ffn_fwd_1_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg12.eq_unread hfs0; obtain rfl := harg13.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words; simp (disch := decide) only [View.canon_cons_unit_lit', View.ld_unit_lit', View.readCov_unit_lit', View.readCov_cons_unit_lit', View.readAt_eq_ld, Memref.IsWhole.read_unread]; clear * -; (try rw [hn_stored]); rw [read_row]; funext y; exact (add_at _ _ y).trans (congrArg (x0 y + ·) (acc_at w x2 x3 x4 p y))
  isplitl [H6]
  · iexists _; isplitr; swap; · iexact H6
    ipureintro
    exact harg8.read_unread _
  isplitl [H7]
  · iexists _; isplitr; swap; · iexact H7
    ipureintro
    sl_unfold_words; simp (disch := decide) only [View.canon_cons_unit_lit', View.ld_unit_lit', View.readCov_unit_lit', View.readCov_cons_unit_lit', View.readAt_eq_ld, Memref.IsWhole.read_unread]; clear * -; (try rw [hn_stored]); rw [View.read_writes_eq_canon _ _ _ (cover_wide _ (by sl_kernel_rfl))]; exact act_canon _ _ _
  isplitl [H8]
  · iexists _; isplitr; swap; · iexact H8
    ipureintro
    sl_unfold_words; simp (disch := decide) only [View.canon_cons_unit_lit', View.ld_unit_lit', View.readCov_unit_lit', View.readCov_cons_unit_lit', View.readAt_eq_ld, Memref.IsWhole.read_unread]; clear * -; (try rw [hn_stored]); rw [View.read_writes_eq_canon _ _ _ (cover_wide _ (by sl_kernel_rfl))]; exact gate_canon _ _
  isplitl [H9]
  · iexists _; isplitr; swap; · iexact H9
    ipureintro
    sl_unfold_words; simp (disch := decide) only [View.canon_cons_unit_lit', View.ld_unit_lit', View.readCov_unit_lit', View.readCov_cons_unit_lit', View.readAt_eq_ld, Memref.IsWhole.read_unread]; clear * -; (try rw [hn_stored]); rw [View.read_writes_eq_canon _ _ _ (cover_wide _ (by sl_kernel_rfl))]; exact up_canon _ _
  isplitl [HS0]
  · iexists _, _; isplitr; swap; · iexact HS0
    ipureintro; rfl
  iexists _, _; isplitr; swap; · iexact HS1
  ipureintro; rfl

/-! ### The points -/

/-- The first branch is taken at the first of a row's two points, -/
theorem cond_first (t : Fin cfg0.N) : k0_cond1 (grid0.coords t) = 1#1 ↔ t.val % 2 = 0 := by
  have ht : t.val < 16 := Nat.lt_of_lt_of_eq t.isLt N_0
  have e0 : (grid0.coords t 0).val = t.val / 2 % 8 := Pipeline.Grid.coords_val t 0 (by decide) rfl
  have e1 : (grid0.coords t 1).val = t.val / 1 % 2 := Pipeline.Grid.coords_val t 1 (by decide) rfl
  simp only [k0_cond1, e0, e1]
  word_cmp

/-- and the other at the second. -/
theorem cond_second (t : Fin cfg0.N) : k0_cond2 (grid0.coords t) = 1#1 ↔ t.val % 2 = 1 := by
  have ht : t.val < 16 := Nat.lt_of_lt_of_eq t.isLt N_0
  have e0 : (grid0.coords t 0).val = t.val / 2 % 8 := Pipeline.Grid.coords_val t 0 (by decide) rfl
  have e1 : (grid0.coords t 1).val = t.val / 1 % 2 := Pipeline.Grid.coords_val t 1 (by decide) rfl
  simp only [k0_cond2, e0, e1]
  word_cmp

theorem idle5 : ∀ t : Fin cfg0.N, t.val % 2 = 0 → cfg0.idle 5 (grid0.coords t) = true := by decide +kernel
theorem live5 : ∀ t : Fin cfg0.N, t.val % 2 = 1 → cfg0.idle 5 (grid0.coords t) = false := by decide +kernel
theorem idle6 : ∀ t : Fin cfg0.N, t.val % 2 = 1 → cfg0.idle 6 (grid0.coords t) = true := by decide +kernel
theorem live6 : ∀ t : Fin cfg0.N, t.val % 2 = 0 → cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel

/-- The normalised rows' buffer holds something stored at the second point of a row. -/
theorem stale6 (t : Fin cfg0.N) (h : t.val % 2 = 1) : cfg0.fresh 6 t.val = false :=
  (Pipeline.Cfg.fresh_tab cfg0 6 (fun n => decide (n % 2 = 0)) rfl (by decide +kernel) t.val t.isLt.le).trans (decide_eq_false (by omega))

/-- The block index of each window at each grid point. -/
theorem idx : ∀ t : Fin cfg0.N, win0_0.index t = ![t.val / 2, 0] ∧ win0_1.index t = ![0, 0] ∧ win0_2.index t = ![t.val % 2, 0] ∧ win0_3.index t = ![t.val % 2, 0]
    ∧ win0_4.index t = ![t.val % 2, 0] ∧ win0_5.index t = ![t.val / 2, 0] ∧ win0_6.index t = ![t.val / 2, 0] ∧ win0_7.index t = ![t.val / 2, t.val % 2]
    ∧ win0_8.index t = ![t.val / 2, t.val % 2] ∧ win0_9.index t = ![t.val / 2, t.val % 2] :=
  (by decide +kernel : ∀ t : Fin grid0.N, _)

/-- The point before. -/
abbrev prev (t : Fin cfg0.N) : Fin cfg0.N := ⟨t.val - 1, Nat.lt_of_le_of_lt (Nat.sub_le _ _) t.isLt⟩

/-- The normalised rows of a point, -/
abbrev hnAt (c : Dev nD) (t : Fin cfg0.N) : FVec Ideal S528x1024 .bf16 := hnB (iblk m c 0 t) (iblk m c 1 t)

/-- its part of the product, -/
abbrev partAt (c : Dev nD) (t : Fin cfg0.N) : FVec Ideal S528x1024 .f32 := partB (hnAt m c t) (iblk m c 2 t) (iblk m c 3 t) (iblk m c 4 t)

/-- and, at the second of a row's two, the result. -/
abbrev outAt (c : Dev nD) (t : Fin cfg0.N) : FVec Ideal S528x1024 .f32 := outB (iblk m c 0 t) (partAt m c (prev t)) (partAt m c t)

/-- Both points of a row read the same rows. -/
theorem rows_same (c : Dev nD) (t : Fin cfg0.N) (h : t.val % 2 = 1) : hnAt m c (prev t) = hnAt m c t := by
  have e0 : (iblk m c 0 (prev t) : FVec Ideal S528x1024 .f32) = iblk m c 0 t := by
    funext y
    have e : (t.val - 1) / 2 = t.val / 2 := by omega
    have h1 := (idx (prev t)).1
    dsimp only at h1
    rw [e] at h1
    blk_point [iblk, V, h1, (idx t).1]
  have e1 : (iblk m c 1 (prev t) : FVec Ideal S1x1024 .f32) = iblk m c 1 t := by
    funext y
    blk_point [iblk, V, (idx t).2.1, (idx (prev t)).2.1]
  exact congrArg₂ hnB e0 e1

/-! ### The region -/

abbrev st0 (t : Fin cfg0.N) : Memref sig .tc .vmem S528x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1408x1024 .bf16 := win0_2.stage (cfg0.slots t 2)
abbrev st3 (t : Fin cfg0.N) : Memref sig .tc .vmem S1408x1024 .bf16 := win0_3.stage (cfg0.slots t 3)
abbrev st4 (t : Fin cfg0.N) : Memref sig .tc .vmem S1408x1024 .bf16 := win0_4.stage (cfg0.slots t 4)
abbrev st5 (t : Fin cfg0.N) : Memref sig .tc .vmem S528x1024 .f32 := win0_5.stage (cfg0.slots t 5)
abbrev st6 (t : Fin cfg0.N) : Memref sig .tc .vmem S528x1024 .bf16 := win0_6.stage (cfg0.slots t 6)
abbrev st7 (t : Fin cfg0.N) : Memref sig .tc .vmem S528x1408 .bf16 := win0_7.stage (cfg0.slots t 7)
abbrev st8 (t : Fin cfg0.N) : Memref sig .tc .vmem S528x1408 .f32 := win0_8.stage (cfg0.slots t 8)
abbrev st9 (t : Fin cfg0.N) : Memref sig .tc .vmem S528x1408 .f32 := win0_9.stage (cfg0.slots t 9)

/-- The two scratch buffers at some contents: what the region keeps before the first point of a row. -/
theorem scratch_eq (c : Dev nD) :
    (Pipeline.ΦA spec0 c : Res)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA
  rw [scopedRest0_eq]
  simp only [owns_whole]
  try rfl

/-- The two scratch buffers after the first point of a row: the normalised rows and the first part of the product. -/
def named (c : Dev nD) (t : Fin cfg0.N) : Res :=
  iprop(iprop(owns (c : Thread nD τ) (Memref.whole cc0_scratch0) fullShare (hnAt m c t)
    ∗ owns (c : Thread nD τ) (Memref.whole cc0_scratch1) fullShare (partAt m c t)) ∗ (∃ r, prngReg c r))

/-- What the region keeps before a point. -/
def kept (c : Dev nD) : (n : ℕ) → n ≤ cfg0.N → Res
  | 0, _ => Pipeline.ΦA spec0 c
  | n + 1, hn => if n % 2 = 0 then named m c ⟨n, hn⟩ else Pipeline.ΦA spec0 c

theorem kept_first (c : Dev nD) (n : ℕ) (hn : n ≤ cfg0.N) (h : n % 2 = 0) : kept m c n hn = Pipeline.ΦA spec0 c := by
  cases n with
  | zero => rfl
  | succ n => exact if_neg (by omega)

theorem kept_second (c : Dev nD) (t : Fin cfg0.N) (h : t.val % 2 = 1) : kept m c t.val t.isLt.le = named m c (prev t) := by
  obtain ⟨n, hn⟩ := t
  cases n with
  | zero => exact absurd h (by dsimp only; omega)
  | succ n => exact if_pos (by dsimp only at h; omega)

/-- The proof data: the inputs' blocks stay, and each output's block is as specified. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => hnAt m c t
    | ⟨7, _⟩ => actB (hnAt m c t) (iblk m c 2 t) (iblk m c 3 t)
    | ⟨8, _⟩ => projB (hnAt m c t) (iblk m c 2 t)
    | ⟨9, _⟩ => projB (hnAt m c t) (iblk m c 3 t)
  Φ t := kept m c t.val (Nat.le_of_lt_succ t.isLt)
  q _ := fullShare
  owed _ := 0

theorem arr_eq (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = outAt m c t := by dsimp only [dats]
theorem left6 (c : Dev nD) (t : Fin cfg0.N) : (dats m 0 c).after 6 t = hnAt m c t := by dsimp only [dats]
theorem left7 (c : Dev nD) (t : Fin cfg0.N) : (dats m 0 c).after 7 t = actB (hnAt m c t) (iblk m c 2 t) (iblk m c 3 t) := by dsimp only [dats]
theorem left8 (c : Dev nD) (t : Fin cfg0.N) : (dats m 0 c).after 8 t = projB (hnAt m c t) (iblk m c 2 t) := by dsimp only [dats]
theorem left9 (c : Dev nD) (t : Fin cfg0.N) : (dats m 0 c).after 9 t = projB (hnAt m c t) (iblk m c 3 t) := by dsimp only [dats]

theorem found0 (c : Dev nD) (t : Fin cfg0.N) (d) : (dats m 0 c).before 0 t d = iblk m c 0 t :=
  before0_0_of m (dats m 0 c) (arr_eq m c 0) (left0 m c) t d
theorem found1 (c : Dev nD) (t : Fin cfg0.N) (d) : (dats m 0 c).before 1 t d = iblk m c 1 t :=
  before0_1_of m (dats m 0 c) (arr_eq m c 1) (left1 m c) t d
theorem found2 (c : Dev nD) (t : Fin cfg0.N) (d) : (dats m 0 c).before 2 t d = iblk m c 2 t :=
  before0_2_of m (dats m 0 c) (arr_eq m c 2) (left2 m c) t d
theorem found3 (c : Dev nD) (t : Fin cfg0.N) (d) : (dats m 0 c).before 3 t d = iblk m c 3 t :=
  before0_3_of m (dats m 0 c) (arr_eq m c 3) (left3 m c) t d
theorem found4 (c : Dev nD) (t : Fin cfg0.N) (d) : (dats m 0 c).before 4 t d = iblk m c 4 t :=
  before0_4_of m (dats m 0 c) (arr_eq m c 4) (left4 m c) t d

/-- The second point of a row finds the normalised rows of the first in their output's buffer. -/
theorem found6 (c : Dev nD) (t : Fin cfg0.N) (h : t.val % 2 = 1) (d) : (dats m 0 c).before 6 t d = hnAt m c t := by
  rw [Dat.before_out_traj (dats m 0 c) 6 rfl (fun _ _ => rfl) (fun t _ hi _ => ?_) t.val t rfl d,
    if_neg (by rw [stale6 t h]; exact Bool.false_ne_true), left6]
  · exact rows_same m c t h
  · by_cases h2 : t.val % 2 = 0
    · rw [live6 t h2] at hi
      exact absurd hi Bool.false_ne_true
    · rw [left6, left6]
      exact (rows_same m c t (by omega)).symm

/-- What the body is called with at a point, -/
def atStart (c : Dev nD) (t : Fin cfg0.N) : Res :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d)))

/-- and what it hands back. -/
def atEnd (c : Dev nD) (t : Fin cfg0.N) : Res :=
  iprop((dats m 0 c).Φ t.succ ∗ (dats m 0 c).owesAt () t.succ
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (iblk m c 4 t)
    ∗ (dats m 0 c).leavesExact 5 t
    ∗ owns (c : Thread nD τ) (st6 t) fullShare (hnAt m c t)
    ∗ owns (c : Thread nD τ) (st7 t) fullShare (actB (hnAt m c t) (iblk m c 2 t) (iblk m c 3 t))
    ∗ owns (c : Thread nD τ) (st8 t) fullShare (projB (hnAt m c t) (iblk m c 2 t))
    ∗ owns (c : Thread nD τ) (st9 t) fullShare (projB (hnAt m c t) (iblk m c 3 t)))

set_option maxHeartbeats 1600000 in
/-- The body at the first point of a row. -/
theorem body_even (c : Dev nD) (t : Fin cfg0.N) (h : t.val % 2 = 0) :
    atStart m c t ⊢ wp frame (wpE (defs₀ (F := Ideal)) Variants.none c none) Set.univ (bodyAt0 t) (fun _ => atEnd m c t) := by
  unfold atStart atEnd bodyAt0
  simp only [found0, found1, found2, found3, found4]
  rw [show (dats m 0 c).owesAt () t.succ = (dats m 0 c).owesAt () t.castSucc from rfl,
    show (dats m 0 c).Φ t.castSucc = kept m c t.val t.isLt.le from rfl, kept_first m c _ _ h, scratch_eq,
    show (dats m 0 c).Φ t.succ = named m c t from if_pos h,
    Dat.leavesExact_idle (dats m 0 c) 5 t (idle5 t h) (Bool.eq_false_iff.mpr fun e => by have := (flush0_5 t).mp e; omega)]
  unfold named
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_first c (grid0.coords t) _ _ _ _ _ _ _ _ _ _ _ _ _ _ _ _ _ _ _ _ _ _ _ _ ((cond_first t).mpr h) (fun e => by have := (cond_second t).mp e; omega) (iblk m c 0 t) (iblk m c 1 t) (iblk m c 2 t) (iblk m c 3 t) (iblk m c 4 t) ((dats m 0 c).before 5 t d5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iexact H9

set_option maxHeartbeats 1600000 in
/-- The body at the second point of a row. -/
theorem body_odd (c : Dev nD) (t : Fin cfg0.N) (h : t.val % 2 = 1) :
    atStart m c t ⊢ wp frame (wpE (defs₀ (F := Ideal)) Variants.none c none) Set.univ (bodyAt0 t) (fun _ => atEnd m c t) := by
  unfold atStart atEnd bodyAt0
  simp only [found0, found1, found2, found3, found4, found6 m c t h]
  rw [show (dats m 0 c).owesAt () t.succ = (dats m 0 c).owesAt () t.castSucc from rfl,
    show (dats m 0 c).Φ t.castSucc = kept m c t.val t.isLt.le from rfl, kept_second m c t h,
    show (dats m 0 c).Φ t.succ = Pipeline.ΦA spec0 c from if_neg (by omega), scratch_eq,
    show (dats m 0 c).leavesExact 5 t = owns (c : Thread nD τ) (st5 t) fullShare ((dats m 0 c).after 5 t) from by
      unfold Dat.leavesExact; rw [live5 t h], left5]
  unfold named
  rw [rows_same m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_second c (grid0.coords t) _ _ _ _ _ _ _ _ _ _ _ _ _ _ _ _ _ _ _ _ _ _ _ _ (fun e => by have := (cond_first t).mp e; omega) ((cond_second t).mpr h) (iblk m c 0 t) (iblk m c 1 t) (iblk m c 2 t) (iblk m c 3 t) (iblk m c 4 t) (hnAt m c t) (hnAt m c t) (partAt m c (prev t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point, its buffers as the region states them. -/
theorem body_at (c : Dev nD) (t : Fin cfg0.N) :
    atStart m c t ⊢ wp frame (wpE (defs₀ (F := Ideal)) Variants.none c none) Set.univ (bodyAt0 t) (fun _ => iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t ∗ (dats m 0 c).leavesExact 4 t
      ∗ (dats m 0 c).leavesExact 5 t ∗ (dats m 0 c).leavesExact 6 t ∗ (dats m 0 c).leavesExact 7 t ∗ (dats m 0 c).leavesExact 8 t ∗ (dats m 0 c).leavesExact 9 t)) := by
  have e0 : (dats m 0 c).leavesExact 0 t = owns (c : Thread nD τ) (st0 t) fullShare (iblk m c 0 t) := by rw [← left0]
  have e1 : (dats m 0 c).leavesExact 1 t = owns (c : Thread nD τ) (st1 t) fullShare (iblk m c 1 t) := by rw [← left1]
  have e2 : (dats m 0 c).leavesExact 2 t = owns (c : Thread nD τ) (st2 t) fullShare (iblk m c 2 t) := by rw [← left2]
  have e3 : (dats m 0 c).leavesExact 3 t = owns (c : Thread nD τ) (st3 t) fullShare (iblk m c 3 t) := by rw [← left3]
  have e4 : (dats m 0 c).leavesExact 4 t = owns (c : Thread nD τ) (st4 t) fullShare (iblk m c 4 t) := by rw [← left4]
  have e7 : (dats m 0 c).leavesExact 7 t = owns (c : Thread nD τ) (st7 t) fullShare (actB (hnAt m c t) (iblk m c 2 t) (iblk m c 3 t)) := by
    unfold Dat.leavesExact; rw [live7 t, left7]
  have e8 : (dats m 0 c).leavesExact 8 t = owns (c : Thread nD τ) (st8 t) fullShare (projB (hnAt m c t) (iblk m c 2 t)) := by
    unfold Dat.leavesExact; rw [live8 t, left8]
  have e9 : (dats m 0 c).leavesExact 9 t = owns (c : Thread nD τ) (st9 t) fullShare (projB (hnAt m c t) (iblk m c 3 t)) := by
    unfold Dat.leavesExact; rw [live9 t, left9]
  have e6 : (dats m 0 c).leavesExact 6 t = owns (c : Thread nD τ) (st6 t) fullShare (hnAt m c t) := by
    unfold Dat.leavesExact
    by_cases h : t.val % 2 = 0
    · rw [live6 t h, left6]
    · rw [idle6 t (by omega), (flush0_6 t).mpr (by omega), left6]
  rw [e0, e1, e2, e3, e4, e6, e7, e8, e9]
  by_cases h : t.val % 2 = 0
  · exact body_even m c t h
  · exact body_odd m c t (by omega)

theorem body_row (t : Fin cfg0.N) :
    defs₀ (F := Ideal) .tc cfg0.body (cfg0.bodyArgs t (cfg0.slots t)) = bodyAt0 t := by
  unfold defs₀
  rw [Defs.onTc_tc]

/-- The obligation of the region's body. -/
theorem body_ok (c : Dev nD) : BodyObligation (dats m 0 c) (defs₀ (F := Ideal)) Variants.none () Set.univ := fun t => by
  rw [bigSep_W0, bigSep_W0, body_row]
  exact triple_restated (body_at m c t) rfl .rfl fun _ => .rfl

set_option backward.isDefEq.respectTransparency.types false in
/-- The whole program's run: it ends with its arrays as the proof data says and every counter at zero. -/
theorem run_quiet : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := arr_eq m)
    (hin := fun c => .rfl)
    (hout := fun c => by
      rw [show (dats m 0 c).Φ (Fin.last cfg0.N) = kept m c cfg0.N le_rfl from rfl, kept_first m c _ _ (by rw [show cfg0.N = 16 from N_0])])

/-- The run without the counters. -/
theorem run_main : θ_run defs (onTc (τ := τ) (main (F := Ideal))) (s₀ m ρ) (Pipeline.FramePost cfgs (dats m) 0 (V m)) :=
  (θ_run defs _ _).mono (fun _ h => h.1) (run_quiet m ρ)

/-- The frame: the program terminates, its arguments unchanged and its counters at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arr_eq m) (run_main m ρ)) ((θ_run defs _ _).mono (fun _ h => h.2) (run_quiet m ρ))

end Cert.KernelFfnIdeal.FfnRun

end
-- ==== Proof.FfnValue.lean ====
/- The feed-forward's forward pass: the kernel's five result arrays, read off its frame run, are the reference's. -/
module

public import proofs.«01_k».proof.Proof.FfnRun
public import proofs.«01_k».proof.Proof.Gen.ReferenceFfnIdeal.Run
public import proofs.«01_k».proof.Proof.Rms
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelFfnIdeal.FfnValue

open Cert.KernelFfnIdeal Cert.KernelFfnIdeal.Gen Cert.KernelFfnIdeal.FfnBlocks Cert.KernelFfnIdeal.FfnRun

variable (m : (ℓ : Loc nD τ sig) → Buf (Elt Ideal) ℓ)

section Ref

open Cert.ReferenceFfnIdeal Cert.ReferenceFfnIdeal.Gen

variable (A0 : FVec Ideal S4224x1024 .f32) (A1 : FVec Ideal S1x1024 .f32) (A2 A3 A4 : FVec Ideal S2816x1024 .bf16)

/-- The normalised rows, scaled. -/
def refN : FVec Ideal S4224x1024 .f32 := (mulf (mulf A0 (broadcastInDim S4224x1024 ![0, 1] bcast_S4224x1_S4224x1024_0_1 (Host.rsqrt (addf (Host.divf (broadcastInDim S4224x1 ![0] bcast_S4224_S4224x1_0 (Host.reduceAdd (mulf A0 A0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 A1))

/-- The normalised rows as they are kept. -/
def refHn : FVec Ideal S4224x1024 .bf16 := truncf .bf16 (refN A0 A1) Cert.ReferenceFfnIdeal.Gen.bitsLt_bf16_f32

/-- A projection of the normalised rows. -/
def refP : FVec Ideal S4224x2816 .f32 := Host.dotGeneral dot_S4224x1024_S1024x2816_S4224x2816_1_0_0_1_n_n none (refN A0 A1) (transpose S1024x2816 [1, 0] (extf .f32 A2 Cert.ReferenceFfnIdeal.Gen.bitsLt_bf16_f32) transposes_S2816x1024_S1024x2816_1_0)

/-- The gated activation. -/
def refA : FVec Ideal S4224x2816 .f32 := mulf (mulf (refP A0 A1 A2) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (refP A0 A1 A2)))))) (refP A0 A1 A3)

/-- The gated activation as it is kept. -/
def refAct : FVec Ideal S4224x2816 .bf16 := truncf .bf16 (refA A0 A1 A2 A3) Cert.ReferenceFfnIdeal.Gen.bitsLt_bf16_f32

/-- The rows with the feed-forward's result added. -/
def refO : FVec Ideal S4224x1024 .f32 := addf A0 (Host.dotGeneral dot_S4224x2816_S2816x1024_S4224x1024_1_0_0_1_n_n none (refA A0 A1 A2 A3) (extf .f32 A4 Cert.ReferenceFfnIdeal.Gen.bitsLt_bf16_f32))

theorem refN_at (i : Fin 4224) (j : Fin 1024) : refN A0 A1 (ix2 i j) = A0 (ix2 i j) * (Rms.inv fun k => A0 (ix2 i k)) * A1 (ix2 0 j) := by
  pointwise [refN]
  rfl

theorem refHn_at (i : Fin 4224) (j : Fin 1024) : refHn A0 A1 (ix2 i j) = refN A0 A1 (ix2 i j) := by
  pointwise [refHn]

theorem refP_at (i : Fin 4224) (j : Fin 2816) : refP A0 A1 A2 (ix2 i j) = ∑ k : Fin 1024, refN A0 A1 (ix2 i k) * A2 (ix2 j k) := by
  pointwise [refP]

theorem refA_at (i : Fin 4224) (j : Fin 2816) :
    refA A0 A1 A2 A3 (ix2 i j) = refP A0 A1 A2 (ix2 i j) * sg (refP A0 A1 A2 (ix2 i j)) * refP A0 A1 A3 (ix2 i j) := by
  pointwise [refA]
  rw [sg, zero_sub]

theorem refAct_at (i : Fin 4224) (j : Fin 2816) : refAct A0 A1 A2 A3 (ix2 i j) = refA A0 A1 A2 A3 (ix2 i j) := by
  pointwise [refAct]

theorem refO_at (i : Fin 4224) (j : Fin 1024) :
    refO A0 A1 A2 A3 A4 (ix2 i j) = A0 (ix2 i j) + ∑ k : Fin 2816, refA A0 A1 A2 A3 (ix2 i k) * A4 (ix2 k j) := by
  pointwise [refO]

end Ref

/-- The reference's run: its result arrays are these five, its arguments are unchanged. -/
theorem ref_run (m : (ℓ : Loc Cert.ReferenceFfnIdeal.nD Cert.ReferenceFfnIdeal.τ Cert.ReferenceFfnIdeal.sig) → Buf (Elt Ideal) ℓ) (ρ : Dev Cert.ReferenceFfnIdeal.nD → PrngReg) :
    θ_run Cert.ReferenceFfnIdeal.defs (onTc (τ := Cert.ReferenceFfnIdeal.τ) (Cert.ReferenceFfnIdeal.main (F := Ideal))) ⟨m, fun _ => 0, ρ⟩ fun r => ∀ c : Dev Cert.ReferenceFfnIdeal.nD,
      r.2.mem ((c.tc : Thread Cert.ReferenceFfnIdeal.nD Cert.ReferenceFfnIdeal.τ).loc Cert.ReferenceFfnIdeal.main_v22) = refO (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))
      ∧ r.2.mem ((c.tc : Thread Cert.ReferenceFfnIdeal.nD Cert.ReferenceFfnIdeal.τ).loc Cert.ReferenceFfnIdeal.main_v23) = refHn (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1))
      ∧ r.2.mem ((c.tc : Thread Cert.ReferenceFfnIdeal.nD Cert.ReferenceFfnIdeal.τ).loc Cert.ReferenceFfnIdeal.main_v24) = refAct (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))
      ∧ r.2.mem ((c.tc : Thread Cert.ReferenceFfnIdeal.nD Cert.ReferenceFfnIdeal.τ).loc Cert.ReferenceFfnIdeal.main_v14) = refP (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2))
      ∧ r.2.mem ((c.tc : Thread Cert.ReferenceFfnIdeal.nD Cert.ReferenceFfnIdeal.τ).loc Cert.ReferenceFfnIdeal.main_v17) = refP (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg3))
      ∧ r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4) :=
  (θ_run Cert.ReferenceFfnIdeal.defs _ _).mono (fun _ h c => ⟨(h c).1.trans rfl, (h c).2.1.trans rfl, (h c).2.2.1.trans rfl, (h c).2.2.2.1.trans rfl, (h c).2.2.2.2.1.trans rfl, (h c).2.2.2.2.2⟩)
    (Cert.ReferenceFfnIdeal.Value.run (F := Ideal) m ρ)

/-- The normalised rows of a block. -/
theorem norm_at (x : FVec Ideal S528x1024 .f32) (g : FVec Ideal S1x1024 .f32) (i : Fin 528) (j : Fin 1024) :
    hnB x g (ix2 i j) = x (ix2 i j) * (Rms.inv fun k => x (ix2 i k)) * g (ix2 0 j) := by
  pointwise [hnB, k0_pay2]
  rfl

/-- Row `i` of the block at point `t`, in the whole array. -/
abbrev row (t : Fin cfg0.N) (i : Fin 528) : Fin 4224 := ⟨t.val / 2 * 528 + i.val, by have : t.val < 16 := t.isLt; omega⟩

/-- Column `j` of the block at point `t`, in the whole array. -/
abbrev col (t : Fin cfg0.N) (j : Fin 1408) : Fin 2816 := ⟨t.val % 2 * 1408 + j.val, by omega⟩

variable (c : Dev nD)

abbrev a0 : FVec Ideal S4224x1024 .f32 := m ((c : Thread nD τ).loc main_arg0)
abbrev a1 : FVec Ideal S1x1024 .f32 := m ((c : Thread nD τ).loc main_arg1)
abbrev a2 : FVec Ideal S2816x1024 .bf16 := m ((c : Thread nD τ).loc main_arg2)
abbrev a3 : FVec Ideal S2816x1024 .bf16 := m ((c : Thread nD τ).loc main_arg3)
abbrev a4 : FVec Ideal S2816x1024 .bf16 := m ((c : Thread nD τ).loc main_arg4)

theorem x_blk (t : Fin cfg0.N) (i : Fin 528) (k : Fin 1024) : (iblk m c 0 t : FVec Ideal S528x1024 .f32) (ix2 i k) = a0 m c (ix2 (row t i) k) := by
  blk_point [iblk, V, idx t]

theorem g_blk (t : Fin cfg0.N) (k : Fin 1024) : (iblk m c 1 t : FVec Ideal S1x1024 .f32) (ix2 0 k) = a1 m c (ix2 0 k) := by
  blk_point [iblk, V, idx t]

theorem wg_blk (t : Fin cfg0.N) (j : Fin 1408) (k : Fin 1024) : (iblk m c 2 t : FVec Ideal S1408x1024 .bf16) (ix2 j k) = a2 m c (ix2 (col t j) k) := by
  blk_point [iblk, V, idx t]

theorem wu_blk (t : Fin cfg0.N) (j : Fin 1408) (k : Fin 1024) : (iblk m c 3 t : FVec Ideal S1408x1024 .bf16) (ix2 j k) = a3 m c (ix2 (col t j) k) := by
  blk_point [iblk, V, idx t]

theorem wd_blk (t : Fin cfg0.N) (j : Fin 1408) (k : Fin 1024) : (iblk m c 4 t : FVec Ideal S1408x1024 .bf16) (ix2 j k) = a4 m c (ix2 (col t j) k) := by
  blk_point [iblk, V, idx t]

theorem norm_blk (t : Fin cfg0.N) (i : Fin 528) (j : Fin 1024) : hnAt m c t (ix2 i j) = refN (a0 m c) (a1 m c) (ix2 (row t i) j) := by
  rw [hnAt, norm_at, refN_at]
  simp only [x_blk, g_blk]

theorem gate_blk (t : Fin cfg0.N) (i : Fin 528) (j : Fin 1408) :
    projB (hnAt m c t) (iblk m c 2 t) (ix2 i j) = refP (a0 m c) (a1 m c) (a2 m c) (ix2 (row t i) (col t j)) := by
  rw [refP_at]
  exact Finset.sum_congr rfl fun k _ => congrArg₂ (· * ·) (norm_blk m c t i k) (wg_blk m c t j k)

theorem up_blk (t : Fin cfg0.N) (i : Fin 528) (j : Fin 1408) :
    projB (hnAt m c t) (iblk m c 3 t) (ix2 i j) = refP (a0 m c) (a1 m c) (a3 m c) (ix2 (row t i) (col t j)) := by
  rw [refP_at]
  exact Finset.sum_congr rfl fun k _ => congrArg₂ (· * ·) (norm_blk m c t i k) (wu_blk m c t j k)

theorem act_blk (t : Fin cfg0.N) (i : Fin 528) (j : Fin 1408) :
    actB (hnAt m c t) (iblk m c 2 t) (iblk m c 3 t) (ix2 i j) = refA (a0 m c) (a1 m c) (a2 m c) (a3 m c) (ix2 (row t i) (col t j)) := by
  rw [refA_at, actB, gate_blk, up_blk]

/-- The part of the product that a grid point computes is the sum over its half of the columns. -/
theorem part_blk (t : Fin cfg0.N) (i : Fin 528) (j : Fin 1024) : partAt m c t (ix2 i j)
    = ∑ k : Fin 1408, refA (a0 m c) (a1 m c) (a2 m c) (a3 m c) (ix2 (row t i) (col t k)) * a4 m c (ix2 (col t k) j) :=
  Finset.sum_congr rfl fun k _ => congrArg₂ (· * ·) (act_blk m c t i k) (wd_blk m c t k j)

/-- The two parts at the second point of a row of blocks make the whole product. -/
theorem out_blk (t : Fin cfg0.N) (h : t.val % 2 = 1) (i : Fin 528) (j : Fin 1024) :
    outAt m c t (ix2 i j) = refO (a0 m c) (a1 m c) (a2 m c) (a3 m c) (a4 m c) (ix2 (row t i) j) := by
  have er : row (prev t) i = row t i := Fin.ext (by show (t.val - 1) / 2 * 528 + i.val = t.val / 2 * 528 + i.val; omega)
  rw [refO_at]
  refine congrArg₂ (· + ·) (x_blk m c t i j) ?_
  rw [part_blk, part_blk, er]
  refine ((Fin.sum_univ_add (a := 1408) (b := 1408) _).trans (congrArg₂ (· + ·) ?_ ?_)).symm
  · refine Finset.sum_congr rfl fun k _ => ?_
    have e : (Fin.castAdd 1408 k : Fin 2816) = col (prev t) k := Fin.ext (by show k.val = (t.val - 1) % 2 * 1408 + k.val; omega)
    exact congrArg (fun l : Fin 2816 => refA (a0 m c) (a1 m c) (a2 m c) (a3 m c) (ix2 (row t i) l) * a4 m c (ix2 l j)) e
  · refine Finset.sum_congr rfl fun k _ => ?_
    have e : (Fin.natAdd 1408 k : Fin 2816) = col t k := Fin.ext (by show 1408 + k.val = t.val % 2 * 1408 + k.val; omega)
    exact congrArg (fun l : Fin 2816 => refA (a0 m c) (a1 m c) (a2 m c) (a3 m c) (ix2 (row t i) l) * a4 m c (ix2 l j)) e

/-- The result rows after the run. -/
theorem final_out : (FfnRun.dats m 0 c).arrAt 5 (cfgs 0).N = refO (a0 m c) (a1 m c) (a2 m c) (a3 m c) (a4 m c) := by
  refine (FfnRun.dats m 0 c).arrAt_eq_of_covers 5 _ (by decide +kernel) fun t hf y => ?_
  obtain ⟨i, j, rfl⟩ : ∃ (i : Fin 528) (j : Fin 1024), y = ix2 i j := ⟨y 0, y 1, eq_ix2 y⟩
  have e : ((win0_5.blk t).view.emb (ix2 i j) : S4224x1024.Idx) = ix2 (row t i) j := by
    funext a
    apply Fin.ext
    refine (win0_5.rect_emb_val t _ a).trans ?_
    rw [(idx t).2.2.2.2.2.1]
    match a with
    | 0 => rfl
    | 1 => show 0 * 1024 + j.val = j.val; omega
  blk_simp
  rw [left5]
  exact (out_blk m c t ((flush0_5 t).mp hf) i j).trans (congrArg _ e).symm

/-- The normalised rows after the run. -/
theorem final_hn : (FfnRun.dats m 0 c).arrAt 6 (cfgs 0).N = refHn (a0 m c) (a1 m c) := by
  refine (FfnRun.dats m 0 c).arrAt_eq_of_covers 6 _ (by decide +kernel) fun t hf y => ?_
  obtain ⟨i, j, rfl⟩ : ∃ (i : Fin 528) (j : Fin 1024), y = ix2 i j := ⟨y 0, y 1, eq_ix2 y⟩
  have e : ((win0_6.blk t).view.emb (ix2 i j) : S4224x1024.Idx) = ix2 (row t i) j := by
    funext a
    apply Fin.ext
    refine (win0_6.rect_emb_val t _ a).trans ?_
    rw [(idx t).2.2.2.2.2.2.1]
    match a with
    | 0 => rfl
    | 1 => show 0 * 1024 + j.val = j.val; omega
  blk_simp
  rw [left6]
  exact (norm_blk m c t i j).trans ((congrArg _ e).trans (refHn_at ..)).symm

/-- The kept activation after the run. -/
theorem final_act : (FfnRun.dats m 0 c).arrAt 7 (cfgs 0).N = refAct (a0 m c) (a1 m c) (a2 m c) (a3 m c) := by
  refine (FfnRun.dats m 0 c).arrAt_eq_of_covers 7 _ (by decide +kernel) fun t hf y => ?_
  obtain ⟨i, j, rfl⟩ : ∃ (i : Fin 528) (j : Fin 1408), y = ix2 i j := ⟨y 0, y 1, eq_ix2 y⟩
  have e : ((win0_7.blk t).view.emb (ix2 i j) : S4224x2816.Idx) = ix2 (row t i) (col t j) := by
    funext a
    apply Fin.ext
    refine (win0_7.rect_emb_val t _ a).trans ?_
    rw [(idx t).2.2.2.2.2.2.2.1]
    match a with
    | 0 => rfl
    | 1 => rfl
  blk_simp
  rw [left7]
  exact (act_blk m c t i j).trans ((congrArg _ e).trans (refAct_at ..)).symm

/-- The gate after the run. -/
theorem final_gate : (FfnRun.dats m 0 c).arrAt 8 (cfgs 0).N = refP (a0 m c) (a1 m c) (a2 m c) := by
  refine (FfnRun.dats m 0 c).arrAt_eq_of_covers 8 _ (by decide +kernel) fun t hf y => ?_
  obtain ⟨i, j, rfl⟩ : ∃ (i : Fin 528) (j : Fin 1408), y = ix2 i j := ⟨y 0, y 1, eq_ix2 y⟩
  have e : ((win0_8.blk t).view.emb (ix2 i j) : S4224x2816.Idx) = ix2 (row t i) (col t j) := by
    funext a
    apply Fin.ext
    refine (win0_8.rect_emb_val t _ a).trans ?_
    rw [(idx t).2.2.2.2.2.2.2.2.1]
    match a with
    | 0 => rfl
    | 1 => rfl
  blk_simp
  rw [left8]
  exact (gate_blk m c t i j).trans (congrArg _ e).symm

/-- The other factor after the run. -/
theorem final_up : (FfnRun.dats m 0 c).arrAt 9 (cfgs 0).N = refP (a0 m c) (a1 m c) (a3 m c) := by
  refine (FfnRun.dats m 0 c).arrAt_eq_of_covers 9 _ (by decide +kernel) fun t hf y => ?_
  obtain ⟨i, j, rfl⟩ : ∃ (i : Fin 528) (j : Fin 1408), y = ix2 i j := ⟨y 0, y 1, eq_ix2 y⟩
  have e : ((win0_9.blk t).view.emb (ix2 i j) : S4224x2816.Idx) = ix2 (row t i) (col t j) := by
    funext a
    apply Fin.ext
    refine (win0_9.rect_emb_val t _ a).trans ?_
    rw [(idx t).2.2.2.2.2.2.2.2.2]
    match a with
    | 0 => rfl
    | 1 => rfl
  blk_simp
  rw [left9]
  exact (up_blk m c t i j).trans (congrArg _ e).symm

end Cert.KernelFfnIdeal.FfnValue

end
-- ==== Proof.FfnFrame.lean ====
/- The feed-forward kernel over any numbers: whatever its body leaves in its output blocks, the program terminates with its
arguments unchanged and its counters at zero. -/
module

public import proofs.«01_k».proof.Proof.Gen.KernelFfn.Frame
public import proofs.«01_k».proof.Proof.Gen.KernelFfn.Skeleton
public import Idealize.ShloMosaic.Lib.Pipeline.FrameBody
public import Idealize.ShloMosaic.Lib.Tactic
public import Idealize.ShloMosaic.Lib.Claim

@[expose] public section

set_option maxRecDepth 16384

noncomputable section

namespace Cert.KernelFfn.FfnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfn Cert.KernelFfn.Gen

variable {F : FTy → Type} [FloatOps F]

/-- The propositions the run is stated in. -/
abbrev Res (F : FTy → Type) := sProp (MT nD τ sig Unit (Elt F) ℕ (UR sig nD τ) ℕ)

/-- A buffer held whole, at contents that are not named. -/
abbrev some_ {s : Shape} {e : EltTy} (c : Dev nD) (arg : Memref sig .tc .vmem s e) : Res F := iprop(∃ d, owns (c : Thread nD τ) arg fullShare d)

/-- A buffer held whole, at contents `x`. -/
abbrev at_ {s : Shape} {e : EltTy} (c : Dev nD) (arg : Memref sig .tc .vmem s e) (x : Vec F s e) : Res F := iprop(owns (c : Thread nD τ) arg fullShare x)

variable (m : (ℓ : Loc nD τ sig) → Buf (Elt F) ℓ) (ρ : Dev nD → PrngReg)

section Body

variable (c : Dev nD) (i : grid0.Coords)
  (arg2 : Memref sig .tc .vmem S528x1024 .f32) (harg2 : arg2.IsWhole)
  (arg3 : Memref sig .tc .vmem S1x1024 .f32) (harg3 : arg3.IsWhole)
  (arg4 : Memref sig .tc .vmem S1408x1024 .bf16) (harg4 : arg4.IsWhole)
  (arg5 : Memref sig .tc .vmem S1408x1024 .bf16) (harg5 : arg5.IsWhole)
  (arg6 : Memref sig .tc .vmem S1408x1024 .bf16) (harg6 : arg6.IsWhole)
  (arg7 : Memref sig .tc .vmem S528x1024 .f32) (harg7 : arg7.IsWhole)
  (arg8 : Memref sig .tc .vmem S528x1024 .bf16) (harg8 : arg8.IsWhole)
  (arg9 : Memref sig .tc .vmem S528x1408 .bf16) (harg9 : arg9.IsWhole)
  (arg10 : Memref sig .tc .vmem S528x1408 .f32) (harg10 : arg10.IsWhole)
  (arg11 : Memref sig .tc .vmem S528x1408 .f32) (harg11 : arg11.IsWhole)
  (arg12 : Memref sig .tc .vmem S528x1024 .bf16) (harg12 : arg12.IsWhole)
  (arg13 : Memref sig .tc .vmem S528x1024 .f32) (harg13 : arg13.IsWhole)
  (x0 : Vec F S528x1024 .f32) (x1 : Vec F S1x1024 .f32) (x2 x3 x4 : Vec F S1408x1024 .bf16)

/-- The buffers of a point: the inputs at their blocks, the rest at anything. -/
abbrev bufs : Res F :=
  iprop(at_ c arg2 x0 ∗ at_ c arg3 x1 ∗ at_ c arg4 x2 ∗ at_ c arg5 x3 ∗ at_ c arg6 x4 ∗ some_ c arg7 ∗ some_ c arg8 ∗ some_ c arg9 ∗ some_ c arg10 ∗ some_ c arg11 ∗ some_ c arg12 ∗ some_ c arg13)

set_option maxHeartbeats 4000000 in
/-- The body runs on those buffers and hands them back, its inputs as they were. -/
theorem body_keeps (E : Set ℕ) (K : PUnit → Res F) :
    iprop(bufs c arg2 arg3 arg4 arg5 arg6 arg7 arg8 arg9 arg10 arg11 arg12 arg13 x0 x1 x2 x3 x4 ∗ (bufs c arg2 arg3 arg4 arg5 arg6 arg7 arg8 arg9 arg10 arg11 arg12 arg13 x0 x1 x2 x3 x4 -∗ K ⟨⟩))
      ⊢ wp frame (wpE (defs₀ (F := F)) Variants.none c none) E (cc0_ffn_fwd_1 i arg2 harg2 arg3 harg3 arg4 harg4 arg5 harg5 arg6 harg6 arg7 harg7 arg8 harg8 arg9 harg9 arg10 harg10 arg11 harg11 arg12 harg12 arg13 harg13) K := by
  simp only [cc0_ffn_fwd_1_eq_skeleton]; unfold cc0_ffn_fwd_1_skel
  simp only [k0_part1_eq_skeleton, k0_part2_eq_skeleton, k0_part3_eq_skeleton, k0_part4_eq_skeleton, k0_part5_eq_skeleton]
  unfold bufs at_ some_ owns
  iintro ⟨⟨⟨%f0, %h0, H0⟩, ⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, ⟨%d9, %f9, -, H9⟩, ⟨%d10, %f10, -, S0⟩, ⟨%d11, %f11, -, S1⟩⟩, Hk⟩
  subst h0 h1 h2 h3 h4
  by_cases hc0 : k0_cond1 i = 1#1 <;> by_cases hc1 : k0_cond2 i = 1#1
  all_goals
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [S0]
    · iexists _, _; isplitr; swap; · iexact S0
      ipureintro; rfl
    iexists _, _; isplitr; swap; · iexact S1
    ipureintro; rfl

end Body

/-- What the region keeps between points: the two scratch buffers at some contents. -/
theorem kept_eq (c : Dev nD) : (Pipeline.ΦA spec0 c : Res F)
    = iprop(iprop(some_ c (Memref.whole cc0_scratch0) ∗ some_ c (Memref.whole cc0_scratch1)) ∗ (∃ r, prngReg c r)) := by
  unfold Pipeline.ΦA
  rw [scopedRest0_eq]
  unfold some_
  simp only [owns_whole]
  try rfl

/-- The five windows whose contents are not named. -/
def unread : Fin 10 → Bool := fun w => decide (5 ≤ w.val)

/-- The proof data: the inputs' blocks stay, and nothing is said of the outputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem arr_eq (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem found0 (c : Dev nD) (t : Fin cfg0.N) (d) : (dats m 0 c).before 0 t d = iblk m c 0 t := before0_0_of m (dats m 0 c) (arr_eq m c 0) (left0 m c) t d
theorem found1 (c : Dev nD) (t : Fin cfg0.N) (d) : (dats m 0 c).before 1 t d = iblk m c 1 t := before0_1_of m (dats m 0 c) (arr_eq m c 1) (left1 m c) t d
theorem found2 (c : Dev nD) (t : Fin cfg0.N) (d) : (dats m 0 c).before 2 t d = iblk m c 2 t := before0_2_of m (dats m 0 c) (arr_eq m c 2) (left2 m c) t d
theorem found3 (c : Dev nD) (t : Fin cfg0.N) (d) : (dats m 0 c).before 3 t d = iblk m c 3 t := before0_3_of m (dats m 0 c) (arr_eq m c 3) (left3 m c) t d
theorem found4 (c : Dev nD) (t : Fin cfg0.N) (d) : (dats m 0 c).before 4 t d = iblk m c 4 t := before0_4_of m (dats m 0 c) (arr_eq m c 4) (left4 m c) t d

/-- What the body is called with at a point, -/
def atStart (c : Dev nD) (t : Fin cfg0.N) : Res F :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ some_ c (win0_5.stage (cfg0.slots t 5))
    ∗ some_ c (win0_6.stage (cfg0.slots t 6))
    ∗ some_ c (win0_7.stage (cfg0.slots t 7))
    ∗ some_ c (win0_8.stage (cfg0.slots t 8))
    ∗ some_ c (win0_9.stage (cfg0.slots t 9)))

/-- and what it hands back. -/
def atEnd (c : Dev nD) (t : Fin cfg0.N) : Res F :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ some_ c (win0_5.stage (cfg0.slots t 5))
    ∗ some_ c (win0_6.stage (cfg0.slots t 6))
    ∗ some_ c (win0_7.stage (cfg0.slots t 7))
    ∗ some_ c (win0_8.stage (cfg0.slots t 8))
    ∗ some_ c (win0_9.stage (cfg0.slots t 9)))

set_option maxHeartbeats 800000 in
/-- The body at any point. -/
theorem body_at (c : Dev nD) (t : Fin cfg0.N) :
    atStart m c t ⊢ wp frame (wpE (defs₀ (F := F)) Variants.none c none) Set.univ (bodyAt0 t) (fun _ => atEnd m c t) := by
  unfold atStart atEnd bodyAt0
  simp only [found0, found1, found2, found3, found4]
  rw [show (dats m 0 c).Φ t.succ = (dats m 0 c).Φ t.castSucc from rfl,
    show (dats m 0 c).owesAt () t.succ = (dats m 0 c).owesAt () t.castSucc from rfl, left0, left1, left2, left3, left4]
  rw [show (dats m 0 c).Φ t.castSucc = Pipeline.ΦA spec0 c from rfl, kept_eq]
  iintro ⟨⟨⟨S0, S1⟩, Hg⟩, Ho, ⟨%d0, H0⟩, ⟨%d1, H1⟩, ⟨%d2, H2⟩, ⟨%d3, H3⟩, ⟨%d4, H4⟩, H5, H6, H7, H8, H9⟩
  iapply (body_keeps c (grid0.coords t) _ _ _ _ _ _ _ _ _ _ _ _ _ _ _ _ _ _ _ _ _ _ _ _ (iblk m c 0 t) (iblk m c 1 t) (iblk m c 2 t) (iblk m c 3 t) (iblk m c 4 t) Set.univ _)
  isplitl [H0 H1 H2 H3 H4 H5 H6 H7 H8 H9 S0 S1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    iexact S1
  iintro ⟨H0, H1, H2, H3, H4, H5, H6, H7, H8, H9, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation of the region's body. -/
theorem body_ok (c : Dev nD) : BodyObligation (dats m 0 c) (defs₀ (F := F)) Variants.none () Set.univ unread := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The whole program's run: its input arrays end as they were, and every counter at zero. -/
theorem run_quiet : θ_run defs (onTc (τ := τ) (main (F := F))) (s₀ m ρ)
    (fun r => (Pipeline.RDat.FramePost (cfgs 0) (fun c => (dats m 0 c).toRForget unread) (V m)) r ∧ r.2.sem = fun _ => 0) :=
  Pipeline.θ_run_frame_forget (Q' := _) cfgs (dats m) (0 : Fin 1) launch0 defs₀ Variants.none unread m ρ main
    (hbody := fun c => (body_ok m c).loose) (hshare := fun c => (dats m 0 c).share_full fun _ => rfl)
    (howed := fun _ _ => rfl) (V := V m) (hmain := hmain m Variants.none) (hA := arr_eq m) (hΦ := fun _ _ => rfl)

/-- The frame: the program terminates, its arguments unchanged and its counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((arr_eq m c 0).trans (V_main_arg0 m c)),
    (Pipeline.RDat.FramePost.arr_in h.1 c 1 rfl).trans ((arr_eq m c 1).trans (V_main_arg1 m c)),
    (Pipeline.RDat.FramePost.arr_in h.1 c 2 rfl).trans ((arr_eq m c 2).trans (V_main_arg2 m c)),
    (Pipeline.RDat.FramePost.arr_in h.1 c 3 rfl).trans ((arr_eq m c 3).trans (V_main_arg3 m c)),
    (Pipeline.RDat.FramePost.arr_in h.1 c 4 rfl).trans ((arr_eq m c 4).trans (V_main_arg4 m c))⟩, h.2⟩) (run_quiet m ρ)

end Cert.KernelFfn.FfnFrame

end
-- ==== Proof.Adamw.lean ====
/- One step of the optimiser: the reference's arrays of moments and of the weights' changes, and what they hold at one
   element, over the extended reals; and the sum of eight devices' parts of a gradient. -/
module

public import Idealize.ShloMosaic.Lib.Pipeline.ValueKit

@[expose] public section

noncomputable section

open Idealize.ShloMosaic

namespace Adamw

/-- The first moment. -/
def mom (g m : EReal) : EReal := Ideal.ofBits .f32 0x3F666666#32 * m + Ideal.ofBits .f32 0x3DCCCCCD#32 * g

/-- The second moment. -/
def vel (g v : EReal) : EReal := Ideal.ofBits .f32 0x3F7FBE77#32 * v + Ideal.ofBits .f32 0x3A83126F#32 * (g * g)

/-- The change of the weight. -/
def step (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32)
    + Ideal.ofBits .f32 0x3C23D70A#32 * w)

section Ref

variable {s : Shape} (b : (⟨0, ![]⟩ : Shape).BroadcastsInDim s (![] : Fin 0 → Fin s.rank)) (g w m v : FVec Ideal s .f32)

/-- A constant array. -/
def fill (x : BitVec 32) : FVec Ideal s .f32 := broadcastInDim s ![] b (constant (F := Ideal) (⟨0, ![]⟩ : Shape) .f32 x)

/-- The reference's first moments. -/
def refM : FVec Ideal s .f32 := addf (mulf (fill b 0x3F666666#32) m) (mulf (fill b 0x3DCCCCCD#32) g)

/-- The reference's second moments. -/
def refV : FVec Ideal s .f32 := addf (mulf (fill b 0x3F7FBE77#32) v) (mulf (fill b 0x3A83126F#32) (mulf g g))

/-- The reference's changes of the weights. -/
def refD : FVec Ideal s .f32 :=
  mulf (fill b 0xBA83126F#32) (addf (Host.divf (Host.divf (refM b g m) (fill b 0x3F26BD02#32))
    (addf (Host.sqrt (Host.divf (refV b g v) (fill b 0x3C231ACC#32))) (fill b 0x322BCC77#32))) (mulf (fill b 0x3C23D70A#32) w))

theorem refM_at (y : s.Idx) : refM b g m y = mom (g y) (m y) := rfl
theorem refV_at (y : s.Idx) : refV b g v y = vel (g y) (v y) := rfl
theorem refD_at (y : s.Idx) : refD b g w m v y = step (g y) (w y) (m y) (v y) := rfl

end Ref

section Parts

variable {n : ℕ} (h8 : (⟨3, ![8, n, 1024]⟩ : Shape).ReducesTo [0] ⟨2, ![n, 1024]⟩) (h0 : 0 < (⟨0, ![]⟩ : Shape).numel)
  (hb : (⟨2, ![n, 1024]⟩ : Shape).BroadcastsInDim ⟨3, ![1, n, 1024]⟩ (![1, 2] : Fin 2 → Fin 3))
  (hc : Shape.Concatenates [⟨3, ![1, n, 1024]⟩, ⟨3, ![1, n, 1024]⟩] ⟨3, ![2, n, 1024]⟩ 0) (he : FTy.bits .bf16 < FTy.bits .f32)
  (A0 A1 : FVec Ideal ⟨3, ![8, n, 1024]⟩ .bf16)

/-- One layer's gradient: the sum of the parts. -/
def layer (A : FVec Ideal ⟨3, ![8, n, 1024]⟩ .bf16) : FVec Ideal ⟨3, ![1, n, 1024]⟩ .f32 :=
  broadcastInDim ⟨3, ![1, n, 1024]⟩ ![1, 2] hb (Host.reduceAdd (extf .f32 A he) (constant (F := Ideal) (⟨0, ![]⟩ : Shape) .f32 0x00000000#32) h8 h0)

/-- Both layers'. -/
def refG : FVec Ideal ⟨3, ![2, n, 1024]⟩ .f32 :=
  concatenate ⟨3, ![2, n, 1024]⟩ 0 [⟨⟨3, ![1, n, 1024]⟩, layer h8 h0 hb he A0⟩, ⟨⟨3, ![1, n, 1024]⟩, layer h8 h0 hb he A1⟩] hc

theorem layer_at (hn : n ≠ 1) (A : FVec Ideal ⟨3, ![8, n, 1024]⟩ .bf16) (i : Fin n) (j : Fin 1024) :
    layer h8 h0 hb he A (ix3 0 i j) = ∑ k : Fin 8, A (ix3 k i j) := by
  pointwise [layer]
  refine Finset.sum_congr rfl fun k _ => congrArg A ?_
  funext a
  apply Fin.ext
  match a with
  | 0 => rfl
  | 1 => simp [Shape.Idx.norm, hn]
  | 2 => simp [Shape.Idx.norm]

/-- The first layer's gradient at an element. -/
theorem refG_first (hn : n ≠ 1) (i : Fin n) (j : Fin 1024) : refG h8 h0 hb hc he A0 A1 (ix3 0 i j) = ∑ k : Fin 8, A0 (ix3 k i j) := by
  pointwise [refG]
  refine (congrArg _ ?_).trans (layer_at h8 h0 hb he hn A0 i j)
  funext a
  apply Fin.ext
  match a with
  | 0 => rfl
  | 1 => rfl
  | 2 => rfl

/-- The second layer's. -/
theorem refG_second (hn : n ≠ 1) (i : Fin n) (j : Fin 1024) : refG h8 h0 hb hc he A0 A1 (ix3 1 i j) = ∑ k : Fin 8, A1 (ix3 k i j) := by
  pointwise [refG]
  refine (congrArg _ ?_).trans (layer_at h8 h0 hb he hn A1 i j)
  funext a
  apply Fin.ext
  match a with
  | 0 => rfl
  | 1 => rfl
  | 2 => rfl

end Parts

end Adamw

end
-- ==== Proof.OpinValue.lean ====
/- The optimiser's step of the mixer's input projection: the kernel's four result arrays, read off its frame run, are the
   reference's gradient (the sum of the eight devices' parts), change of the weight, and moments. -/
module

public import proofs.«01_k».proof.Proof.Gen.KernelOpinIdeal.Frame
public import proofs.«01_k».proof.Proof.Gen.ReferenceOpinIdeal.Run
public import proofs.«01_k».proof.Proof.Adamw
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelOpinIdeal.OpinValue

open Cert.KernelOpinIdeal Cert.KernelOpinIdeal.Gen

variable (m : (ℓ : Loc nD τ sig) → Buf (Elt Ideal) ℓ) (c : Dev nD)

/-- How an array of both layers is filled with a constant. -/
abbrev fills := Cert.ReferenceOpinIdeal.Gen.bcast_S_S2x320x1024

/-- The reference's gradient. -/
abbrev grad (A0 A1 : FVec Ideal S8x320x1024 .bf16) : FVec Ideal S2x320x1024 .f32 :=
  Adamw.refG Cert.ReferenceOpinIdeal.Gen.reducesTo_S8x320x1024_S320x1024_d0 Cert.ReferenceOpinIdeal.Gen.h_S_
    Cert.ReferenceOpinIdeal.Gen.bcast_S320x1024_S1x320x1024_1_2 Cert.ReferenceOpinIdeal.Gen.concatenates_S1x320x1024_S1x320x1024_S2x320x1024_d0
    Cert.ReferenceOpinIdeal.Gen.bitsLt_bf16_f32 A0 A1

abbrev a0 : FVec Ideal S8x320x1024 .bf16 := m ((c : Thread nD τ).loc main_arg0)
abbrev a1 : FVec Ideal S8x320x1024 .bf16 := m ((c : Thread nD τ).loc main_arg1)
abbrev a2 : FVec Ideal S2x320x1024 .f32 := m ((c : Thread nD τ).loc main_arg2)
abbrev a3 : FVec Ideal S2x320x1024 .f32 := m ((c : Thread nD τ).loc main_arg3)
abbrev a4 : FVec Ideal S2x320x1024 .f32 := m ((c : Thread nD τ).loc main_arg4)

/-- The block index of each window at each grid point; of the two layers' parts, the one that is read. -/
theorem idx : ∀ t : Fin cfg0.N, (t.val < 2 → win0_0.index t = ![0, t.val % 2, 0]) ∧ (¬t.val < 2 → win0_1.index t = ![0, t.val % 2, 0])
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] ∧ win0_7.index t = ![t.val / 2, t.val % 2, 0]
    ∧ win0_8.index t = ![t.val / 2, t.val % 2, 0] :=
  (by decide +kernel : ∀ t : Fin grid0.N, _)

/-- The element of the whole array that element `(i, j)` of the block at point `t` is. -/
abbrev at_ (t : Fin cfg0.N) (i : Fin 160) (j : Fin 1024) : S2x320x1024.Idx :=
  ix3 ⟨t.val / 2, by have : t.val < 4 := t.isLt; omega⟩ ⟨t.val % 2 * 160 + i.val, by omega⟩ j

/-- One device's part of a block. -/
abbrev part (x : Vec Ideal S8x160x1024 .bf16) (o : Fin 3 → ℕ) (h : ∀ a, o a + ![1, 160, 1024] a ≤ S8x160x1024.size a) : Vec Ideal S1x160x1024 .bf16 :=
  View.ld (Val := Elt Ideal) x (Rect.unit (s := S8x160x1024) o ![1, 160, 1024] h)

/-- The eight parts of a block, added. -/
def added (x : Vec Ideal S8x160x1024 .bf16) : FVec Ideal S160x1024 .f32 :=
  k0_pay5 (F := Ideal) (part x ![0, 0, 0] inb_S8x160x1024_S1x160x1024_0_0_0) (part x ![1, 0, 0] inb_S8x160x1024_S1x160x1024_1_0_0) (part x ![2, 0, 0] inb_S8x160x1024_S1x160x1024_2_0_0) (part x ![3, 0, 0] inb_S8x160x1024_S1x160x1024_3_0_0) (part x ![4, 0, 0] inb_S8x160x1024_S1x160x1024_4_0_0) (part x ![5, 0, 0] inb_S8x160x1024_S1x160x1024_5_0_0) (part x ![6, 0, 0] inb_S8x160x1024_S1x160x1024_6_0_0) (part x ![7, 0, 0] inb_S8x160x1024_S1x160x1024_7_0_0)

/-- The sum is written twice, once for each layer. -/
theorem fold_first (x : Vec Ideal S8x160x1024 .bf16) : k0_pay5 (F := Ideal) (part x ![0, 0, 0] inb_S8x160x1024_S1x160x1024_0_0_0) (part x ![1, 0, 0] inb_S8x160x1024_S1x160x1024_1_0_0) (part x ![2, 0, 0] inb_S8x160x1024_S1x160x1024_2_0_0) (part x ![3, 0, 0] inb_S8x160x1024_S1x160x1024_3_0_0) (part x ![4, 0, 0] inb_S8x160x1024_S1x160x1024_4_0_0) (part x ![5, 0, 0] inb_S8x160x1024_S1x160x1024_5_0_0) (part x ![6, 0, 0] inb_S8x160x1024_S1x160x1024_6_0_0) (part x ![7, 0, 0] inb_S8x160x1024_S1x160x1024_7_0_0) = added x := rfl
theorem fold_second (x : Vec Ideal S8x160x1024 .bf16) : k0_pay11 (F := Ideal) (part x ![0, 0, 0] inb_S8x160x1024_S1x160x1024_0_0_0) (part x ![1, 0, 0] inb_S8x160x1024_S1x160x1024_1_0_0) (part x ![2, 0, 0] inb_S8x160x1024_S1x160x1024_2_0_0) (part x ![3, 0, 0] inb_S8x160x1024_S1x160x1024_3_0_0) (part x ![4, 0, 0] inb_S8x160x1024_S1x160x1024_4_0_0) (part x ![5, 0, 0] inb_S8x160x1024_S1x160x1024_5_0_0) (part x ![6, 0, 0] inb_S8x160x1024_S1x160x1024_6_0_0) (part x ![7, 0, 0] inb_S8x160x1024_S1x160x1024_7_0_0) = added x := rfl

theorem added_at (x : Vec Ideal S8x160x1024 .bf16) (i : Fin 160) (j : Fin 1024) : added x (ix2 i j) = ∑ k : Fin 8, x (ix3 k i j) := by
  rw [Fin.sum_univ_eight]
  pointwise [added, part, k0_pay5]

/-- The gradient's block at a point: of the first layer in the first half of the points, of the second in the other. -/
abbrev blockG (t : Fin cfg0.N) : FVec Ideal S160x1024 .f32 := if t.val < 2 then added (iblk m c 0 t) else added (iblk m c 1 t)

theorem blockG_at (t : Fin cfg0.N) (i : Fin 160) (j : Fin 1024) : blockG m c t (ix2 i j) = grad (a0 m c) (a1 m c) (at_ t i j) := by
  have ht : t.val < 4 := t.isLt
  by_cases h : t.val < 2
  · rw [blockG, if_pos h, added_at, show at_ t i j = ix3 0 ⟨t.val % 2 * 160 + i.val, by omega⟩ j from by
      rw [at_, show (⟨t.val / 2, by omega⟩ : Fin 2) = 0 from Fin.ext (by show t.val / 2 = 0; omega)], grad, Adamw.refG_first (n := 320) (hn := by decide)]
    refine Finset.sum_congr rfl fun k _ => ?_
    have e := (idx t).1 h
    blk_point [iblk, V, e]
  · rw [blockG, if_neg h, added_at, show at_ t i j = ix3 1 ⟨t.val % 2 * 160 + i.val, by omega⟩ j from by
      rw [at_, show (⟨t.val / 2, by omega⟩ : Fin 2) = 1 from Fin.ext (by show t.val / 2 = 1; omega)], grad, Adamw.refG_second (n := 320) (hn := by decide)]
    refine Finset.sum_congr rfl fun k _ => ?_
    have e := (idx t).2.1 h
    blk_point [iblk, V, e]

/-- What the outputs' blocks hold after the body at a point. -/
theorem outs_at (t : Fin cfg0.N) : outsAt0 m c t.val t.isLt = (k0_pay9 (blockG m c t), k0_pay10 (blockG m c t) (k0_pay6 (iblk m c 2 t)) (iblk m c 3 t) (iblk m c 4 t),
    k0_pay1 (k0_pay7 (blockG m c t) (iblk m c 3 t)), k0_pay2 (k0_pay8 (blockG m c t) (iblk m c 4 t))) := by
  by_cases h : t.val < 2
  · rw [outsAt0_A m c t h (by omega), blockG, if_pos h]
    refine Prod.ext (funext fun y => ?_) (Prod.ext (funext fun y => ?_) (Prod.ext (funext fun y => ?_) (funext fun y => ?_))) <;> (frame_out; rw [fold_first])
  · rw [outsAt0_B m c t h (by omega), blockG, if_neg h]
    refine Prod.ext (funext fun y => ?_) (Prod.ext (funext fun y => ?_) (Prod.ext (funext fun y => ?_) (funext fun y => ?_))) <;> (frame_out; rw [fold_second]; rfl)

theorem w_blk (t : Fin cfg0.N) (i : Fin 160) (j : Fin 1024) : (iblk m c 2 t : FVec Ideal S1x160x1024 .f32) (ix3 0 i j) = a2 m c (at_ t i j) := by
  blk_point [iblk, V, idx t] <;> rfl
theorem m_blk (t : Fin cfg0.N) (i : Fin 160) (j : Fin 1024) : (iblk m c 3 t : FVec Ideal S1x160x1024 .f32) (ix3 0 i j) = a3 m c (at_ t i j) := by
  blk_point [iblk, V, idx t] <;> rfl
theorem v_blk (t : Fin cfg0.N) (i : Fin 160) (j : Fin 1024) : (iblk m c 4 t : FVec Ideal S1x160x1024 .f32) (ix3 0 i j) = a4 m c (at_ t i j) := by
  blk_point [iblk, V, idx t] <;> rfl

theorem step_at (g : FVec Ideal S160x1024 .f32) (w p q : FVec Ideal S1x160x1024 .f32) (i : Fin 160) (j : Fin 1024) :
    k0_pay10 (F := Ideal) g (k0_pay6 w) p q (ix3 0 i j) = Adamw.step (g (ix2 i j)) (w (ix3 0 i j)) (p (ix3 0 i j)) (q (ix3 0 i j)) := by
  pointwise [k0_pay10, k0_pay6, k0_pay7, k0_pay8]
  rfl
theorem mom_at (g : FVec Ideal S160x1024 .f32) (p : FVec Ideal S1x160x1024 .f32) (i : Fin 160) (j : Fin 1024) :
    k0_pay1 (F := Ideal) (k0_pay7 g p) (ix3 0 i j) = Adamw.mom (g (ix2 i j)) (p (ix3 0 i j)) := by
  pointwise [k0_pay1, k0_pay7]
  rfl
theorem vel_at (g : FVec Ideal S160x1024 .f32) (q : FVec Ideal S1x160x1024 .f32) (i : Fin 160) (j : Fin 1024) :
    k0_pay2 (F := Ideal) (k0_pay8 g q) (ix3 0 i j) = Adamw.vel (g (ix2 i j)) (q (ix3 0 i j)) := by
  pointwise [k0_pay2, k0_pay8]
  rfl

section Ref

variable (A0 A1 : FVec Ideal S8x320x1024 .bf16) (A2 A3 A4 : FVec Ideal S2x320x1024 .f32)

abbrev refD : FVec Ideal S2x320x1024 .f32 := Adamw.refD fills (grad A0 A1) A2 A3 A4
abbrev refM : FVec Ideal S2x320x1024 .f32 := Adamw.refM fills (grad A0 A1) A3
abbrev refV : FVec Ideal S2x320x1024 .f32 := Adamw.refV fills (grad A0 A1) A4

end Ref

/-- The reference's run: its result arrays are the gradient, the changes of the weights, and the moments, its arguments are unchanged. -/
theorem ref_run (m : (ℓ : Loc Cert.ReferenceOpinIdeal.nD Cert.ReferenceOpinIdeal.τ Cert.ReferenceOpinIdeal.sig) → Buf (Elt Ideal) ℓ) (ρ : Dev Cert.ReferenceOpinIdeal.nD → PrngReg) :
    θ_run Cert.ReferenceOpinIdeal.defs (onTc (τ := Cert.ReferenceOpinIdeal.τ) (Cert.ReferenceOpinIdeal.main (F := Ideal))) ⟨m, fun _ => 0, ρ⟩ fun r => ∀ c : Dev Cert.ReferenceOpinIdeal.nD,
      r.2.mem ((c.tc : Thread Cert.ReferenceOpinIdeal.nD Cert.ReferenceOpinIdeal.τ).loc Cert.ReferenceOpinIdeal.main_v6) = grad (m ((c.tc : Thread Cert.ReferenceOpinIdeal.nD Cert.ReferenceOpinIdeal.τ).loc Cert.ReferenceOpinIdeal.main_arg0)) (m ((c.tc : Thread Cert.ReferenceOpinIdeal.nD Cert.ReferenceOpinIdeal.τ).loc Cert.ReferenceOpinIdeal.main_arg1))
      ∧ r.2.mem ((c.tc : Thread Cert.ReferenceOpinIdeal.nD Cert.ReferenceOpinIdeal.τ).loc Cert.ReferenceOpinIdeal.main_v30) = refD (m ((c.tc : Thread Cert.ReferenceOpinIdeal.nD Cert.ReferenceOpinIdeal.τ).loc Cert.ReferenceOpinIdeal.main_arg0)) (m ((c.tc : Thread Cert.ReferenceOpinIdeal.nD Cert.ReferenceOpinIdeal.τ).loc Cert.ReferenceOpinIdeal.main_arg1)) (m ((c.tc : Thread Cert.ReferenceOpinIdeal.nD Cert.ReferenceOpinIdeal.τ).loc Cert.ReferenceOpinIdeal.main_arg2)) (m ((c.tc : Thread Cert.ReferenceOpinIdeal.nD Cert.ReferenceOpinIdeal.τ).loc Cert.ReferenceOpinIdeal.main_arg3)) (m ((c.tc : Thread Cert.ReferenceOpinIdeal.nD Cert.ReferenceOpinIdeal.τ).loc Cert.ReferenceOpinIdeal.main_arg4))
      ∧ r.2.mem ((c.tc : Thread Cert.ReferenceOpinIdeal.nD Cert.ReferenceOpinIdeal.τ).loc Cert.ReferenceOpinIdeal.main_v11) = refM (m ((c.tc : Thread Cert.ReferenceOpinIdeal.nD Cert.ReferenceOpinIdeal.τ).loc Cert.ReferenceOpinIdeal.main_arg0)) (m ((c.tc : Thread Cert.ReferenceOpinIdeal.nD Cert.ReferenceOpinIdeal.τ).loc Cert.ReferenceOpinIdeal.main_arg1)) (m ((c.tc : Thread Cert.ReferenceOpinIdeal.nD Cert.ReferenceOpinIdeal.τ).loc Cert.ReferenceOpinIdeal.main_arg3))
      ∧ r.2.mem ((c.tc : Thread Cert.ReferenceOpinIdeal.nD Cert.ReferenceOpinIdeal.τ).loc Cert.ReferenceOpinIdeal.main_v17) = refV (m ((c.tc : Thread Cert.ReferenceOpinIdeal.nD Cert.ReferenceOpinIdeal.τ).loc Cert.ReferenceOpinIdeal.main_arg0)) (m ((c.tc : Thread Cert.ReferenceOpinIdeal.nD Cert.ReferenceOpinIdeal.τ).loc Cert.ReferenceOpinIdeal.main_arg1)) (m ((c.tc : Thread Cert.ReferenceOpinIdeal.nD Cert.ReferenceOpinIdeal.τ).loc Cert.ReferenceOpinIdeal.main_arg4))
      ∧ r.2.mem ((c.tc : Thread Cert.ReferenceOpinIdeal.nD Cert.ReferenceOpinIdeal.τ).loc Cert.ReferenceOpinIdeal.main_arg0) = m ((c.tc : Thread Cert.ReferenceOpinIdeal.nD Cert.ReferenceOpinIdeal.τ).loc Cert.ReferenceOpinIdeal.main_arg0)
      ∧ r.2.mem ((c.tc : Thread Cert.ReferenceOpinIdeal.nD Cert.ReferenceOpinIdeal.τ).loc Cert.ReferenceOpinIdeal.main_arg1) = m ((c.tc : Thread Cert.ReferenceOpinIdeal.nD Cert.ReferenceOpinIdeal.τ).loc Cert.ReferenceOpinIdeal.main_arg1)
      ∧ r.2.mem ((c.tc : Thread Cert.ReferenceOpinIdeal.nD Cert.ReferenceOpinIdeal.τ).loc Cert.ReferenceOpinIdeal.main_arg2) = m ((c.tc : Thread Cert.ReferenceOpinIdeal.nD Cert.ReferenceOpinIdeal.τ).loc Cert.ReferenceOpinIdeal.main_arg2)
      ∧ r.2.mem ((c.tc : Thread Cert.ReferenceOpinIdeal.nD Cert.ReferenceOpinIdeal.τ).loc Cert.ReferenceOpinIdeal.main_arg3) = m ((c.tc : Thread Cert.ReferenceOpinIdeal.nD Cert.ReferenceOpinIdeal.τ).loc Cert.ReferenceOpinIdeal.main_arg3)
      ∧ r.2.mem ((c.tc : Thread Cert.ReferenceOpinIdeal.nD Cert.ReferenceOpinIdeal.τ).loc Cert.ReferenceOpinIdeal.main_arg4) = m ((c.tc : Thread Cert.ReferenceOpinIdeal.nD Cert.ReferenceOpinIdeal.τ).loc Cert.ReferenceOpinIdeal.main_arg4) :=
  (θ_run Cert.ReferenceOpinIdeal.defs _ _).mono (fun _ h c => ⟨(h c).1.trans rfl, (h c).2.1.trans rfl, (h c).2.2.1.trans rfl, (h c).2.2.2.1.trans rfl, (h c).2.2.2.2⟩)
    (Cert.ReferenceOpinIdeal.Value.run (F := Ideal) m ρ)

/-- An element of a block has a row and a column. -/
theorem elt (y : S1x160x1024.Idx) : ∃ (i : Fin 160) (j : Fin 1024), y = ix3 0 i j :=
  ⟨y 1, y 2, by funext a; match a with | 0 => exact Fin.ext (by have : (y 0).val < 1 := (y 0).isLt; show (y 0).val = 0; omega) | 1 => rfl | 2 => rfl⟩

/-- The gradient after the run. -/
theorem final_g : (dats m 0 c).arrAt 5 (cfgs 0).N = grad (a0 m c) (a1 m c) := by
  refine (dats m 0 c).arrAt_eq_of_covers 5 _ (by decide +kernel) fun t hf y => ?_
  obtain ⟨i, j, rfl⟩ := elt y
  blk_simp
  rw [after0_5, outs_at]
  refine Eq.trans (b := blockG m c t (ix2 i j)) (by pointwise [k0_pay9]) ((blockG_at m c t i j).trans (congrArg (grad (a0 m c) (a1 m c)) ?_))
  blk_point [idx t] <;> rfl

/-- The changes of the weights. -/
theorem final_d : (dats m 0 c).arrAt 6 (cfgs 0).N = refD (a0 m c) (a1 m c) (a2 m c) (a3 m c) (a4 m c) := by
  refine (dats m 0 c).arrAt_eq_of_covers 6 _ (by decide +kernel) fun t hf y => ?_
  obtain ⟨i, j, rfl⟩ := elt y
  blk_simp
  rw [after0_6, outs_at]
  refine (step_at ..).trans ?_
  rw [blockG_at, w_blk, m_blk, v_blk, ← Adamw.refD_at fills]
  refine congrArg (refD (a0 m c) (a1 m c) (a2 m c) (a3 m c) (a4 m c)) ?_
  blk_point [idx t] <;> rfl

/-- The first moments. -/
theorem final_m : (dats m 0 c).arrAt 7 (cfgs 0).N = refM (a0 m c) (a1 m c) (a3 m c) := by
  refine (dats m 0 c).arrAt_eq_of_covers 7 _ (by decide +kernel) fun t hf y => ?_
  obtain ⟨i, j, rfl⟩ := elt y
  blk_simp
  rw [after0_7, outs_at]
  refine (mom_at ..).trans ?_
  rw [blockG_at, m_blk, ← Adamw.refM_at fills]
  refine congrArg (refM (a0 m c) (a1 m c) (a3 m c)) ?_
  blk_point [idx t] <;> rfl

/-- The second moments. -/
theorem final_v : (dats m 0 c).arrAt 8 (cfgs 0).N = refV (a0 m c) (a1 m c) (a4 m c) := by
  refine (dats m 0 c).arrAt_eq_of_covers 8 _ (by decide +kernel) fun t hf y => ?_
  obtain ⟨i, j, rfl⟩ := elt y
  blk_simp
  rw [after0_8, outs_at]
  refine (vel_at ..).trans ?_
  rw [blockG_at, v_blk, ← Adamw.refV_at fills]
  refine congrArg (refV (a0 m c) (a1 m c) (a4 m c)) ?_
  blk_point [idx t] <;> rfl

end Cert.KernelOpinIdeal.OpinValue

end
-- ==== Proof.lean ====
module

public import proofs.«01_k».proof.Defs
public import proofs.«01_k».proof.Proof.Gen.KernelDw.Frame
public import proofs.«01_k».proof.Proof.Gen.KernelDwIdeal.Frame
public import proofs.«01_k».proof.Proof.Gen.ReferenceDwIdeal.Run
public import proofs.«01_k».proof.Proof.DwValue
public import proofs.«01_k».proof.Proof.DwFrame
public import proofs.«01_k».proof.Proof.Gen.KernelAct.Frame
public import proofs.«01_k».proof.Proof.Gen.KernelActIdeal.Frame
public import proofs.«01_k».proof.Proof.Gen.ReferenceActIdeal.Run
public import proofs.«01_k».proof.Proof.ActValue
public import proofs.«01_k».proof.Proof.Gen.KernelMixbwd.Frame
public import proofs.«01_k».proof.Proof.Gen.KernelMixbwdIdeal.Frame
public import proofs.«01_k».proof.Proof.Gen.ReferenceMixbwdIdeal.Run
public import proofs.«01_k».proof.Proof.MixbwdValue
public import proofs.«01_k».proof.Proof.Gen.KernelMixin.Frame
public import proofs.«01_k».proof.Proof.Gen.KernelMixinIdeal.Frame
public import proofs.«01_k».proof.Proof.Gen.ReferenceMixinIdeal.Run
public import proofs.«01_k».proof.Proof.MixinValue
public import proofs.«01_k».proof.Proof.Gen.KernelFfnin.Frame
public import proofs.«01_k».proof.Proof.Gen.KernelFfninIdeal.Frame
public import proofs.«01_k».proof.Proof.Gen.ReferenceFfninIdeal.Run
public import proofs.«01_k».proof.Proof.FfninValue
public import proofs.«01_k».proof.Proof.Gen.KernelMm.Frame
public import proofs.«01_k».proof.Proof.Gen.KernelMmIdeal.Frame
public import proofs.«01_k».proof.Proof.Gen.ReferenceMmIdeal.Run
public import proofs.«01_k».proof.Proof.MmValue
public import proofs.«01_k».proof.Proof.Gen.KernelGate.Frame
public import proofs.«01_k».proof.Proof.Gen.KernelGateIdeal.Frame
public import proofs.«01_k».proof.Proof.Gen.ReferenceGateIdeal.Run
public import proofs.«01_k».proof.Proof.GateValue
public import proofs.«01_k».proof.Proof.Gen.KernelGout.Frame
public import proofs.«01_k».proof.Proof.Gen.KernelGoutIdeal.Frame
public import proofs.«01_k».proof.Proof.Gen.ReferenceGoutIdeal.Run
public import proofs.«01_k».proof.Proof.GoutValue
public import proofs.«01_k».proof.Proof.Gen.KernelGradin.Frame
public import proofs.«01_k».proof.Proof.Gen.KernelGradinIdeal.Frame
public import proofs.«01_k».proof.Proof.Gen.ReferenceGradinIdeal.Run
public import proofs.«01_k».proof.Proof.GradinValue
public import proofs.«01_k».proof.Proof.Gen.KernelLn.Frame
public import proofs.«01_k».proof.Proof.Gen.KernelLnIdeal.Frame
public import proofs.«01_k».proof.Proof.Gen.ReferenceLnIdeal.Run
public import proofs.«01_k».proof.Proof.LnValue
public import proofs.«01_k».proof.Proof.Gen.KernelMixout.Frame
public import proofs.«01_k».proof.Proof.Gen.KernelMixoutIdeal.Frame
public import proofs.«01_k».proof.Proof.Gen.ReferenceMixoutIdeal.Run
public import proofs.«01_k».proof.Proof.MixoutValue
public import proofs.«01_k».proof.Proof.Gen.KernelMixinf.Frame
public import proofs.«01_k».proof.Proof.Gen.KernelMixinfIdeal.Frame
public import proofs.«01_k».proof.Proof.Gen.ReferenceMixinfIdeal.Run
public import proofs.«01_k».proof.Proof.MixinfValue
public import proofs.«01_k».proof.Proof.Gen.KernelLnf.Frame
public import proofs.«01_k».proof.Proof.Gen.KernelLnfIdeal.Frame
public import proofs.«01_k».proof.Proof.Gen.ReferenceLnfIdeal.Run
public import proofs.«01_k».proof.Proof.LnfValue
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.FfnValue
public import proofs.«01_k».proof.Proof.FfnFrame
public import proofs.«01_k».proof.Proof.Gen.KernelOpin.Frame
public import proofs.«01_k».proof.Proof.Gen.KernelOpinIdeal.Frame
public import proofs.«01_k».proof.Proof.Gen.ReferenceOpinIdeal.Run
public import proofs.«01_k».proof.Proof.OpinValue
public import proofs.«01_k».proof.Proof.Gen.Pre_finite_act
public import proofs.«01_k».proof.Proof.Gen.Pre_finite_ln
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

/-- The reference of the gradient of the gated convolution runs and leaves its arguments unchanged. -/
theorem quiescent_ReferenceDwIdeal : quiescent_ReferenceDwIdeal := fun m ρ _ =>
  (θ_run Cert.ReferenceDwIdeal.defs _ _).mono (fun r h => ⟨fun c => (h c).2.2.2, sem_eq_zero_of_no_sems (by decide) r.2⟩)
    (Cert.ReferenceDwIdeal.Value.run (F := Ideal) m ρ)

/-- For the gradient of the gated convolution, kernel and reference end with equal results. -/
theorem algebraic_KernelDwIdeal_ReferenceDwIdeal : algebraic_KernelDwIdeal_ReferenceDwIdeal := by
  pair_intro
  · run_from Cert.KernelDwIdeal.DwRun.run_main m g
  · run_from Cert.ReferenceDwIdeal.DwRef.run m' g'
    · exact (Cert.KernelDwIdeal.DwValue.final_dcc m c).symm
    · exact (Cert.KernelDwIdeal.DwValue.final_dw m c).symm
    · exact (Cert.KernelDwIdeal.DwValue.final_db m c).symm

/-- The reference of the gradient of the gated activation runs and leaves its arguments unchanged. -/
theorem quiescent_ReferenceActIdeal : quiescent_ReferenceActIdeal := fun m ρ _ =>
  (θ_run Cert.ReferenceActIdeal.defs _ _).mono (fun r h => ⟨fun c => (h c).2.2, sem_eq_zero_of_no_sems (by decide) r.2⟩)
    (Cert.ReferenceActIdeal.Value.run (F := Ideal) m ρ)

/-- For the gradient of the gated activation, kernel and reference end with equal results. -/
theorem algebraic_KernelActIdeal_ReferenceActIdeal : algebraic_KernelActIdeal_ReferenceActIdeal := by
  pair_intro
  · run_from Cert.KernelActIdeal.Gen.run_main m g
  · hlo_run
    · exact (Cert.KernelActIdeal.ActValue.final_gate m c (Reals.real_of_test _ _ (hpre c).1) (Reals.real_of_test _ _ (hpre c).2.1)
        (fun i => Reals.real_of_test _ _ (hpre c).2.2 i)).symm
    · exact (Cert.KernelActIdeal.ActValue.final_up m c).symm

/-- The reference of the gradient of the mixer's output projection runs and leaves its arguments unchanged. -/
theorem quiescent_ReferenceMixbwdIdeal : quiescent_ReferenceMixbwdIdeal := fun m ρ _ =>
  (θ_run Cert.ReferenceMixbwdIdeal.defs _ _).mono (fun r h => ⟨fun c => (h c).2.2, sem_eq_zero_of_no_sems (by decide) r.2⟩)
    (Cert.ReferenceMixbwdIdeal.Value.run (F := Ideal) m ρ)

/-- For the gradient of the mixer's output projection, kernel and reference end with equal results. -/
theorem algebraic_KernelMixbwdIdeal_ReferenceMixbwdIdeal : algebraic_KernelMixbwdIdeal_ReferenceMixbwdIdeal := by
  pair_intro
  · run_from Cert.KernelMixbwdIdeal.Gen.run_main m g
  · hlo_run
    · exact (Cert.KernelMixbwdIdeal.MixbwdValue.final_attn m c).symm
    · exact (Cert.KernelMixbwdIdeal.MixbwdValue.final_conv m c).symm

/-- The reference of the gradient of the mixer's input projection and normalisation runs and leaves its arguments unchanged. -/
theorem quiescent_ReferenceMixinIdeal : quiescent_ReferenceMixinIdeal := fun m ρ _ =>
  (θ_run Cert.ReferenceMixinIdeal.defs _ _).mono (fun r h => ⟨fun c => (h c).2.2, sem_eq_zero_of_no_sems (by decide) r.2⟩)
    (Cert.ReferenceMixinIdeal.Value.run (F := Ideal) m ρ)

/-- For the gradient of the mixer's input projection and normalisation, kernel and reference end with equal results. -/
theorem algebraic_KernelMixinIdeal_ReferenceMixinIdeal : algebraic_KernelMixinIdeal_ReferenceMixinIdeal := by
  pair_intro
  · run_from Cert.KernelMixinIdeal.Gen.run_main m g
  · run_from Cert.KernelMixinIdeal.MixinValue.ref_run m' g'
    · exact (Cert.KernelMixinIdeal.MixinValue.final_dx m c).symm
    · exact (Cert.KernelMixinIdeal.MixinValue.final_dg m c).symm

/-- The reference of the gradient of the feed-forward's gate and up projections and normalisation runs and leaves its arguments unchanged. -/
theorem quiescent_ReferenceFfninIdeal : quiescent_ReferenceFfninIdeal := fun m ρ _ =>
  (θ_run Cert.ReferenceFfninIdeal.defs _ _).mono (fun r h => ⟨fun c => (h c).2.2, sem_eq_zero_of_no_sems (by decide) r.2⟩)
    (Cert.ReferenceFfninIdeal.Value.run (F := Ideal) m ρ)

/-- For the gradient of the feed-forward's gate and up projections and normalisation, kernel and reference end with equal results. -/
theorem algebraic_KernelFfninIdeal_ReferenceFfninIdeal : algebraic_KernelFfninIdeal_ReferenceFfninIdeal := by
  pair_intro
  · run_from Cert.KernelFfninIdeal.Gen.run_main m g
  · run_from Cert.KernelFfninIdeal.FfninValue.ref_run m' g'
    · exact (Cert.KernelFfninIdeal.FfninValue.final_dx m c).symm
    · exact (Cert.KernelFfninIdeal.FfninValue.final_dg m c).symm

/-- The reference of the gradient of the down projection's weight runs and leaves its arguments unchanged. -/
theorem quiescent_ReferenceMmIdeal : quiescent_ReferenceMmIdeal := fun m ρ _ =>
  (θ_run Cert.ReferenceMmIdeal.defs _ _).mono (fun r h => ⟨fun c => (h c).2, sem_eq_zero_of_no_sems (by decide) r.2⟩)
    (Cert.ReferenceMmIdeal.Value.run (F := Ideal) m ρ)

/-- For the gradient of the down projection's weight, kernel and reference end with equal results. -/
theorem algebraic_KernelMmIdeal_ReferenceMmIdeal : algebraic_KernelMmIdeal_ReferenceMmIdeal := by
  pair_intro
  · run_from Cert.KernelMmIdeal.Gen.run_main m g
  · hlo_run
    exact (Cert.KernelMmIdeal.MmValue.final m c).symm

/-- The reference of the gradient of the gate and up projections' weights runs and leaves its arguments unchanged. -/
theorem quiescent_ReferenceGateIdeal : quiescent_ReferenceGateIdeal := fun m ρ _ =>
  (θ_run Cert.ReferenceGateIdeal.defs _ _).mono (fun r h => ⟨fun c => (h c).2, sem_eq_zero_of_no_sems (by decide) r.2⟩)
    (Cert.ReferenceGateIdeal.Value.run (F := Ideal) m ρ)

/-- For the gradient of the gate and up projections' weights, kernel and reference end with equal results. -/
theorem algebraic_KernelGateIdeal_ReferenceGateIdeal : algebraic_KernelGateIdeal_ReferenceGateIdeal := by
  pair_intro
  · run_from Cert.KernelGateIdeal.Gen.run_main m g
  · hlo_run
    exact (Cert.KernelGateIdeal.GateValue.final m c).symm

/-- The reference of the gradient of the output projection's weight runs and leaves its arguments unchanged. -/
theorem quiescent_ReferenceGoutIdeal : quiescent_ReferenceGoutIdeal := fun m ρ _ =>
  (θ_run Cert.ReferenceGoutIdeal.defs _ _).mono (fun r h => ⟨fun c => (h c).2, sem_eq_zero_of_no_sems (by decide) r.2⟩)
    (Cert.ReferenceGoutIdeal.Value.run (F := Ideal) m ρ)

/-- For the gradient of the output projection's weight, kernel and reference end with equal results. -/
theorem algebraic_KernelGoutIdeal_ReferenceGoutIdeal : algebraic_KernelGoutIdeal_ReferenceGoutIdeal := by
  pair_intro
  · run_from Cert.KernelGoutIdeal.Gen.run_main m g
  · hlo_run
    exact (Cert.KernelGoutIdeal.GoutValue.final m c).symm

/-- The reference of the gradient of the mixer's input projection's weight runs and leaves its arguments unchanged. -/
theorem quiescent_ReferenceGradinIdeal : quiescent_ReferenceGradinIdeal := fun m ρ _ =>
  (θ_run Cert.ReferenceGradinIdeal.defs _ _).mono (fun r h => ⟨fun c => (h c).2, sem_eq_zero_of_no_sems (by decide) r.2⟩)
    (Cert.ReferenceGradinIdeal.Value.run (F := Ideal) m ρ)

/-- For the gradient of the mixer's input projection's weight, kernel and reference end with equal results. -/
theorem algebraic_KernelGradinIdeal_ReferenceGradinIdeal : algebraic_KernelGradinIdeal_ReferenceGradinIdeal := by
  pair_intro
  · run_from Cert.KernelGradinIdeal.Gen.run_main m g
  · run_from Cert.KernelGradinIdeal.GradinValue.ref_run m' g'
    exact (Cert.KernelGradinIdeal.GradinValue.final m c).symm

/-- The reference of the gradient of the convolution branch's normalisation and activation runs and leaves its arguments unchanged. -/
theorem quiescent_ReferenceLnIdeal : quiescent_ReferenceLnIdeal := fun m ρ _ =>
  (θ_run Cert.ReferenceLnIdeal.defs _ _).mono (fun r h => ⟨fun c => (h c).2.2.2, sem_eq_zero_of_no_sems (by decide) r.2⟩)
    (Cert.ReferenceLnIdeal.Value.run (F := Ideal) m ρ)

/-- For the gradient of the convolution branch's normalisation and activation, kernel and reference end with equal results. -/
theorem algebraic_KernelLnIdeal_ReferenceLnIdeal : algebraic_KernelLnIdeal_ReferenceLnIdeal := by
  pair_intro
  · run_from Cert.KernelLnIdeal.Gen.run_main m g
  · run_from Cert.KernelLnIdeal.LnValue.ref_run m' g'
    · exact (Cert.KernelLnIdeal.LnValue.final_dx m c (Reals.real_of_test _ _ (hpre c).1) (Reals.real_of_test _ _ (hpre c).2)).symm
    · exact (Cert.KernelLnIdeal.LnValue.final_dg m c (Reals.real_of_test _ _ (hpre c).1)).symm
    · exact (Cert.KernelLnIdeal.LnValue.final_db m c (Reals.real_of_test _ _ (hpre c).1)).symm

/-- The reference of the mixer's output projection runs and leaves its arguments unchanged. -/
theorem quiescent_ReferenceMixoutIdeal : quiescent_ReferenceMixoutIdeal := fun m ρ _ =>
  (θ_run Cert.ReferenceMixoutIdeal.defs _ _).mono (fun r h => ⟨fun c => (h c).2, sem_eq_zero_of_no_sems (by decide) r.2⟩)
    (Cert.ReferenceMixoutIdeal.Value.run (F := Ideal) m ρ)

/-- For the mixer's output projection, kernel and reference end with equal results. -/
theorem algebraic_KernelMixoutIdeal_ReferenceMixoutIdeal : algebraic_KernelMixoutIdeal_ReferenceMixoutIdeal := by
  pair_intro
  · run_from Cert.KernelMixoutIdeal.Gen.run_main m g
  · hlo_run
    exact (Cert.KernelMixoutIdeal.MixoutValue.final m c).symm

/-- The reference of the mixer's input projection and normalisation runs and leaves its arguments unchanged. -/
theorem quiescent_ReferenceMixinfIdeal : quiescent_ReferenceMixinfIdeal := fun m ρ _ =>
  (θ_run Cert.ReferenceMixinfIdeal.defs _ _).mono (fun r h => ⟨fun c => (h c).2.2.2, sem_eq_zero_of_no_sems (by decide) r.2⟩)
    (Cert.ReferenceMixinfIdeal.Value.run (F := Ideal) m ρ)

/-- For the mixer's input projection and normalisation, kernel and reference end with equal results. -/
theorem algebraic_KernelMixinfIdeal_ReferenceMixinfIdeal : algebraic_KernelMixinfIdeal_ReferenceMixinfIdeal := by
  pair_intro
  · run_from Cert.KernelMixinfIdeal.Gen.run_main m g
  · run_from Cert.KernelMixinfIdeal.MixinfValue.ref_run m' g'
    · exact (Cert.KernelMixinfIdeal.MixinfValue.final_qkv m c).symm
    · exact (Cert.KernelMixinfIdeal.MixinfValue.final_cc m c).symm
    · exact (Cert.KernelMixinfIdeal.MixinfValue.final_hn m c).symm

/-- The reference of the convolution branch's normalisation and activation runs and leaves its arguments unchanged. -/
theorem quiescent_ReferenceLnfIdeal : quiescent_ReferenceLnfIdeal := fun m ρ _ =>
  (θ_run Cert.ReferenceLnfIdeal.defs _ _).mono (fun r h => ⟨fun c => (h c).2, sem_eq_zero_of_no_sems (by decide) r.2⟩)
    (Cert.ReferenceLnfIdeal.Value.run (F := Ideal) m ρ)

/-- For the convolution branch's normalisation and activation, kernel and reference end with equal results. -/
theorem algebraic_KernelLnfIdeal_ReferenceLnfIdeal : algebraic_KernelLnfIdeal_ReferenceLnfIdeal := by
  pair_intro
  · run_from Cert.KernelLnfIdeal.Gen.run_main m g
  · run_from Cert.KernelLnfIdeal.LnfValue.ref_run m' g'
    exact (Cert.KernelLnfIdeal.LnfValue.final m c).symm

/-- The reference of the feed-forward runs and leaves its arguments unchanged. -/
theorem quiescent_ReferenceFfnIdeal : quiescent_ReferenceFfnIdeal := fun m ρ _ =>
  (θ_run Cert.ReferenceFfnIdeal.defs _ _).mono (fun r h => ⟨fun c => (h c).2.2.2.2.2, sem_eq_zero_of_no_sems (by decide) r.2⟩)
    (Cert.ReferenceFfnIdeal.Value.run (F := Ideal) m ρ)

/-- For the feed-forward, kernel and reference end with equal results. -/
theorem algebraic_KernelFfnIdeal_ReferenceFfnIdeal : algebraic_KernelFfnIdeal_ReferenceFfnIdeal := by
  pair_intro
  · run_from Cert.KernelFfnIdeal.FfnRun.run_main m g
  · run_from Cert.KernelFfnIdeal.FfnValue.ref_run m' g'
    · exact (Cert.KernelFfnIdeal.FfnValue.final_out m c).symm
    · exact (Cert.KernelFfnIdeal.FfnValue.final_hn m c).symm
    · exact (Cert.KernelFfnIdeal.FfnValue.final_act m c).symm
    · exact (Cert.KernelFfnIdeal.FfnValue.final_gate m c).symm
    · exact (Cert.KernelFfnIdeal.FfnValue.final_up m c).symm

/-- The reference of the optimiser's step of the mixer's input projection runs and leaves its arguments unchanged. -/
theorem quiescent_ReferenceOpinIdeal : quiescent_ReferenceOpinIdeal := fun m ρ _ =>
  (θ_run Cert.ReferenceOpinIdeal.defs _ _).mono (fun r h => ⟨fun c => (h c).2.2.2.2, sem_eq_zero_of_no_sems (by decide) r.2⟩)
    (Cert.ReferenceOpinIdeal.Value.run (F := Ideal) m ρ)

/-- For the optimiser's step of the mixer's input projection, kernel and reference end with equal results. -/
theorem algebraic_KernelOpinIdeal_ReferenceOpinIdeal : algebraic_KernelOpinIdeal_ReferenceOpinIdeal := by
  pair_intro
  · run_from Cert.KernelOpinIdeal.Gen.run_main m g
  · run_from Cert.KernelOpinIdeal.OpinValue.ref_run m' g'
    · exact (Cert.KernelOpinIdeal.OpinValue.final_g m c).symm
    · exact (Cert.KernelOpinIdeal.OpinValue.final_d m c).symm
    · exact (Cert.KernelOpinIdeal.OpinValue.final_m m c).symm
    · exact (Cert.KernelOpinIdeal.OpinValue.final_v m c).symm

/-- Everything that is claimed. -/
theorem claim : Cert.Claim := ⟨Cert.KernelDw.Gen.facts, Cert.KernelDwIdeal.Gen.facts, Cert.ReferenceDwIdeal.Gen.facts, Cert.KernelAct.Gen.facts, Cert.KernelActIdeal.Gen.facts, Cert.ReferenceActIdeal.Gen.facts, Cert.KernelMixbwd.Gen.facts, Cert.KernelMixbwdIdeal.Gen.facts, Cert.ReferenceMixbwdIdeal.Gen.facts, Cert.KernelMixin.Gen.facts, Cert.KernelMixinIdeal.Gen.facts, Cert.ReferenceMixinIdeal.Gen.facts, Cert.KernelFfnin.Gen.facts, Cert.KernelFfninIdeal.Gen.facts, Cert.ReferenceFfninIdeal.Gen.facts, Cert.KernelMm.Gen.facts, Cert.KernelMmIdeal.Gen.facts, Cert.ReferenceMmIdeal.Gen.facts, Cert.KernelGate.Gen.facts, Cert.KernelGateIdeal.Gen.facts, Cert.ReferenceGateIdeal.Gen.facts, Cert.KernelGout.Gen.facts, Cert.KernelGoutIdeal.Gen.facts, Cert.ReferenceGoutIdeal.Gen.facts, Cert.KernelGradin.Gen.facts, Cert.KernelGradinIdeal.Gen.facts, Cert.ReferenceGradinIdeal.Gen.facts, Cert.KernelLn.Gen.facts, Cert.KernelLnIdeal.Gen.facts, Cert.ReferenceLnIdeal.Gen.facts, Cert.KernelMixout.Gen.facts, Cert.KernelMixoutIdeal.Gen.facts, Cert.ReferenceMixoutIdeal.Gen.facts, Cert.KernelMixinf.Gen.facts, Cert.KernelMixinfIdeal.Gen.facts, Cert.ReferenceMixinfIdeal.Gen.facts, Cert.KernelLnf.Gen.facts, Cert.KernelLnfIdeal.Gen.facts, Cert.ReferenceLnfIdeal.Gen.facts, Cert.KernelFfn.Gen.facts, Cert.KernelFfnIdeal.Gen.facts, Cert.ReferenceFfnIdeal.Gen.facts, Cert.KernelOpin.Gen.facts, Cert.KernelOpinIdeal.Gen.facts, Cert.ReferenceOpinIdeal.Gen.facts, Cert.Pre_finite_act.Gen.facts, Cert.Pre_finite_ln.Gen.facts,
  fun m ρ _ => Cert.KernelDw.DwFrame.frame_run m ρ, fun m ρ _ => Cert.KernelDwIdeal.DwRun.frame_run m ρ, quiescent_ReferenceDwIdeal,
  fun m ρ _ => Cert.KernelAct.Gen.frame m ρ, fun m ρ _ => Cert.KernelActIdeal.Gen.frame m ρ, quiescent_ReferenceActIdeal,
  fun m ρ _ => Cert.KernelMixbwd.Gen.frame m ρ, fun m ρ _ => Cert.KernelMixbwdIdeal.Gen.frame m ρ, quiescent_ReferenceMixbwdIdeal,
  fun m ρ _ => Cert.KernelMixin.Gen.frame m ρ, fun m ρ _ => Cert.KernelMixinIdeal.Gen.frame m ρ, quiescent_ReferenceMixinIdeal,
  fun m ρ _ => Cert.KernelFfnin.Gen.frame m ρ, fun m ρ _ => Cert.KernelFfninIdeal.Gen.frame m ρ, quiescent_ReferenceFfninIdeal,
  fun m ρ _ => Cert.KernelMm.Gen.frame m ρ, fun m ρ _ => Cert.KernelMmIdeal.Gen.frame m ρ, quiescent_ReferenceMmIdeal,
  fun m ρ _ => Cert.KernelGate.Gen.frame m ρ, fun m ρ _ => Cert.KernelGateIdeal.Gen.frame m ρ, quiescent_ReferenceGateIdeal,
  fun m ρ _ => Cert.KernelGout.Gen.frame m ρ, fun m ρ _ => Cert.KernelGoutIdeal.Gen.frame m ρ, quiescent_ReferenceGoutIdeal,
  fun m ρ _ => Cert.KernelGradin.Gen.frame m ρ, fun m ρ _ => Cert.KernelGradinIdeal.Gen.frame m ρ, quiescent_ReferenceGradinIdeal,
  fun m ρ _ => Cert.KernelLn.Gen.frame m ρ, fun m ρ _ => Cert.KernelLnIdeal.Gen.frame m ρ, quiescent_ReferenceLnIdeal,
  fun m ρ _ => Cert.KernelMixout.Gen.frame m ρ, fun m ρ _ => Cert.KernelMixoutIdeal.Gen.frame m ρ, quiescent_ReferenceMixoutIdeal,
  fun m ρ _ => Cert.KernelMixinf.Gen.frame m ρ, fun m ρ _ => Cert.KernelMixinfIdeal.Gen.frame m ρ, quiescent_ReferenceMixinfIdeal,
  fun m ρ _ => Cert.KernelLnf.Gen.frame m ρ, fun m ρ _ => Cert.KernelLnfIdeal.Gen.frame m ρ, quiescent_ReferenceLnfIdeal,
  fun m ρ _ => Cert.KernelFfn.FfnFrame.frame_run m ρ, fun m ρ _ => Cert.KernelFfnIdeal.FfnRun.frame_run m ρ, quiescent_ReferenceFfnIdeal,
  fun m ρ _ => Cert.KernelOpin.Gen.frame m ρ, fun m ρ _ => Cert.KernelOpinIdeal.Gen.frame m ρ, quiescent_ReferenceOpinIdeal,
  (trivial : preserves_KernelDw_KernelDwIdeal), algebraic_KernelDwIdeal_ReferenceDwIdeal,
  (trivial : preserves_KernelAct_KernelActIdeal), algebraic_KernelActIdeal_ReferenceActIdeal,
  (trivial : preserves_KernelMixbwd_KernelMixbwdIdeal), algebraic_KernelMixbwdIdeal_ReferenceMixbwdIdeal,
  (trivial : preserves_KernelMixin_KernelMixinIdeal), algebraic_KernelMixinIdeal_ReferenceMixinIdeal,
  (trivial : preserves_KernelFfnin_KernelFfninIdeal), algebraic_KernelFfninIdeal_ReferenceFfninIdeal,
  (trivial : preserves_KernelMm_KernelMmIdeal), algebraic_KernelMmIdeal_ReferenceMmIdeal,
  (trivial : preserves_KernelGate_KernelGateIdeal), algebraic_KernelGateIdeal_ReferenceGateIdeal,
  (trivial : preserves_KernelGout_KernelGoutIdeal), algebraic_KernelGoutIdeal_ReferenceGoutIdeal,
  (trivial : preserves_KernelGradin_KernelGradinIdeal), algebraic_KernelGradinIdeal_ReferenceGradinIdeal,
  (trivial : preserves_KernelLn_KernelLnIdeal), algebraic_KernelLnIdeal_ReferenceLnIdeal,
  (trivial : preserves_KernelMixout_KernelMixoutIdeal), algebraic_KernelMixoutIdeal_ReferenceMixoutIdeal,
  (trivial : preserves_KernelMixinf_KernelMixinfIdeal), algebraic_KernelMixinfIdeal_ReferenceMixinfIdeal,
  (trivial : preserves_KernelLnf_KernelLnfIdeal), algebraic_KernelLnfIdeal_ReferenceLnfIdeal,
  (trivial : preserves_KernelFfn_KernelFfnIdeal), algebraic_KernelFfnIdeal_ReferenceFfnIdeal,
  (trivial : preserves_KernelOpin_KernelOpinIdeal), algebraic_KernelOpinIdeal_ReferenceOpinIdeal⟩

end Cert.Proof

end
